-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Experts [hPre_tiled : Cert.Pre_tiled.Facts] (m : (ℓ : Loc Cert.Experts.nD Cert.Experts.τ Cert.Experts.sig) → Buf (Elt Bits) ℓ) : Prop :=
  ∀ c : Dev Cert.Experts.nD,
    (Cert.Pre_tiled.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tiled : Cert.Pre_tiled.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiled [hPre_tiled : Cert.Pre_tiled.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiled.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Combine [hPre_placed : Cert.Pre_placed.Facts] (m : (ℓ : Loc Cert.Combine.nD Cert.Combine.τ Cert.Combine.sig) → Buf (Elt Bits) ℓ) : Prop :=
  ∀ c : Dev Cert.Combine.nD,
    (Cert.Pre_placed.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_placed : Cert.Pre_placed.Facts] (m : (ℓ : Loc Cert.CombineIdeal.nD Cert.CombineIdeal.τ Cert.CombineIdeal.sig) → Buf (Elt Ideal) ℓ) : Prop :=
  ∀ c : Dev Cert.CombineIdeal.nD,
    (Cert.Pre_placed.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_placed [hPre_placed : Cert.Pre_placed.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_placed.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Experts [hExperts : Cert.Experts.Facts] [hPre_tiled : Cert.Pre_tiled.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiled : Cert.Pre_tiled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tiled [hExpertsReferenceIdeal : Cert.ExpertsReferenceIdeal.Facts] [hPre_tiled : Cert.Pre_tiled.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiled m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] [hPre_placed : Cert.Pre_placed.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_placed : Cert.Pre_placed.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_CombineReferenceIdeal_pre_placed [hCombineReferenceIdeal : Cert.CombineReferenceIdeal.Facts] [hPre_placed : Cert.Pre_placed.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_placed m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiled : Cert.Pre_tiled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v18) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] [hPre_placed : Cert.Pre_placed.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v34) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v23_0)) (v1 : (c : Dev Cert.InProjIdeal.nD) → Buf (Elt Ideal) ((c.tc : Thread Cert.InProjIdeal.nD Cert.InProjIdeal.τ).loc Cert.InProjIdeal.main_v23_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23_0) = v0 c
          ∧ r.2.mem ((c.tc : Thread Cert.InProjIdeal.nD Cert.InProjIdeal.τ).loc Cert.InProjIdeal.main_v23_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v52) = v0 c
          ∧ r.2.mem ((c.tc : Thread Cert.InProjReferenceIdeal.nD Cert.InProjReferenceIdeal.τ).loc Cert.InProjReferenceIdeal.main_v53) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hInProj : Cert.InProj.Facts) (hInProjIdeal : Cert.InProjIdeal.Facts) (hInProjReferenceIdeal : Cert.InProjReferenceIdeal.Facts) (hPre_routed : Cert.Pre_routed.Facts) (hPre_tiled : Cert.Pre_tiled.Facts) (hPre_placed : Cert.Pre_placed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Reference (hReference := hReference) (hPre_routed := hPre_routed)
    ∧ quiescent_Experts (hExperts := hExperts) (hPre_tiled := hPre_tiled)
    ∧ quiescent_ExpertsIdeal (hExpertsIdeal := hExpertsIdeal) (hPre_tiled := hPre_tiled)
    ∧ quiescent_ExpertsReferenceIdeal (hExpertsReferenceIdeal := hExpertsReferenceIdeal)
    ∧ quiescent_ExpertsReferenceIdeal_pre_tiled (hExpertsReferenceIdeal := hExpertsReferenceIdeal) (hPre_tiled := hPre_tiled)
    ∧ quiescent_Combine (hCombine := hCombine) (hPre_placed := hPre_placed)
    ∧ quiescent_CombineIdeal (hCombineIdeal := hCombineIdeal) (hPre_placed := hPre_placed)
    ∧ quiescent_CombineReferenceIdeal (hCombineReferenceIdeal := hCombineReferenceIdeal)
    ∧ quiescent_CombineReferenceIdeal_pre_placed (hCombineReferenceIdeal := hCombineReferenceIdeal) (hPre_placed := hPre_placed)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal (hKernelIdeal := hKernelIdeal) (hReferenceIdeal := hReferenceIdeal) (hPre_routed := hPre_routed)
    ∧ bitexact_Kernel_Reference (hKernel := hKernel) (hReference := hReference) (hPre_routed := hPre_routed)
    ∧ preserves_Experts_ExpertsIdeal
    ∧ algebraic_ExpertsIdeal_ExpertsReferenceIdeal (hExpertsIdeal := hExpertsIdeal) (hExpertsReferenceIdeal := hExpertsReferenceIdeal) (hPre_tiled := hPre_tiled)
    ∧ preserves_Combine_CombineIdeal
    ∧ algebraic_CombineIdeal_CombineReferenceIdeal (hCombineIdeal := hCombineIdeal) (hCombineReferenceIdeal := hCombineReferenceIdeal) (hPre_placed := hPre_placed)
    ∧ preserves_InProj_InProjIdeal
    ∧ algebraic_InProjIdeal_InProjReferenceIdeal (hInProjIdeal := hInProjIdeal) (hInProjReferenceIdeal := hInProjReferenceIdeal)
-- ==== Pre_placed.lean ====
abbrev S16384 : Shape := ⟨1, ![16384]⟩
abbrev S16384x2048 : Shape := ⟨2, ![16384, 2048]⟩
abbrev S16384x128 : Shape := ⟨2, ![16384, 128]⟩
abbrev S40960x2048 : Shape := ⟨2, ![40960, 2048]⟩
abbrev S2048 : Shape := ⟨1, ![2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S16384x2048 .f32) (main_arg3 : FVec F S16384x128 .f32) (main_arg4 : FVec F S40960x2048 .f32) (main_arg5 : FVec F S2048 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 40960#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 40960#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Pre_routed.lean ====
abbrev S16384 : Shape := ⟨1, ![16384]⟩
abbrev S64 : Shape := ⟨1, ![64]⟩
abbrev S16384x2048 : Shape := ⟨2, ![16384, 2048]⟩
abbrev S40960 : Shape := ⟨1, ![40960]⟩
abbrev S40960x1 : Shape := ⟨2, ![40960, 1]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S64x1 : Shape := ⟨2, ![64, 1]⟩
abbrev S1x64 : Shape := ⟨2, ![1, 64]⟩
abbrev S64x64 : Shape := ⟨2, ![64, 64]⟩
abbrev S40960x16384 : Shape := ⟨2, ![40960, 16384]⟩
abbrev S40960x64 : Shape := ⟨2, ![40960, 64]⟩

class Facts : Prop where
  bcast_S40960_S40960x1_0 : S40960.BroadcastsInDim S40960x1 (![0] : Fin 1 → Fin S40960x1.rank)
  bcast_S_S16384 : S_.BroadcastsInDim S16384 (![] : Fin 0 → Fin S16384.rank)
  reducesTo_S16384_S_d0 : S16384.ReducesTo [0] S_
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S_d0_1 : S16384x16384.ReducesTo [0, 1] S_
  bcast_S_S64 : S_.BroadcastsInDim S64 (![] : Fin 0 → Fin S64.rank)
  reducesTo_S64_S_d0 : S64.ReducesTo [0] S_
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x1 : S_.BroadcastsInDim S64x1 (![] : Fin 0 → Fin S64x1.rank)
  reducesTo_S64x64_S_d0_1 : S64x64.ReducesTo [0, 1] S_
  bcast_S1x16384_S40960x16384_0_1 : S1x16384.BroadcastsInDim S40960x16384 (![0, 1] : Fin 2 → Fin S40960x16384.rank)
  bcast_S40960x1_S40960x16384_0_1 : S40960x1.BroadcastsInDim S40960x16384 (![0, 1] : Fin 2 → Fin S40960x16384.rank)
  reducesTo_S40960x16384_S40960_d1 : S40960x16384.ReducesTo [1] S40960
  bcast_S_S1x64 : S_.BroadcastsInDim S1x64 (![] : Fin 0 → Fin S1x64.rank)
  bcast_S_S40960x1 : S_.BroadcastsInDim S40960x1 (![] : Fin 0 → Fin S40960x1.rank)
  bcast_S1x64_S40960x64_0_1 : S1x64.BroadcastsInDim S40960x64 (![0, 1] : Fin 2 → Fin S40960x64.rank)
  bcast_S40960x1_S40960x64_0_1 : S40960x1.BroadcastsInDim S40960x64 (![0, 1] : Fin 2 → Fin S40960x64.rank)
  reducesTo_S40960x64_S40960_d1 : S40960x64.ReducesTo [1] S40960
  reducesTo_S40960_S_d0 : S40960.ReducesTo [0] S_

variable [Facts]

def fn_part5 {F : FTy → Type} [FloatOps F] (main_v16 : IVec S_ 1) (main_v48 : IVec S_ 1) (main_v77 : IVec S_ 1) (main_v88 : IVec S40960 1) (main_v99 : IVec S40960x64 1) : IVec S_ 1 :=
  let main_c_19 : IVec S_ 1 := constantI S_ 1 0#1
  let main_v100 : IVec S40960 1 := (fun x v => Host.reduce IntOp.ori x v reducesTo_S40960x64_S40960_d1 h_S_) main_v99 main_c_19
  let main_v101 : IVec S40960 1 := ori main_v88 main_v100
  let main_v102 : IVec S_ 1 := andi main_v16 main_v48
  let main_v103 : IVec S_ 1 := andi main_v102 main_v77
  let main_c_20 : IVec S_ 1 := constantI S_ 1 1#1
  let main_v104 : IVec S_ 1 := (fun x v => Host.reduce IntOp.andi x v reducesTo_S40960_S_d0 h_S_) main_v101 main_c_20
  let main_v105 : IVec S_ 1 := andi main_v103 main_v104
  main_v105

def fn_part4 {F : FTy → Type} [FloatOps F] (main_arg1 : IVec S16384 32) (main_arg2 : IVec S64 32) (main_v1 : IVec S40960x1 32) (main_v16 : IVec S_ 1) (main_v48 : IVec S_ 1) (main_v77 : IVec S_ 1) (main_v79 : IVec S40960x16384 32) : IVec S_ 1 :=
  let main_v80 : IVec S40960x16384 32 := broadcastInDim S40960x16384 ![0, 1] bcast_S40960x1_S40960x16384_0_1 main_v1
  let main_v81 : IVec S40960x16384 1 := cmpi .eq main_v79 main_v80
  let main_c_15 : IVec S_ 1 := constantI S_ 1 0#1
  let main_v82 : IVec S40960 1 := (fun x v => Host.reduce IntOp.ori x v reducesTo_S40960x16384_S40960_d1 h_S_) main_v81 main_c_15
  let main_v83 : IVec S1x16384 32 := broadcastInDim S1x16384 ![1] bcast_S16384_S1x16384_1 main_arg1
  let main_v84 : IVec S40960x16384 32 := broadcastInDim S40960x16384 ![0, 1] bcast_S1x16384_S40960x16384_0_1 main_v83
  let main_v85 : IVec S40960x16384 32 := broadcastInDim S40960x16384 ![0, 1] bcast_S40960x1_S40960x16384_0_1 main_v1
  let main_v86 : IVec S40960x16384 1 := cmpi .eq main_v84 main_v85
  let main_c_16 : IVec S_ 1 := constantI S_ 1 0#1
  let main_v87 : IVec S40960 1 := (fun x v => Host.reduce IntOp.ori x v reducesTo_S40960x16384_S40960_d1 h_S_) main_v86 main_c_16
  let main_v88 : IVec S40960 1 := ori main_v82 main_v87
  let main_v89 : IVec S1x64 32 := broadcastInDim S1x64 ![1] bcast_S64_S1x64_1 main_arg2
  let main_c_17 : IVec S_ 32 := constantI S_ 32 0#32
  let main_v90 : IVec S1x64 32 := broadcastInDim S1x64 ![] bcast_S_S1x64 main_c_17
  let main_v91 : IVec S1x64 1 := cmpi .sge main_v89 main_v90
  let main_v92 : IVec S1x64 32 := broadcastInDim S1x64 ![1] bcast_S64_S1x64_1 main_arg2
  let main_c_18 : IVec S_ 32 := constantI S_ 32 4294967040#32
  let main_v93 : IVec S40960x1 32 := broadcastInDim S40960x1 ![] bcast_S_S40960x1 main_c_18
  let main_v94 : IVec S40960x1 32 := andi main_v1 main_v93
  let main_v95 : IVec S40960x64 32 := broadcastInDim S40960x64 ![0, 1] bcast_S1x64_S40960x64_0_1 main_v92
  let main_v96 : IVec S40960x64 32 := broadcastInDim S40960x64 ![0, 1] bcast_S40960x1_S40960x64_0_1 main_v94
  let main_v97 : IVec S40960x64 1 := cmpi .eq main_v95 main_v96
  let main_v98 : IVec S40960x64 1 := broadcastInDim S40960x64 ![0, 1] bcast_S1x64_S40960x64_0_1 main_v91
  let main_v99 : IVec S40960x64 1 := andi main_v98 main_v97
  fn_part5 (F := F) main_v16 main_v48 main_v77 main_v88 main_v99

def fn_part3 {F : FTy → Type} [FloatOps F] (main_arg0 : IVec S16384 32) (main_arg1 : IVec S16384 32) (main_arg2 : IVec S64 32) (main_v1 : IVec S40960x1 32) (main_v3 : IVec S64 32) (main_v16 : IVec S_ 1) (main_v48 : IVec S_ 1) (main_v58 : IVec S64 1) : IVec S_ 1 :=
  let main_c_12 : IVec S_ 1 := constantI S_ 1 1#1
  let main_v59 : IVec S_ 1 := (fun x v => Host.reduce IntOp.andi x v reducesTo_S64_S_d0 h_S_) main_v58 main_c_12
  let main_v60 : IVec S64x1 32 := broadcastInDim S64x1 ![0] bcast_S64_S64x1_0 main_arg2
  let main_v61 : IVec S1x64 32 := broadcastInDim S1x64 ![1] bcast_S64_S1x64_1 main_arg2
  let main_v62 : IVec S64x64 32 := broadcastInDim S64x64 ![0, 1] bcast_S64x1_S64x64_0_1 main_v60
  let main_v63 : IVec S64x64 32 := broadcastInDim S64x64 ![0, 1] bcast_S1x64_S64x64_0_1 main_v61
  let main_v64 : IVec S64x64 1 := cmpi .ne main_v62 main_v63
  let main_v65 : IVec S64x1 32 := broadcastInDim S64x1 ![0] bcast_S64_S64x1_0 main_arg2
  let main_c_13 : IVec S_ 32 := constantI S_ 32 0#32
  let main_v66 : IVec S64x1 32 := broadcastInDim S64x1 ![] bcast_S_S64x1 main_c_13
  let main_v67 : IVec S64x1 1 := cmpi .slt main_v65 main_v66
  let main_v68 : IVec S64x64 1 := broadcastInDim S64x64 ![0, 1] bcast_S64x1_S64x64_0_1 main_v67
  let main_v69 : IVec S64x64 1 := ori main_v64 main_v68
  let main_v70 : IVec S64x1 32 := broadcastInDim S64x1 ![0] bcast_S64_S64x1_0 main_v3
  let main_v71 : IVec S1x64 32 := broadcastInDim S1x64 ![1] bcast_S64_S1x64_1 main_v3
  let main_v72 : IVec S64x64 32 := broadcastInDim S64x64 ![0, 1] bcast_S64x1_S64x64_0_1 main_v70
  let main_v73 : IVec S64x64 32 := broadcastInDim S64x64 ![0, 1] bcast_S1x64_S64x64_0_1 main_v71
  let main_v74 : IVec S64x64 1 := cmpi .eq main_v72 main_v73
  let main_v75 : IVec S64x64 1 := ori main_v69 main_v74
  let main_c_14 : IVec S_ 1 := constantI S_ 1 1#1
  let main_v76 : IVec S_ 1 := (fun x v => Host.reduce IntOp.andi x v reducesTo_S64x64_S_d0_1 h_S_) main_v75 main_c_14
  let main_v77 : IVec S_ 1 := andi main_v59 main_v76
  let main_v78 : IVec S1x16384 32 := broadcastInDim S1x16384 ![1] bcast_S16384_S1x16384_1 main_arg0
  let main_v79 : IVec S40960x16384 32 := broadcastInDim S40960x16384 ![0, 1] bcast_S1x16384_S40960x16384_0_1 main_v78
  fn_part4 (F := F) main_arg1 main_arg2 main_v1 main_v16 main_v48 main_v77 main_v79

def fn_part2 {F : FTy → Type} [FloatOps F] (main_arg0 : IVec S16384 32) (main_arg1 : IVec S16384 32) (main_arg2 : IVec S64 32) (main_v1 : IVec S40960x1 32) (main_v3 : IVec S64 32) (main_v16 : IVec S_ 1) (main_v28 : IVec S_ 1) (main_v39 : IVec S16384x16384 1) (main_c_6 : IVec S_ 1) : IVec S_ 1 :=
  let main_v40 : IVec S_ 1 := (fun x v => Host.reduce IntOp.andi x v reducesTo_S16384x16384_S_d0_1 h_S_) main_v39 main_c_6
  let main_v41 : IVec S_ 1 := andi main_v28 main_v40
  let main_v42 : IVec S16384x1 32 := broadcastInDim S16384x1 ![0] bcast_S16384_S16384x1_0 main_arg0
  let main_v43 : IVec S1x16384 32 := broadcastInDim S1x16384 ![1] bcast_S16384_S1x16384_1 main_arg1
  let main_v44 : IVec S16384x16384 32 := broadcastInDim S16384x16384 ![0, 1] bcast_S16384x1_S16384x16384_0_1 main_v42
  let main_v45 : IVec S16384x16384 32 := broadcastInDim S16384x16384 ![0, 1] bcast_S1x16384_S16384x16384_0_1 main_v43
  let main_v46 : IVec S16384x16384 1 := cmpi .ne main_v44 main_v45
  let main_c_7 : IVec S_ 1 := constantI S_ 1 1#1
  let main_v47 : IVec S_ 1 := (fun x v => Host.reduce IntOp.andi x v reducesTo_S16384x16384_S_d0_1 h_S_) main_v46 main_c_7
  let main_v48 : IVec S_ 1 := andi main_v41 main_v47
  let main_c_8 : IVec S_ 32 := constantI S_ 32 0#32
  let main_v49 : IVec S64 32 := broadcastInDim S64 ![] bcast_S_S64 main_c_8
  let main_v50 : IVec S64 1 := cmpi .slt main_arg2 main_v49
  let main_c_9 : IVec S_ 32 := constantI S_ 32 255#32
  let main_v51 : IVec S64 32 := broadcastInDim S64 ![] bcast_S_S64 main_c_9
  let main_v52 : IVec S64 32 := andi main_arg2 main_v51
  let main_c_10 : IVec S_ 32 := constantI S_ 32 0#32
  let main_v53 : IVec S64 32 := broadcastInDim S64 ![] bcast_S_S64 main_c_10
  let main_v54 : IVec S64 1 := cmpi .eq main_v52 main_v53
  let main_c_11 : IVec S_ 32 := constantI S_ 32 40960#32
  let main_v55 : IVec S64 32 := broadcastInDim S64 ![] bcast_S_S64 main_c_11
  let main_v56 : IVec S64 1 := cmpi .slt main_arg2 main_v55
  let main_v57 : IVec S64 1 := andi main_v54 main_v56
  let main_v58 : IVec S64 1 := ori main_v50 main_v57
  fn_part3 (F := F) main_arg0 main_arg1 main_arg2 main_v1 main_v3 main_v16 main_v48 main_v58

def fn_part1 {F : FTy → Type} [FloatOps F] (main_arg0 : IVec S16384 32) (main_arg1 : IVec S16384 32) (main_arg2 : IVec S64 32) (main_v1 : IVec S40960x1 32) (main_v2 : IVec S16384 32) (main_v3 : IVec S64 32) (main_v16 : IVec S_ 1) (main_v17 : IVec S16384x1 32) : IVec S_ 1 :=
  let main_v18 : IVec S1x16384 32 := broadcastInDim S1x16384 ![1] bcast_S16384_S1x16384_1 main_arg0
  let main_v19 : IVec S16384x16384 32 := broadcastInDim S16384x16384 ![0, 1] bcast_S16384x1_S16384x16384_0_1 main_v17
  let main_v20 : IVec S16384x16384 32 := broadcastInDim S16384x16384 ![0, 1] bcast_S1x16384_S16384x16384_0_1 main_v18
  let main_v21 : IVec S16384x16384 1 := cmpi .ne main_v19 main_v20
  let main_v22 : IVec S16384x1 32 := broadcastInDim S16384x1 ![0] bcast_S16384_S16384x1_0 main_v2
  let main_v23 : IVec S1x16384 32 := broadcastInDim S1x16384 ![1] bcast_S16384_S1x16384_1 main_v2
  let main_v24 : IVec S16384x16384 32 := broadcastInDim S16384x16384 ![0, 1] bcast_S16384x1_S16384x16384_0_1 main_v22
  let main_v25 : IVec S16384x16384 32 := broadcastInDim S16384x16384 ![0, 1] bcast_S1x16384_S16384x16384_0_1 main_v23
  let main_v26 : IVec S16384x16384 1 := cmpi .eq main_v24 main_v25
  let main_v27 : IVec S16384x16384 1 := ori main_v21 main_v26
  let main_c_5 : IVec S_ 1 := constantI S_ 1 1#1
  let main_v28 : IVec S_ 1 := (fun x v => Host.reduce IntOp.andi x v reducesTo_S16384x16384_S_d0_1 h_S_) main_v27 main_c_5
  let main_v29 : IVec S16384x1 32 := broadcastInDim S16384x1 ![0] bcast_S16384_S16384x1_0 main_arg1
  let main_v30 : IVec S1x16384 32 := broadcastInDim S1x16384 ![1] bcast_S16384_S1x16384_1 main_arg1
  let main_v31 : IVec S16384x16384 32 := broadcastInDim S16384x16384 ![0, 1] bcast_S16384x1_S16384x16384_0_1 main_v29
  let main_v32 : IVec S16384x16384 32 := broadcastInDim S16384x16384 ![0, 1] bcast_S1x16384_S16384x16384_0_1 main_v30
  let main_v33 : IVec S16384x16384 1 := cmpi .ne main_v31 main_v32
  let main_v34 : IVec S16384x1 32 := broadcastInDim S16384x1 ![0] bcast_S16384_S16384x1_0 main_v2
  let main_v35 : IVec S1x16384 32 := broadcastInDim S1x16384 ![1] bcast_S16384_S1x16384_1 main_v2
  let main_v36 : IVec S16384x16384 32 := broadcastInDim S16384x16384 ![0, 1] bcast_S16384x1_S16384x16384_0_1 main_v34
  let main_v37 : IVec S16384x16384 32 := broadcastInDim S16384x16384 ![0, 1] bcast_S1x16384_S16384x16384_0_1 main_v35
  let main_v38 : IVec S16384x16384 1 := cmpi .eq main_v36 main_v37
  let main_v39 : IVec S16384x16384 1 := ori main_v33 main_v38
  let main_c_6 : IVec S_ 1 := constantI S_ 1 1#1
  fn_part2 (F := F) main_arg0 main_arg1 main_arg2 main_v1 main_v3 main_v16 main_v28 main_v39 main_c_6

def fn {F : FTy → Type} [FloatOps F] (main_arg0 : IVec S16384 32) (main_arg1 : IVec S16384 32) (main_arg2 : IVec S64 32) (main_arg3 : FVec F S16384x2048 .f32) : IVec S_ 1 :=
  let main_v0 : IVec S40960 32 := iotaInDim S40960 32 0
  let main_v1 : IVec S40960x1 32 := broadcastInDim S40960x1 ![0] bcast_S40960_S40960x1_0 main_v0
  let main_v2 : IVec S16384 32 := iotaInDim S16384 32 0
  let main_v3 : IVec S64 32 := iotaInDim S64 32 0
  let main_c : IVec S_ 32 := constantI S_ 32 0#32
  let main_v4 : IVec S16384 32 := broadcastInDim S16384 ![] bcast_S_S16384 main_c
  let main_v5 : IVec S16384 1 := cmpi .sge main_arg0 main_v4
  let main_c_0 : IVec S_ 32 := constantI S_ 32 40960#32
  let main_v6 : IVec S16384 32 := broadcastInDim S16384 ![] bcast_S_S16384 main_c_0
  let main_v7 : IVec S16384 1 := cmpi .slt main_arg0 main_v6
  let main_v8 : IVec S16384 1 := andi main_v5 main_v7
  let main_c_1 : IVec S_ 1 := constantI S_ 1 1#1
  let main_v9 : IVec S_ 1 := (fun x v => Host.reduce IntOp.andi x v reducesTo_S16384_S_d0 h_S_) main_v8 main_c_1
  let main_c_2 : IVec S_ 32 := constantI S_ 32 0#32
  let main_v10 : IVec S16384 32 := broadcastInDim S16384 ![] bcast_S_S16384 main_c_2
  let main_v11 : IVec S16384 1 := cmpi .sge main_arg1 main_v10
  let main_c_3 : IVec S_ 32 := constantI S_ 32 40960#32
  let main_v12 : IVec S16384 32 := broadcastInDim S16384 ![] bcast_S_S16384 main_c_3
  let main_v13 : IVec S16384 1 := cmpi .slt main_arg1 main_v12
  let main_v14 : IVec S16384 1 := andi main_v11 main_v13
  let main_c_4 : IVec S_ 1 := constantI S_ 1 1#1
  let main_v15 : IVec S_ 1 := (fun x v => Host.reduce IntOp.andi x v reducesTo_S16384_S_d0 h_S_) main_v14 main_c_4
  let main_v16 : IVec S_ 1 := andi main_v9 main_v15
  let main_v17 : IVec S16384x1 32 := broadcastInDim S16384x1 ![0] bcast_S16384_S16384x1_0 main_arg0
  fn_part1 (F := F) main_arg0 main_arg1 main_arg2 main_v1 main_v2 main_v3 main_v16 main_v17
-- ==== Pre_tiled.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x2048 .f32) (main_arg3 : FVec F S32x2048x512 .f32) (main_arg4 : FVec F S32x2048x512 .f32) (main_arg5 : FVec F S32x512x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S16384 : Shape := ⟨1, ![16384]⟩
abbrev S64 : Shape := ⟨1, ![64]⟩
abbrev S16384x2048 : Shape := ⟨2, ![16384, 2048]⟩
abbrev S40960x2048 : Shape := ⟨2, ![40960, 2048]⟩
abbrev S256x2048 : Shape := ⟨2, ![256, 2048]⟩
abbrev S_ : Shape := ⟨0, ![]⟩
abbrev S1 : Shape := ⟨1, ![1]⟩
abbrev S1x2048 : Shape := ⟨2, ![1, 2048]⟩

abbrev nBuf : Space → Nat
  | .hbm => 2
  | .vmem => 3
  | .smem => 3
  | _ => 0

abbrev bufTy : (tb : Table) → Fin (tcTables nBuf tb) → BufTy
  | .hbm, ⟨0, _⟩ => ⟨S16384x2048, .f32⟩
  | .hbm, ⟨1, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .smem, ⟨0, _⟩ => ⟨S16384, .i32⟩
  | .local _ .smem, ⟨1, _⟩ => ⟨S16384, .i32⟩
  | .local _ .smem, ⟨2, _⟩ => ⟨S64, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg3 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v521 : BitVec 32) : BitVec 32 :=
  let c0_i32_330 : BitVec 32 := 0#32
  let v522 : BitVec 32 := Scalar.maxsi v521 c0_i32_330
  v522
def k0_cond2 (v9 : BitVec 32) : BitVec 1 :=
  let c0_i32_9 : BitVec 32 := 0#32
  let v10 : BitVec 1 := Scalar.cmpi .sge v9 c0_i32_9
  let v11 : BitVec 32 := Scalar.extui v10
  let c0_i32_10 : BitVec 32 := 0#32
  let v12 : BitVec 1 := Scalar.cmpi .ne v11 c0_i32_10
  v12

def k0_off1 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk1 (i : grid0.Coords) (v9 : BitVec 32) (v521 : BitVec 32) : Prop :=
  (∀ (k0_h1 : k0_cond1 i = 1#1), ∀ (k0_h2 : k0_cond2 v9 = 1#1), 8 ∣ (k0_mult1 v521).toNat) ∧
  (∀ (k0_h1 : k0_cond1 i = 1#1), ∀ (k0_h2 : k0_cond2 v9 = 1#1), ∀ a, (k0_off1 v521) a + S256x2048.size a ≤ S40960x2048.size a)
theorem k0_mult1_dvd : ∀ (i : grid0.Coords) (v9 : BitVec 32) (v521 : BitVec 32) (k0_hw1 : k0_chk1 i v9 v521), ∀ (k0_h1 : k0_cond1 i = 1#1), ∀ (k0_h2 : k0_cond2 v9 = 1#1), 8 ∣ (k0_mult1 v521).toNat := fun i v9 v521 k0_hw1 k0_h1 k0_h2 => k0_hw1.1 k0_h1 k0_h2
theorem k0_off1_inb : ∀ (i : grid0.Coords) (v9 : BitVec 32) (v521 : BitVec 32) (k0_hw1 : k0_chk1 i v9 v521), ∀ (k0_h1 : k0_cond1 i = 1#1), ∀ (k0_h2 : k0_cond2 v9 = 1#1), ∀ a, (k0_off1 v521) a + S256x2048.size a ≤ S40960x2048.size a := fun i v9 v521 k0_hw1 k0_h1 k0_h2 => k0_hw1.2 k0_h1 k0_h2

def k0_mult2 (v521 : BitVec 32) : BitVec 32 :=
  let c0_i32_330 : BitVec 32 := 0#32
  let v522 : BitVec 32 := Scalar.maxsi v521 c0_i32_330
  v522
def k0_cond3 (v13 : BitVec 32) : BitVec 1 :=
  let c0_i32_11 : BitVec 32 := 0#32
  let v14 : BitVec 1 := Scalar.cmpi .sge v13 c0_i32_11
  let v15 : BitVec 32 := Scalar.extui v14
  let c0_i32_12 : BitVec 32 := 0#32
  let v16 : BitVec 1 := Scalar.cmpi .ne v15 c0_i32_12
  v16

def k0_off2 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk2 (i : grid0.Coords) (v13 : BitVec 32) (v521 : BitVec 32) : Prop :=
  (∀ (k0_h1 : k0_cond1 i = 1#1), ∀ (k0_h3 : k0_cond3 v13 = 1#1), 8 ∣ (k0_mult2 v521).toNat) ∧
  (∀ (k0_h1 : k0_cond1 i = 1#1), ∀ (k0_h3 : k0_cond3 v13 = 1#1), ∀ a, (k0_off2 v521) a + S256x2048.size a ≤ S40960x2048.size a)
theorem k0_mult2_dvd : ∀ (i : grid0.Coords) (v13 : BitVec 32) (v521 : BitVec 32) (k0_hw2 : k0_chk2 i v13 v521), ∀ (k0_h1 : k0_cond1 i = 1#1), ∀ (k0_h3 : k0_cond3 v13 = 1#1), 8 ∣ (k0_mult2 v521).toNat := fun i v13 v521 k0_hw2 k0_h1 k0_h3 => k0_hw2.1 k0_h1 k0_h3
theorem k0_off2_inb : ∀ (i : grid0.Coords) (v13 : BitVec 32) (v521 : BitVec 32) (k0_hw2 : k0_chk2 i v13 v521), ∀ (k0_h1 : k0_cond1 i = 1#1), ∀ (k0_h3 : k0_cond3 v13 = 1#1), ∀ a, (k0_off2 v521) a + S256x2048.size a ≤ S40960x2048.size a := fun i v13 v521 k0_hw2 k0_h1 k0_h3 => k0_hw2.2 k0_h1 k0_h3

def k0_mult3 (v521 : BitVec 32) : BitVec 32 :=
  let c0_i32_330 : BitVec 32 := 0#32
  let v522 : BitVec 32 := Scalar.maxsi v521 c0_i32_330
  v522
def k0_cond4 (v17 : BitVec 32) : BitVec 1 :=
  let c0_i32_13 : BitVec 32 := 0#32
  let v18 : BitVec 1 := Scalar.cmpi .sge v17 c0_i32_13
  let v19 : BitVec 32 := Scalar.extui v18
  let c0_i32_14 : BitVec 32 := 0#32
  let v20 : BitVec 1 := Scalar.cmpi .ne v19 c0_i32_14
  v20

def k0_off3 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk3 (i : grid0.Coords) (v17 : BitVec 32) (v521 : BitVec 32) : Prop :=
  (∀ (k0_h1 : k0_cond1 i = 1#1), ∀ (k0_h4 : k0_cond4 v17 = 1#1), 8 ∣ (k0_mult3 v521).toNat) ∧
  (∀ (k0_h1 : k0_cond1 i = 1#1), ∀ (k0_h4 : k0_cond4 v17 = 1#1), ∀ a, (k0_off3 v521) a + S256x2048.size a ≤ S40960x2048.size a)
theorem k0_mult3_dvd : ∀ (i : grid0.Coords) (v17 : BitVec 32) (v521 : BitVec 32) (k0_hw3 : k0_chk3 i v17 v521), ∀ (k0_h1 : k0_cond1 i = 1#1), ∀ (k0_h4 : k0_cond4 v17 = 1#1), 8 ∣ (k0_mult3 v521).toNat := fun i v17 v521 k0_hw3 k0_h1 k0_h4 => k0_hw3.1 k0_h1 k0_h4
theorem k0_off3_inb : ∀ (i : grid0.Coords) (v17 : BitVec 32) (v521 : BitVec 32) (k0_hw3 : k0_chk3 i v17 v521), ∀ (k0_h1 : k0_cond1 i = 1#1), ∀ (k0_h4 : k0_cond4 v17 = 1#1), ∀ a, (k0_off3 v521) a + S256x2048.size a ≤ S40960x2048.size a := fun i v17 v521 k0_hw3 k0_h1 k0_h4 => k0_hw3.2 k0_h1 k0_h4

def k0_mult4 (v521 : BitVec 32) : BitVec 32 :=
  let c0_i32_330 : BitVec 32 := 0#32
  let v522 : BitVec 32 := Scalar.maxsi v521 c0_i32_330
  v522
def k0_cond5 (v21 : BitVec 32) : BitVec 1 :=
  let c0_i32_15 : BitVec 32 := 0#32
  let v22 : BitVec 1 := Scalar.cmpi .sge v21 c0_i32_15
  let v23 : BitVec 32 := Scalar.extui v22
  let c0_i32_16 : BitVec 32 := 0#32
  let v24 : BitVec 1 := Scalar.cmpi .ne v23 c0_i32_16
  v24

def k0_off4 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk4 (i : grid0.Coords) (v21 : BitVec 32) (v521 : BitVec 32) : Prop :=
  (∀ (k0_h1 : k0_cond1 i = 1#1), ∀ (k0_h5 : k0_cond5 v21 = 1#1), 8 ∣ (k0_mult4 v521).toNat) ∧
  (∀ (k0_h1 : k0_cond1 i = 1#1), ∀ (k0_h5 : k0_cond5 v21 = 1#1), ∀ a, (k0_off4 v521) a + S256x2048.size a ≤ S40960x2048.size a)
theorem k0_mult4_dvd : ∀ (i : grid0.Coords) (v21 : BitVec 32) (v521 : BitVec 32) (k0_hw4 : k0_chk4 i v21 v521), ∀ (k0_h1 : k0_cond1 i = 1#1), ∀ (k0_h5 : k0_cond5 v21 = 1#1), 8 ∣ (k0_mult4 v521).toNat := fun i v21 v521 k0_hw4 k0_h1 k0_h5 => k0_hw4.1 k0_h1 k0_h5
theorem k0_off4_inb : ∀ (i : grid0.Coords) (v21 : BitVec 32) (v521 : BitVec 32) (k0_hw4 : k0_chk4 i v21 v521), ∀ (k0_h1 : k0_cond1 i = 1#1), ∀ (k0_h5 : k0_cond5 v21 = 1#1), ∀ a, (k0_off4 v521) a + S256x2048.size a ≤ S40960x2048.size a := fun i v21 v521 k0_hw4 k0_h1 k0_h5 => k0_hw4.2 k0_h1 k0_h5

def k0_mult5 (v521 : BitVec 32) : BitVec 32 :=
  let c0_i32_330 : BitVec 32 := 0#32
  let v522 : BitVec 32 := Scalar.maxsi v521 c0_i32_330
  v522
def k0_cond6 (v25 : BitVec 32) : BitVec 1 :=
  let c0_i32_17 : BitVec 32 := 0#32
  let v26 : BitVec 1 := Scalar.cmpi .sge v25 c0_i32_17
  let v27 : BitVec 32 := Scalar.extui v26
  let c0_i32_18 : BitVec 32 := 0#32
  let v28 : BitVec 1 := Scalar.cmpi .ne v27 c0_i32_18
  v28

def k0_off5 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk5 (i : grid0.Coords) (v25 : BitVec 32) (v521 : BitVec 32) : Prop :=
  (∀ (k0_h1 : k0_cond1 i = 1#1), ∀ (k0_h6 : k0_cond6 v25 = 1#1), 8 ∣ (k0_mult5 v521).toNat) ∧
  (∀ (k0_h1 : k0_cond1 i = 1#1), ∀ (k0_h6 : k0_cond6 v25 = 1#1), ∀ a, (k0_off5 v521) a + S256x2048.size a ≤ S40960x2048.size a)
theorem k0_mult5_dvd : ∀ (i : grid0.Coords) (v25 : BitVec 32) (v521 : BitVec 32) (k0_hw5 : k0_chk5 i v25 v521), ∀ (k0_h1 : k0_cond1 i = 1#1), ∀ (k0_h6 : k0_cond6 v25 = 1#1), 8 ∣ (k0_mult5 v521).toNat := fun i v25 v521 k0_hw5 k0_h1 k0_h6 => k0_hw5.1 k0_h1 k0_h6
theorem k0_off5_inb : ∀ (i : grid0.Coords) (v25 : BitVec 32) (v521 : BitVec 32) (k0_hw5 : k0_chk5 i v25 v521), ∀ (k0_h1 : k0_cond1 i = 1#1), ∀ (k0_h6 : k0_cond6 v25 = 1#1), ∀ a, (k0_off5 v521) a + S256x2048.size a ≤ S40960x2048.size a := fun i v25 v521 k0_hw5 k0_h1 k0_h6 => k0_hw5.2 k0_h1 k0_h6

def k0_mult6 (v521 : BitVec 32) : BitVec 32 :=
  let c0_i32_330 : BitVec 32 := 0#32
  let v522 : BitVec 32 := Scalar.maxsi v521 c0_i32_330
  v522
def k0_cond7 (v29 : BitVec 32) : BitVec 1 :=
  let c0_i32_19 : BitVec 32 := 0#32
  let v30 : BitVec 1 := Scalar.cmpi .sge v29 c0_i32_19
  let v31 : BitVec 32 := Scalar.extui v30
  let c0_i32_20 : BitVec 32 := 0#32
  let v32 : BitVec 1 := Scalar.cmpi .ne v31 c0_i32_20
  v32

def k0_off6 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk6 (i : grid0.Coords) (v29 : BitVec 32) (v521 : BitVec 32) : Prop :=
  (∀ (k0_h1 : k0_cond1 i = 1#1), ∀ (k0_h7 : k0_cond7 v29 = 1#1), 8 ∣ (k0_mult6 v521).toNat) ∧
  (∀ (k0_h1 : k0_cond1 i = 1#1), ∀ (k0_h7 : k0_cond7 v29 = 1#1), ∀ a, (k0_off6 v521) a + S256x2048.size a ≤ S40960x2048.size a)
theorem k0_mult6_dvd : ∀ (i : grid0.Coords) (v29 : BitVec 32) (v521 : BitVec 32) (k0_hw6 : k0_chk6 i v29 v521), ∀ (k0_h1 : k0_cond1 i = 1#1), ∀ (k0_h7 : k0_cond7 v29 = 1#1), 8 ∣ (k0_mult6 v521).toNat := fun i v29 v521 k0_hw6 k0_h1 k0_h7 => k0_hw6.1 k0_h1 k0_h7
theorem k0_off6_inb : ∀ (i : grid0.Coords) (v29 : BitVec 32) (v521 : BitVec 32) (k0_hw6 : k0_chk6 i v29 v521), ∀ (k0_h1 : k0_cond1 i = 1#1), ∀ (k0_h7 : k0_cond7 v29 = 1#1), ∀ a, (k0_off6 v521) a + S256x2048.size a ≤ S40960x2048.size a := fun i v29 v521 k0_hw6 k0_h1 k0_h7 => k0_hw6.2 k0_h1 k0_h7

def k0_mult7 (v521 : BitVec 32) : BitVec 32 :=
  let c0_i32_330 : BitVec 32 := 0#32
  let v522 : BitVec 32 := Scalar.maxsi v521 c0_i32_330
  v522
def k0_cond8 (v33 : BitVec 32) : BitVec 1 :=
  let c0_i32_21 : BitVec 32 := 0#32
  let v34 : BitVec 1 := Scalar.cmpi .sge v33 c0_i32_21
  let v35 : BitVec 32 := Scalar.extui v34
  let c0_i32_22 : BitVec 32 := 0#32
  let v36 : BitVec 1 := Scalar.cmpi .ne v35 c0_i32_22
  v36

def k0_off7 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk7 (i : grid0.Coords) (v33 : BitVec 32) (v521 : BitVec 32) : Prop :=
  (∀ (k0_h1 : k0_cond1 i = 1#1), ∀ (k0_h8 : k0_cond8 v33 = 1#1), 8 ∣ (k0_mult7 v521).toNat) ∧
  (∀ (k0_h1 : k0_cond1 i = 1#1), ∀ (k0_h8 : k0_cond8 v33 = 1#1), ∀ a, (k0_off7 v521) a + S256x2048.size a ≤ S40960x2048.size a)
theorem k0_mult7_dvd : ∀ (i : grid0.Coords) (v33 : BitVec 32) (v521 : BitVec 32) (k0_hw7 : k0_chk7 i v33 v521), ∀ (k0_h1 : k0_cond1 i = 1#1), ∀ (k0_h8 : k0_cond8 v33 = 1#1), 8 ∣ (k0_mult7 v521).toNat := fun i v33 v521 k0_hw7 k0_h1 k0_h8 => k0_hw7.1 k0_h1 k0_h8
theorem k0_off7_inb : ∀ (i : grid0.Coords) (v33 : BitVec 32) (v521 : BitVec 32) (k0_hw7 : k0_chk7 i v33 v521), ∀ (k0_h1 : k0_cond1 i = 1#1), ∀ (k0_h8 : k0_cond8 v33 = 1#1), ∀ a, (k0_off7 v521) a + S256x2048.size a ≤ S40960x2048.size a := fun i v33 v521 k0_hw7 k0_h1 k0_h8 => k0_hw7.2 k0_h1 k0_h8

def k0_mult8 (v521 : BitVec 32) : BitVec 32 :=
  let c0_i32_330 : BitVec 32 := 0#32
  let v522 : BitVec 32 := Scalar.maxsi v521 c0_i32_330
  v522
def k0_cond9 (v37 : BitVec 32) : BitVec 1 :=
  let c0_i32_23 : BitVec 32 := 0#32
  let v38 : BitVec 1 := Scalar.cmpi .sge v37 c0_i32_23
  let v39 : BitVec 32 := Scalar.extui v38
  let c0_i32_24 : BitVec 32 := 0#32
  let v40 : BitVec 1 := Scalar.cmpi .ne v39 c0_i32_24
  v40

def k0_off8 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk8 (i : grid0.Coords) (v37 : BitVec 32) (v521 : BitVec 32) : Prop :=
  (∀ (k0_h1 : k0_cond1 i = 1#1), ∀ (k0_h9 : k0_cond9 v37 = 1#1), 8 ∣ (k0_mult8 v521).toNat) ∧
  (∀ (k0_h1 : k0_cond1 i = 1#1), ∀ (k0_h9 : k0_cond9 v37 = 1#1), ∀ a, (k0_off8 v521) a + S256x2048.size a ≤ S40960x2048.size a)
theorem k0_mult8_dvd : ∀ (i : grid0.Coords) (v37 : BitVec 32) (v521 : BitVec 32) (k0_hw8 : k0_chk8 i v37 v521), ∀ (k0_h1 : k0_cond1 i = 1#1), ∀ (k0_h9 : k0_cond9 v37 = 1#1), 8 ∣ (k0_mult8 v521).toNat := fun i v37 v521 k0_hw8 k0_h1 k0_h9 => k0_hw8.1 k0_h1 k0_h9
theorem k0_off8_inb : ∀ (i : grid0.Coords) (v37 : BitVec 32) (v521 : BitVec 32) (k0_hw8 : k0_chk8 i v37 v521), ∀ (k0_h1 : k0_cond1 i = 1#1), ∀ (k0_h9 : k0_cond9 v37 = 1#1), ∀ a, (k0_off8 v521) a + S256x2048.size a ≤ S40960x2048.size a := fun i v37 v521 k0_hw8 k0_h1 k0_h9 => k0_hw8.2 k0_h1 k0_h9

def k0_mult9 (v521 : BitVec 32) : BitVec 32 :=
  let c0_i32_330 : BitVec 32 := 0#32
  let v522 : BitVec 32 := Scalar.maxsi v521 c0_i32_330
  v522
def k0_cond10 (v41 : BitVec 32) : BitVec 1 :=
  let c0_i32_25 : BitVec 32 := 0#32
  let v42 : BitVec 1 := Scalar.cmpi .sge v41 c0_i32_25
  let v43 : BitVec 32 := Scalar.extui v42
  let c0_i32_26 : BitVec 32 := 0#32
  let v44 : BitVec 1 := Scalar.cmpi .ne v43 c0_i32_26
  v44

def k0_off9 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk9 (i : grid0.Coords) (v41 : BitVec 32) (v521 : BitVec 32) : Prop :=
  (∀ (k0_h1 : k0_cond1 i = 1#1), ∀ (k0_h10 : k0_cond10 v41 = 1#1), 8 ∣ (k0_mult9 v521).toNat) ∧
  (∀ (k0_h1 : k0_cond1 i = 1#1), ∀ (k0_h10 : k0_cond10 v41 = 1#1), ∀ a, (k0_off9 v521) a + S256x2048.size a ≤ S40960x2048.size a)
theorem k0_mult9_dvd : ∀ (i : grid0.Coords) (v41 : BitVec 32) (v521 : BitVec 32) (k0_hw9 : k0_chk9 i v41 v521), ∀ (k0_h1 : k0_cond1 i = 1#1), ∀ (k0_h10 : k0_cond10 v41 = 1#1), 8 ∣ (k0_mult9 v521).toNat := fun i v41 v521 k0_hw9 k0_h1 k0_h10 => k0_hw9.1 k0_h1 k0_h10
theorem k0_off9_inb : ∀ (i : grid0.Coords) (v41 : BitVec 32) (v521 : BitVec 32) (k0_hw9 : k0_chk9 i v41 v521), ∀ (k0_h1 : k0_cond1 i = 1#1), ∀ (k0_h10 : k0_cond10 v41 = 1#1), ∀ a, (k0_off9 v521) a + S256x2048.size a ≤ S40960x2048.size a := fun i v41 v521 k0_hw9 k0_h1 k0_h10 => k0_hw9.2 k0_h1 k0_h10

def k0_mult10 (v521 : BitVec 32) : BitVec 32 :=
  let c0_i32_330 : BitVec 32 := 0#32
  let v522 : BitVec 32 := Scalar.maxsi v521 c0_i32_330
  v522
def k0_cond11 (v45 : BitVec 32) : BitVec 1 :=
  let c0_i32_27 : BitVec 32 := 0#32
  let v46 : BitVec 1 := Scalar.cmpi .sge v45 c0_i32_27
  let v47 : BitVec 32 := Scalar.extui v46
  let c0_i32_28 : BitVec 32 := 0#32
  let v48 : BitVec 1 := Scalar.cmpi .ne v47 c0_i32_28
  v48

def k0_off10 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk10 (i : grid0.Coords) (v45 : BitVec 32) (v521 : BitVec 32) : Prop :=
  (∀ (k0_h1 : k0_cond1 i = 1#1), ∀ (k0_h11 : k0_cond11 v45 = 1#1), 8 ∣ (k0_mult10 v521).toNat) ∧
  (∀ (k0_h1 : k0_cond1 i = 1#1), ∀ (k0_h11 : k0_cond11 v45 = 1#1), ∀ a, (k0_off10 v521) a + S256x2048.size a ≤ S40960x2048.size a)
theorem k0_mult10_dvd : ∀ (i : grid0.Coords) (v45 : BitVec 32) (v521 : BitVec 32) (k0_hw10 : k0_chk10 i v45 v521), ∀ (k0_h1 : k0_cond1 i = 1#1), ∀ (k0_h11 : k0_cond11 v45 = 1#1), 8 ∣ (k0_mult10 v521).toNat := fun i v45 v521 k0_hw10 k0_h1 k0_h11 => k0_hw10.1 k0_h1 k0_h11
theorem k0_off10_inb : ∀ (i : grid0.Coords) (v45 : BitVec 32) (v521 : BitVec 32) (k0_hw10 : k0_chk10 i v45 v521), ∀ (k0_h1 : k0_cond1 i = 1#1), ∀ (k0_h11 : k0_cond11 v45 = 1#1), ∀ a, (k0_off10 v521) a + S256x2048.size a ≤ S40960x2048.size a := fun i v45 v521 k0_hw10 k0_h1 k0_h11 => k0_hw10.2 k0_h1 k0_h11

def k0_mult11 (v521 : BitVec 32) : BitVec 32 :=
  let c0_i32_330 : BitVec 32 := 0#32
  let v522 : BitVec 32 := Scalar.maxsi v521 c0_i32_330
  v522
def k0_cond12 (v49 : BitVec 32) : BitVec 1 :=
  let c0_i32_29 : BitVec 32 := 0#32
  let v50 : BitVec 1 := Scalar.cmpi .sge v49 c0_i32_29
  let v51 : BitVec 32 := Scalar.extui v50
  let c0_i32_30 : BitVec 32 := 0#32
  let v52 : BitVec 1 := Scalar.cmpi .ne v51 c0_i32_30
  v52

def k0_off11 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk11 (i : grid0.Coords) (v49 : BitVec 32) (v521 : BitVec 32) : Prop :=
  (∀ (k0_h1 : k0_cond1 i = 1#1), ∀ (k0_h12 : k0_cond12 v49 = 1#1), 8 ∣ (k0_mult11 v521).toNat) ∧
  (∀ (k0_h1 : k0_cond1 i = 1#1), ∀ (k0_h12 : k0_cond12 v49 = 1#1), ∀ a, (k0_off11 v521) a + S256x2048.size a ≤ S40960x2048.size a)
theorem k0_mult11_dvd : ∀ (i : grid0.Coords) (v49 : BitVec 32) (v521 : BitVec 32) (k0_hw11 : k0_chk11 i v49 v521), ∀ (k0_h1 : k0_cond1 i = 1#1), ∀ (k0_h12 : k0_cond12 v49 = 1#1), 8 ∣ (k0_mult11 v521).toNat := fun i v49 v521 k0_hw11 k0_h1 k0_h12 => k0_hw11.1 k0_h1 k0_h12
theorem k0_off11_inb : ∀ (i : grid0.Coords) (v49 : BitVec 32) (v521 : BitVec 32) (k0_hw11 : k0_chk11 i v49 v521), ∀ (k0_h1 : k0_cond1 i = 1#1), ∀ (k0_h12 : k0_cond12 v49 = 1#1), ∀ a, (k0_off11 v521) a + S256x2048.size a ≤ S40960x2048.size a := fun i v49 v521 k0_hw11 k0_h1 k0_h12 => k0_hw11.2 k0_h1 k0_h12

def k0_mult12 (v521 : BitVec 32) : BitVec 32 :=
  let c0_i32_330 : BitVec 32 := 0#32
  let v522 : BitVec 32 := Scalar.maxsi v521 c0_i32_330
  v522
def k0_cond13 (v53 : BitVec 32) : BitVec 1 :=
  let c0_i32_31 : BitVec 32 := 0#32
  let v54 : BitVec 1 := Scalar.cmpi .sge v53 c0_i32_31
  let v55 : BitVec 32 := Scalar.extui v54
  let c0_i32_32 : BitVec 32 := 0#32
  let v56 : BitVec 1 := Scalar.cmpi .ne v55 c0_i32_32
  v56

def k0_off12 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk12 (i : grid0.Coords) (v53 : BitVec 32) (v521 : BitVec 32) : Prop :=
  (∀ (k0_h1 : k0_cond1 i = 1#1), ∀ (k0_h13 : k0_cond13 v53 = 1#1), 8 ∣ (k0_mult12 v521).toNat) ∧
  (∀ (k0_h1 : k0_cond1 i = 1#1), ∀ (k0_h13 : k0_cond13 v53 = 1#1), ∀ a, (k0_off12 v521) a + S256x2048.size a ≤ S40960x2048.size a)
theorem k0_mult12_dvd : ∀ (i : grid0.Coords) (v53 : BitVec 32) (v521 : BitVec 32) (k0_hw12 : k0_chk12 i v53 v521), ∀ (k0_h1 : k0_cond1 i = 1#1), ∀ (k0_h13 : k0_cond13 v53 = 1#1), 8 ∣ (k0_mult12 v521).toNat := fun i v53 v521 k0_hw12 k0_h1 k0_h13 => k0_hw12.1 k0_h1 k0_h13
theorem k0_off12_inb : ∀ (i : grid0.Coords) (v53 : BitVec 32) (v521 : BitVec 32) (k0_hw12 : k0_chk12 i v53 v521), ∀ (k0_h1 : k0_cond1 i = 1#1), ∀ (k0_h13 : k0_cond13 v53 = 1#1), ∀ a, (k0_off12 v521) a + S256x2048.size a ≤ S40960x2048.size a := fun i v53 v521 k0_hw12 k0_h1 k0_h13 => k0_hw12.2 k0_h1 k0_h13

def k0_mult13 (v521 : BitVec 32) : BitVec 32 :=
  let c0_i32_330 : BitVec 32 := 0#32
  let v522 : BitVec 32 := Scalar.maxsi v521 c0_i32_330
  v522
def k0_cond14 (v57 : BitVec 32) : BitVec 1 :=
  let c0_i32_33 : BitVec 32 := 0#32
  let v58 : BitVec 1 := Scalar.cmpi .sge v57 c0_i32_33
  let v59 : BitVec 32 := Scalar.extui v58
  let c0_i32_34 : BitVec 32 := 0#32
  let v60 : BitVec 1 := Scalar.cmpi .ne v59 c0_i32_34
  v60

def k0_off13 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk13 (i : grid0.Coords) (v57 : BitVec 32) (v521 : BitVec 32) : Prop :=
  (∀ (k0_h1 : k0_cond1 i = 1#1), ∀ (k0_h14 : k0_cond14 v57 = 1#1), 8 ∣ (k0_mult13 v521).toNat) ∧
  (∀ (k0_h1 : k0_cond1 i = 1#1), ∀ (k0_h14 : k0_cond14 v57 = 1#1), ∀ a, (k0_off13 v521) a + S256x2048.size a ≤ S40960x2048.size a)
theorem k0_mult13_dvd : ∀ (i : grid0.Coords) (v57 : BitVec 32) (v521 : BitVec 32) (k0_hw13 : k0_chk13 i v57 v521), ∀ (k0_h1 : k0_cond1 i = 1#1), ∀ (k0_h14 : k0_cond14 v57 = 1#1), 8 ∣ (k0_mult13 v521).toNat := fun i v57 v521 k0_hw13 k0_h1 k0_h14 => k0_hw13.1 k0_h1 k0_h14
theorem k0_off13_inb : ∀ (i : grid0.Coords) (v57 : BitVec 32) (v521 : BitVec 32) (k0_hw13 : k0_chk13 i v57 v521), ∀ (k0_h1 : k0_cond1 i = 1#1), ∀ (k0_h14 : k0_cond14 v57 = 1#1), ∀ a, (k0_off13 v521) a + S256x2048.size a ≤ S40960x2048.size a := fun i v57 v521 k0_hw13 k0_h1 k0_h14 => k0_hw13.2 k0_h1 k0_h14

def k0_mult14 (v521 : BitVec 32) : BitVec 32 :=
  let c0_i32_330 : BitVec 32 := 0#32
  let v522 : BitVec 32 := Scalar.maxsi v521 c0_i32_330
  v522
def k0_cond15 (v61 : BitVec 32) : BitVec 1 :=
  let c0_i32_35 : BitVec 32 := 0#32
  let v62 : BitVec 1 := Scalar.cmpi .sge v61 c0_i32_35
  let v63 : BitVec 32 := Scalar.extui v62
  let c0_i32_36 : BitVec 32 := 0#32
  let v64 : BitVec 1 := Scalar.cmpi .ne v63 c0_i32_36
  v64

def k0_off14 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk14 (i : grid0.Coords) (v61 : BitVec 32) (v521 : BitVec 32) : Prop :=
  (∀ (k0_h1 : k0_cond1 i = 1#1), ∀ (k0_h15 : k0_cond15 v61 = 1#1), 8 ∣ (k0_mult14 v521).toNat) ∧
  (∀ (k0_h1 : k0_cond1 i = 1#1), ∀ (k0_h15 : k0_cond15 v61 = 1#1), ∀ a, (k0_off14 v521) a + S256x2048.size a ≤ S40960x2048.size a)
theorem k0_mult14_dvd : ∀ (i : grid0.Coords) (v61 : BitVec 32) (v521 : BitVec 32) (k0_hw14 : k0_chk14 i v61 v521), ∀ (k0_h1 : k0_cond1 i = 1#1), ∀ (k0_h15 : k0_cond15 v61 = 1#1), 8 ∣ (k0_mult14 v521).toNat := fun i v61 v521 k0_hw14 k0_h1 k0_h15 => k0_hw14.1 k0_h1 k0_h15
theorem k0_off14_inb : ∀ (i : grid0.Coords) (v61 : BitVec 32) (v521 : BitVec 32) (k0_hw14 : k0_chk14 i v61 v521), ∀ (k0_h1 : k0_cond1 i = 1#1), ∀ (k0_h15 : k0_cond15 v61 = 1#1), ∀ a, (k0_off14 v521) a + S256x2048.size a ≤ S40960x2048.size a := fun i v61 v521 k0_hw14 k0_h1 k0_h15 => k0_hw14.2 k0_h1 k0_h15

def k0_mult15 (v521 : BitVec 32) : BitVec 32 :=
  let c0_i32_330 : BitVec 32 := 0#32
  let v522 : BitVec 32 := Scalar.maxsi v521 c0_i32_330
  v522
def k0_cond16 (v65 : BitVec 32) : BitVec 1 :=
  let c0_i32_37 : BitVec 32 := 0#32
  let v66 : BitVec 1 := Scalar.cmpi .sge v65 c0_i32_37
  let v67 : BitVec 32 := Scalar.extui v66
  let c0_i32_38 : BitVec 32 := 0#32
  let v68 : BitVec 1 := Scalar.cmpi .ne v67 c0_i32_38
  v68

def k0_off15 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk15 (i : grid0.Coords) (v65 : BitVec 32) (v521 : BitVec 32) : Prop :=
  (∀ (k0_h1 : k0_cond1 i = 1#1), ∀ (k0_h16 : k0_cond16 v65 = 1#1), 8 ∣ (k0_mult15 v521).toNat) ∧
  (∀ (k0_h1 : k0_cond1 i = 1#1), ∀ (k0_h16 : k0_cond16 v65 = 1#1), ∀ a, (k0_off15 v521) a + S256x2048.size a ≤ S40960x2048.size a)
theorem k0_mult15_dvd : ∀ (i : grid0.Coords) (v65 : BitVec 32) (v521 : BitVec 32) (k0_hw15 : k0_chk15 i v65 v521), ∀ (k0_h1 : k0_cond1 i = 1#1), ∀ (k0_h16 : k0_cond16 v65 = 1#1), 8 ∣ (k0_mult15 v521).toNat := fun i v65 v521 k0_hw15 k0_h1 k0_h16 => k0_hw15.1 k0_h1 k0_h16
theorem k0_off15_inb : ∀ (i : grid0.Coords) (v65 : BitVec 32) (v521 : BitVec 32) (k0_hw15 : k0_chk15 i v65 v521), ∀ (k0_h1 : k0_cond1 i = 1#1), ∀ (k0_h16 : k0_cond16 v65 = 1#1), ∀ a, (k0_off15 v521) a + S256x2048.size a ≤ S40960x2048.size a := fun i v65 v521 k0_hw15 k0_h1 k0_h16 => k0_hw15.2 k0_h1 k0_h16

def k0_mult16 (v521 : BitVec 32) : BitVec 32 :=
  let c0_i32_330 : BitVec 32 := 0#32
  let v522 : BitVec 32 := Scalar.maxsi v521 c0_i32_330
  v522
def k0_cond17 (v69 : BitVec 32) : BitVec 1 :=
  let c0_i32_39 : BitVec 32 := 0#32
  let v70 : BitVec 1 := Scalar.cmpi .sge v69 c0_i32_39
  let v71 : BitVec 32 := Scalar.extui v70
  let c0_i32_40 : BitVec 32 := 0#32
  let v72 : BitVec 1 := Scalar.cmpi .ne v71 c0_i32_40
  v72

def k0_off16 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk16 (i : grid0.Coords) (v69 : BitVec 32) (v521 : BitVec 32) : Prop :=
  (∀ (k0_h1 : k0_cond1 i = 1#1), ∀ (k0_h17 : k0_cond17 v69 = 1#1), 8 ∣ (k0_mult16 v521).toNat) ∧
  (∀ (k0_h1 : k0_cond1 i = 1#1), ∀ (k0_h17 : k0_cond17 v69 = 1#1), ∀ a, (k0_off16 v521) a + S256x2048.size a ≤ S40960x2048.size a)
theorem k0_mult16_dvd : ∀ (i : grid0.Coords) (v69 : BitVec 32) (v521 : BitVec 32) (k0_hw16 : k0_chk16 i v69 v521), ∀ (k0_h1 : k0_cond1 i = 1#1), ∀ (k0_h17 : k0_cond17 v69 = 1#1), 8 ∣ (k0_mult16 v521).toNat := fun i v69 v521 k0_hw16 k0_h1 k0_h17 => k0_hw16.1 k0_h1 k0_h17
theorem k0_off16_inb : ∀ (i : grid0.Coords) (v69 : BitVec 32) (v521 : BitVec 32) (k0_hw16 : k0_chk16 i v69 v521), ∀ (k0_h1 : k0_cond1 i = 1#1), ∀ (k0_h17 : k0_cond17 v69 = 1#1), ∀ a, (k0_off16 v521) a + S256x2048.size a ≤ S40960x2048.size a := fun i v69 v521 k0_hw16 k0_h1 k0_h17 => k0_hw16.2 k0_h1 k0_h17

def k0_mult17 (v521 : BitVec 32) : BitVec 32 :=
  let c0_i32_330 : BitVec 32 := 0#32
  let v522 : BitVec 32 := Scalar.maxsi v521 c0_i32_330
  v522
def k0_cond18 (v73 : BitVec 32) : BitVec 1 :=
  let c0_i32_41 : BitVec 32 := 0#32
  let v74 : BitVec 1 := Scalar.cmpi .sge v73 c0_i32_41
  let v75 : BitVec 32 := Scalar.extui v74
  let c0_i32_42 : BitVec 32 := 0#32
  let v76 : BitVec 1 := Scalar.cmpi .ne v75 c0_i32_42
  v76

def k0_off17 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk17 (i : grid0.Coords) (v73 : BitVec 32) (v521 : BitVec 32) : Prop :=
  (∀ (k0_h1 : k0_cond1 i = 1#1), ∀ (k0_h18 : k0_cond18 v73 = 1#1), 8 ∣ (k0_mult17 v521).toNat) ∧
  (∀ (k0_h1 : k0_cond1 i = 1#1), ∀ (k0_h18 : k0_cond18 v73 = 1#1), ∀ a, (k0_off17 v521) a + S256x2048.size a ≤ S40960x2048.size a)
theorem k0_mult17_dvd : ∀ (i : grid0.Coords) (v73 : BitVec 32) (v521 : BitVec 32) (k0_hw17 : k0_chk17 i v73 v521), ∀ (k0_h1 : k0_cond1 i = 1#1), ∀ (k0_h18 : k0_cond18 v73 = 1#1), 8 ∣ (k0_mult17 v521).toNat := fun i v73 v521 k0_hw17 k0_h1 k0_h18 => k0_hw17.1 k0_h1 k0_h18
theorem k0_off17_inb : ∀ (i : grid0.Coords) (v73 : BitVec 32) (v521 : BitVec 32) (k0_hw17 : k0_chk17 i v73 v521), ∀ (k0_h1 : k0_cond1 i = 1#1), ∀ (k0_h18 : k0_cond18 v73 = 1#1), ∀ a, (k0_off17 v521) a + S256x2048.size a ≤ S40960x2048.size a := fun i v73 v521 k0_hw17 k0_h1 k0_h18 => k0_hw17.2 k0_h1 k0_h18

def k0_mult18 (v521 : BitVec 32) : BitVec 32 :=
  let c0_i32_330 : BitVec 32 := 0#32
  let v522 : BitVec 32 := Scalar.maxsi v521 c0_i32_330
  v522
def k0_cond19 (v77 : BitVec 32) : BitVec 1 :=
  let c0_i32_43 : BitVec 32 := 0#32
  let v78 : BitVec 1 := Scalar.cmpi .sge v77 c0_i32_43
  let v79 : BitVec 32 := Scalar.extui v78
  let c0_i32_44 : BitVec 32 := 0#32
  let v80 : BitVec 1 := Scalar.cmpi .ne v79 c0_i32_44
  v80

def k0_off18 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk18 (i : grid0.Coords) (v77 : BitVec 32) (v521 : BitVec 32) : Prop :=
  (∀ (k0_h1 : k0_cond1 i = 1#1), ∀ (k0_h19 : k0_cond19 v77 = 1#1), 8 ∣ (k0_mult18 v521).toNat) ∧
  (∀ (k0_h1 : k0_cond1 i = 1#1), ∀ (k0_h19 : k0_cond19 v77 = 1#1), ∀ a, (k0_off18 v521) a + S256x2048.size a ≤ S40960x2048.size a)
theorem k0_mult18_dvd : ∀ (i : grid0.Coords) (v77 : BitVec 32) (v521 : BitVec 32) (k0_hw18 : k0_chk18 i v77 v521), ∀ (k0_h1 : k0_cond1 i = 1#1), ∀ (k0_h19 : k0_cond19 v77 = 1#1), 8 ∣ (k0_mult18 v521).toNat := fun i v77 v521 k0_hw18 k0_h1 k0_h19 => k0_hw18.1 k0_h1 k0_h19
theorem k0_off18_inb : ∀ (i : grid0.Coords) (v77 : BitVec 32) (v521 : BitVec 32) (k0_hw18 : k0_chk18 i v77 v521), ∀ (k0_h1 : k0_cond1 i = 1#1), ∀ (k0_h19 : k0_cond19 v77 = 1#1), ∀ a, (k0_off18 v521) a + S256x2048.size a ≤ S40960x2048.size a := fun i v77 v521 k0_hw18 k0_h1 k0_h19 => k0_hw18.2 k0_h1 k0_h19

def k0_mult19 (v521 : BitVec 32) : BitVec 32 :=
  let c0_i32_330 : BitVec 32 := 0#32
  let v522 : BitVec 32 := Scalar.maxsi v521 c0_i32_330
  v522
def k0_cond20 (v81 : BitVec 32) : BitVec 1 :=
  let c0_i32_45 : BitVec 32 := 0#32
  let v82 : BitVec 1 := Scalar.cmpi .sge v81 c0_i32_45
  let v83 : BitVec 32 := Scalar.extui v82
  let c0_i32_46 : BitVec 32 := 0#32
  let v84 : BitVec 1 := Scalar.cmpi .ne v83 c0_i32_46
  v84

def k0_off19 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk19 (i : grid0.Coords) (v81 : BitVec 32) (v521 : BitVec 32) : Prop :=
  (∀ (k0_h1 : k0_cond1 i = 1#1), ∀ (k0_h20 : k0_cond20 v81 = 1#1), 8 ∣ (k0_mult19 v521).toNat) ∧
  (∀ (k0_h1 : k0_cond1 i = 1#1), ∀ (k0_h20 : k0_cond20 v81 = 1#1), ∀ a, (k0_off19 v521) a + S256x2048.size a ≤ S40960x2048.size a)
theorem k0_mult19_dvd : ∀ (i : grid0.Coords) (v81 : BitVec 32) (v521 : BitVec 32) (k0_hw19 : k0_chk19 i v81 v521), ∀ (k0_h1 : k0_cond1 i = 1#1), ∀ (k0_h20 : k0_cond20 v81 = 1#1), 8 ∣ (k0_mult19 v521).toNat := fun i v81 v521 k0_hw19 k0_h1 k0_h20 => k0_hw19.1 k0_h1 k0_h20
theorem k0_off19_inb : ∀ (i : grid0.Coords) (v81 : BitVec 32) (v521 : BitVec 32) (k0_hw19 : k0_chk19 i v81 v521), ∀ (k0_h1 : k0_cond1 i = 1#1), ∀ (k0_h20 : k0_cond20 v81 = 1#1), ∀ a, (k0_off19 v521) a + S256x2048.size a ≤ S40960x2048.size a := fun i v81 v521 k0_hw19 k0_h1 k0_h20 => k0_hw19.2 k0_h1 k0_h20

def k0_mult20 (v521 : BitVec 32) : BitVec 32 :=
  let c0_i32_330 : BitVec 32 := 0#32
  let v522 : BitVec 32 := Scalar.maxsi v521 c0_i32_330
  v522
def k0_cond21 (v85 : BitVec 32) : BitVec 1 :=
  let c0_i32_47 : BitVec 32 := 0#32
  let v86 : BitVec 1 := Scalar.cmpi .sge v85 c0_i32_47
  let v87 : BitVec 32 := Scalar.extui v86
  let c0_i32_48 : BitVec 32 := 0#32
  let v88 : BitVec 1 := Scalar.cmpi .ne v87 c0_i32_48
  v88

def k0_off20 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk20 (i : grid0.Coords) (v85 : BitVec 32) (v521 : BitVec 32) : Prop :=
  (∀ (k0_h1 : k0_cond1 i = 1#1), ∀ (k0_h21 : k0_cond21 v85 = 1#1), 8 ∣ (k0_mult20 v521).toNat) ∧
  (∀ (k0_h1 : k0_cond1 i = 1#1), ∀ (k0_h21 : k0_cond21 v85 = 1#1), ∀ a, (k0_off20 v521) a + S256x2048.size a ≤ S40960x2048.size a)
theorem k0_mult20_dvd : ∀ (i : grid0.Coords) (v85 : BitVec 32) (v521 : BitVec 32) (k0_hw20 : k0_chk20 i v85 v521), ∀ (k0_h1 : k0_cond1 i = 1#1), ∀ (k0_h21 : k0_cond21 v85 = 1#1), 8 ∣ (k0_mult20 v521).toNat := fun i v85 v521 k0_hw20 k0_h1 k0_h21 => k0_hw20.1 k0_h1 k0_h21
theorem k0_off20_inb : ∀ (i : grid0.Coords) (v85 : BitVec 32) (v521 : BitVec 32) (k0_hw20 : k0_chk20 i v85 v521), ∀ (k0_h1 : k0_cond1 i = 1#1), ∀ (k0_h21 : k0_cond21 v85 = 1#1), ∀ a, (k0_off20 v521) a + S256x2048.size a ≤ S40960x2048.size a := fun i v85 v521 k0_hw20 k0_h1 k0_h21 => k0_hw20.2 k0_h1 k0_h21

def k0_mult21 (v521 : BitVec 32) : BitVec 32 :=
  let c0_i32_330 : BitVec 32 := 0#32
  let v522 : BitVec 32 := Scalar.maxsi v521 c0_i32_330
  v522
def k0_cond22 (v89 : BitVec 32) : BitVec 1 :=
  let c0_i32_49 : BitVec 32 := 0#32
  let v90 : BitVec 1 := Scalar.cmpi .sge v89 c0_i32_49
  let v91 : BitVec 32 := Scalar.extui v90
  let c0_i32_50 : BitVec 32 := 0#32
  let v92 : BitVec 1 := Scalar.cmpi .ne v91 c0_i32_50
  v92

def k0_off21 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk21 (i : grid0.Coords) (v89 : BitVec 32) (v521 : BitVec 32) : Prop :=
  (∀ (k0_h1 : k0_cond1 i = 1#1), ∀ (k0_h22 : k0_cond22 v89 = 1#1), 8 ∣ (k0_mult21 v521).toNat) ∧
  (∀ (k0_h1 : k0_cond1 i = 1#1), ∀ (k0_h22 : k0_cond22 v89 = 1#1), ∀ a, (k0_off21 v521) a + S256x2048.size a ≤ S40960x2048.size a)
theorem k0_mult21_dvd : ∀ (i : grid0.Coords) (v89 : BitVec 32) (v521 : BitVec 32) (k0_hw21 : k0_chk21 i v89 v521), ∀ (k0_h1 : k0_cond1 i = 1#1), ∀ (k0_h22 : k0_cond22 v89 = 1#1), 8 ∣ (k0_mult21 v521).toNat := fun i v89 v521 k0_hw21 k0_h1 k0_h22 => k0_hw21.1 k0_h1 k0_h22
theorem k0_off21_inb : ∀ (i : grid0.Coords) (v89 : BitVec 32) (v521 : BitVec 32) (k0_hw21 : k0_chk21 i v89 v521), ∀ (k0_h1 : k0_cond1 i = 1#1), ∀ (k0_h22 : k0_cond22 v89 = 1#1), ∀ a, (k0_off21 v521) a + S256x2048.size a ≤ S40960x2048.size a := fun i v89 v521 k0_hw21 k0_h1 k0_h22 => k0_hw21.2 k0_h1 k0_h22

def k0_mult22 (v521 : BitVec 32) : BitVec 32 :=
  let c0_i32_330 : BitVec 32 := 0#32
  let v522 : BitVec 32 := Scalar.maxsi v521 c0_i32_330
  v522
def k0_cond23 (v93 : BitVec 32) : BitVec 1 :=
  let c0_i32_51 : BitVec 32 := 0#32
  let v94 : BitVec 1 := Scalar.cmpi .sge v93 c0_i32_51
  let v95 : BitVec 32 := Scalar.extui v94
  let c0_i32_52 : BitVec 32 := 0#32
  let v96 : BitVec 1 := Scalar.cmpi .ne v95 c0_i32_52
  v96

def k0_off22 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk22 (i : grid0.Coords) (v93 : BitVec 32) (v521 : BitVec 32) : Prop :=
  (∀ (k0_h1 : k0_cond1 i = 1#1), ∀ (k0_h23 : k0_cond23 v93 = 1#1), 8 ∣ (k0_mult22 v521).toNat) ∧
  (∀ (k0_h1 : k0_cond1 i = 1#1), ∀ (k0_h23 : k0_cond23 v93 = 1#1), ∀ a, (k0_off22 v521) a + S256x2048.size a ≤ S40960x2048.size a)
theorem k0_mult22_dvd : ∀ (i : grid0.Coords) (v93 : BitVec 32) (v521 : BitVec 32) (k0_hw22 : k0_chk22 i v93 v521), ∀ (k0_h1 : k0_cond1 i = 1#1), ∀ (k0_h23 : k0_cond23 v93 = 1#1), 8 ∣ (k0_mult22 v521).toNat := fun i v93 v521 k0_hw22 k0_h1 k0_h23 => k0_hw22.1 k0_h1 k0_h23
theorem k0_off22_inb : ∀ (i : grid0.Coords) (v93 : BitVec 32) (v521 : BitVec 32) (k0_hw22 : k0_chk22 i v93 v521), ∀ (k0_h1 : k0_cond1 i = 1#1), ∀ (k0_h23 : k0_cond23 v93 = 1#1), ∀ a, (k0_off22 v521) a + S256x2048.size a ≤ S40960x2048.size a := fun i v93 v521 k0_hw22 k0_h1 k0_h23 => k0_hw22.2 k0_h1 k0_h23

def k0_mult23 (v521 : BitVec 32) : BitVec 32 :=
  let c0_i32_330 : BitVec 32 := 0#32
  let v522 : BitVec 32 := Scalar.maxsi v521 c0_i32_330
  v522
def k0_cond24 (v97 : BitVec 32) : BitVec 1 :=
  let c0_i32_53 : BitVec 32 := 0#32
  let v98 : BitVec 1 := Scalar.cmpi .sge v97 c0_i32_53
  let v99 : BitVec 32 := Scalar.extui v98
  let c0_i32_54 : BitVec 32 := 0#32
  let v100 : BitVec 1 := Scalar.cmpi .ne v99 c0_i32_54
  v100

def k0_off23 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk23 (i : grid0.Coords) (v97 : BitVec 32) (v521 : BitVec 32) : Prop :=
  (∀ (k0_h1 : k0_cond1 i = 1#1), ∀ (k0_h24 : k0_cond24 v97 = 1#1), 8 ∣ (k0_mult23 v521).toNat) ∧
  (∀ (k0_h1 : k0_cond1 i = 1#1), ∀ (k0_h24 : k0_cond24 v97 = 1#1), ∀ a, (k0_off23 v521) a + S256x2048.size a ≤ S40960x2048.size a)
theorem k0_mult23_dvd : ∀ (i : grid0.Coords) (v97 : BitVec 32) (v521 : BitVec 32) (k0_hw23 : k0_chk23 i v97 v521), ∀ (k0_h1 : k0_cond1 i = 1#1), ∀ (k0_h24 : k0_cond24 v97 = 1#1), 8 ∣ (k0_mult23 v521).toNat := fun i v97 v521 k0_hw23 k0_h1 k0_h24 => k0_hw23.1 k0_h1 k0_h24
theorem k0_off23_inb : ∀ (i : grid0.Coords) (v97 : BitVec 32) (v521 : BitVec 32) (k0_hw23 : k0_chk23 i v97 v521), ∀ (k0_h1 : k0_cond1 i = 1#1), ∀ (k0_h24 : k0_cond24 v97 = 1#1), ∀ a, (k0_off23 v521) a + S256x2048.size a ≤ S40960x2048.size a := fun i v97 v521 k0_hw23 k0_h1 k0_h24 => k0_hw23.2 k0_h1 k0_h24

def k0_mult24 (v521 : BitVec 32) : BitVec 32 :=
  let c0_i32_330 : BitVec 32 := 0#32
  let v522 : BitVec 32 := Scalar.maxsi v521 c0_i32_330
  v522
def k0_cond25 (v101 : BitVec 32) : BitVec 1 :=
  let c0_i32_55 : BitVec 32 := 0#32
  let v102 : BitVec 1 := Scalar.cmpi .sge v101 c0_i32_55
  let v103 : BitVec 32 := Scalar.extui v102
  let c0_i32_56 : BitVec 32 := 0#32
  let v104 : BitVec 1 := Scalar.cmpi .ne v103 c0_i32_56
  v104

def k0_off24 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk24 (i : grid0.Coords) (v101 : BitVec 32) (v521 : BitVec 32) : Prop :=
  (∀ (k0_h1 : k0_cond1 i = 1#1), ∀ (k0_h25 : k0_cond25 v101 = 1#1), 8 ∣ (k0_mult24 v521).toNat) ∧
  (∀ (k0_h1 : k0_cond1 i = 1#1), ∀ (k0_h25 : k0_cond25 v101 = 1#1), ∀ a, (k0_off24 v521) a + S256x2048.size a ≤ S40960x2048.size a)
theorem k0_mult24_dvd : ∀ (i : grid0.Coords) (v101 : BitVec 32) (v521 : BitVec 32) (k0_hw24 : k0_chk24 i v101 v521), ∀ (k0_h1 : k0_cond1 i = 1#1), ∀ (k0_h25 : k0_cond25 v101 = 1#1), 8 ∣ (k0_mult24 v521).toNat := fun i v101 v521 k0_hw24 k0_h1 k0_h25 => k0_hw24.1 k0_h1 k0_h25
theorem k0_off24_inb : ∀ (i : grid0.Coords) (v101 : BitVec 32) (v521 : BitVec 32) (k0_hw24 : k0_chk24 i v101 v521), ∀ (k0_h1 : k0_cond1 i = 1#1), ∀ (k0_h25 : k0_cond25 v101 = 1#1), ∀ a, (k0_off24 v521) a + S256x2048.size a ≤ S40960x2048.size a := fun i v101 v521 k0_hw24 k0_h1 k0_h25 => k0_hw24.2 k0_h1 k0_h25

def k0_mult25 (v521 : BitVec 32) : BitVec 32 :=
  let c0_i32_330 : BitVec 32 := 0#32
  let v522 : BitVec 32 := Scalar.maxsi v521 c0_i32_330
  v522
def k0_cond26 (v105 : BitVec 32) : BitVec 1 :=
  let c0_i32_57 : BitVec 32 := 0#32
  let v106 : BitVec 1 := Scalar.cmpi .sge v105 c0_i32_57
  let v107 : BitVec 32 := Scalar.extui v106
  let c0_i32_58 : BitVec 32 := 0#32
  let v108 : BitVec 1 := Scalar.cmpi .ne v107 c0_i32_58
  v108

def k0_off25 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk25 (i : grid0.Coords) (v105 : BitVec 32) (v521 : BitVec 32) : Prop :=
  (∀ (k0_h1 : k0_cond1 i = 1#1), ∀ (k0_h26 : k0_cond26 v105 = 1#1), 8 ∣ (k0_mult25 v521).toNat) ∧
  (∀ (k0_h1 : k0_cond1 i = 1#1), ∀ (k0_h26 : k0_cond26 v105 = 1#1), ∀ a, (k0_off25 v521) a + S256x2048.size a ≤ S40960x2048.size a)
theorem k0_mult25_dvd : ∀ (i : grid0.Coords) (v105 : BitVec 32) (v521 : BitVec 32) (k0_hw25 : k0_chk25 i v105 v521), ∀ (k0_h1 : k0_cond1 i = 1#1), ∀ (k0_h26 : k0_cond26 v105 = 1#1), 8 ∣ (k0_mult25 v521).toNat := fun i v105 v521 k0_hw25 k0_h1 k0_h26 => k0_hw25.1 k0_h1 k0_h26
theorem k0_off25_inb : ∀ (i : grid0.Coords) (v105 : BitVec 32) (v521 : BitVec 32) (k0_hw25 : k0_chk25 i v105 v521), ∀ (k0_h1 : k0_cond1 i = 1#1), ∀ (k0_h26 : k0_cond26 v105 = 1#1), ∀ a, (k0_off25 v521) a + S256x2048.size a ≤ S40960x2048.size a := fun i v105 v521 k0_hw25 k0_h1 k0_h26 => k0_hw25.2 k0_h1 k0_h26

def k0_mult26 (v521 : BitVec 32) : BitVec 32 :=
  let c0_i32_330 : BitVec 32 := 0#32
  let v522 : BitVec 32 := Scalar.maxsi v521 c0_i32_330
  v522
def k0_cond27 (v109 : BitVec 32) : BitVec 1 :=
  let c0_i32_59 : BitVec 32 := 0#32
  let v110 : BitVec 1 := Scalar.cmpi .sge v109 c0_i32_59
  let v111 : BitVec 32 := Scalar.extui v110
  let c0_i32_60 : BitVec 32 := 0#32
  let v112 : BitVec 1 := Scalar.cmpi .ne v111 c0_i32_60
  v112

def k0_off26 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk26 (i : grid0.Coords) (v109 : BitVec 32) (v521 : BitVec 32) : Prop :=
  (∀ (k0_h1 : k0_cond1 i = 1#1), ∀ (k0_h27 : k0_cond27 v109 = 1#1), 8 ∣ (k0_mult26 v521).toNat) ∧
  (∀ (k0_h1 : k0_cond1 i = 1#1), ∀ (k0_h27 : k0_cond27 v109 = 1#1), ∀ a, (k0_off26 v521) a + S256x2048.size a ≤ S40960x2048.size a)
theorem k0_mult26_dvd : ∀ (i : grid0.Coords) (v109 : BitVec 32) (v521 : BitVec 32) (k0_hw26 : k0_chk26 i v109 v521), ∀ (k0_h1 : k0_cond1 i = 1#1), ∀ (k0_h27 : k0_cond27 v109 = 1#1), 8 ∣ (k0_mult26 v521).toNat := fun i v109 v521 k0_hw26 k0_h1 k0_h27 => k0_hw26.1 k0_h1 k0_h27
theorem k0_off26_inb : ∀ (i : grid0.Coords) (v109 : BitVec 32) (v521 : BitVec 32) (k0_hw26 : k0_chk26 i v109 v521), ∀ (k0_h1 : k0_cond1 i = 1#1), ∀ (k0_h27 : k0_cond27 v109 = 1#1), ∀ a, (k0_off26 v521) a + S256x2048.size a ≤ S40960x2048.size a := fun i v109 v521 k0_hw26 k0_h1 k0_h27 => k0_hw26.2 k0_h1 k0_h27

def k0_mult27 (v521 : BitVec 32) : BitVec 32 :=
  let c0_i32_330 : BitVec 32 := 0#32
  let v522 : BitVec 32 := Scalar.maxsi v521 c0_i32_330
  v522
def k0_cond28 (v113 : BitVec 32) : BitVec 1 :=
  let c0_i32_61 : BitVec 32 := 0#32
  let v114 : BitVec 1 := Scalar.cmpi .sge v113 c0_i32_61
  let v115 : BitVec 32 := Scalar.extui v114
  let c0_i32_62 : BitVec 32 := 0#32
  let v116 : BitVec 1 := Scalar.cmpi .ne v115 c0_i32_62
  v116

def k0_off27 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk27 (i : grid0.Coords) (v113 : BitVec 32) (v521 : BitVec 32) : Prop :=
  (∀ (k0_h1 : k0_cond1 i = 1#1), ∀ (k0_h28 : k0_cond28 v113 = 1#1), 8 ∣ (k0_mult27 v521).toNat) ∧
  (∀ (k0_h1 : k0_cond1 i = 1#1), ∀ (k0_h28 : k0_cond28 v113 = 1#1), ∀ a, (k0_off27 v521) a + S256x2048.size a ≤ S40960x2048.size a)
theorem k0_mult27_dvd : ∀ (i : grid0.Coords) (v113 : BitVec 32) (v521 : BitVec 32) (k0_hw27 : k0_chk27 i v113 v521), ∀ (k0_h1 : k0_cond1 i = 1#1), ∀ (k0_h28 : k0_cond28 v113 = 1#1), 8 ∣ (k0_mult27 v521).toNat := fun i v113 v521 k0_hw27 k0_h1 k0_h28 => k0_hw27.1 k0_h1 k0_h28
theorem k0_off27_inb : ∀ (i : grid0.Coords) (v113 : BitVec 32) (v521 : BitVec 32) (k0_hw27 : k0_chk27 i v113 v521), ∀ (k0_h1 : k0_cond1 i = 1#1), ∀ (k0_h28 : k0_cond28 v113 = 1#1), ∀ a, (k0_off27 v521) a + S256x2048.size a ≤ S40960x2048.size a := fun i v113 v521 k0_hw27 k0_h1 k0_h28 => k0_hw27.2 k0_h1 k0_h28

def k0_mult28 (v521 : BitVec 32) : BitVec 32 :=
  let c0_i32_330 : BitVec 32 := 0#32
  let v522 : BitVec 32 := Scalar.maxsi v521 c0_i32_330
  v522
def k0_cond29 (v117 : BitVec 32) : BitVec 1 :=
  let c0_i32_63 : BitVec 32 := 0#32
  let v118 : BitVec 1 := Scalar.cmpi .sge v117 c0_i32_63
  let v119 : BitVec 32 := Scalar.extui v118
  let c0_i32_64 : BitVec 32 := 0#32
  let v120 : BitVec 1 := Scalar.cmpi .ne v119 c0_i32_64
  v120

def k0_off28 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk28 (i : grid0.Coords) (v117 : BitVec 32) (v521 : BitVec 32) : Prop :=
  (∀ (k0_h1 : k0_cond1 i = 1#1), ∀ (k0_h29 : k0_cond29 v117 = 1#1), 8 ∣ (k0_mult28 v521).toNat) ∧
  (∀ (k0_h1 : k0_cond1 i = 1#1), ∀ (k0_h29 : k0_cond29 v117 = 1#1), ∀ a, (k0_off28 v521) a + S256x2048.size a ≤ S40960x2048.size a)
theorem k0_mult28_dvd : ∀ (i : grid0.Coords) (v117 : BitVec 32) (v521 : BitVec 32) (k0_hw28 : k0_chk28 i v117 v521), ∀ (k0_h1 : k0_cond1 i = 1#1), ∀ (k0_h29 : k0_cond29 v117 = 1#1), 8 ∣ (k0_mult28 v521).toNat := fun i v117 v521 k0_hw28 k0_h1 k0_h29 => k0_hw28.1 k0_h1 k0_h29
theorem k0_off28_inb : ∀ (i : grid0.Coords) (v117 : BitVec 32) (v521 : BitVec 32) (k0_hw28 : k0_chk28 i v117 v521), ∀ (k0_h1 : k0_cond1 i = 1#1), ∀ (k0_h29 : k0_cond29 v117 = 1#1), ∀ a, (k0_off28 v521) a + S256x2048.size a ≤ S40960x2048.size a := fun i v117 v521 k0_hw28 k0_h1 k0_h29 => k0_hw28.2 k0_h1 k0_h29

def k0_mult29 (v521 : BitVec 32) : BitVec 32 :=
  let c0_i32_330 : BitVec 32 := 0#32
  let v522 : BitVec 32 := Scalar.maxsi v521 c0_i32_330
  v522
def k0_cond30 (v121 : BitVec 32) : BitVec 1 :=
  let c0_i32_65 : BitVec 32 := 0#32
  let v122 : BitVec 1 := Scalar.cmpi .sge v121 c0_i32_65
  let v123 : BitVec 32 := Scalar.extui v122
  let c0_i32_66 : BitVec 32 := 0#32
  let v124 : BitVec 1 := Scalar.cmpi .ne v123 c0_i32_66
  v124

def k0_off29 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk29 (i : grid0.Coords) (v121 : BitVec 32) (v521 : BitVec 32) : Prop :=
  (∀ (k0_h1 : k0_cond1 i = 1#1), ∀ (k0_h30 : k0_cond30 v121 = 1#1), 8 ∣ (k0_mult29 v521).toNat) ∧
  (∀ (k0_h1 : k0_cond1 i = 1#1), ∀ (k0_h30 : k0_cond30 v121 = 1#1), ∀ a, (k0_off29 v521) a + S256x2048.size a ≤ S40960x2048.size a)
theorem k0_mult29_dvd : ∀ (i : grid0.Coords) (v121 : BitVec 32) (v521 : BitVec 32) (k0_hw29 : k0_chk29 i v121 v521), ∀ (k0_h1 : k0_cond1 i = 1#1), ∀ (k0_h30 : k0_cond30 v121 = 1#1), 8 ∣ (k0_mult29 v521).toNat := fun i v121 v521 k0_hw29 k0_h1 k0_h30 => k0_hw29.1 k0_h1 k0_h30
theorem k0_off29_inb : ∀ (i : grid0.Coords) (v121 : BitVec 32) (v521 : BitVec 32) (k0_hw29 : k0_chk29 i v121 v521), ∀ (k0_h1 : k0_cond1 i = 1#1), ∀ (k0_h30 : k0_cond30 v121 = 1#1), ∀ a, (k0_off29 v521) a + S256x2048.size a ≤ S40960x2048.size a := fun i v121 v521 k0_hw29 k0_h1 k0_h30 => k0_hw29.2 k0_h1 k0_h30

def k0_mult30 (v521 : BitVec 32) : BitVec 32 :=
  let c0_i32_330 : BitVec 32 := 0#32
  let v522 : BitVec 32 := Scalar.maxsi v521 c0_i32_330
  v522
def k0_cond31 (v125 : BitVec 32) : BitVec 1 :=
  let c0_i32_67 : BitVec 32 := 0#32
  let v126 : BitVec 1 := Scalar.cmpi .sge v125 c0_i32_67
  let v127 : BitVec 32 := Scalar.extui v126
  let c0_i32_68 : BitVec 32 := 0#32
  let v128 : BitVec 1 := Scalar.cmpi .ne v127 c0_i32_68
  v128

def k0_off30 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk30 (i : grid0.Coords) (v125 : BitVec 32) (v521 : BitVec 32) : Prop :=
  (∀ (k0_h1 : k0_cond1 i = 1#1), ∀ (k0_h31 : k0_cond31 v125 = 1#1), 8 ∣ (k0_mult30 v521).toNat) ∧
  (∀ (k0_h1 : k0_cond1 i = 1#1), ∀ (k0_h31 : k0_cond31 v125 = 1#1), ∀ a, (k0_off30 v521) a + S256x2048.size a ≤ S40960x2048.size a)
theorem k0_mult30_dvd : ∀ (i : grid0.Coords) (v125 : BitVec 32) (v521 : BitVec 32) (k0_hw30 : k0_chk30 i v125 v521), ∀ (k0_h1 : k0_cond1 i = 1#1), ∀ (k0_h31 : k0_cond31 v125 = 1#1), 8 ∣ (k0_mult30 v521).toNat := fun i v125 v521 k0_hw30 k0_h1 k0_h31 => k0_hw30.1 k0_h1 k0_h31
theorem k0_off30_inb : ∀ (i : grid0.Coords) (v125 : BitVec 32) (v521 : BitVec 32) (k0_hw30 : k0_chk30 i v125 v521), ∀ (k0_h1 : k0_cond1 i = 1#1), ∀ (k0_h31 : k0_cond31 v125 = 1#1), ∀ a, (k0_off30 v521) a + S256x2048.size a ≤ S40960x2048.size a := fun i v125 v521 k0_hw30 k0_h1 k0_h31 => k0_hw30.2 k0_h1 k0_h31

def k0_mult31 (v521 : BitVec 32) : BitVec 32 :=
  let c0_i32_330 : BitVec 32 := 0#32
  let v522 : BitVec 32 := Scalar.maxsi v521 c0_i32_330
  v522
def k0_cond32 (v129 : BitVec 32) : BitVec 1 :=
  let c0_i32_69 : BitVec 32 := 0#32
  let v130 : BitVec 1 := Scalar.cmpi .sge v129 c0_i32_69
  let v131 : BitVec 32 := Scalar.extui v130
  let c0_i32_70 : BitVec 32 := 0#32
  let v132 : BitVec 1 := Scalar.cmpi .ne v131 c0_i32_70
  v132

def k0_off31 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk31 (i : grid0.Coords) (v129 : BitVec 32) (v521 : BitVec 32) : Prop :=
  (∀ (k0_h1 : k0_cond1 i = 1#1), ∀ (k0_h32 : k0_cond32 v129 = 1#1), 8 ∣ (k0_mult31 v521).toNat) ∧
  (∀ (k0_h1 : k0_cond1 i = 1#1), ∀ (k0_h32 : k0_cond32 v129 = 1#1), ∀ a, (k0_off31 v521) a + S256x2048.size a ≤ S40960x2048.size a)
theorem k0_mult31_dvd : ∀ (i : grid0.Coords) (v129 : BitVec 32) (v521 : BitVec 32) (k0_hw31 : k0_chk31 i v129 v521), ∀ (k0_h1 : k0_cond1 i = 1#1), ∀ (k0_h32 : k0_cond32 v129 = 1#1), 8 ∣ (k0_mult31 v521).toNat := fun i v129 v521 k0_hw31 k0_h1 k0_h32 => k0_hw31.1 k0_h1 k0_h32
theorem k0_off31_inb : ∀ (i : grid0.Coords) (v129 : BitVec 32) (v521 : BitVec 32) (k0_hw31 : k0_chk31 i v129 v521), ∀ (k0_h1 : k0_cond1 i = 1#1), ∀ (k0_h32 : k0_cond32 v129 = 1#1), ∀ a, (k0_off31 v521) a + S256x2048.size a ≤ S40960x2048.size a := fun i v129 v521 k0_hw31 k0_h1 k0_h32 => k0_hw31.2 k0_h1 k0_h32

def k0_mult32 (v521 : BitVec 32) : BitVec 32 :=
  let c0_i32_330 : BitVec 32 := 0#32
  let v522 : BitVec 32 := Scalar.maxsi v521 c0_i32_330
  v522
def k0_cond33 (v133 : BitVec 32) : BitVec 1 :=
  let c0_i32_71 : BitVec 32 := 0#32
  let v134 : BitVec 1 := Scalar.cmpi .sge v133 c0_i32_71
  let v135 : BitVec 32 := Scalar.extui v134
  let c0_i32_72 : BitVec 32 := 0#32
  let v136 : BitVec 1 := Scalar.cmpi .ne v135 c0_i32_72
  v136

def k0_off32 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk32 (i : grid0.Coords) (v133 : BitVec 32) (v521 : BitVec 32) : Prop :=
  (∀ (k0_h1 : k0_cond1 i = 1#1), ∀ (k0_h33 : k0_cond33 v133 = 1#1), 8 ∣ (k0_mult32 v521).toNat) ∧
  (∀ (k0_h1 : k0_cond1 i = 1#1), ∀ (k0_h33 : k0_cond33 v133 = 1#1), ∀ a, (k0_off32 v521) a + S256x2048.size a ≤ S40960x2048.size a)
theorem k0_mult32_dvd : ∀ (i : grid0.Coords) (v133 : BitVec 32) (v521 : BitVec 32) (k0_hw32 : k0_chk32 i v133 v521), ∀ (k0_h1 : k0_cond1 i = 1#1), ∀ (k0_h33 : k0_cond33 v133 = 1#1), 8 ∣ (k0_mult32 v521).toNat := fun i v133 v521 k0_hw32 k0_h1 k0_h33 => k0_hw32.1 k0_h1 k0_h33
theorem k0_off32_inb : ∀ (i : grid0.Coords) (v133 : BitVec 32) (v521 : BitVec 32) (k0_hw32 : k0_chk32 i v133 v521), ∀ (k0_h1 : k0_cond1 i = 1#1), ∀ (k0_h33 : k0_cond33 v133 = 1#1), ∀ a, (k0_off32 v521) a + S256x2048.size a ≤ S40960x2048.size a := fun i v133 v521 k0_hw32 k0_h1 k0_h33 => k0_hw32.2 k0_h1 k0_h33

def k0_mult33 (v521 : BitVec 32) : BitVec 32 :=
  let c0_i32_330 : BitVec 32 := 0#32
  let v522 : BitVec 32 := Scalar.maxsi v521 c0_i32_330
  v522
def k0_cond34 (v137 : BitVec 32) : BitVec 1 :=
  let c0_i32_73 : BitVec 32 := 0#32
  let v138 : BitVec 1 := Scalar.cmpi .sge v137 c0_i32_73
  let v139 : BitVec 32 := Scalar.extui v138
  let c0_i32_74 : BitVec 32 := 0#32
  let v140 : BitVec 1 := Scalar.cmpi .ne v139 c0_i32_74
  v140

def k0_off33 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk33 (i : grid0.Coords) (v137 : BitVec 32) (v521 : BitVec 32) : Prop :=
  (∀ (k0_h1 : k0_cond1 i = 1#1), ∀ (k0_h34 : k0_cond34 v137 = 1#1), 8 ∣ (k0_mult33 v521).toNat) ∧
  (∀ (k0_h1 : k0_cond1 i = 1#1), ∀ (k0_h34 : k0_cond34 v137 = 1#1), ∀ a, (k0_off33 v521) a + S256x2048.size a ≤ S40960x2048.size a)
theorem k0_mult33_dvd : ∀ (i : grid0.Coords) (v137 : BitVec 32) (v521 : BitVec 32) (k0_hw33 : k0_chk33 i v137 v521), ∀ (k0_h1 : k0_cond1 i = 1#1), ∀ (k0_h34 : k0_cond34 v137 = 1#1), 8 ∣ (k0_mult33 v521).toNat := fun i v137 v521 k0_hw33 k0_h1 k0_h34 => k0_hw33.1 k0_h1 k0_h34
theorem k0_off33_inb : ∀ (i : grid0.Coords) (v137 : BitVec 32) (v521 : BitVec 32) (k0_hw33 : k0_chk33 i v137 v521), ∀ (k0_h1 : k0_cond1 i = 1#1), ∀ (k0_h34 : k0_cond34 v137 = 1#1), ∀ a, (k0_off33 v521) a + S256x2048.size a ≤ S40960x2048.size a := fun i v137 v521 k0_hw33 k0_h1 k0_h34 => k0_hw33.2 k0_h1 k0_h34

def k0_mult34 (v521 : BitVec 32) : BitVec 32 :=
  let c0_i32_330 : BitVec 32 := 0#32
  let v522 : BitVec 32 := Scalar.maxsi v521 c0_i32_330
  v522
def k0_cond35 (v141 : BitVec 32) : BitVec 1 :=
  let c0_i32_75 : BitVec 32 := 0#32
  let v142 : BitVec 1 := Scalar.cmpi .sge v141 c0_i32_75
  let v143 : BitVec 32 := Scalar.extui v142
  let c0_i32_76 : BitVec 32 := 0#32
  let v144 : BitVec 1 := Scalar.cmpi .ne v143 c0_i32_76
  v144

def k0_off34 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk34 (i : grid0.Coords) (v141 : BitVec 32) (v521 : BitVec 32) : Prop :=
  (∀ (k0_h1 : k0_cond1 i = 1#1), ∀ (k0_h35 : k0_cond35 v141 = 1#1), 8 ∣ (k0_mult34 v521).toNat) ∧
  (∀ (k0_h1 : k0_cond1 i = 1#1), ∀ (k0_h35 : k0_cond35 v141 = 1#1), ∀ a, (k0_off34 v521) a + S256x2048.size a ≤ S40960x2048.size a)
theorem k0_mult34_dvd : ∀ (i : grid0.Coords) (v141 : BitVec 32) (v521 : BitVec 32) (k0_hw34 : k0_chk34 i v141 v521), ∀ (k0_h1 : k0_cond1 i = 1#1), ∀ (k0_h35 : k0_cond35 v141 = 1#1), 8 ∣ (k0_mult34 v521).toNat := fun i v141 v521 k0_hw34 k0_h1 k0_h35 => k0_hw34.1 k0_h1 k0_h35
theorem k0_off34_inb : ∀ (i : grid0.Coords) (v141 : BitVec 32) (v521 : BitVec 32) (k0_hw34 : k0_chk34 i v141 v521), ∀ (k0_h1 : k0_cond1 i = 1#1), ∀ (k0_h35 : k0_cond35 v141 = 1#1), ∀ a, (k0_off34 v521) a + S256x2048.size a ≤ S40960x2048.size a := fun i v141 v521 k0_hw34 k0_h1 k0_h35 => k0_hw34.2 k0_h1 k0_h35

def k0_mult35 (v521 : BitVec 32) : BitVec 32 :=
  let c0_i32_330 : BitVec 32 := 0#32
  let v522 : BitVec 32 := Scalar.maxsi v521 c0_i32_330
  v522
def k0_cond36 (v145 : BitVec 32) : BitVec 1 :=
  let c0_i32_77 : BitVec 32 := 0#32
  let v146 : BitVec 1 := Scalar.cmpi .sge v145 c0_i32_77
  let v147 : BitVec 32 := Scalar.extui v146
  let c0_i32_78 : BitVec 32 := 0#32
  let v148 : BitVec 1 := Scalar.cmpi .ne v147 c0_i32_78
  v148

def k0_off35 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk35 (i : grid0.Coords) (v145 : BitVec 32) (v521 : BitVec 32) : Prop :=
  (∀ (k0_h1 : k0_cond1 i = 1#1), ∀ (k0_h36 : k0_cond36 v145 = 1#1), 8 ∣ (k0_mult35 v521).toNat) ∧
  (∀ (k0_h1 : k0_cond1 i = 1#1), ∀ (k0_h36 : k0_cond36 v145 = 1#1), ∀ a, (k0_off35 v521) a + S256x2048.size a ≤ S40960x2048.size a)
theorem k0_mult35_dvd : ∀ (i : grid0.Coords) (v145 : BitVec 32) (v521 : BitVec 32) (k0_hw35 : k0_chk35 i v145 v521), ∀ (k0_h1 : k0_cond1 i = 1#1), ∀ (k0_h36 : k0_cond36 v145 = 1#1), 8 ∣ (k0_mult35 v521).toNat := fun i v145 v521 k0_hw35 k0_h1 k0_h36 => k0_hw35.1 k0_h1 k0_h36
theorem k0_off35_inb : ∀ (i : grid0.Coords) (v145 : BitVec 32) (v521 : BitVec 32) (k0_hw35 : k0_chk35 i v145 v521), ∀ (k0_h1 : k0_cond1 i = 1#1), ∀ (k0_h36 : k0_cond36 v145 = 1#1), ∀ a, (k0_off35 v521) a + S256x2048.size a ≤ S40960x2048.size a := fun i v145 v521 k0_hw35 k0_h1 k0_h36 => k0_hw35.2 k0_h1 k0_h36

def k0_mult36 (v521 : BitVec 32) : BitVec 32 :=
  let c0_i32_330 : BitVec 32 := 0#32
  let v522 : BitVec 32 := Scalar.maxsi v521 c0_i32_330
  v522
def k0_cond37 (v149 : BitVec 32) : BitVec 1 :=
  let c0_i32_79 : BitVec 32 := 0#32
  let v150 : BitVec 1 := Scalar.cmpi .sge v149 c0_i32_79
  let v151 : BitVec 32 := Scalar.extui v150
  let c0_i32_80 : BitVec 32 := 0#32
  let v152 : BitVec 1 := Scalar.cmpi .ne v151 c0_i32_80
  v152

def k0_off36 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk36 (i : grid0.Coords) (v149 : BitVec 32) (v521 : BitVec 32) : Prop :=
  (∀ (k0_h1 : k0_cond1 i = 1#1), ∀ (k0_h37 : k0_cond37 v149 = 1#1), 8 ∣ (k0_mult36 v521).toNat) ∧
  (∀ (k0_h1 : k0_cond1 i = 1#1), ∀ (k0_h37 : k0_cond37 v149 = 1#1), ∀ a, (k0_off36 v521) a + S256x2048.size a ≤ S40960x2048.size a)
theorem k0_mult36_dvd : ∀ (i : grid0.Coords) (v149 : BitVec 32) (v521 : BitVec 32) (k0_hw36 : k0_chk36 i v149 v521), ∀ (k0_h1 : k0_cond1 i = 1#1), ∀ (k0_h37 : k0_cond37 v149 = 1#1), 8 ∣ (k0_mult36 v521).toNat := fun i v149 v521 k0_hw36 k0_h1 k0_h37 => k0_hw36.1 k0_h1 k0_h37
theorem k0_off36_inb : ∀ (i : grid0.Coords) (v149 : BitVec 32) (v521 : BitVec 32) (k0_hw36 : k0_chk36 i v149 v521), ∀ (k0_h1 : k0_cond1 i = 1#1), ∀ (k0_h37 : k0_cond37 v149 = 1#1), ∀ a, (k0_off36 v521) a + S256x2048.size a ≤ S40960x2048.size a := fun i v149 v521 k0_hw36 k0_h1 k0_h37 => k0_hw36.2 k0_h1 k0_h37

def k0_mult37 (v521 : BitVec 32) : BitVec 32 :=
  let c0_i32_330 : BitVec 32 := 0#32
  let v522 : BitVec 32 := Scalar.maxsi v521 c0_i32_330
  v522
def k0_cond38 (v153 : BitVec 32) : BitVec 1 :=
  let c0_i32_81 : BitVec 32 := 0#32
  let v154 : BitVec 1 := Scalar.cmpi .sge v153 c0_i32_81
  let v155 : BitVec 32 := Scalar.extui v154
  let c0_i32_82 : BitVec 32 := 0#32
  let v156 : BitVec 1 := Scalar.cmpi .ne v155 c0_i32_82
  v156

def k0_off37 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk37 (i : grid0.Coords) (v153 : BitVec 32) (v521 : BitVec 32) : Prop :=
  (∀ (k0_h1 : k0_cond1 i = 1#1), ∀ (k0_h38 : k0_cond38 v153 = 1#1), 8 ∣ (k0_mult37 v521).toNat) ∧
  (∀ (k0_h1 : k0_cond1 i = 1#1), ∀ (k0_h38 : k0_cond38 v153 = 1#1), ∀ a, (k0_off37 v521) a + S256x2048.size a ≤ S40960x2048.size a)
theorem k0_mult37_dvd : ∀ (i : grid0.Coords) (v153 : BitVec 32) (v521 : BitVec 32) (k0_hw37 : k0_chk37 i v153 v521), ∀ (k0_h1 : k0_cond1 i = 1#1), ∀ (k0_h38 : k0_cond38 v153 = 1#1), 8 ∣ (k0_mult37 v521).toNat := fun i v153 v521 k0_hw37 k0_h1 k0_h38 => k0_hw37.1 k0_h1 k0_h38
theorem k0_off37_inb : ∀ (i : grid0.Coords) (v153 : BitVec 32) (v521 : BitVec 32) (k0_hw37 : k0_chk37 i v153 v521), ∀ (k0_h1 : k0_cond1 i = 1#1), ∀ (k0_h38 : k0_cond38 v153 = 1#1), ∀ a, (k0_off37 v521) a + S256x2048.size a ≤ S40960x2048.size a := fun i v153 v521 k0_hw37 k0_h1 k0_h38 => k0_hw37.2 k0_h1 k0_h38

def k0_mult38 (v521 : BitVec 32) : BitVec 32 :=
  let c0_i32_330 : BitVec 32 := 0#32
  let v522 : BitVec 32 := Scalar.maxsi v521 c0_i32_330
  v522
def k0_cond39 (v157 : BitVec 32) : BitVec 1 :=
  let c0_i32_83 : BitVec 32 := 0#32
  let v158 : BitVec 1 := Scalar.cmpi .sge v157 c0_i32_83
  let v159 : BitVec 32 := Scalar.extui v158
  let c0_i32_84 : BitVec 32 := 0#32
  let v160 : BitVec 1 := Scalar.cmpi .ne v159 c0_i32_84
  v160

def k0_off38 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk38 (i : grid0.Coords) (v157 : BitVec 32) (v521 : BitVec 32) : Prop :=
  (∀ (k0_h1 : k0_cond1 i = 1#1), ∀ (k0_h39 : k0_cond39 v157 = 1#1), 8 ∣ (k0_mult38 v521).toNat) ∧
  (∀ (k0_h1 : k0_cond1 i = 1#1), ∀ (k0_h39 : k0_cond39 v157 = 1#1), ∀ a, (k0_off38 v521) a + S256x2048.size a ≤ S40960x2048.size a)
theorem k0_mult38_dvd : ∀ (i : grid0.Coords) (v157 : BitVec 32) (v521 : BitVec 32) (k0_hw38 : k0_chk38 i v157 v521), ∀ (k0_h1 : k0_cond1 i = 1#1), ∀ (k0_h39 : k0_cond39 v157 = 1#1), 8 ∣ (k0_mult38 v521).toNat := fun i v157 v521 k0_hw38 k0_h1 k0_h39 => k0_hw38.1 k0_h1 k0_h39
theorem k0_off38_inb : ∀ (i : grid0.Coords) (v157 : BitVec 32) (v521 : BitVec 32) (k0_hw38 : k0_chk38 i v157 v521), ∀ (k0_h1 : k0_cond1 i = 1#1), ∀ (k0_h39 : k0_cond39 v157 = 1#1), ∀ a, (k0_off38 v521) a + S256x2048.size a ≤ S40960x2048.size a := fun i v157 v521 k0_hw38 k0_h1 k0_h39 => k0_hw38.2 k0_h1 k0_h39

def k0_mult39 (v521 : BitVec 32) : BitVec 32 :=
  let c0_i32_330 : BitVec 32 := 0#32
  let v522 : BitVec 32 := Scalar.maxsi v521 c0_i32_330
  v522
def k0_cond40 (v161 : BitVec 32) : BitVec 1 :=
  let c0_i32_85 : BitVec 32 := 0#32
  let v162 : BitVec 1 := Scalar.cmpi .sge v161 c0_i32_85
  let v163 : BitVec 32 := Scalar.extui v162
  let c0_i32_86 : BitVec 32 := 0#32
  let v164 : BitVec 1 := Scalar.cmpi .ne v163 c0_i32_86
  v164

def k0_off39 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk39 (i : grid0.Coords) (v161 : BitVec 32) (v521 : BitVec 32) : Prop :=
  (∀ (k0_h1 : k0_cond1 i = 1#1), ∀ (k0_h40 : k0_cond40 v161 = 1#1), 8 ∣ (k0_mult39 v521).toNat) ∧
  (∀ (k0_h1 : k0_cond1 i = 1#1), ∀ (k0_h40 : k0_cond40 v161 = 1#1), ∀ a, (k0_off39 v521) a + S256x2048.size a ≤ S40960x2048.size a)
theorem k0_mult39_dvd : ∀ (i : grid0.Coords) (v161 : BitVec 32) (v521 : BitVec 32) (k0_hw39 : k0_chk39 i v161 v521), ∀ (k0_h1 : k0_cond1 i = 1#1), ∀ (k0_h40 : k0_cond40 v161 = 1#1), 8 ∣ (k0_mult39 v521).toNat := fun i v161 v521 k0_hw39 k0_h1 k0_h40 => k0_hw39.1 k0_h1 k0_h40
theorem k0_off39_inb : ∀ (i : grid0.Coords) (v161 : BitVec 32) (v521 : BitVec 32) (k0_hw39 : k0_chk39 i v161 v521), ∀ (k0_h1 : k0_cond1 i = 1#1), ∀ (k0_h40 : k0_cond40 v161 = 1#1), ∀ a, (k0_off39 v521) a + S256x2048.size a ≤ S40960x2048.size a := fun i v161 v521 k0_hw39 k0_h1 k0_h40 => k0_hw39.2 k0_h1 k0_h40

def k0_mult40 (v521 : BitVec 32) : BitVec 32 :=
  let c0_i32_330 : BitVec 32 := 0#32
  let v522 : BitVec 32 := Scalar.maxsi v521 c0_i32_330
  v522
def k0_cond41 (v165 : BitVec 32) : BitVec 1 :=
  let c0_i32_87 : BitVec 32 := 0#32
  let v166 : BitVec 1 := Scalar.cmpi .sge v165 c0_i32_87
  let v167 : BitVec 32 := Scalar.extui v166
  let c0_i32_88 : BitVec 32 := 0#32
  let v168 : BitVec 1 := Scalar.cmpi .ne v167 c0_i32_88
  v168

def k0_off40 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk40 (i : grid0.Coords) (v165 : BitVec 32) (v521 : BitVec 32) : Prop :=
  (∀ (k0_h1 : k0_cond1 i = 1#1), ∀ (k0_h41 : k0_cond41 v165 = 1#1), 8 ∣ (k0_mult40 v521).toNat) ∧
  (∀ (k0_h1 : k0_cond1 i = 1#1), ∀ (k0_h41 : k0_cond41 v165 = 1#1), ∀ a, (k0_off40 v521) a + S256x2048.size a ≤ S40960x2048.size a)
theorem k0_mult40_dvd : ∀ (i : grid0.Coords) (v165 : BitVec 32) (v521 : BitVec 32) (k0_hw40 : k0_chk40 i v165 v521), ∀ (k0_h1 : k0_cond1 i = 1#1), ∀ (k0_h41 : k0_cond41 v165 = 1#1), 8 ∣ (k0_mult40 v521).toNat := fun i v165 v521 k0_hw40 k0_h1 k0_h41 => k0_hw40.1 k0_h1 k0_h41
theorem k0_off40_inb : ∀ (i : grid0.Coords) (v165 : BitVec 32) (v521 : BitVec 32) (k0_hw40 : k0_chk40 i v165 v521), ∀ (k0_h1 : k0_cond1 i = 1#1), ∀ (k0_h41 : k0_cond41 v165 = 1#1), ∀ a, (k0_off40 v521) a + S256x2048.size a ≤ S40960x2048.size a := fun i v165 v521 k0_hw40 k0_h1 k0_h41 => k0_hw40.2 k0_h1 k0_h41

def k0_mult41 (v521 : BitVec 32) : BitVec 32 :=
  let c0_i32_330 : BitVec 32 := 0#32
  let v522 : BitVec 32 := Scalar.maxsi v521 c0_i32_330
  v522
def k0_cond42 (v169 : BitVec 32) : BitVec 1 :=
  let c0_i32_89 : BitVec 32 := 0#32
  let v170 : BitVec 1 := Scalar.cmpi .sge v169 c0_i32_89
  let v171 : BitVec 32 := Scalar.extui v170
  let c0_i32_90 : BitVec 32 := 0#32
  let v172 : BitVec 1 := Scalar.cmpi .ne v171 c0_i32_90
  v172

def k0_off41 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk41 (i : grid0.Coords) (v169 : BitVec 32) (v521 : BitVec 32) : Prop :=
  (∀ (k0_h1 : k0_cond1 i = 1#1), ∀ (k0_h42 : k0_cond42 v169 = 1#1), 8 ∣ (k0_mult41 v521).toNat) ∧
  (∀ (k0_h1 : k0_cond1 i = 1#1), ∀ (k0_h42 : k0_cond42 v169 = 1#1), ∀ a, (k0_off41 v521) a + S256x2048.size a ≤ S40960x2048.size a)
theorem k0_mult41_dvd : ∀ (i : grid0.Coords) (v169 : BitVec 32) (v521 : BitVec 32) (k0_hw41 : k0_chk41 i v169 v521), ∀ (k0_h1 : k0_cond1 i = 1#1), ∀ (k0_h42 : k0_cond42 v169 = 1#1), 8 ∣ (k0_mult41 v521).toNat := fun i v169 v521 k0_hw41 k0_h1 k0_h42 => k0_hw41.1 k0_h1 k0_h42
theorem k0_off41_inb : ∀ (i : grid0.Coords) (v169 : BitVec 32) (v521 : BitVec 32) (k0_hw41 : k0_chk41 i v169 v521), ∀ (k0_h1 : k0_cond1 i = 1#1), ∀ (k0_h42 : k0_cond42 v169 = 1#1), ∀ a, (k0_off41 v521) a + S256x2048.size a ≤ S40960x2048.size a := fun i v169 v521 k0_hw41 k0_h1 k0_h42 => k0_hw41.2 k0_h1 k0_h42

def k0_mult42 (v521 : BitVec 32) : BitVec 32 :=
  let c0_i32_330 : BitVec 32 := 0#32
  let v522 : BitVec 32 := Scalar.maxsi v521 c0_i32_330
  v522
def k0_cond43 (v173 : BitVec 32) : BitVec 1 :=
  let c0_i32_91 : BitVec 32 := 0#32
  let v174 : BitVec 1 := Scalar.cmpi .sge v173 c0_i32_91
  let v175 : BitVec 32 := Scalar.extui v174
  let c0_i32_92 : BitVec 32 := 0#32
  let v176 : BitVec 1 := Scalar.cmpi .ne v175 c0_i32_92
  v176

def k0_off42 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk42 (i : grid0.Coords) (v173 : BitVec 32) (v521 : BitVec 32) : Prop :=
  (∀ (k0_h1 : k0_cond1 i = 1#1), ∀ (k0_h43 : k0_cond43 v173 = 1#1), 8 ∣ (k0_mult42 v521).toNat) ∧
  (∀ (k0_h1 : k0_cond1 i = 1#1), ∀ (k0_h43 : k0_cond43 v173 = 1#1), ∀ a, (k0_off42 v521) a + S256x2048.size a ≤ S40960x2048.size a)
theorem k0_mult42_dvd : ∀ (i : grid0.Coords) (v173 : BitVec 32) (v521 : BitVec 32) (k0_hw42 : k0_chk42 i v173 v521), ∀ (k0_h1 : k0_cond1 i = 1#1), ∀ (k0_h43 : k0_cond43 v173 = 1#1), 8 ∣ (k0_mult42 v521).toNat := fun i v173 v521 k0_hw42 k0_h1 k0_h43 => k0_hw42.1 k0_h1 k0_h43
theorem k0_off42_inb : ∀ (i : grid0.Coords) (v173 : BitVec 32) (v521 : BitVec 32) (k0_hw42 : k0_chk42 i v173 v521), ∀ (k0_h1 : k0_cond1 i = 1#1), ∀ (k0_h43 : k0_cond43 v173 = 1#1), ∀ a, (k0_off42 v521) a + S256x2048.size a ≤ S40960x2048.size a := fun i v173 v521 k0_hw42 k0_h1 k0_h43 => k0_hw42.2 k0_h1 k0_h43

def k0_mult43 (v521 : BitVec 32) : BitVec 32 :=
  let c0_i32_330 : BitVec 32 := 0#32
  let v522 : BitVec 32 := Scalar.maxsi v521 c0_i32_330
  v522
def k0_cond44 (v177 : BitVec 32) : BitVec 1 :=
  let c0_i32_93 : BitVec 32 := 0#32
  let v178 : BitVec 1 := Scalar.cmpi .sge v177 c0_i32_93
  let v179 : BitVec 32 := Scalar.extui v178
  let c0_i32_94 : BitVec 32 := 0#32
  let v180 : BitVec 1 := Scalar.cmpi .ne v179 c0_i32_94
  v180

def k0_off43 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk43 (i : grid0.Coords) (v177 : BitVec 32) (v521 : BitVec 32) : Prop :=
  (∀ (k0_h1 : k0_cond1 i = 1#1), ∀ (k0_h44 : k0_cond44 v177 = 1#1), 8 ∣ (k0_mult43 v521).toNat) ∧
  (∀ (k0_h1 : k0_cond1 i = 1#1), ∀ (k0_h44 : k0_cond44 v177 = 1#1), ∀ a, (k0_off43 v521) a + S256x2048.size a ≤ S40960x2048.size a)
theorem k0_mult43_dvd : ∀ (i : grid0.Coords) (v177 : BitVec 32) (v521 : BitVec 32) (k0_hw43 : k0_chk43 i v177 v521), ∀ (k0_h1 : k0_cond1 i = 1#1), ∀ (k0_h44 : k0_cond44 v177 = 1#1), 8 ∣ (k0_mult43 v521).toNat := fun i v177 v521 k0_hw43 k0_h1 k0_h44 => k0_hw43.1 k0_h1 k0_h44
theorem k0_off43_inb : ∀ (i : grid0.Coords) (v177 : BitVec 32) (v521 : BitVec 32) (k0_hw43 : k0_chk43 i v177 v521), ∀ (k0_h1 : k0_cond1 i = 1#1), ∀ (k0_h44 : k0_cond44 v177 = 1#1), ∀ a, (k0_off43 v521) a + S256x2048.size a ≤ S40960x2048.size a := fun i v177 v521 k0_hw43 k0_h1 k0_h44 => k0_hw43.2 k0_h1 k0_h44

def k0_mult44 (v521 : BitVec 32) : BitVec 32 :=
  let c0_i32_330 : BitVec 32 := 0#32
  let v522 : BitVec 32 := Scalar.maxsi v521 c0_i32_330
  v522
def k0_cond45 (v181 : BitVec 32) : BitVec 1 :=
  let c0_i32_95 : BitVec 32 := 0#32
  let v182 : BitVec 1 := Scalar.cmpi .sge v181 c0_i32_95
  let v183 : BitVec 32 := Scalar.extui v182
  let c0_i32_96 : BitVec 32 := 0#32
  let v184 : BitVec 1 := Scalar.cmpi .ne v183 c0_i32_96
  v184

def k0_off44 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk44 (i : grid0.Coords) (v181 : BitVec 32) (v521 : BitVec 32) : Prop :=
  (∀ (k0_h1 : k0_cond1 i = 1#1), ∀ (k0_h45 : k0_cond45 v181 = 1#1), 8 ∣ (k0_mult44 v521).toNat) ∧
  (∀ (k0_h1 : k0_cond1 i = 1#1), ∀ (k0_h45 : k0_cond45 v181 = 1#1), ∀ a, (k0_off44 v521) a + S256x2048.size a ≤ S40960x2048.size a)
theorem k0_mult44_dvd : ∀ (i : grid0.Coords) (v181 : BitVec 32) (v521 : BitVec 32) (k0_hw44 : k0_chk44 i v181 v521), ∀ (k0_h1 : k0_cond1 i = 1#1), ∀ (k0_h45 : k0_cond45 v181 = 1#1), 8 ∣ (k0_mult44 v521).toNat := fun i v181 v521 k0_hw44 k0_h1 k0_h45 => k0_hw44.1 k0_h1 k0_h45
theorem k0_off44_inb : ∀ (i : grid0.Coords) (v181 : BitVec 32) (v521 : BitVec 32) (k0_hw44 : k0_chk44 i v181 v521), ∀ (k0_h1 : k0_cond1 i = 1#1), ∀ (k0_h45 : k0_cond45 v181 = 1#1), ∀ a, (k0_off44 v521) a + S256x2048.size a ≤ S40960x2048.size a := fun i v181 v521 k0_hw44 k0_h1 k0_h45 => k0_hw44.2 k0_h1 k0_h45

def k0_mult45 (v521 : BitVec 32) : BitVec 32 :=
  let c0_i32_330 : BitVec 32 := 0#32
  let v522 : BitVec 32 := Scalar.maxsi v521 c0_i32_330
  v522
def k0_cond46 (v185 : BitVec 32) : BitVec 1 :=
  let c0_i32_97 : BitVec 32 := 0#32
  let v186 : BitVec 1 := Scalar.cmpi .sge v185 c0_i32_97
  let v187 : BitVec 32 := Scalar.extui v186
  let c0_i32_98 : BitVec 32 := 0#32
  let v188 : BitVec 1 := Scalar.cmpi .ne v187 c0_i32_98
  v188

def k0_off45 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk45 (i : grid0.Coords) (v185 : BitVec 32) (v521 : BitVec 32) : Prop :=
  (∀ (k0_h1 : k0_cond1 i = 1#1), ∀ (k0_h46 : k0_cond46 v185 = 1#1), 8 ∣ (k0_mult45 v521).toNat) ∧
  (∀ (k0_h1 : k0_cond1 i = 1#1), ∀ (k0_h46 : k0_cond46 v185 = 1#1), ∀ a, (k0_off45 v521) a + S256x2048.size a ≤ S40960x2048.size a)
theorem k0_mult45_dvd : ∀ (i : grid0.Coords) (v185 : BitVec 32) (v521 : BitVec 32) (k0_hw45 : k0_chk45 i v185 v521), ∀ (k0_h1 : k0_cond1 i = 1#1), ∀ (k0_h46 : k0_cond46 v185 = 1#1), 8 ∣ (k0_mult45 v521).toNat := fun i v185 v521 k0_hw45 k0_h1 k0_h46 => k0_hw45.1 k0_h1 k0_h46
theorem k0_off45_inb : ∀ (i : grid0.Coords) (v185 : BitVec 32) (v521 : BitVec 32) (k0_hw45 : k0_chk45 i v185 v521), ∀ (k0_h1 : k0_cond1 i = 1#1), ∀ (k0_h46 : k0_cond46 v185 = 1#1), ∀ a, (k0_off45 v521) a + S256x2048.size a ≤ S40960x2048.size a := fun i v185 v521 k0_hw45 k0_h1 k0_h46 => k0_hw45.2 k0_h1 k0_h46

def k0_mult46 (v521 : BitVec 32) : BitVec 32 :=
  let c0_i32_330 : BitVec 32 := 0#32
  let v522 : BitVec 32 := Scalar.maxsi v521 c0_i32_330
  v522
def k0_cond47 (v189 : BitVec 32) : BitVec 1 :=
  let c0_i32_99 : BitVec 32 := 0#32
  let v190 : BitVec 1 := Scalar.cmpi .sge v189 c0_i32_99
  let v191 : BitVec 32 := Scalar.extui v190
  let c0_i32_100 : BitVec 32 := 0#32
  let v192 : BitVec 1 := Scalar.cmpi .ne v191 c0_i32_100
  v192

def k0_off46 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk46 (i : grid0.Coords) (v189 : BitVec 32) (v521 : BitVec 32) : Prop :=
  (∀ (k0_h1 : k0_cond1 i = 1#1), ∀ (k0_h47 : k0_cond47 v189 = 1#1), 8 ∣ (k0_mult46 v521).toNat) ∧
  (∀ (k0_h1 : k0_cond1 i = 1#1), ∀ (k0_h47 : k0_cond47 v189 = 1#1), ∀ a, (k0_off46 v521) a + S256x2048.size a ≤ S40960x2048.size a)
theorem k0_mult46_dvd : ∀ (i : grid0.Coords) (v189 : BitVec 32) (v521 : BitVec 32) (k0_hw46 : k0_chk46 i v189 v521), ∀ (k0_h1 : k0_cond1 i = 1#1), ∀ (k0_h47 : k0_cond47 v189 = 1#1), 8 ∣ (k0_mult46 v521).toNat := fun i v189 v521 k0_hw46 k0_h1 k0_h47 => k0_hw46.1 k0_h1 k0_h47
theorem k0_off46_inb : ∀ (i : grid0.Coords) (v189 : BitVec 32) (v521 : BitVec 32) (k0_hw46 : k0_chk46 i v189 v521), ∀ (k0_h1 : k0_cond1 i = 1#1), ∀ (k0_h47 : k0_cond47 v189 = 1#1), ∀ a, (k0_off46 v521) a + S256x2048.size a ≤ S40960x2048.size a := fun i v189 v521 k0_hw46 k0_h1 k0_h47 => k0_hw46.2 k0_h1 k0_h47

def k0_mult47 (v521 : BitVec 32) : BitVec 32 :=
  let c0_i32_330 : BitVec 32 := 0#32
  let v522 : BitVec 32 := Scalar.maxsi v521 c0_i32_330
  v522
def k0_cond48 (v193 : BitVec 32) : BitVec 1 :=
  let c0_i32_101 : BitVec 32 := 0#32
  let v194 : BitVec 1 := Scalar.cmpi .sge v193 c0_i32_101
  let v195 : BitVec 32 := Scalar.extui v194
  let c0_i32_102 : BitVec 32 := 0#32
  let v196 : BitVec 1 := Scalar.cmpi .ne v195 c0_i32_102
  v196

def k0_off47 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk47 (i : grid0.Coords) (v193 : BitVec 32) (v521 : BitVec 32) : Prop :=
  (∀ (k0_h1 : k0_cond1 i = 1#1), ∀ (k0_h48 : k0_cond48 v193 = 1#1), 8 ∣ (k0_mult47 v521).toNat) ∧
  (∀ (k0_h1 : k0_cond1 i = 1#1), ∀ (k0_h48 : k0_cond48 v193 = 1#1), ∀ a, (k0_off47 v521) a + S256x2048.size a ≤ S40960x2048.size a)
theorem k0_mult47_dvd : ∀ (i : grid0.Coords) (v193 : BitVec 32) (v521 : BitVec 32) (k0_hw47 : k0_chk47 i v193 v521), ∀ (k0_h1 : k0_cond1 i = 1#1), ∀ (k0_h48 : k0_cond48 v193 = 1#1), 8 ∣ (k0_mult47 v521).toNat := fun i v193 v521 k0_hw47 k0_h1 k0_h48 => k0_hw47.1 k0_h1 k0_h48
theorem k0_off47_inb : ∀ (i : grid0.Coords) (v193 : BitVec 32) (v521 : BitVec 32) (k0_hw47 : k0_chk47 i v193 v521), ∀ (k0_h1 : k0_cond1 i = 1#1), ∀ (k0_h48 : k0_cond48 v193 = 1#1), ∀ a, (k0_off47 v521) a + S256x2048.size a ≤ S40960x2048.size a := fun i v193 v521 k0_hw47 k0_h1 k0_h48 => k0_hw47.2 k0_h1 k0_h48

def k0_mult48 (v521 : BitVec 32) : BitVec 32 :=
  let c0_i32_330 : BitVec 32 := 0#32
  let v522 : BitVec 32 := Scalar.maxsi v521 c0_i32_330
  v522
def k0_cond49 (v197 : BitVec 32) : BitVec 1 :=
  let c0_i32_103 : BitVec 32 := 0#32
  let v198 : BitVec 1 := Scalar.cmpi .sge v197 c0_i32_103
  let v199 : BitVec 32 := Scalar.extui v198
  let c0_i32_104 : BitVec 32 := 0#32
  let v200 : BitVec 1 := Scalar.cmpi .ne v199 c0_i32_104
  v200

def k0_off48 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk48 (i : grid0.Coords) (v197 : BitVec 32) (v521 : BitVec 32) : Prop :=
  (∀ (k0_h1 : k0_cond1 i = 1#1), ∀ (k0_h49 : k0_cond49 v197 = 1#1), 8 ∣ (k0_mult48 v521).toNat) ∧
  (∀ (k0_h1 : k0_cond1 i = 1#1), ∀ (k0_h49 : k0_cond49 v197 = 1#1), ∀ a, (k0_off48 v521) a + S256x2048.size a ≤ S40960x2048.size a)
theorem k0_mult48_dvd : ∀ (i : grid0.Coords) (v197 : BitVec 32) (v521 : BitVec 32) (k0_hw48 : k0_chk48 i v197 v521), ∀ (k0_h1 : k0_cond1 i = 1#1), ∀ (k0_h49 : k0_cond49 v197 = 1#1), 8 ∣ (k0_mult48 v521).toNat := fun i v197 v521 k0_hw48 k0_h1 k0_h49 => k0_hw48.1 k0_h1 k0_h49
theorem k0_off48_inb : ∀ (i : grid0.Coords) (v197 : BitVec 32) (v521 : BitVec 32) (k0_hw48 : k0_chk48 i v197 v521), ∀ (k0_h1 : k0_cond1 i = 1#1), ∀ (k0_h49 : k0_cond49 v197 = 1#1), ∀ a, (k0_off48 v521) a + S256x2048.size a ≤ S40960x2048.size a := fun i v197 v521 k0_hw48 k0_h1 k0_h49 => k0_hw48.2 k0_h1 k0_h49

def k0_mult49 (v521 : BitVec 32) : BitVec 32 :=
  let c0_i32_330 : BitVec 32 := 0#32
  let v522 : BitVec 32 := Scalar.maxsi v521 c0_i32_330
  v522
def k0_cond50 (v201 : BitVec 32) : BitVec 1 :=
  let c0_i32_105 : BitVec 32 := 0#32
  let v202 : BitVec 1 := Scalar.cmpi .sge v201 c0_i32_105
  let v203 : BitVec 32 := Scalar.extui v202
  let c0_i32_106 : BitVec 32 := 0#32
  let v204 : BitVec 1 := Scalar.cmpi .ne v203 c0_i32_106
  v204

def k0_off49 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk49 (i : grid0.Coords) (v201 : BitVec 32) (v521 : BitVec 32) : Prop :=
  (∀ (k0_h1 : k0_cond1 i = 1#1), ∀ (k0_h50 : k0_cond50 v201 = 1#1), 8 ∣ (k0_mult49 v521).toNat) ∧
  (∀ (k0_h1 : k0_cond1 i = 1#1), ∀ (k0_h50 : k0_cond50 v201 = 1#1), ∀ a, (k0_off49 v521) a + S256x2048.size a ≤ S40960x2048.size a)
theorem k0_mult49_dvd : ∀ (i : grid0.Coords) (v201 : BitVec 32) (v521 : BitVec 32) (k0_hw49 : k0_chk49 i v201 v521), ∀ (k0_h1 : k0_cond1 i = 1#1), ∀ (k0_h50 : k0_cond50 v201 = 1#1), 8 ∣ (k0_mult49 v521).toNat := fun i v201 v521 k0_hw49 k0_h1 k0_h50 => k0_hw49.1 k0_h1 k0_h50
theorem k0_off49_inb : ∀ (i : grid0.Coords) (v201 : BitVec 32) (v521 : BitVec 32) (k0_hw49 : k0_chk49 i v201 v521), ∀ (k0_h1 : k0_cond1 i = 1#1), ∀ (k0_h50 : k0_cond50 v201 = 1#1), ∀ a, (k0_off49 v521) a + S256x2048.size a ≤ S40960x2048.size a := fun i v201 v521 k0_hw49 k0_h1 k0_h50 => k0_hw49.2 k0_h1 k0_h50

def k0_mult50 (v521 : BitVec 32) : BitVec 32 :=
  let c0_i32_330 : BitVec 32 := 0#32
  let v522 : BitVec 32 := Scalar.maxsi v521 c0_i32_330
  v522
def k0_cond51 (v205 : BitVec 32) : BitVec 1 :=
  let c0_i32_107 : BitVec 32 := 0#32
  let v206 : BitVec 1 := Scalar.cmpi .sge v205 c0_i32_107
  let v207 : BitVec 32 := Scalar.extui v206
  let c0_i32_108 : BitVec 32 := 0#32
  let v208 : BitVec 1 := Scalar.cmpi .ne v207 c0_i32_108
  v208

def k0_off50 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk50 (i : grid0.Coords) (v205 : BitVec 32) (v521 : BitVec 32) : Prop :=
  (∀ (k0_h1 : k0_cond1 i = 1#1), ∀ (k0_h51 : k0_cond51 v205 = 1#1), 8 ∣ (k0_mult50 v521).toNat) ∧
  (∀ (k0_h1 : k0_cond1 i = 1#1), ∀ (k0_h51 : k0_cond51 v205 = 1#1), ∀ a, (k0_off50 v521) a + S256x2048.size a ≤ S40960x2048.size a)
theorem k0_mult50_dvd : ∀ (i : grid0.Coords) (v205 : BitVec 32) (v521 : BitVec 32) (k0_hw50 : k0_chk50 i v205 v521), ∀ (k0_h1 : k0_cond1 i = 1#1), ∀ (k0_h51 : k0_cond51 v205 = 1#1), 8 ∣ (k0_mult50 v521).toNat := fun i v205 v521 k0_hw50 k0_h1 k0_h51 => k0_hw50.1 k0_h1 k0_h51
theorem k0_off50_inb : ∀ (i : grid0.Coords) (v205 : BitVec 32) (v521 : BitVec 32) (k0_hw50 : k0_chk50 i v205 v521), ∀ (k0_h1 : k0_cond1 i = 1#1), ∀ (k0_h51 : k0_cond51 v205 = 1#1), ∀ a, (k0_off50 v521) a + S256x2048.size a ≤ S40960x2048.size a := fun i v205 v521 k0_hw50 k0_h1 k0_h51 => k0_hw50.2 k0_h1 k0_h51

def k0_mult51 (v521 : BitVec 32) : BitVec 32 :=
  let c0_i32_330 : BitVec 32 := 0#32
  let v522 : BitVec 32 := Scalar.maxsi v521 c0_i32_330
  v522
def k0_cond52 (v209 : BitVec 32) : BitVec 1 :=
  let c0_i32_109 : BitVec 32 := 0#32
  let v210 : BitVec 1 := Scalar.cmpi .sge v209 c0_i32_109
  let v211 : BitVec 32 := Scalar.extui v210
  let c0_i32_110 : BitVec 32 := 0#32
  let v212 : BitVec 1 := Scalar.cmpi .ne v211 c0_i32_110
  v212

def k0_off51 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk51 (i : grid0.Coords) (v209 : BitVec 32) (v521 : BitVec 32) : Prop :=
  (∀ (k0_h1 : k0_cond1 i = 1#1), ∀ (k0_h52 : k0_cond52 v209 = 1#1), 8 ∣ (k0_mult51 v521).toNat) ∧
  (∀ (k0_h1 : k0_cond1 i = 1#1), ∀ (k0_h52 : k0_cond52 v209 = 1#1), ∀ a, (k0_off51 v521) a + S256x2048.size a ≤ S40960x2048.size a)
theorem k0_mult51_dvd : ∀ (i : grid0.Coords) (v209 : BitVec 32) (v521 : BitVec 32) (k0_hw51 : k0_chk51 i v209 v521), ∀ (k0_h1 : k0_cond1 i = 1#1), ∀ (k0_h52 : k0_cond52 v209 = 1#1), 8 ∣ (k0_mult51 v521).toNat := fun i v209 v521 k0_hw51 k0_h1 k0_h52 => k0_hw51.1 k0_h1 k0_h52
theorem k0_off51_inb : ∀ (i : grid0.Coords) (v209 : BitVec 32) (v521 : BitVec 32) (k0_hw51 : k0_chk51 i v209 v521), ∀ (k0_h1 : k0_cond1 i = 1#1), ∀ (k0_h52 : k0_cond52 v209 = 1#1), ∀ a, (k0_off51 v521) a + S256x2048.size a ≤ S40960x2048.size a := fun i v209 v521 k0_hw51 k0_h1 k0_h52 => k0_hw51.2 k0_h1 k0_h52

def k0_mult52 (v521 : BitVec 32) : BitVec 32 :=
  let c0_i32_330 : BitVec 32 := 0#32
  let v522 : BitVec 32 := Scalar.maxsi v521 c0_i32_330
  v522
def k0_cond53 (v213 : BitVec 32) : BitVec 1 :=
  let c0_i32_111 : BitVec 32 := 0#32
  let v214 : BitVec 1 := Scalar.cmpi .sge v213 c0_i32_111
  let v215 : BitVec 32 := Scalar.extui v214
  let c0_i32_112 : BitVec 32 := 0#32
  let v216 : BitVec 1 := Scalar.cmpi .ne v215 c0_i32_112
  v216

def k0_off52 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk52 (i : grid0.Coords) (v213 : BitVec 32) (v521 : BitVec 32) : Prop :=
  (∀ (k0_h1 : k0_cond1 i = 1#1), ∀ (k0_h53 : k0_cond53 v213 = 1#1), 8 ∣ (k0_mult52 v521).toNat) ∧
  (∀ (k0_h1 : k0_cond1 i = 1#1), ∀ (k0_h53 : k0_cond53 v213 = 1#1), ∀ a, (k0_off52 v521) a + S256x2048.size a ≤ S40960x2048.size a)
theorem k0_mult52_dvd : ∀ (i : grid0.Coords) (v213 : BitVec 32) (v521 : BitVec 32) (k0_hw52 : k0_chk52 i v213 v521), ∀ (k0_h1 : k0_cond1 i = 1#1), ∀ (k0_h53 : k0_cond53 v213 = 1#1), 8 ∣ (k0_mult52 v521).toNat := fun i v213 v521 k0_hw52 k0_h1 k0_h53 => k0_hw52.1 k0_h1 k0_h53
theorem k0_off52_inb : ∀ (i : grid0.Coords) (v213 : BitVec 32) (v521 : BitVec 32) (k0_hw52 : k0_chk52 i v213 v521), ∀ (k0_h1 : k0_cond1 i = 1#1), ∀ (k0_h53 : k0_cond53 v213 = 1#1), ∀ a, (k0_off52 v521) a + S256x2048.size a ≤ S40960x2048.size a := fun i v213 v521 k0_hw52 k0_h1 k0_h53 => k0_hw52.2 k0_h1 k0_h53

def k0_mult53 (v521 : BitVec 32) : BitVec 32 :=
  let c0_i32_330 : BitVec 32 := 0#32
  let v522 : BitVec 32 := Scalar.maxsi v521 c0_i32_330
  v522
def k0_cond54 (v217 : BitVec 32) : BitVec 1 :=
  let c0_i32_113 : BitVec 32 := 0#32
  let v218 : BitVec 1 := Scalar.cmpi .sge v217 c0_i32_113
  let v219 : BitVec 32 := Scalar.extui v218
  let c0_i32_114 : BitVec 32 := 0#32
  let v220 : BitVec 1 := Scalar.cmpi .ne v219 c0_i32_114
  v220

def k0_off53 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk53 (i : grid0.Coords) (v217 : BitVec 32) (v521 : BitVec 32) : Prop :=
  (∀ (k0_h1 : k0_cond1 i = 1#1), ∀ (k0_h54 : k0_cond54 v217 = 1#1), 8 ∣ (k0_mult53 v521).toNat) ∧
  (∀ (k0_h1 : k0_cond1 i = 1#1), ∀ (k0_h54 : k0_cond54 v217 = 1#1), ∀ a, (k0_off53 v521) a + S256x2048.size a ≤ S40960x2048.size a)
theorem k0_mult53_dvd : ∀ (i : grid0.Coords) (v217 : BitVec 32) (v521 : BitVec 32) (k0_hw53 : k0_chk53 i v217 v521), ∀ (k0_h1 : k0_cond1 i = 1#1), ∀ (k0_h54 : k0_cond54 v217 = 1#1), 8 ∣ (k0_mult53 v521).toNat := fun i v217 v521 k0_hw53 k0_h1 k0_h54 => k0_hw53.1 k0_h1 k0_h54
theorem k0_off53_inb : ∀ (i : grid0.Coords) (v217 : BitVec 32) (v521 : BitVec 32) (k0_hw53 : k0_chk53 i v217 v521), ∀ (k0_h1 : k0_cond1 i = 1#1), ∀ (k0_h54 : k0_cond54 v217 = 1#1), ∀ a, (k0_off53 v521) a + S256x2048.size a ≤ S40960x2048.size a := fun i v217 v521 k0_hw53 k0_h1 k0_h54 => k0_hw53.2 k0_h1 k0_h54

def k0_mult54 (v521 : BitVec 32) : BitVec 32 :=
  let c0_i32_330 : BitVec 32 := 0#32
  let v522 : BitVec 32 := Scalar.maxsi v521 c0_i32_330
  v522
def k0_cond55 (v221 : BitVec 32) : BitVec 1 :=
  let c0_i32_115 : BitVec 32 := 0#32
  let v222 : BitVec 1 := Scalar.cmpi .sge v221 c0_i32_115
  let v223 : BitVec 32 := Scalar.extui v222
  let c0_i32_116 : BitVec 32 := 0#32
  let v224 : BitVec 1 := Scalar.cmpi .ne v223 c0_i32_116
  v224

def k0_off54 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk54 (i : grid0.Coords) (v221 : BitVec 32) (v521 : BitVec 32) : Prop :=
  (∀ (k0_h1 : k0_cond1 i = 1#1), ∀ (k0_h55 : k0_cond55 v221 = 1#1), 8 ∣ (k0_mult54 v521).toNat) ∧
  (∀ (k0_h1 : k0_cond1 i = 1#1), ∀ (k0_h55 : k0_cond55 v221 = 1#1), ∀ a, (k0_off54 v521) a + S256x2048.size a ≤ S40960x2048.size a)
theorem k0_mult54_dvd : ∀ (i : grid0.Coords) (v221 : BitVec 32) (v521 : BitVec 32) (k0_hw54 : k0_chk54 i v221 v521), ∀ (k0_h1 : k0_cond1 i = 1#1), ∀ (k0_h55 : k0_cond55 v221 = 1#1), 8 ∣ (k0_mult54 v521).toNat := fun i v221 v521 k0_hw54 k0_h1 k0_h55 => k0_hw54.1 k0_h1 k0_h55
theorem k0_off54_inb : ∀ (i : grid0.Coords) (v221 : BitVec 32) (v521 : BitVec 32) (k0_hw54 : k0_chk54 i v221 v521), ∀ (k0_h1 : k0_cond1 i = 1#1), ∀ (k0_h55 : k0_cond55 v221 = 1#1), ∀ a, (k0_off54 v521) a + S256x2048.size a ≤ S40960x2048.size a := fun i v221 v521 k0_hw54 k0_h1 k0_h55 => k0_hw54.2 k0_h1 k0_h55

def k0_mult55 (v521 : BitVec 32) : BitVec 32 :=
  let c0_i32_330 : BitVec 32 := 0#32
  let v522 : BitVec 32 := Scalar.maxsi v521 c0_i32_330
  v522
def k0_cond56 (v225 : BitVec 32) : BitVec 1 :=
  let c0_i32_117 : BitVec 32 := 0#32
  let v226 : BitVec 1 := Scalar.cmpi .sge v225 c0_i32_117
  let v227 : BitVec 32 := Scalar.extui v226
  let c0_i32_118 : BitVec 32 := 0#32
  let v228 : BitVec 1 := Scalar.cmpi .ne v227 c0_i32_118
  v228

def k0_off55 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk55 (i : grid0.Coords) (v225 : BitVec 32) (v521 : BitVec 32) : Prop :=
  (∀ (k0_h1 : k0_cond1 i = 1#1), ∀ (k0_h56 : k0_cond56 v225 = 1#1), 8 ∣ (k0_mult55 v521).toNat) ∧
  (∀ (k0_h1 : k0_cond1 i = 1#1), ∀ (k0_h56 : k0_cond56 v225 = 1#1), ∀ a, (k0_off55 v521) a + S256x2048.size a ≤ S40960x2048.size a)
theorem k0_mult55_dvd : ∀ (i : grid0.Coords) (v225 : BitVec 32) (v521 : BitVec 32) (k0_hw55 : k0_chk55 i v225 v521), ∀ (k0_h1 : k0_cond1 i = 1#1), ∀ (k0_h56 : k0_cond56 v225 = 1#1), 8 ∣ (k0_mult55 v521).toNat := fun i v225 v521 k0_hw55 k0_h1 k0_h56 => k0_hw55.1 k0_h1 k0_h56
theorem k0_off55_inb : ∀ (i : grid0.Coords) (v225 : BitVec 32) (v521 : BitVec 32) (k0_hw55 : k0_chk55 i v225 v521), ∀ (k0_h1 : k0_cond1 i = 1#1), ∀ (k0_h56 : k0_cond56 v225 = 1#1), ∀ a, (k0_off55 v521) a + S256x2048.size a ≤ S40960x2048.size a := fun i v225 v521 k0_hw55 k0_h1 k0_h56 => k0_hw55.2 k0_h1 k0_h56

def k0_mult56 (v521 : BitVec 32) : BitVec 32 :=
  let c0_i32_330 : BitVec 32 := 0#32
  let v522 : BitVec 32 := Scalar.maxsi v521 c0_i32_330
  v522
def k0_cond57 (v229 : BitVec 32) : BitVec 1 :=
  let c0_i32_119 : BitVec 32 := 0#32
  let v230 : BitVec 1 := Scalar.cmpi .sge v229 c0_i32_119
  let v231 : BitVec 32 := Scalar.extui v230
  let c0_i32_120 : BitVec 32 := 0#32
  let v232 : BitVec 1 := Scalar.cmpi .ne v231 c0_i32_120
  v232

def k0_off56 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk56 (i : grid0.Coords) (v229 : BitVec 32) (v521 : BitVec 32) : Prop :=
  (∀ (k0_h1 : k0_cond1 i = 1#1), ∀ (k0_h57 : k0_cond57 v229 = 1#1), 8 ∣ (k0_mult56 v521).toNat) ∧
  (∀ (k0_h1 : k0_cond1 i = 1#1), ∀ (k0_h57 : k0_cond57 v229 = 1#1), ∀ a, (k0_off56 v521) a + S256x2048.size a ≤ S40960x2048.size a)
theorem k0_mult56_dvd : ∀ (i : grid0.Coords) (v229 : BitVec 32) (v521 : BitVec 32) (k0_hw56 : k0_chk56 i v229 v521), ∀ (k0_h1 : k0_cond1 i = 1#1), ∀ (k0_h57 : k0_cond57 v229 = 1#1), 8 ∣ (k0_mult56 v521).toNat := fun i v229 v521 k0_hw56 k0_h1 k0_h57 => k0_hw56.1 k0_h1 k0_h57
theorem k0_off56_inb : ∀ (i : grid0.Coords) (v229 : BitVec 32) (v521 : BitVec 32) (k0_hw56 : k0_chk56 i v229 v521), ∀ (k0_h1 : k0_cond1 i = 1#1), ∀ (k0_h57 : k0_cond57 v229 = 1#1), ∀ a, (k0_off56 v521) a + S256x2048.size a ≤ S40960x2048.size a := fun i v229 v521 k0_hw56 k0_h1 k0_h57 => k0_hw56.2 k0_h1 k0_h57

def k0_mult57 (v521 : BitVec 32) : BitVec 32 :=
  let c0_i32_330 : BitVec 32 := 0#32
  let v522 : BitVec 32 := Scalar.maxsi v521 c0_i32_330
  v522
def k0_cond58 (v233 : BitVec 32) : BitVec 1 :=
  let c0_i32_121 : BitVec 32 := 0#32
  let v234 : BitVec 1 := Scalar.cmpi .sge v233 c0_i32_121
  let v235 : BitVec 32 := Scalar.extui v234
  let c0_i32_122 : BitVec 32 := 0#32
  let v236 : BitVec 1 := Scalar.cmpi .ne v235 c0_i32_122
  v236

def k0_off57 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk57 (i : grid0.Coords) (v233 : BitVec 32) (v521 : BitVec 32) : Prop :=
  (∀ (k0_h1 : k0_cond1 i = 1#1), ∀ (k0_h58 : k0_cond58 v233 = 1#1), 8 ∣ (k0_mult57 v521).toNat) ∧
  (∀ (k0_h1 : k0_cond1 i = 1#1), ∀ (k0_h58 : k0_cond58 v233 = 1#1), ∀ a, (k0_off57 v521) a + S256x2048.size a ≤ S40960x2048.size a)
theorem k0_mult57_dvd : ∀ (i : grid0.Coords) (v233 : BitVec 32) (v521 : BitVec 32) (k0_hw57 : k0_chk57 i v233 v521), ∀ (k0_h1 : k0_cond1 i = 1#1), ∀ (k0_h58 : k0_cond58 v233 = 1#1), 8 ∣ (k0_mult57 v521).toNat := fun i v233 v521 k0_hw57 k0_h1 k0_h58 => k0_hw57.1 k0_h1 k0_h58
theorem k0_off57_inb : ∀ (i : grid0.Coords) (v233 : BitVec 32) (v521 : BitVec 32) (k0_hw57 : k0_chk57 i v233 v521), ∀ (k0_h1 : k0_cond1 i = 1#1), ∀ (k0_h58 : k0_cond58 v233 = 1#1), ∀ a, (k0_off57 v521) a + S256x2048.size a ≤ S40960x2048.size a := fun i v233 v521 k0_hw57 k0_h1 k0_h58 => k0_hw57.2 k0_h1 k0_h58

def k0_mult58 (v521 : BitVec 32) : BitVec 32 :=
  let c0_i32_330 : BitVec 32 := 0#32
  let v522 : BitVec 32 := Scalar.maxsi v521 c0_i32_330
  v522
def k0_cond59 (v237 : BitVec 32) : BitVec 1 :=
  let c0_i32_123 : BitVec 32 := 0#32
  let v238 : BitVec 1 := Scalar.cmpi .sge v237 c0_i32_123
  let v239 : BitVec 32 := Scalar.extui v238
  let c0_i32_124 : BitVec 32 := 0#32
  let v240 : BitVec 1 := Scalar.cmpi .ne v239 c0_i32_124
  v240

def k0_off58 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk58 (i : grid0.Coords) (v237 : BitVec 32) (v521 : BitVec 32) : Prop :=
  (∀ (k0_h1 : k0_cond1 i = 1#1), ∀ (k0_h59 : k0_cond59 v237 = 1#1), 8 ∣ (k0_mult58 v521).toNat) ∧
  (∀ (k0_h1 : k0_cond1 i = 1#1), ∀ (k0_h59 : k0_cond59 v237 = 1#1), ∀ a, (k0_off58 v521) a + S256x2048.size a ≤ S40960x2048.size a)
theorem k0_mult58_dvd : ∀ (i : grid0.Coords) (v237 : BitVec 32) (v521 : BitVec 32) (k0_hw58 : k0_chk58 i v237 v521), ∀ (k0_h1 : k0_cond1 i = 1#1), ∀ (k0_h59 : k0_cond59 v237 = 1#1), 8 ∣ (k0_mult58 v521).toNat := fun i v237 v521 k0_hw58 k0_h1 k0_h59 => k0_hw58.1 k0_h1 k0_h59
theorem k0_off58_inb : ∀ (i : grid0.Coords) (v237 : BitVec 32) (v521 : BitVec 32) (k0_hw58 : k0_chk58 i v237 v521), ∀ (k0_h1 : k0_cond1 i = 1#1), ∀ (k0_h59 : k0_cond59 v237 = 1#1), ∀ a, (k0_off58 v521) a + S256x2048.size a ≤ S40960x2048.size a := fun i v237 v521 k0_hw58 k0_h1 k0_h59 => k0_hw58.2 k0_h1 k0_h59

def k0_mult59 (v521 : BitVec 32) : BitVec 32 :=
  let c0_i32_330 : BitVec 32 := 0#32
  let v522 : BitVec 32 := Scalar.maxsi v521 c0_i32_330
  v522
def k0_cond60 (v241 : BitVec 32) : BitVec 1 :=
  let c0_i32_125 : BitVec 32 := 0#32
  let v242 : BitVec 1 := Scalar.cmpi .sge v241 c0_i32_125
  let v243 : BitVec 32 := Scalar.extui v242
  let c0_i32_126 : BitVec 32 := 0#32
  let v244 : BitVec 1 := Scalar.cmpi .ne v243 c0_i32_126
  v244

def k0_off59 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk59 (i : grid0.Coords) (v241 : BitVec 32) (v521 : BitVec 32) : Prop :=
  (∀ (k0_h1 : k0_cond1 i = 1#1), ∀ (k0_h60 : k0_cond60 v241 = 1#1), 8 ∣ (k0_mult59 v521).toNat) ∧
  (∀ (k0_h1 : k0_cond1 i = 1#1), ∀ (k0_h60 : k0_cond60 v241 = 1#1), ∀ a, (k0_off59 v521) a + S256x2048.size a ≤ S40960x2048.size a)
theorem k0_mult59_dvd : ∀ (i : grid0.Coords) (v241 : BitVec 32) (v521 : BitVec 32) (k0_hw59 : k0_chk59 i v241 v521), ∀ (k0_h1 : k0_cond1 i = 1#1), ∀ (k0_h60 : k0_cond60 v241 = 1#1), 8 ∣ (k0_mult59 v521).toNat := fun i v241 v521 k0_hw59 k0_h1 k0_h60 => k0_hw59.1 k0_h1 k0_h60
theorem k0_off59_inb : ∀ (i : grid0.Coords) (v241 : BitVec 32) (v521 : BitVec 32) (k0_hw59 : k0_chk59 i v241 v521), ∀ (k0_h1 : k0_cond1 i = 1#1), ∀ (k0_h60 : k0_cond60 v241 = 1#1), ∀ a, (k0_off59 v521) a + S256x2048.size a ≤ S40960x2048.size a := fun i v241 v521 k0_hw59 k0_h1 k0_h60 => k0_hw59.2 k0_h1 k0_h60

def k0_mult60 (v521 : BitVec 32) : BitVec 32 :=
  let c0_i32_330 : BitVec 32 := 0#32
  let v522 : BitVec 32 := Scalar.maxsi v521 c0_i32_330
  v522
def k0_cond61 (v245 : BitVec 32) : BitVec 1 :=
  let c0_i32_127 : BitVec 32 := 0#32
  let v246 : BitVec 1 := Scalar.cmpi .sge v245 c0_i32_127
  let v247 : BitVec 32 := Scalar.extui v246
  let c0_i32_128 : BitVec 32 := 0#32
  let v248 : BitVec 1 := Scalar.cmpi .ne v247 c0_i32_128
  v248

def k0_off60 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk60 (i : grid0.Coords) (v245 : BitVec 32) (v521 : BitVec 32) : Prop :=
  (∀ (k0_h1 : k0_cond1 i = 1#1), ∀ (k0_h61 : k0_cond61 v245 = 1#1), 8 ∣ (k0_mult60 v521).toNat) ∧
  (∀ (k0_h1 : k0_cond1 i = 1#1), ∀ (k0_h61 : k0_cond61 v245 = 1#1), ∀ a, (k0_off60 v521) a + S256x2048.size a ≤ S40960x2048.size a)
theorem k0_mult60_dvd : ∀ (i : grid0.Coords) (v245 : BitVec 32) (v521 : BitVec 32) (k0_hw60 : k0_chk60 i v245 v521), ∀ (k0_h1 : k0_cond1 i = 1#1), ∀ (k0_h61 : k0_cond61 v245 = 1#1), 8 ∣ (k0_mult60 v521).toNat := fun i v245 v521 k0_hw60 k0_h1 k0_h61 => k0_hw60.1 k0_h1 k0_h61
theorem k0_off60_inb : ∀ (i : grid0.Coords) (v245 : BitVec 32) (v521 : BitVec 32) (k0_hw60 : k0_chk60 i v245 v521), ∀ (k0_h1 : k0_cond1 i = 1#1), ∀ (k0_h61 : k0_cond61 v245 = 1#1), ∀ a, (k0_off60 v521) a + S256x2048.size a ≤ S40960x2048.size a := fun i v245 v521 k0_hw60 k0_h1 k0_h61 => k0_hw60.2 k0_h1 k0_h61

def k0_mult61 (v521 : BitVec 32) : BitVec 32 :=
  let c0_i32_330 : BitVec 32 := 0#32
  let v522 : BitVec 32 := Scalar.maxsi v521 c0_i32_330
  v522
def k0_cond62 (v249 : BitVec 32) : BitVec 1 :=
  let c0_i32_129 : BitVec 32 := 0#32
  let v250 : BitVec 1 := Scalar.cmpi .sge v249 c0_i32_129
  let v251 : BitVec 32 := Scalar.extui v250
  let c0_i32_130 : BitVec 32 := 0#32
  let v252 : BitVec 1 := Scalar.cmpi .ne v251 c0_i32_130
  v252

def k0_off61 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk61 (i : grid0.Coords) (v249 : BitVec 32) (v521 : BitVec 32) : Prop :=
  (∀ (k0_h1 : k0_cond1 i = 1#1), ∀ (k0_h62 : k0_cond62 v249 = 1#1), 8 ∣ (k0_mult61 v521).toNat) ∧
  (∀ (k0_h1 : k0_cond1 i = 1#1), ∀ (k0_h62 : k0_cond62 v249 = 1#1), ∀ a, (k0_off61 v521) a + S256x2048.size a ≤ S40960x2048.size a)
theorem k0_mult61_dvd : ∀ (i : grid0.Coords) (v249 : BitVec 32) (v521 : BitVec 32) (k0_hw61 : k0_chk61 i v249 v521), ∀ (k0_h1 : k0_cond1 i = 1#1), ∀ (k0_h62 : k0_cond62 v249 = 1#1), 8 ∣ (k0_mult61 v521).toNat := fun i v249 v521 k0_hw61 k0_h1 k0_h62 => k0_hw61.1 k0_h1 k0_h62
theorem k0_off61_inb : ∀ (i : grid0.Coords) (v249 : BitVec 32) (v521 : BitVec 32) (k0_hw61 : k0_chk61 i v249 v521), ∀ (k0_h1 : k0_cond1 i = 1#1), ∀ (k0_h62 : k0_cond62 v249 = 1#1), ∀ a, (k0_off61 v521) a + S256x2048.size a ≤ S40960x2048.size a := fun i v249 v521 k0_hw61 k0_h1 k0_h62 => k0_hw61.2 k0_h1 k0_h62

def k0_mult62 (v521 : BitVec 32) : BitVec 32 :=
  let c0_i32_330 : BitVec 32 := 0#32
  let v522 : BitVec 32 := Scalar.maxsi v521 c0_i32_330
  v522
def k0_cond63 (v253 : BitVec 32) : BitVec 1 :=
  let c0_i32_131 : BitVec 32 := 0#32
  let v254 : BitVec 1 := Scalar.cmpi .sge v253 c0_i32_131
  let v255 : BitVec 32 := Scalar.extui v254
  let c0_i32_132 : BitVec 32 := 0#32
  let v256 : BitVec 1 := Scalar.cmpi .ne v255 c0_i32_132
  v256

def k0_off62 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk62 (i : grid0.Coords) (v253 : BitVec 32) (v521 : BitVec 32) : Prop :=
  (∀ (k0_h1 : k0_cond1 i = 1#1), ∀ (k0_h63 : k0_cond63 v253 = 1#1), 8 ∣ (k0_mult62 v521).toNat) ∧
  (∀ (k0_h1 : k0_cond1 i = 1#1), ∀ (k0_h63 : k0_cond63 v253 = 1#1), ∀ a, (k0_off62 v521) a + S256x2048.size a ≤ S40960x2048.size a)
theorem k0_mult62_dvd : ∀ (i : grid0.Coords) (v253 : BitVec 32) (v521 : BitVec 32) (k0_hw62 : k0_chk62 i v253 v521), ∀ (k0_h1 : k0_cond1 i = 1#1), ∀ (k0_h63 : k0_cond63 v253 = 1#1), 8 ∣ (k0_mult62 v521).toNat := fun i v253 v521 k0_hw62 k0_h1 k0_h63 => k0_hw62.1 k0_h1 k0_h63
theorem k0_off62_inb : ∀ (i : grid0.Coords) (v253 : BitVec 32) (v521 : BitVec 32) (k0_hw62 : k0_chk62 i v253 v521), ∀ (k0_h1 : k0_cond1 i = 1#1), ∀ (k0_h63 : k0_cond63 v253 = 1#1), ∀ a, (k0_off62 v521) a + S256x2048.size a ≤ S40960x2048.size a := fun i v253 v521 k0_hw62 k0_h1 k0_h63 => k0_hw62.2 k0_h1 k0_h63

def k0_mult63 (v521 : BitVec 32) : BitVec 32 :=
  let c0_i32_330 : BitVec 32 := 0#32
  let v522 : BitVec 32 := Scalar.maxsi v521 c0_i32_330
  v522
def k0_cond64 (v257 : BitVec 32) : BitVec 1 :=
  let c0_i32_133 : BitVec 32 := 0#32
  let v258 : BitVec 1 := Scalar.cmpi .sge v257 c0_i32_133
  let v259 : BitVec 32 := Scalar.extui v258
  let c0_i32_134 : BitVec 32 := 0#32
  let v260 : BitVec 1 := Scalar.cmpi .ne v259 c0_i32_134
  v260

def k0_off63 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk63 (i : grid0.Coords) (v257 : BitVec 32) (v521 : BitVec 32) : Prop :=
  (∀ (k0_h1 : k0_cond1 i = 1#1), ∀ (k0_h64 : k0_cond64 v257 = 1#1), 8 ∣ (k0_mult63 v521).toNat) ∧
  (∀ (k0_h1 : k0_cond1 i = 1#1), ∀ (k0_h64 : k0_cond64 v257 = 1#1), ∀ a, (k0_off63 v521) a + S256x2048.size a ≤ S40960x2048.size a)
theorem k0_mult63_dvd : ∀ (i : grid0.Coords) (v257 : BitVec 32) (v521 : BitVec 32) (k0_hw63 : k0_chk63 i v257 v521), ∀ (k0_h1 : k0_cond1 i = 1#1), ∀ (k0_h64 : k0_cond64 v257 = 1#1), 8 ∣ (k0_mult63 v521).toNat := fun i v257 v521 k0_hw63 k0_h1 k0_h64 => k0_hw63.1 k0_h1 k0_h64
theorem k0_off63_inb : ∀ (i : grid0.Coords) (v257 : BitVec 32) (v521 : BitVec 32) (k0_hw63 : k0_chk63 i v257 v521), ∀ (k0_h1 : k0_cond1 i = 1#1), ∀ (k0_h64 : k0_cond64 v257 = 1#1), ∀ a, (k0_off63 v521) a + S256x2048.size a ≤ S40960x2048.size a := fun i v257 v521 k0_hw63 k0_h1 k0_h64 => k0_hw63.2 k0_h1 k0_h64

def k0_mult64 (v521 : BitVec 32) : BitVec 32 :=
  let c0_i32_330 : BitVec 32 := 0#32
  let v522 : BitVec 32 := Scalar.maxsi v521 c0_i32_330
  v522
def k0_cond65 (v261 : BitVec 32) : BitVec 1 :=
  let c0_i32_135 : BitVec 32 := 0#32
  let v262 : BitVec 1 := Scalar.cmpi .sge v261 c0_i32_135
  let v263 : BitVec 32 := Scalar.extui v262
  let c0_i32_136 : BitVec 32 := 0#32
  let v264 : BitVec 1 := Scalar.cmpi .ne v263 c0_i32_136
  v264

def k0_off64 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk64 (i : grid0.Coords) (v261 : BitVec 32) (v521 : BitVec 32) : Prop :=
  (∀ (k0_h1 : k0_cond1 i = 1#1), ∀ (k0_h65 : k0_cond65 v261 = 1#1), 8 ∣ (k0_mult64 v521).toNat) ∧
  (∀ (k0_h1 : k0_cond1 i = 1#1), ∀ (k0_h65 : k0_cond65 v261 = 1#1), ∀ a, (k0_off64 v521) a + S256x2048.size a ≤ S40960x2048.size a)
theorem k0_mult64_dvd : ∀ (i : grid0.Coords) (v261 : BitVec 32) (v521 : BitVec 32) (k0_hw64 : k0_chk64 i v261 v521), ∀ (k0_h1 : k0_cond1 i = 1#1), ∀ (k0_h65 : k0_cond65 v261 = 1#1), 8 ∣ (k0_mult64 v521).toNat := fun i v261 v521 k0_hw64 k0_h1 k0_h65 => k0_hw64.1 k0_h1 k0_h65
theorem k0_off64_inb : ∀ (i : grid0.Coords) (v261 : BitVec 32) (v521 : BitVec 32) (k0_hw64 : k0_chk64 i v261 v521), ∀ (k0_h1 : k0_cond1 i = 1#1), ∀ (k0_h65 : k0_cond65 v261 = 1#1), ∀ a, (k0_off64 v521) a + S256x2048.size a ≤ S40960x2048.size a := fun i v261 v521 k0_hw64 k0_h1 k0_h65 => k0_hw64.2 k0_h1 k0_h65

def k0_mult65 (v521 : BitVec 32) : BitVec 32 :=
  let c0_i32_330 : BitVec 32 := 0#32
  let v522 : BitVec 32 := Scalar.maxsi v521 c0_i32_330
  v522
def k0_cond66 (v265 : BitVec 32) : BitVec 1 :=
  let c0_i32_138 : BitVec 32 := 0#32
  let v266 : BitVec 1 := Scalar.cmpi .sge v265 c0_i32_138
  let v267 : BitVec 32 := Scalar.extui v266
  let c0_i32_139 : BitVec 32 := 0#32
  let v268 : BitVec 1 := Scalar.cmpi .ne v267 c0_i32_139
  v268

def k0_off65 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk65 (i : grid0.Coords) (v265 : BitVec 32) (v521 : BitVec 32) : Prop :=
  (∀ (k0_h1 : k0_cond1 i = 1#1), ∀ (k0_h66 : k0_cond66 v265 = 1#1), 8 ∣ (k0_mult65 v521).toNat) ∧
  (∀ (k0_h1 : k0_cond1 i = 1#1), ∀ (k0_h66 : k0_cond66 v265 = 1#1), ∀ a, (k0_off65 v521) a + S256x2048.size a ≤ S40960x2048.size a)
theorem k0_mult65_dvd : ∀ (i : grid0.Coords) (v265 : BitVec 32) (v521 : BitVec 32) (k0_hw65 : k0_chk65 i v265 v521), ∀ (k0_h1 : k0_cond1 i = 1#1), ∀ (k0_h66 : k0_cond66 v265 = 1#1), 8 ∣ (k0_mult65 v521).toNat := fun i v265 v521 k0_hw65 k0_h1 k0_h66 => k0_hw65.1 k0_h1 k0_h66
theorem k0_off65_inb : ∀ (i : grid0.Coords) (v265 : BitVec 32) (v521 : BitVec 32) (k0_hw65 : k0_chk65 i v265 v521), ∀ (k0_h1 : k0_cond1 i = 1#1), ∀ (k0_h66 : k0_cond66 v265 = 1#1), ∀ a, (k0_off65 v521) a + S256x2048.size a ≤ S40960x2048.size a := fun i v265 v521 k0_hw65 k0_h1 k0_h66 => k0_hw65.2 k0_h1 k0_h66

def k0_mult66 (v521 : BitVec 32) : BitVec 32 :=
  let c0_i32_330 : BitVec 32 := 0#32
  let v522 : BitVec 32 := Scalar.maxsi v521 c0_i32_330
  v522
def k0_cond67 (v269 : BitVec 32) : BitVec 1 :=
  let c0_i32_141 : BitVec 32 := 0#32
  let v270 : BitVec 1 := Scalar.cmpi .sge v269 c0_i32_141
  let v271 : BitVec 32 := Scalar.extui v270
  let c0_i32_142 : BitVec 32 := 0#32
  let v272 : BitVec 1 := Scalar.cmpi .ne v271 c0_i32_142
  v272

def k0_off66 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk66 (i : grid0.Coords) (v269 : BitVec 32) (v521 : BitVec 32) : Prop :=
  (∀ (k0_h1 : k0_cond1 i = 1#1), ∀ (k0_h67 : k0_cond67 v269 = 1#1), 8 ∣ (k0_mult66 v521).toNat) ∧
  (∀ (k0_h1 : k0_cond1 i = 1#1), ∀ (k0_h67 : k0_cond67 v269 = 1#1), ∀ a, (k0_off66 v521) a + S256x2048.size a ≤ S40960x2048.size a)
theorem k0_mult66_dvd : ∀ (i : grid0.Coords) (v269 : BitVec 32) (v521 : BitVec 32) (k0_hw66 : k0_chk66 i v269 v521), ∀ (k0_h1 : k0_cond1 i = 1#1), ∀ (k0_h67 : k0_cond67 v269 = 1#1), 8 ∣ (k0_mult66 v521).toNat := fun i v269 v521 k0_hw66 k0_h1 k0_h67 => k0_hw66.1 k0_h1 k0_h67
theorem k0_off66_inb : ∀ (i : grid0.Coords) (v269 : BitVec 32) (v521 : BitVec 32) (k0_hw66 : k0_chk66 i v269 v521), ∀ (k0_h1 : k0_cond1 i = 1#1), ∀ (k0_h67 : k0_cond67 v269 = 1#1), ∀ a, (k0_off66 v521) a + S256x2048.size a ≤ S40960x2048.size a := fun i v269 v521 k0_hw66 k0_h1 k0_h67 => k0_hw66.2 k0_h1 k0_h67

def k0_mult67 (v521 : BitVec 32) : BitVec 32 :=
  let c0_i32_330 : BitVec 32 := 0#32
  let v522 : BitVec 32 := Scalar.maxsi v521 c0_i32_330
  v522
def k0_cond68 (v273 : BitVec 32) : BitVec 1 :=
  let c0_i32_144 : BitVec 32 := 0#32
  let v274 : BitVec 1 := Scalar.cmpi .sge v273 c0_i32_144
  let v275 : BitVec 32 := Scalar.extui v274
  let c0_i32_145 : BitVec 32 := 0#32
  let v276 : BitVec 1 := Scalar.cmpi .ne v275 c0_i32_145
  v276

def k0_off67 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk67 (i : grid0.Coords) (v273 : BitVec 32) (v521 : BitVec 32) : Prop :=
  (∀ (k0_h1 : k0_cond1 i = 1#1), ∀ (k0_h68 : k0_cond68 v273 = 1#1), 8 ∣ (k0_mult67 v521).toNat) ∧
  (∀ (k0_h1 : k0_cond1 i = 1#1), ∀ (k0_h68 : k0_cond68 v273 = 1#1), ∀ a, (k0_off67 v521) a + S256x2048.size a ≤ S40960x2048.size a)
theorem k0_mult67_dvd : ∀ (i : grid0.Coords) (v273 : BitVec 32) (v521 : BitVec 32) (k0_hw67 : k0_chk67 i v273 v521), ∀ (k0_h1 : k0_cond1 i = 1#1), ∀ (k0_h68 : k0_cond68 v273 = 1#1), 8 ∣ (k0_mult67 v521).toNat := fun i v273 v521 k0_hw67 k0_h1 k0_h68 => k0_hw67.1 k0_h1 k0_h68
theorem k0_off67_inb : ∀ (i : grid0.Coords) (v273 : BitVec 32) (v521 : BitVec 32) (k0_hw67 : k0_chk67 i v273 v521), ∀ (k0_h1 : k0_cond1 i = 1#1), ∀ (k0_h68 : k0_cond68 v273 = 1#1), ∀ a, (k0_off67 v521) a + S256x2048.size a ≤ S40960x2048.size a := fun i v273 v521 k0_hw67 k0_h1 k0_h68 => k0_hw67.2 k0_h1 k0_h68

def k0_mult68 (v521 : BitVec 32) : BitVec 32 :=
  let c0_i32_330 : BitVec 32 := 0#32
  let v522 : BitVec 32 := Scalar.maxsi v521 c0_i32_330
  v522
def k0_cond69 (v277 : BitVec 32) : BitVec 1 :=
  let c0_i32_147 : BitVec 32 := 0#32
  let v278 : BitVec 1 := Scalar.cmpi .sge v277 c0_i32_147
  let v279 : BitVec 32 := Scalar.extui v278
  let c0_i32_148 : BitVec 32 := 0#32
  let v280 : BitVec 1 := Scalar.cmpi .ne v279 c0_i32_148
  v280

def k0_off68 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk68 (i : grid0.Coords) (v277 : BitVec 32) (v521 : BitVec 32) : Prop :=
  (∀ (k0_h1 : k0_cond1 i = 1#1), ∀ (k0_h69 : k0_cond69 v277 = 1#1), 8 ∣ (k0_mult68 v521).toNat) ∧
  (∀ (k0_h1 : k0_cond1 i = 1#1), ∀ (k0_h69 : k0_cond69 v277 = 1#1), ∀ a, (k0_off68 v521) a + S256x2048.size a ≤ S40960x2048.size a)
theorem k0_mult68_dvd : ∀ (i : grid0.Coords) (v277 : BitVec 32) (v521 : BitVec 32) (k0_hw68 : k0_chk68 i v277 v521), ∀ (k0_h1 : k0_cond1 i = 1#1), ∀ (k0_h69 : k0_cond69 v277 = 1#1), 8 ∣ (k0_mult68 v521).toNat := fun i v277 v521 k0_hw68 k0_h1 k0_h69 => k0_hw68.1 k0_h1 k0_h69
theorem k0_off68_inb : ∀ (i : grid0.Coords) (v277 : BitVec 32) (v521 : BitVec 32) (k0_hw68 : k0_chk68 i v277 v521), ∀ (k0_h1 : k0_cond1 i = 1#1), ∀ (k0_h69 : k0_cond69 v277 = 1#1), ∀ a, (k0_off68 v521) a + S256x2048.size a ≤ S40960x2048.size a := fun i v277 v521 k0_hw68 k0_h1 k0_h69 => k0_hw68.2 k0_h1 k0_h69

def k0_mult69 (v521 : BitVec 32) : BitVec 32 :=
  let c0_i32_330 : BitVec 32 := 0#32
  let v522 : BitVec 32 := Scalar.maxsi v521 c0_i32_330
  v522
def k0_cond70 (v281 : BitVec 32) : BitVec 1 :=
  let c0_i32_150 : BitVec 32 := 0#32
  let v282 : BitVec 1 := Scalar.cmpi .sge v281 c0_i32_150
  let v283 : BitVec 32 := Scalar.extui v282
  let c0_i32_151 : BitVec 32 := 0#32
  let v284 : BitVec 1 := Scalar.cmpi .ne v283 c0_i32_151
  v284

def k0_off69 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk69 (i : grid0.Coords) (v281 : BitVec 32) (v521 : BitVec 32) : Prop :=
  (∀ (k0_h1 : k0_cond1 i = 1#1), ∀ (k0_h70 : k0_cond70 v281 = 1#1), 8 ∣ (k0_mult69 v521).toNat) ∧
  (∀ (k0_h1 : k0_cond1 i = 1#1), ∀ (k0_h70 : k0_cond70 v281 = 1#1), ∀ a, (k0_off69 v521) a + S256x2048.size a ≤ S40960x2048.size a)
theorem k0_mult69_dvd : ∀ (i : grid0.Coords) (v281 : BitVec 32) (v521 : BitVec 32) (k0_hw69 : k0_chk69 i v281 v521), ∀ (k0_h1 : k0_cond1 i = 1#1), ∀ (k0_h70 : k0_cond70 v281 = 1#1), 8 ∣ (k0_mult69 v521).toNat := fun i v281 v521 k0_hw69 k0_h1 k0_h70 => k0_hw69.1 k0_h1 k0_h70
theorem k0_off69_inb : ∀ (i : grid0.Coords) (v281 : BitVec 32) (v521 : BitVec 32) (k0_hw69 : k0_chk69 i v281 v521), ∀ (k0_h1 : k0_cond1 i = 1#1), ∀ (k0_h70 : k0_cond70 v281 = 1#1), ∀ a, (k0_off69 v521) a + S256x2048.size a ≤ S40960x2048.size a := fun i v281 v521 k0_hw69 k0_h1 k0_h70 => k0_hw69.2 k0_h1 k0_h70

def k0_mult70 (v521 : BitVec 32) : BitVec 32 :=
  let c0_i32_330 : BitVec 32 := 0#32
  let v522 : BitVec 32 := Scalar.maxsi v521 c0_i32_330
  v522
def k0_cond71 (v285 : BitVec 32) : BitVec 1 :=
  let c0_i32_153 : BitVec 32 := 0#32
  let v286 : BitVec 1 := Scalar.cmpi .sge v285 c0_i32_153
  let v287 : BitVec 32 := Scalar.extui v286
  let c0_i32_154 : BitVec 32 := 0#32
  let v288 : BitVec 1 := Scalar.cmpi .ne v287 c0_i32_154
  v288

def k0_off70 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk70 (i : grid0.Coords) (v285 : BitVec 32) (v521 : BitVec 32) : Prop :=
  (∀ (k0_h1 : k0_cond1 i = 1#1), ∀ (k0_h71 : k0_cond71 v285 = 1#1), 8 ∣ (k0_mult70 v521).toNat) ∧
  (∀ (k0_h1 : k0_cond1 i = 1#1), ∀ (k0_h71 : k0_cond71 v285 = 1#1), ∀ a, (k0_off70 v521) a + S256x2048.size a ≤ S40960x2048.size a)
theorem k0_mult70_dvd : ∀ (i : grid0.Coords) (v285 : BitVec 32) (v521 : BitVec 32) (k0_hw70 : k0_chk70 i v285 v521), ∀ (k0_h1 : k0_cond1 i = 1#1), ∀ (k0_h71 : k0_cond71 v285 = 1#1), 8 ∣ (k0_mult70 v521).toNat := fun i v285 v521 k0_hw70 k0_h1 k0_h71 => k0_hw70.1 k0_h1 k0_h71
theorem k0_off70_inb : ∀ (i : grid0.Coords) (v285 : BitVec 32) (v521 : BitVec 32) (k0_hw70 : k0_chk70 i v285 v521), ∀ (k0_h1 : k0_cond1 i = 1#1), ∀ (k0_h71 : k0_cond71 v285 = 1#1), ∀ a, (k0_off70 v521) a + S256x2048.size a ≤ S40960x2048.size a := fun i v285 v521 k0_hw70 k0_h1 k0_h71 => k0_hw70.2 k0_h1 k0_h71

def k0_mult71 (v521 : BitVec 32) : BitVec 32 :=
  let c0_i32_330 : BitVec 32 := 0#32
  let v522 : BitVec 32 := Scalar.maxsi v521 c0_i32_330
  v522
def k0_cond72 (v289 : BitVec 32) : BitVec 1 :=
  let c0_i32_156 : BitVec 32 := 0#32
  let v290 : BitVec 1 := Scalar.cmpi .sge v289 c0_i32_156
  let v291 : BitVec 32 := Scalar.extui v290
  let c0_i32_157 : BitVec 32 := 0#32
  let v292 : BitVec 1 := Scalar.cmpi .ne v291 c0_i32_157
  v292

def k0_off71 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk71 (i : grid0.Coords) (v289 : BitVec 32) (v521 : BitVec 32) : Prop :=
  (∀ (k0_h1 : k0_cond1 i = 1#1), ∀ (k0_h72 : k0_cond72 v289 = 1#1), 8 ∣ (k0_mult71 v521).toNat) ∧
  (∀ (k0_h1 : k0_cond1 i = 1#1), ∀ (k0_h72 : k0_cond72 v289 = 1#1), ∀ a, (k0_off71 v521) a + S256x2048.size a ≤ S40960x2048.size a)
theorem k0_mult71_dvd : ∀ (i : grid0.Coords) (v289 : BitVec 32) (v521 : BitVec 32) (k0_hw71 : k0_chk71 i v289 v521), ∀ (k0_h1 : k0_cond1 i = 1#1), ∀ (k0_h72 : k0_cond72 v289 = 1#1), 8 ∣ (k0_mult71 v521).toNat := fun i v289 v521 k0_hw71 k0_h1 k0_h72 => k0_hw71.1 k0_h1 k0_h72
theorem k0_off71_inb : ∀ (i : grid0.Coords) (v289 : BitVec 32) (v521 : BitVec 32) (k0_hw71 : k0_chk71 i v289 v521), ∀ (k0_h1 : k0_cond1 i = 1#1), ∀ (k0_h72 : k0_cond72 v289 = 1#1), ∀ a, (k0_off71 v521) a + S256x2048.size a ≤ S40960x2048.size a := fun i v289 v521 k0_hw71 k0_h1 k0_h72 => k0_hw71.2 k0_h1 k0_h72

def k0_mult72 (v521 : BitVec 32) : BitVec 32 :=
  let c0_i32_330 : BitVec 32 := 0#32
  let v522 : BitVec 32 := Scalar.maxsi v521 c0_i32_330
  v522
def k0_cond73 (v293 : BitVec 32) : BitVec 1 :=
  let c0_i32_159 : BitVec 32 := 0#32
  let v294 : BitVec 1 := Scalar.cmpi .sge v293 c0_i32_159
  let v295 : BitVec 32 := Scalar.extui v294
  let c0_i32_160 : BitVec 32 := 0#32
  let v296 : BitVec 1 := Scalar.cmpi .ne v295 c0_i32_160
  v296

def k0_off72 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk72 (i : grid0.Coords) (v293 : BitVec 32) (v521 : BitVec 32) : Prop :=
  (∀ (k0_h1 : k0_cond1 i = 1#1), ∀ (k0_h73 : k0_cond73 v293 = 1#1), 8 ∣ (k0_mult72 v521).toNat) ∧
  (∀ (k0_h1 : k0_cond1 i = 1#1), ∀ (k0_h73 : k0_cond73 v293 = 1#1), ∀ a, (k0_off72 v521) a + S256x2048.size a ≤ S40960x2048.size a)
theorem k0_mult72_dvd : ∀ (i : grid0.Coords) (v293 : BitVec 32) (v521 : BitVec 32) (k0_hw72 : k0_chk72 i v293 v521), ∀ (k0_h1 : k0_cond1 i = 1#1), ∀ (k0_h73 : k0_cond73 v293 = 1#1), 8 ∣ (k0_mult72 v521).toNat := fun i v293 v521 k0_hw72 k0_h1 k0_h73 => k0_hw72.1 k0_h1 k0_h73
theorem k0_off72_inb : ∀ (i : grid0.Coords) (v293 : BitVec 32) (v521 : BitVec 32) (k0_hw72 : k0_chk72 i v293 v521), ∀ (k0_h1 : k0_cond1 i = 1#1), ∀ (k0_h73 : k0_cond73 v293 = 1#1), ∀ a, (k0_off72 v521) a + S256x2048.size a ≤ S40960x2048.size a := fun i v293 v521 k0_hw72 k0_h1 k0_h73 => k0_hw72.2 k0_h1 k0_h73

def k0_mult73 (v521 : BitVec 32) : BitVec 32 :=
  let c0_i32_330 : BitVec 32 := 0#32
  let v522 : BitVec 32 := Scalar.maxsi v521 c0_i32_330
  v522
def k0_cond74 (v297 : BitVec 32) : BitVec 1 :=
  let c0_i32_162 : BitVec 32 := 0#32
  let v298 : BitVec 1 := Scalar.cmpi .sge v297 c0_i32_162
  let v299 : BitVec 32 := Scalar.extui v298
  let c0_i32_163 : BitVec 32 := 0#32
  let v300 : BitVec 1 := Scalar.cmpi .ne v299 c0_i32_163
  v300

def k0_off73 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk73 (i : grid0.Coords) (v297 : BitVec 32) (v521 : BitVec 32) : Prop :=
  (∀ (k0_h1 : k0_cond1 i = 1#1), ∀ (k0_h74 : k0_cond74 v297 = 1#1), 8 ∣ (k0_mult73 v521).toNat) ∧
  (∀ (k0_h1 : k0_cond1 i = 1#1), ∀ (k0_h74 : k0_cond74 v297 = 1#1), ∀ a, (k0_off73 v521) a + S256x2048.size a ≤ S40960x2048.size a)
theorem k0_mult73_dvd : ∀ (i : grid0.Coords) (v297 : BitVec 32) (v521 : BitVec 32) (k0_hw73 : k0_chk73 i v297 v521), ∀ (k0_h1 : k0_cond1 i = 1#1), ∀ (k0_h74 : k0_cond74 v297 = 1#1), 8 ∣ (k0_mult73 v521).toNat := fun i v297 v521 k0_hw73 k0_h1 k0_h74 => k0_hw73.1 k0_h1 k0_h74
theorem k0_off73_inb : ∀ (i : grid0.Coords) (v297 : BitVec 32) (v521 : BitVec 32) (k0_hw73 : k0_chk73 i v297 v521), ∀ (k0_h1 : k0_cond1 i = 1#1), ∀ (k0_h74 : k0_cond74 v297 = 1#1), ∀ a, (k0_off73 v521) a + S256x2048.size a ≤ S40960x2048.size a := fun i v297 v521 k0_hw73 k0_h1 k0_h74 => k0_hw73.2 k0_h1 k0_h74

def k0_mult74 (v521 : BitVec 32) : BitVec 32 :=
  let c0_i32_330 : BitVec 32 := 0#32
  let v522 : BitVec 32 := Scalar.maxsi v521 c0_i32_330
  v522
def k0_cond75 (v301 : BitVec 32) : BitVec 1 :=
  let c0_i32_165 : BitVec 32 := 0#32
  let v302 : BitVec 1 := Scalar.cmpi .sge v301 c0_i32_165
  let v303 : BitVec 32 := Scalar.extui v302
  let c0_i32_166 : BitVec 32 := 0#32
  let v304 : BitVec 1 := Scalar.cmpi .ne v303 c0_i32_166
  v304

def k0_off74 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk74 (i : grid0.Coords) (v301 : BitVec 32) (v521 : BitVec 32) : Prop :=
  (∀ (k0_h1 : k0_cond1 i = 1#1), ∀ (k0_h75 : k0_cond75 v301 = 1#1), 8 ∣ (k0_mult74 v521).toNat) ∧
  (∀ (k0_h1 : k0_cond1 i = 1#1), ∀ (k0_h75 : k0_cond75 v301 = 1#1), ∀ a, (k0_off74 v521) a + S256x2048.size a ≤ S40960x2048.size a)
theorem k0_mult74_dvd : ∀ (i : grid0.Coords) (v301 : BitVec 32) (v521 : BitVec 32) (k0_hw74 : k0_chk74 i v301 v521), ∀ (k0_h1 : k0_cond1 i = 1#1), ∀ (k0_h75 : k0_cond75 v301 = 1#1), 8 ∣ (k0_mult74 v521).toNat := fun i v301 v521 k0_hw74 k0_h1 k0_h75 => k0_hw74.1 k0_h1 k0_h75
theorem k0_off74_inb : ∀ (i : grid0.Coords) (v301 : BitVec 32) (v521 : BitVec 32) (k0_hw74 : k0_chk74 i v301 v521), ∀ (k0_h1 : k0_cond1 i = 1#1), ∀ (k0_h75 : k0_cond75 v301 = 1#1), ∀ a, (k0_off74 v521) a + S256x2048.size a ≤ S40960x2048.size a := fun i v301 v521 k0_hw74 k0_h1 k0_h75 => k0_hw74.2 k0_h1 k0_h75

def k0_mult75 (v521 : BitVec 32) : BitVec 32 :=
  let c0_i32_330 : BitVec 32 := 0#32
  let v522 : BitVec 32 := Scalar.maxsi v521 c0_i32_330
  v522
def k0_cond76 (v305 : BitVec 32) : BitVec 1 :=
  let c0_i32_168 : BitVec 32 := 0#32
  let v306 : BitVec 1 := Scalar.cmpi .sge v305 c0_i32_168
  let v307 : BitVec 32 := Scalar.extui v306
  let c0_i32_169 : BitVec 32 := 0#32
  let v308 : BitVec 1 := Scalar.cmpi .ne v307 c0_i32_169
  v308

def k0_off75 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk75 (i : grid0.Coords) (v305 : BitVec 32) (v521 : BitVec 32) : Prop :=
  (∀ (k0_h1 : k0_cond1 i = 1#1), ∀ (k0_h76 : k0_cond76 v305 = 1#1), 8 ∣ (k0_mult75 v521).toNat) ∧
  (∀ (k0_h1 : k0_cond1 i = 1#1), ∀ (k0_h76 : k0_cond76 v305 = 1#1), ∀ a, (k0_off75 v521) a + S256x2048.size a ≤ S40960x2048.size a)
theorem k0_mult75_dvd : ∀ (i : grid0.Coords) (v305 : BitVec 32) (v521 : BitVec 32) (k0_hw75 : k0_chk75 i v305 v521), ∀ (k0_h1 : k0_cond1 i = 1#1), ∀ (k0_h76 : k0_cond76 v305 = 1#1), 8 ∣ (k0_mult75 v521).toNat := fun i v305 v521 k0_hw75 k0_h1 k0_h76 => k0_hw75.1 k0_h1 k0_h76
theorem k0_off75_inb : ∀ (i : grid0.Coords) (v305 : BitVec 32) (v521 : BitVec 32) (k0_hw75 : k0_chk75 i v305 v521), ∀ (k0_h1 : k0_cond1 i = 1#1), ∀ (k0_h76 : k0_cond76 v305 = 1#1), ∀ a, (k0_off75 v521) a + S256x2048.size a ≤ S40960x2048.size a := fun i v305 v521 k0_hw75 k0_h1 k0_h76 => k0_hw75.2 k0_h1 k0_h76

def k0_mult76 (v521 : BitVec 32) : BitVec 32 :=
  let c0_i32_330 : BitVec 32 := 0#32
  let v522 : BitVec 32 := Scalar.maxsi v521 c0_i32_330
  v522
def k0_cond77 (v309 : BitVec 32) : BitVec 1 :=
  let c0_i32_171 : BitVec 32 := 0#32
  let v310 : BitVec 1 := Scalar.cmpi .sge v309 c0_i32_171
  let v311 : BitVec 32 := Scalar.extui v310
  let c0_i32_172 : BitVec 32 := 0#32
  let v312 : BitVec 1 := Scalar.cmpi .ne v311 c0_i32_172
  v312

def k0_off76 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk76 (i : grid0.Coords) (v309 : BitVec 32) (v521 : BitVec 32) : Prop :=
  (∀ (k0_h1 : k0_cond1 i = 1#1), ∀ (k0_h77 : k0_cond77 v309 = 1#1), 8 ∣ (k0_mult76 v521).toNat) ∧
  (∀ (k0_h1 : k0_cond1 i = 1#1), ∀ (k0_h77 : k0_cond77 v309 = 1#1), ∀ a, (k0_off76 v521) a + S256x2048.size a ≤ S40960x2048.size a)
theorem k0_mult76_dvd : ∀ (i : grid0.Coords) (v309 : BitVec 32) (v521 : BitVec 32) (k0_hw76 : k0_chk76 i v309 v521), ∀ (k0_h1 : k0_cond1 i = 1#1), ∀ (k0_h77 : k0_cond77 v309 = 1#1), 8 ∣ (k0_mult76 v521).toNat := fun i v309 v521 k0_hw76 k0_h1 k0_h77 => k0_hw76.1 k0_h1 k0_h77
theorem k0_off76_inb : ∀ (i : grid0.Coords) (v309 : BitVec 32) (v521 : BitVec 32) (k0_hw76 : k0_chk76 i v309 v521), ∀ (k0_h1 : k0_cond1 i = 1#1), ∀ (k0_h77 : k0_cond77 v309 = 1#1), ∀ a, (k0_off76 v521) a + S256x2048.size a ≤ S40960x2048.size a := fun i v309 v521 k0_hw76 k0_h1 k0_h77 => k0_hw76.2 k0_h1 k0_h77

def k0_mult77 (v521 : BitVec 32) : BitVec 32 :=
  let c0_i32_330 : BitVec 32 := 0#32
  let v522 : BitVec 32 := Scalar.maxsi v521 c0_i32_330
  v522
def k0_cond78 (v313 : BitVec 32) : BitVec 1 :=
  let c0_i32_174 : BitVec 32 := 0#32
  let v314 : BitVec 1 := Scalar.cmpi .sge v313 c0_i32_174
  let v315 : BitVec 32 := Scalar.extui v314
  let c0_i32_175 : BitVec 32 := 0#32
  let v316 : BitVec 1 := Scalar.cmpi .ne v315 c0_i32_175
  v316

def k0_off77 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk77 (i : grid0.Coords) (v313 : BitVec 32) (v521 : BitVec 32) : Prop :=
  (∀ (k0_h1 : k0_cond1 i = 1#1), ∀ (k0_h78 : k0_cond78 v313 = 1#1), 8 ∣ (k0_mult77 v521).toNat) ∧
  (∀ (k0_h1 : k0_cond1 i = 1#1), ∀ (k0_h78 : k0_cond78 v313 = 1#1), ∀ a, (k0_off77 v521) a + S256x2048.size a ≤ S40960x2048.size a)
theorem k0_mult77_dvd : ∀ (i : grid0.Coords) (v313 : BitVec 32) (v521 : BitVec 32) (k0_hw77 : k0_chk77 i v313 v521), ∀ (k0_h1 : k0_cond1 i = 1#1), ∀ (k0_h78 : k0_cond78 v313 = 1#1), 8 ∣ (k0_mult77 v521).toNat := fun i v313 v521 k0_hw77 k0_h1 k0_h78 => k0_hw77.1 k0_h1 k0_h78
theorem k0_off77_inb : ∀ (i : grid0.Coords) (v313 : BitVec 32) (v521 : BitVec 32) (k0_hw77 : k0_chk77 i v313 v521), ∀ (k0_h1 : k0_cond1 i = 1#1), ∀ (k0_h78 : k0_cond78 v313 = 1#1), ∀ a, (k0_off77 v521) a + S256x2048.size a ≤ S40960x2048.size a := fun i v313 v521 k0_hw77 k0_h1 k0_h78 => k0_hw77.2 k0_h1 k0_h78

def k0_mult78 (v521 : BitVec 32) : BitVec 32 :=
  let c0_i32_330 : BitVec 32 := 0#32
  let v522 : BitVec 32 := Scalar.maxsi v521 c0_i32_330
  v522
def k0_cond79 (v317 : BitVec 32) : BitVec 1 :=
  let c0_i32_177 : BitVec 32 := 0#32
  let v318 : BitVec 1 := Scalar.cmpi .sge v317 c0_i32_177
  let v319 : BitVec 32 := Scalar.extui v318
  let c0_i32_178 : BitVec 32 := 0#32
  let v320 : BitVec 1 := Scalar.cmpi .ne v319 c0_i32_178
  v320

def k0_off78 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk78 (i : grid0.Coords) (v317 : BitVec 32) (v521 : BitVec 32) : Prop :=
  (∀ (k0_h1 : k0_cond1 i = 1#1), ∀ (k0_h79 : k0_cond79 v317 = 1#1), 8 ∣ (k0_mult78 v521).toNat) ∧
  (∀ (k0_h1 : k0_cond1 i = 1#1), ∀ (k0_h79 : k0_cond79 v317 = 1#1), ∀ a, (k0_off78 v521) a + S256x2048.size a ≤ S40960x2048.size a)
theorem k0_mult78_dvd : ∀ (i : grid0.Coords) (v317 : BitVec 32) (v521 : BitVec 32) (k0_hw78 : k0_chk78 i v317 v521), ∀ (k0_h1 : k0_cond1 i = 1#1), ∀ (k0_h79 : k0_cond79 v317 = 1#1), 8 ∣ (k0_mult78 v521).toNat := fun i v317 v521 k0_hw78 k0_h1 k0_h79 => k0_hw78.1 k0_h1 k0_h79
theorem k0_off78_inb : ∀ (i : grid0.Coords) (v317 : BitVec 32) (v521 : BitVec 32) (k0_hw78 : k0_chk78 i v317 v521), ∀ (k0_h1 : k0_cond1 i = 1#1), ∀ (k0_h79 : k0_cond79 v317 = 1#1), ∀ a, (k0_off78 v521) a + S256x2048.size a ≤ S40960x2048.size a := fun i v317 v521 k0_hw78 k0_h1 k0_h79 => k0_hw78.2 k0_h1 k0_h79

def k0_mult79 (v521 : BitVec 32) : BitVec 32 :=
  let c0_i32_330 : BitVec 32 := 0#32
  let v522 : BitVec 32 := Scalar.maxsi v521 c0_i32_330
  v522
def k0_cond80 (v321 : BitVec 32) : BitVec 1 :=
  let c0_i32_180 : BitVec 32 := 0#32
  let v322 : BitVec 1 := Scalar.cmpi .sge v321 c0_i32_180
  let v323 : BitVec 32 := Scalar.extui v322
  let c0_i32_181 : BitVec 32 := 0#32
  let v324 : BitVec 1 := Scalar.cmpi .ne v323 c0_i32_181
  v324

def k0_off79 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk79 (i : grid0.Coords) (v321 : BitVec 32) (v521 : BitVec 32) : Prop :=
  (∀ (k0_h1 : k0_cond1 i = 1#1), ∀ (k0_h80 : k0_cond80 v321 = 1#1), 8 ∣ (k0_mult79 v521).toNat) ∧
  (∀ (k0_h1 : k0_cond1 i = 1#1), ∀ (k0_h80 : k0_cond80 v321 = 1#1), ∀ a, (k0_off79 v521) a + S256x2048.size a ≤ S40960x2048.size a)
theorem k0_mult79_dvd : ∀ (i : grid0.Coords) (v321 : BitVec 32) (v521 : BitVec 32) (k0_hw79 : k0_chk79 i v321 v521), ∀ (k0_h1 : k0_cond1 i = 1#1), ∀ (k0_h80 : k0_cond80 v321 = 1#1), 8 ∣ (k0_mult79 v521).toNat := fun i v321 v521 k0_hw79 k0_h1 k0_h80 => k0_hw79.1 k0_h1 k0_h80
theorem k0_off79_inb : ∀ (i : grid0.Coords) (v321 : BitVec 32) (v521 : BitVec 32) (k0_hw79 : k0_chk79 i v321 v521), ∀ (k0_h1 : k0_cond1 i = 1#1), ∀ (k0_h80 : k0_cond80 v321 = 1#1), ∀ a, (k0_off79 v521) a + S256x2048.size a ≤ S40960x2048.size a := fun i v321 v521 k0_hw79 k0_h1 k0_h80 => k0_hw79.2 k0_h1 k0_h80

def k0_mult80 (v521 : BitVec 32) : BitVec 32 :=
  let c0_i32_330 : BitVec 32 := 0#32
  let v522 : BitVec 32 := Scalar.maxsi v521 c0_i32_330
  v522
def k0_cond81 (v325 : BitVec 32) : BitVec 1 :=
  let c0_i32_183 : BitVec 32 := 0#32
  let v326 : BitVec 1 := Scalar.cmpi .sge v325 c0_i32_183
  let v327 : BitVec 32 := Scalar.extui v326
  let c0_i32_184 : BitVec 32 := 0#32
  let v328 : BitVec 1 := Scalar.cmpi .ne v327 c0_i32_184
  v328

def k0_off80 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk80 (i : grid0.Coords) (v325 : BitVec 32) (v521 : BitVec 32) : Prop :=
  (∀ (k0_h1 : k0_cond1 i = 1#1), ∀ (k0_h81 : k0_cond81 v325 = 1#1), 8 ∣ (k0_mult80 v521).toNat) ∧
  (∀ (k0_h1 : k0_cond1 i = 1#1), ∀ (k0_h81 : k0_cond81 v325 = 1#1), ∀ a, (k0_off80 v521) a + S256x2048.size a ≤ S40960x2048.size a)
theorem k0_mult80_dvd : ∀ (i : grid0.Coords) (v325 : BitVec 32) (v521 : BitVec 32) (k0_hw80 : k0_chk80 i v325 v521), ∀ (k0_h1 : k0_cond1 i = 1#1), ∀ (k0_h81 : k0_cond81 v325 = 1#1), 8 ∣ (k0_mult80 v521).toNat := fun i v325 v521 k0_hw80 k0_h1 k0_h81 => k0_hw80.1 k0_h1 k0_h81
theorem k0_off80_inb : ∀ (i : grid0.Coords) (v325 : BitVec 32) (v521 : BitVec 32) (k0_hw80 : k0_chk80 i v325 v521), ∀ (k0_h1 : k0_cond1 i = 1#1), ∀ (k0_h81 : k0_cond81 v325 = 1#1), ∀ a, (k0_off80 v521) a + S256x2048.size a ≤ S40960x2048.size a := fun i v325 v521 k0_hw80 k0_h1 k0_h81 => k0_hw80.2 k0_h1 k0_h81

def k0_mult81 (v521 : BitVec 32) : BitVec 32 :=
  let c0_i32_330 : BitVec 32 := 0#32
  let v522 : BitVec 32 := Scalar.maxsi v521 c0_i32_330
  v522
def k0_cond82 (v329 : BitVec 32) : BitVec 1 :=
  let c0_i32_186 : BitVec 32 := 0#32
  let v330 : BitVec 1 := Scalar.cmpi .sge v329 c0_i32_186
  let v331 : BitVec 32 := Scalar.extui v330
  let c0_i32_187 : BitVec 32 := 0#32
  let v332 : BitVec 1 := Scalar.cmpi .ne v331 c0_i32_187
  v332

def k0_off81 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk81 (i : grid0.Coords) (v329 : BitVec 32) (v521 : BitVec 32) : Prop :=
  (∀ (k0_h1 : k0_cond1 i = 1#1), ∀ (k0_h82 : k0_cond82 v329 = 1#1), 8 ∣ (k0_mult81 v521).toNat) ∧
  (∀ (k0_h1 : k0_cond1 i = 1#1), ∀ (k0_h82 : k0_cond82 v329 = 1#1), ∀ a, (k0_off81 v521) a + S256x2048.size a ≤ S40960x2048.size a)
theorem k0_mult81_dvd : ∀ (i : grid0.Coords) (v329 : BitVec 32) (v521 : BitVec 32) (k0_hw81 : k0_chk81 i v329 v521), ∀ (k0_h1 : k0_cond1 i = 1#1), ∀ (k0_h82 : k0_cond82 v329 = 1#1), 8 ∣ (k0_mult81 v521).toNat := fun i v329 v521 k0_hw81 k0_h1 k0_h82 => k0_hw81.1 k0_h1 k0_h82
theorem k0_off81_inb : ∀ (i : grid0.Coords) (v329 : BitVec 32) (v521 : BitVec 32) (k0_hw81 : k0_chk81 i v329 v521), ∀ (k0_h1 : k0_cond1 i = 1#1), ∀ (k0_h82 : k0_cond82 v329 = 1#1), ∀ a, (k0_off81 v521) a + S256x2048.size a ≤ S40960x2048.size a := fun i v329 v521 k0_hw81 k0_h1 k0_h82 => k0_hw81.2 k0_h1 k0_h82

def k0_mult82 (v521 : BitVec 32) : BitVec 32 :=
  let c0_i32_330 : BitVec 32 := 0#32
  let v522 : BitVec 32 := Scalar.maxsi v521 c0_i32_330
  v522
def k0_cond83 (v333 : BitVec 32) : BitVec 1 :=
  let c0_i32_189 : BitVec 32 := 0#32
  let v334 : BitVec 1 := Scalar.cmpi .sge v333 c0_i32_189
  let v335 : BitVec 32 := Scalar.extui v334
  let c0_i32_190 : BitVec 32 := 0#32
  let v336 : BitVec 1 := Scalar.cmpi .ne v335 c0_i32_190
  v336

def k0_off82 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk82 (i : grid0.Coords) (v333 : BitVec 32) (v521 : BitVec 32) : Prop :=
  (∀ (k0_h1 : k0_cond1 i = 1#1), ∀ (k0_h83 : k0_cond83 v333 = 1#1), 8 ∣ (k0_mult82 v521).toNat) ∧
  (∀ (k0_h1 : k0_cond1 i = 1#1), ∀ (k0_h83 : k0_cond83 v333 = 1#1), ∀ a, (k0_off82 v521) a + S256x2048.size a ≤ S40960x2048.size a)
theorem k0_mult82_dvd : ∀ (i : grid0.Coords) (v333 : BitVec 32) (v521 : BitVec 32) (k0_hw82 : k0_chk82 i v333 v521), ∀ (k0_h1 : k0_cond1 i = 1#1), ∀ (k0_h83 : k0_cond83 v333 = 1#1), 8 ∣ (k0_mult82 v521).toNat := fun i v333 v521 k0_hw82 k0_h1 k0_h83 => k0_hw82.1 k0_h1 k0_h83
theorem k0_off82_inb : ∀ (i : grid0.Coords) (v333 : BitVec 32) (v521 : BitVec 32) (k0_hw82 : k0_chk82 i v333 v521), ∀ (k0_h1 : k0_cond1 i = 1#1), ∀ (k0_h83 : k0_cond83 v333 = 1#1), ∀ a, (k0_off82 v521) a + S256x2048.size a ≤ S40960x2048.size a := fun i v333 v521 k0_hw82 k0_h1 k0_h83 => k0_hw82.2 k0_h1 k0_h83

def k0_mult83 (v521 : BitVec 32) : BitVec 32 :=
  let c0_i32_330 : BitVec 32 := 0#32
  let v522 : BitVec 32 := Scalar.maxsi v521 c0_i32_330
  v522
def k0_cond84 (v337 : BitVec 32) : BitVec 1 :=
  let c0_i32_192 : BitVec 32 := 0#32
  let v338 : BitVec 1 := Scalar.cmpi .sge v337 c0_i32_192
  let v339 : BitVec 32 := Scalar.extui v338
  let c0_i32_193 : BitVec 32 := 0#32
  let v340 : BitVec 1 := Scalar.cmpi .ne v339 c0_i32_193
  v340

def k0_off83 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk83 (i : grid0.Coords) (v337 : BitVec 32) (v521 : BitVec 32) : Prop :=
  (∀ (k0_h1 : k0_cond1 i = 1#1), ∀ (k0_h84 : k0_cond84 v337 = 1#1), 8 ∣ (k0_mult83 v521).toNat) ∧
  (∀ (k0_h1 : k0_cond1 i = 1#1), ∀ (k0_h84 : k0_cond84 v337 = 1#1), ∀ a, (k0_off83 v521) a + S256x2048.size a ≤ S40960x2048.size a)
theorem k0_mult83_dvd : ∀ (i : grid0.Coords) (v337 : BitVec 32) (v521 : BitVec 32) (k0_hw83 : k0_chk83 i v337 v521), ∀ (k0_h1 : k0_cond1 i = 1#1), ∀ (k0_h84 : k0_cond84 v337 = 1#1), 8 ∣ (k0_mult83 v521).toNat := fun i v337 v521 k0_hw83 k0_h1 k0_h84 => k0_hw83.1 k0_h1 k0_h84
theorem k0_off83_inb : ∀ (i : grid0.Coords) (v337 : BitVec 32) (v521 : BitVec 32) (k0_hw83 : k0_chk83 i v337 v521), ∀ (k0_h1 : k0_cond1 i = 1#1), ∀ (k0_h84 : k0_cond84 v337 = 1#1), ∀ a, (k0_off83 v521) a + S256x2048.size a ≤ S40960x2048.size a := fun i v337 v521 k0_hw83 k0_h1 k0_h84 => k0_hw83.2 k0_h1 k0_h84

def k0_mult84 (v521 : BitVec 32) : BitVec 32 :=
  let c0_i32_330 : BitVec 32 := 0#32
  let v522 : BitVec 32 := Scalar.maxsi v521 c0_i32_330
  v522
def k0_cond85 (v341 : BitVec 32) : BitVec 1 :=
  let c0_i32_195 : BitVec 32 := 0#32
  let v342 : BitVec 1 := Scalar.cmpi .sge v341 c0_i32_195
  let v343 : BitVec 32 := Scalar.extui v342
  let c0_i32_196 : BitVec 32 := 0#32
  let v344 : BitVec 1 := Scalar.cmpi .ne v343 c0_i32_196
  v344

def k0_off84 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk84 (i : grid0.Coords) (v341 : BitVec 32) (v521 : BitVec 32) : Prop :=
  (∀ (k0_h1 : k0_cond1 i = 1#1), ∀ (k0_h85 : k0_cond85 v341 = 1#1), 8 ∣ (k0_mult84 v521).toNat) ∧
  (∀ (k0_h1 : k0_cond1 i = 1#1), ∀ (k0_h85 : k0_cond85 v341 = 1#1), ∀ a, (k0_off84 v521) a + S256x2048.size a ≤ S40960x2048.size a)
theorem k0_mult84_dvd : ∀ (i : grid0.Coords) (v341 : BitVec 32) (v521 : BitVec 32) (k0_hw84 : k0_chk84 i v341 v521), ∀ (k0_h1 : k0_cond1 i = 1#1), ∀ (k0_h85 : k0_cond85 v341 = 1#1), 8 ∣ (k0_mult84 v521).toNat := fun i v341 v521 k0_hw84 k0_h1 k0_h85 => k0_hw84.1 k0_h1 k0_h85
theorem k0_off84_inb : ∀ (i : grid0.Coords) (v341 : BitVec 32) (v521 : BitVec 32) (k0_hw84 : k0_chk84 i v341 v521), ∀ (k0_h1 : k0_cond1 i = 1#1), ∀ (k0_h85 : k0_cond85 v341 = 1#1), ∀ a, (k0_off84 v521) a + S256x2048.size a ≤ S40960x2048.size a := fun i v341 v521 k0_hw84 k0_h1 k0_h85 => k0_hw84.2 k0_h1 k0_h85

def k0_mult85 (v521 : BitVec 32) : BitVec 32 :=
  let c0_i32_330 : BitVec 32 := 0#32
  let v522 : BitVec 32 := Scalar.maxsi v521 c0_i32_330
  v522
def k0_cond86 (v345 : BitVec 32) : BitVec 1 :=
  let c0_i32_198 : BitVec 32 := 0#32
  let v346 : BitVec 1 := Scalar.cmpi .sge v345 c0_i32_198
  let v347 : BitVec 32 := Scalar.extui v346
  let c0_i32_199 : BitVec 32 := 0#32
  let v348 : BitVec 1 := Scalar.cmpi .ne v347 c0_i32_199
  v348

def k0_off85 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk85 (i : grid0.Coords) (v345 : BitVec 32) (v521 : BitVec 32) : Prop :=
  (∀ (k0_h1 : k0_cond1 i = 1#1), ∀ (k0_h86 : k0_cond86 v345 = 1#1), 8 ∣ (k0_mult85 v521).toNat) ∧
  (∀ (k0_h1 : k0_cond1 i = 1#1), ∀ (k0_h86 : k0_cond86 v345 = 1#1), ∀ a, (k0_off85 v521) a + S256x2048.size a ≤ S40960x2048.size a)
theorem k0_mult85_dvd : ∀ (i : grid0.Coords) (v345 : BitVec 32) (v521 : BitVec 32) (k0_hw85 : k0_chk85 i v345 v521), ∀ (k0_h1 : k0_cond1 i = 1#1), ∀ (k0_h86 : k0_cond86 v345 = 1#1), 8 ∣ (k0_mult85 v521).toNat := fun i v345 v521 k0_hw85 k0_h1 k0_h86 => k0_hw85.1 k0_h1 k0_h86
theorem k0_off85_inb : ∀ (i : grid0.Coords) (v345 : BitVec 32) (v521 : BitVec 32) (k0_hw85 : k0_chk85 i v345 v521), ∀ (k0_h1 : k0_cond1 i = 1#1), ∀ (k0_h86 : k0_cond86 v345 = 1#1), ∀ a, (k0_off85 v521) a + S256x2048.size a ≤ S40960x2048.size a := fun i v345 v521 k0_hw85 k0_h1 k0_h86 => k0_hw85.2 k0_h1 k0_h86

def k0_mult86 (v521 : BitVec 32) : BitVec 32 :=
  let c0_i32_330 : BitVec 32 := 0#32
  let v522 : BitVec 32 := Scalar.maxsi v521 c0_i32_330
  v522
def k0_cond87 (v349 : BitVec 32) : BitVec 1 :=
  let c0_i32_201 : BitVec 32 := 0#32
  let v350 : BitVec 1 := Scalar.cmpi .sge v349 c0_i32_201
  let v351 : BitVec 32 := Scalar.extui v350
  let c0_i32_202 : BitVec 32 := 0#32
  let v352 : BitVec 1 := Scalar.cmpi .ne v351 c0_i32_202
  v352

def k0_off86 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk86 (i : grid0.Coords) (v349 : BitVec 32) (v521 : BitVec 32) : Prop :=
  (∀ (k0_h1 : k0_cond1 i = 1#1), ∀ (k0_h87 : k0_cond87 v349 = 1#1), 8 ∣ (k0_mult86 v521).toNat) ∧
  (∀ (k0_h1 : k0_cond1 i = 1#1), ∀ (k0_h87 : k0_cond87 v349 = 1#1), ∀ a, (k0_off86 v521) a + S256x2048.size a ≤ S40960x2048.size a)
theorem k0_mult86_dvd : ∀ (i : grid0.Coords) (v349 : BitVec 32) (v521 : BitVec 32) (k0_hw86 : k0_chk86 i v349 v521), ∀ (k0_h1 : k0_cond1 i = 1#1), ∀ (k0_h87 : k0_cond87 v349 = 1#1), 8 ∣ (k0_mult86 v521).toNat := fun i v349 v521 k0_hw86 k0_h1 k0_h87 => k0_hw86.1 k0_h1 k0_h87
theorem k0_off86_inb : ∀ (i : grid0.Coords) (v349 : BitVec 32) (v521 : BitVec 32) (k0_hw86 : k0_chk86 i v349 v521), ∀ (k0_h1 : k0_cond1 i = 1#1), ∀ (k0_h87 : k0_cond87 v349 = 1#1), ∀ a, (k0_off86 v521) a + S256x2048.size a ≤ S40960x2048.size a := fun i v349 v521 k0_hw86 k0_h1 k0_h87 => k0_hw86.2 k0_h1 k0_h87

def k0_mult87 (v521 : BitVec 32) : BitVec 32 :=
  let c0_i32_330 : BitVec 32 := 0#32
  let v522 : BitVec 32 := Scalar.maxsi v521 c0_i32_330
  v522
def k0_cond88 (v353 : BitVec 32) : BitVec 1 :=
  let c0_i32_204 : BitVec 32 := 0#32
  let v354 : BitVec 1 := Scalar.cmpi .sge v353 c0_i32_204
  let v355 : BitVec 32 := Scalar.extui v354
  let c0_i32_205 : BitVec 32 := 0#32
  let v356 : BitVec 1 := Scalar.cmpi .ne v355 c0_i32_205
  v356

def k0_off87 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk87 (i : grid0.Coords) (v353 : BitVec 32) (v521 : BitVec 32) : Prop :=
  (∀ (k0_h1 : k0_cond1 i = 1#1), ∀ (k0_h88 : k0_cond88 v353 = 1#1), 8 ∣ (k0_mult87 v521).toNat) ∧
  (∀ (k0_h1 : k0_cond1 i = 1#1), ∀ (k0_h88 : k0_cond88 v353 = 1#1), ∀ a, (k0_off87 v521) a + S256x2048.size a ≤ S40960x2048.size a)
theorem k0_mult87_dvd : ∀ (i : grid0.Coords) (v353 : BitVec 32) (v521 : BitVec 32) (k0_hw87 : k0_chk87 i v353 v521), ∀ (k0_h1 : k0_cond1 i = 1#1), ∀ (k0_h88 : k0_cond88 v353 = 1#1), 8 ∣ (k0_mult87 v521).toNat := fun i v353 v521 k0_hw87 k0_h1 k0_h88 => k0_hw87.1 k0_h1 k0_h88
theorem k0_off87_inb : ∀ (i : grid0.Coords) (v353 : BitVec 32) (v521 : BitVec 32) (k0_hw87 : k0_chk87 i v353 v521), ∀ (k0_h1 : k0_cond1 i = 1#1), ∀ (k0_h88 : k0_cond88 v353 = 1#1), ∀ a, (k0_off87 v521) a + S256x2048.size a ≤ S40960x2048.size a := fun i v353 v521 k0_hw87 k0_h1 k0_h88 => k0_hw87.2 k0_h1 k0_h88

def k0_mult88 (v521 : BitVec 32) : BitVec 32 :=
  let c0_i32_330 : BitVec 32 := 0#32
  let v522 : BitVec 32 := Scalar.maxsi v521 c0_i32_330
  v522
def k0_cond89 (v357 : BitVec 32) : BitVec 1 :=
  let c0_i32_207 : BitVec 32 := 0#32
  let v358 : BitVec 1 := Scalar.cmpi .sge v357 c0_i32_207
  let v359 : BitVec 32 := Scalar.extui v358
  let c0_i32_208 : BitVec 32 := 0#32
  let v360 : BitVec 1 := Scalar.cmpi .ne v359 c0_i32_208
  v360

def k0_off88 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk88 (i : grid0.Coords) (v357 : BitVec 32) (v521 : BitVec 32) : Prop :=
  (∀ (k0_h1 : k0_cond1 i = 1#1), ∀ (k0_h89 : k0_cond89 v357 = 1#1), 8 ∣ (k0_mult88 v521).toNat) ∧
  (∀ (k0_h1 : k0_cond1 i = 1#1), ∀ (k0_h89 : k0_cond89 v357 = 1#1), ∀ a, (k0_off88 v521) a + S256x2048.size a ≤ S40960x2048.size a)
theorem k0_mult88_dvd : ∀ (i : grid0.Coords) (v357 : BitVec 32) (v521 : BitVec 32) (k0_hw88 : k0_chk88 i v357 v521), ∀ (k0_h1 : k0_cond1 i = 1#1), ∀ (k0_h89 : k0_cond89 v357 = 1#1), 8 ∣ (k0_mult88 v521).toNat := fun i v357 v521 k0_hw88 k0_h1 k0_h89 => k0_hw88.1 k0_h1 k0_h89
theorem k0_off88_inb : ∀ (i : grid0.Coords) (v357 : BitVec 32) (v521 : BitVec 32) (k0_hw88 : k0_chk88 i v357 v521), ∀ (k0_h1 : k0_cond1 i = 1#1), ∀ (k0_h89 : k0_cond89 v357 = 1#1), ∀ a, (k0_off88 v521) a + S256x2048.size a ≤ S40960x2048.size a := fun i v357 v521 k0_hw88 k0_h1 k0_h89 => k0_hw88.2 k0_h1 k0_h89

def k0_mult89 (v521 : BitVec 32) : BitVec 32 :=
  let c0_i32_330 : BitVec 32 := 0#32
  let v522 : BitVec 32 := Scalar.maxsi v521 c0_i32_330
  v522
def k0_cond90 (v361 : BitVec 32) : BitVec 1 :=
  let c0_i32_210 : BitVec 32 := 0#32
  let v362 : BitVec 1 := Scalar.cmpi .sge v361 c0_i32_210
  let v363 : BitVec 32 := Scalar.extui v362
  let c0_i32_211 : BitVec 32 := 0#32
  let v364 : BitVec 1 := Scalar.cmpi .ne v363 c0_i32_211
  v364

def k0_off89 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk89 (i : grid0.Coords) (v361 : BitVec 32) (v521 : BitVec 32) : Prop :=
  (∀ (k0_h1 : k0_cond1 i = 1#1), ∀ (k0_h90 : k0_cond90 v361 = 1#1), 8 ∣ (k0_mult89 v521).toNat) ∧
  (∀ (k0_h1 : k0_cond1 i = 1#1), ∀ (k0_h90 : k0_cond90 v361 = 1#1), ∀ a, (k0_off89 v521) a + S256x2048.size a ≤ S40960x2048.size a)
theorem k0_mult89_dvd : ∀ (i : grid0.Coords) (v361 : BitVec 32) (v521 : BitVec 32) (k0_hw89 : k0_chk89 i v361 v521), ∀ (k0_h1 : k0_cond1 i = 1#1), ∀ (k0_h90 : k0_cond90 v361 = 1#1), 8 ∣ (k0_mult89 v521).toNat := fun i v361 v521 k0_hw89 k0_h1 k0_h90 => k0_hw89.1 k0_h1 k0_h90
theorem k0_off89_inb : ∀ (i : grid0.Coords) (v361 : BitVec 32) (v521 : BitVec 32) (k0_hw89 : k0_chk89 i v361 v521), ∀ (k0_h1 : k0_cond1 i = 1#1), ∀ (k0_h90 : k0_cond90 v361 = 1#1), ∀ a, (k0_off89 v521) a + S256x2048.size a ≤ S40960x2048.size a := fun i v361 v521 k0_hw89 k0_h1 k0_h90 => k0_hw89.2 k0_h1 k0_h90

def k0_mult90 (v521 : BitVec 32) : BitVec 32 :=
  let c0_i32_330 : BitVec 32 := 0#32
  let v522 : BitVec 32 := Scalar.maxsi v521 c0_i32_330
  v522
def k0_cond91 (v365 : BitVec 32) : BitVec 1 :=
  let c0_i32_213 : BitVec 32 := 0#32
  let v366 : BitVec 1 := Scalar.cmpi .sge v365 c0_i32_213
  let v367 : BitVec 32 := Scalar.extui v366
  let c0_i32_214 : BitVec 32 := 0#32
  let v368 : BitVec 1 := Scalar.cmpi .ne v367 c0_i32_214
  v368

def k0_off90 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk90 (i : grid0.Coords) (v365 : BitVec 32) (v521 : BitVec 32) : Prop :=
  (∀ (k0_h1 : k0_cond1 i = 1#1), ∀ (k0_h91 : k0_cond91 v365 = 1#1), 8 ∣ (k0_mult90 v521).toNat) ∧
  (∀ (k0_h1 : k0_cond1 i = 1#1), ∀ (k0_h91 : k0_cond91 v365 = 1#1), ∀ a, (k0_off90 v521) a + S256x2048.size a ≤ S40960x2048.size a)
theorem k0_mult90_dvd : ∀ (i : grid0.Coords) (v365 : BitVec 32) (v521 : BitVec 32) (k0_hw90 : k0_chk90 i v365 v521), ∀ (k0_h1 : k0_cond1 i = 1#1), ∀ (k0_h91 : k0_cond91 v365 = 1#1), 8 ∣ (k0_mult90 v521).toNat := fun i v365 v521 k0_hw90 k0_h1 k0_h91 => k0_hw90.1 k0_h1 k0_h91
theorem k0_off90_inb : ∀ (i : grid0.Coords) (v365 : BitVec 32) (v521 : BitVec 32) (k0_hw90 : k0_chk90 i v365 v521), ∀ (k0_h1 : k0_cond1 i = 1#1), ∀ (k0_h91 : k0_cond91 v365 = 1#1), ∀ a, (k0_off90 v521) a + S256x2048.size a ≤ S40960x2048.size a := fun i v365 v521 k0_hw90 k0_h1 k0_h91 => k0_hw90.2 k0_h1 k0_h91

def k0_mult91 (v521 : BitVec 32) : BitVec 32 :=
  let c0_i32_330 : BitVec 32 := 0#32
  let v522 : BitVec 32 := Scalar.maxsi v521 c0_i32_330
  v522
def k0_cond92 (v369 : BitVec 32) : BitVec 1 :=
  let c0_i32_216 : BitVec 32 := 0#32
  let v370 : BitVec 1 := Scalar.cmpi .sge v369 c0_i32_216
  let v371 : BitVec 32 := Scalar.extui v370
  let c0_i32_217 : BitVec 32 := 0#32
  let v372 : BitVec 1 := Scalar.cmpi .ne v371 c0_i32_217
  v372

def k0_off91 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk91 (i : grid0.Coords) (v369 : BitVec 32) (v521 : BitVec 32) : Prop :=
  (∀ (k0_h1 : k0_cond1 i = 1#1), ∀ (k0_h92 : k0_cond92 v369 = 1#1), 8 ∣ (k0_mult91 v521).toNat) ∧
  (∀ (k0_h1 : k0_cond1 i = 1#1), ∀ (k0_h92 : k0_cond92 v369 = 1#1), ∀ a, (k0_off91 v521) a + S256x2048.size a ≤ S40960x2048.size a)
theorem k0_mult91_dvd : ∀ (i : grid0.Coords) (v369 : BitVec 32) (v521 : BitVec 32) (k0_hw91 : k0_chk91 i v369 v521), ∀ (k0_h1 : k0_cond1 i = 1#1), ∀ (k0_h92 : k0_cond92 v369 = 1#1), 8 ∣ (k0_mult91 v521).toNat := fun i v369 v521 k0_hw91 k0_h1 k0_h92 => k0_hw91.1 k0_h1 k0_h92
theorem k0_off91_inb : ∀ (i : grid0.Coords) (v369 : BitVec 32) (v521 : BitVec 32) (k0_hw91 : k0_chk91 i v369 v521), ∀ (k0_h1 : k0_cond1 i = 1#1), ∀ (k0_h92 : k0_cond92 v369 = 1#1), ∀ a, (k0_off91 v521) a + S256x2048.size a ≤ S40960x2048.size a := fun i v369 v521 k0_hw91 k0_h1 k0_h92 => k0_hw91.2 k0_h1 k0_h92

def k0_mult92 (v521 : BitVec 32) : BitVec 32 :=
  let c0_i32_330 : BitVec 32 := 0#32
  let v522 : BitVec 32 := Scalar.maxsi v521 c0_i32_330
  v522
def k0_cond93 (v373 : BitVec 32) : BitVec 1 :=
  let c0_i32_219 : BitVec 32 := 0#32
  let v374 : BitVec 1 := Scalar.cmpi .sge v373 c0_i32_219
  let v375 : BitVec 32 := Scalar.extui v374
  let c0_i32_220 : BitVec 32 := 0#32
  let v376 : BitVec 1 := Scalar.cmpi .ne v375 c0_i32_220
  v376

def k0_off92 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk92 (i : grid0.Coords) (v373 : BitVec 32) (v521 : BitVec 32) : Prop :=
  (∀ (k0_h1 : k0_cond1 i = 1#1), ∀ (k0_h93 : k0_cond93 v373 = 1#1), 8 ∣ (k0_mult92 v521).toNat) ∧
  (∀ (k0_h1 : k0_cond1 i = 1#1), ∀ (k0_h93 : k0_cond93 v373 = 1#1), ∀ a, (k0_off92 v521) a + S256x2048.size a ≤ S40960x2048.size a)
theorem k0_mult92_dvd : ∀ (i : grid0.Coords) (v373 : BitVec 32) (v521 : BitVec 32) (k0_hw92 : k0_chk92 i v373 v521), ∀ (k0_h1 : k0_cond1 i = 1#1), ∀ (k0_h93 : k0_cond93 v373 = 1#1), 8 ∣ (k0_mult92 v521).toNat := fun i v373 v521 k0_hw92 k0_h1 k0_h93 => k0_hw92.1 k0_h1 k0_h93
theorem k0_off92_inb : ∀ (i : grid0.Coords) (v373 : BitVec 32) (v521 : BitVec 32) (k0_hw92 : k0_chk92 i v373 v521), ∀ (k0_h1 : k0_cond1 i = 1#1), ∀ (k0_h93 : k0_cond93 v373 = 1#1), ∀ a, (k0_off92 v521) a + S256x2048.size a ≤ S40960x2048.size a := fun i v373 v521 k0_hw92 k0_h1 k0_h93 => k0_hw92.2 k0_h1 k0_h93

def k0_mult93 (v521 : BitVec 32) : BitVec 32 :=
  let c0_i32_330 : BitVec 32 := 0#32
  let v522 : BitVec 32 := Scalar.maxsi v521 c0_i32_330
  v522
def k0_cond94 (v377 : BitVec 32) : BitVec 1 :=
  let c0_i32_222 : BitVec 32 := 0#32
  let v378 : BitVec 1 := Scalar.cmpi .sge v377 c0_i32_222
  let v379 : BitVec 32 := Scalar.extui v378
  let c0_i32_223 : BitVec 32 := 0#32
  let v380 : BitVec 1 := Scalar.cmpi .ne v379 c0_i32_223
  v380

def k0_off93 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk93 (i : grid0.Coords) (v377 : BitVec 32) (v521 : BitVec 32) : Prop :=
  (∀ (k0_h1 : k0_cond1 i = 1#1), ∀ (k0_h94 : k0_cond94 v377 = 1#1), 8 ∣ (k0_mult93 v521).toNat) ∧
  (∀ (k0_h1 : k0_cond1 i = 1#1), ∀ (k0_h94 : k0_cond94 v377 = 1#1), ∀ a, (k0_off93 v521) a + S256x2048.size a ≤ S40960x2048.size a)
theorem k0_mult93_dvd : ∀ (i : grid0.Coords) (v377 : BitVec 32) (v521 : BitVec 32) (k0_hw93 : k0_chk93 i v377 v521), ∀ (k0_h1 : k0_cond1 i = 1#1), ∀ (k0_h94 : k0_cond94 v377 = 1#1), 8 ∣ (k0_mult93 v521).toNat := fun i v377 v521 k0_hw93 k0_h1 k0_h94 => k0_hw93.1 k0_h1 k0_h94
theorem k0_off93_inb : ∀ (i : grid0.Coords) (v377 : BitVec 32) (v521 : BitVec 32) (k0_hw93 : k0_chk93 i v377 v521), ∀ (k0_h1 : k0_cond1 i = 1#1), ∀ (k0_h94 : k0_cond94 v377 = 1#1), ∀ a, (k0_off93 v521) a + S256x2048.size a ≤ S40960x2048.size a := fun i v377 v521 k0_hw93 k0_h1 k0_h94 => k0_hw93.2 k0_h1 k0_h94

def k0_mult94 (v521 : BitVec 32) : BitVec 32 :=
  let c0_i32_330 : BitVec 32 := 0#32
  let v522 : BitVec 32 := Scalar.maxsi v521 c0_i32_330
  v522
def k0_cond95 (v381 : BitVec 32) : BitVec 1 :=
  let c0_i32_225 : BitVec 32 := 0#32
  let v382 : BitVec 1 := Scalar.cmpi .sge v381 c0_i32_225
  let v383 : BitVec 32 := Scalar.extui v382
  let c0_i32_226 : BitVec 32 := 0#32
  let v384 : BitVec 1 := Scalar.cmpi .ne v383 c0_i32_226
  v384

def k0_off94 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk94 (i : grid0.Coords) (v381 : BitVec 32) (v521 : BitVec 32) : Prop :=
  (∀ (k0_h1 : k0_cond1 i = 1#1), ∀ (k0_h95 : k0_cond95 v381 = 1#1), 8 ∣ (k0_mult94 v521).toNat) ∧
  (∀ (k0_h1 : k0_cond1 i = 1#1), ∀ (k0_h95 : k0_cond95 v381 = 1#1), ∀ a, (k0_off94 v521) a + S256x2048.size a ≤ S40960x2048.size a)
theorem k0_mult94_dvd : ∀ (i : grid0.Coords) (v381 : BitVec 32) (v521 : BitVec 32) (k0_hw94 : k0_chk94 i v381 v521), ∀ (k0_h1 : k0_cond1 i = 1#1), ∀ (k0_h95 : k0_cond95 v381 = 1#1), 8 ∣ (k0_mult94 v521).toNat := fun i v381 v521 k0_hw94 k0_h1 k0_h95 => k0_hw94.1 k0_h1 k0_h95
theorem k0_off94_inb : ∀ (i : grid0.Coords) (v381 : BitVec 32) (v521 : BitVec 32) (k0_hw94 : k0_chk94 i v381 v521), ∀ (k0_h1 : k0_cond1 i = 1#1), ∀ (k0_h95 : k0_cond95 v381 = 1#1), ∀ a, (k0_off94 v521) a + S256x2048.size a ≤ S40960x2048.size a := fun i v381 v521 k0_hw94 k0_h1 k0_h95 => k0_hw94.2 k0_h1 k0_h95

def k0_mult95 (v521 : BitVec 32) : BitVec 32 :=
  let c0_i32_330 : BitVec 32 := 0#32
  let v522 : BitVec 32 := Scalar.maxsi v521 c0_i32_330
  v522
def k0_cond96 (v385 : BitVec 32) : BitVec 1 :=
  let c0_i32_228 : BitVec 32 := 0#32
  let v386 : BitVec 1 := Scalar.cmpi .sge v385 c0_i32_228
  let v387 : BitVec 32 := Scalar.extui v386
  let c0_i32_229 : BitVec 32 := 0#32
  let v388 : BitVec 1 := Scalar.cmpi .ne v387 c0_i32_229
  v388

def k0_off95 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk95 (i : grid0.Coords) (v385 : BitVec 32) (v521 : BitVec 32) : Prop :=
  (∀ (k0_h1 : k0_cond1 i = 1#1), ∀ (k0_h96 : k0_cond96 v385 = 1#1), 8 ∣ (k0_mult95 v521).toNat) ∧
  (∀ (k0_h1 : k0_cond1 i = 1#1), ∀ (k0_h96 : k0_cond96 v385 = 1#1), ∀ a, (k0_off95 v521) a + S256x2048.size a ≤ S40960x2048.size a)
theorem k0_mult95_dvd : ∀ (i : grid0.Coords) (v385 : BitVec 32) (v521 : BitVec 32) (k0_hw95 : k0_chk95 i v385 v521), ∀ (k0_h1 : k0_cond1 i = 1#1), ∀ (k0_h96 : k0_cond96 v385 = 1#1), 8 ∣ (k0_mult95 v521).toNat := fun i v385 v521 k0_hw95 k0_h1 k0_h96 => k0_hw95.1 k0_h1 k0_h96
theorem k0_off95_inb : ∀ (i : grid0.Coords) (v385 : BitVec 32) (v521 : BitVec 32) (k0_hw95 : k0_chk95 i v385 v521), ∀ (k0_h1 : k0_cond1 i = 1#1), ∀ (k0_h96 : k0_cond96 v385 = 1#1), ∀ a, (k0_off95 v521) a + S256x2048.size a ≤ S40960x2048.size a := fun i v385 v521 k0_hw95 k0_h1 k0_h96 => k0_hw95.2 k0_h1 k0_h96

def k0_mult96 (v521 : BitVec 32) : BitVec 32 :=
  let c0_i32_330 : BitVec 32 := 0#32
  let v522 : BitVec 32 := Scalar.maxsi v521 c0_i32_330
  v522
def k0_cond97 (v389 : BitVec 32) : BitVec 1 :=
  let c0_i32_231 : BitVec 32 := 0#32
  let v390 : BitVec 1 := Scalar.cmpi .sge v389 c0_i32_231
  let v391 : BitVec 32 := Scalar.extui v390
  let c0_i32_232 : BitVec 32 := 0#32
  let v392 : BitVec 1 := Scalar.cmpi .ne v391 c0_i32_232
  v392

def k0_off96 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk96 (i : grid0.Coords) (v389 : BitVec 32) (v521 : BitVec 32) : Prop :=
  (∀ (k0_h1 : k0_cond1 i = 1#1), ∀ (k0_h97 : k0_cond97 v389 = 1#1), 8 ∣ (k0_mult96 v521).toNat) ∧
  (∀ (k0_h1 : k0_cond1 i = 1#1), ∀ (k0_h97 : k0_cond97 v389 = 1#1), ∀ a, (k0_off96 v521) a + S256x2048.size a ≤ S40960x2048.size a)
theorem k0_mult96_dvd : ∀ (i : grid0.Coords) (v389 : BitVec 32) (v521 : BitVec 32) (k0_hw96 : k0_chk96 i v389 v521), ∀ (k0_h1 : k0_cond1 i = 1#1), ∀ (k0_h97 : k0_cond97 v389 = 1#1), 8 ∣ (k0_mult96 v521).toNat := fun i v389 v521 k0_hw96 k0_h1 k0_h97 => k0_hw96.1 k0_h1 k0_h97
theorem k0_off96_inb : ∀ (i : grid0.Coords) (v389 : BitVec 32) (v521 : BitVec 32) (k0_hw96 : k0_chk96 i v389 v521), ∀ (k0_h1 : k0_cond1 i = 1#1), ∀ (k0_h97 : k0_cond97 v389 = 1#1), ∀ a, (k0_off96 v521) a + S256x2048.size a ≤ S40960x2048.size a := fun i v389 v521 k0_hw96 k0_h1 k0_h97 => k0_hw96.2 k0_h1 k0_h97

def k0_mult97 (v521 : BitVec 32) : BitVec 32 :=
  let c0_i32_330 : BitVec 32 := 0#32
  let v522 : BitVec 32 := Scalar.maxsi v521 c0_i32_330
  v522
def k0_cond98 (v393 : BitVec 32) : BitVec 1 :=
  let c0_i32_234 : BitVec 32 := 0#32
  let v394 : BitVec 1 := Scalar.cmpi .sge v393 c0_i32_234
  let v395 : BitVec 32 := Scalar.extui v394
  let c0_i32_235 : BitVec 32 := 0#32
  let v396 : BitVec 1 := Scalar.cmpi .ne v395 c0_i32_235
  v396

def k0_off97 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk97 (i : grid0.Coords) (v393 : BitVec 32) (v521 : BitVec 32) : Prop :=
  (∀ (k0_h1 : k0_cond1 i = 1#1), ∀ (k0_h98 : k0_cond98 v393 = 1#1), 8 ∣ (k0_mult97 v521).toNat) ∧
  (∀ (k0_h1 : k0_cond1 i = 1#1), ∀ (k0_h98 : k0_cond98 v393 = 1#1), ∀ a, (k0_off97 v521) a + S256x2048.size a ≤ S40960x2048.size a)
theorem k0_mult97_dvd : ∀ (i : grid0.Coords) (v393 : BitVec 32) (v521 : BitVec 32) (k0_hw97 : k0_chk97 i v393 v521), ∀ (k0_h1 : k0_cond1 i = 1#1), ∀ (k0_h98 : k0_cond98 v393 = 1#1), 8 ∣ (k0_mult97 v521).toNat := fun i v393 v521 k0_hw97 k0_h1 k0_h98 => k0_hw97.1 k0_h1 k0_h98
theorem k0_off97_inb : ∀ (i : grid0.Coords) (v393 : BitVec 32) (v521 : BitVec 32) (k0_hw97 : k0_chk97 i v393 v521), ∀ (k0_h1 : k0_cond1 i = 1#1), ∀ (k0_h98 : k0_cond98 v393 = 1#1), ∀ a, (k0_off97 v521) a + S256x2048.size a ≤ S40960x2048.size a := fun i v393 v521 k0_hw97 k0_h1 k0_h98 => k0_hw97.2 k0_h1 k0_h98

def k0_mult98 (v521 : BitVec 32) : BitVec 32 :=
  let c0_i32_330 : BitVec 32 := 0#32
  let v522 : BitVec 32 := Scalar.maxsi v521 c0_i32_330
  v522
def k0_cond99 (v397 : BitVec 32) : BitVec 1 :=
  let c0_i32_237 : BitVec 32 := 0#32
  let v398 : BitVec 1 := Scalar.cmpi .sge v397 c0_i32_237
  let v399 : BitVec 32 := Scalar.extui v398
  let c0_i32_238 : BitVec 32 := 0#32
  let v400 : BitVec 1 := Scalar.cmpi .ne v399 c0_i32_238
  v400

def k0_off98 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk98 (i : grid0.Coords) (v397 : BitVec 32) (v521 : BitVec 32) : Prop :=
  (∀ (k0_h1 : k0_cond1 i = 1#1), ∀ (k0_h99 : k0_cond99 v397 = 1#1), 8 ∣ (k0_mult98 v521).toNat) ∧
  (∀ (k0_h1 : k0_cond1 i = 1#1), ∀ (k0_h99 : k0_cond99 v397 = 1#1), ∀ a, (k0_off98 v521) a + S256x2048.size a ≤ S40960x2048.size a)
theorem k0_mult98_dvd : ∀ (i : grid0.Coords) (v397 : BitVec 32) (v521 : BitVec 32) (k0_hw98 : k0_chk98 i v397 v521), ∀ (k0_h1 : k0_cond1 i = 1#1), ∀ (k0_h99 : k0_cond99 v397 = 1#1), 8 ∣ (k0_mult98 v521).toNat := fun i v397 v521 k0_hw98 k0_h1 k0_h99 => k0_hw98.1 k0_h1 k0_h99
theorem k0_off98_inb : ∀ (i : grid0.Coords) (v397 : BitVec 32) (v521 : BitVec 32) (k0_hw98 : k0_chk98 i v397 v521), ∀ (k0_h1 : k0_cond1 i = 1#1), ∀ (k0_h99 : k0_cond99 v397 = 1#1), ∀ a, (k0_off98 v521) a + S256x2048.size a ≤ S40960x2048.size a := fun i v397 v521 k0_hw98 k0_h1 k0_h99 => k0_hw98.2 k0_h1 k0_h99

def k0_mult99 (v521 : BitVec 32) : BitVec 32 :=
  let c0_i32_330 : BitVec 32 := 0#32
  let v522 : BitVec 32 := Scalar.maxsi v521 c0_i32_330
  v522
def k0_cond100 (v401 : BitVec 32) : BitVec 1 :=
  let c0_i32_240 : BitVec 32 := 0#32
  let v402 : BitVec 1 := Scalar.cmpi .sge v401 c0_i32_240
  let v403 : BitVec 32 := Scalar.extui v402
  let c0_i32_241 : BitVec 32 := 0#32
  let v404 : BitVec 1 := Scalar.cmpi .ne v403 c0_i32_241
  v404

def k0_off99 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk99 (i : grid0.Coords) (v401 : BitVec 32) (v521 : BitVec 32) : Prop :=
  (∀ (k0_h1 : k0_cond1 i = 1#1), ∀ (k0_h100 : k0_cond100 v401 = 1#1), 8 ∣ (k0_mult99 v521).toNat) ∧
  (∀ (k0_h1 : k0_cond1 i = 1#1), ∀ (k0_h100 : k0_cond100 v401 = 1#1), ∀ a, (k0_off99 v521) a + S256x2048.size a ≤ S40960x2048.size a)
theorem k0_mult99_dvd : ∀ (i : grid0.Coords) (v401 : BitVec 32) (v521 : BitVec 32) (k0_hw99 : k0_chk99 i v401 v521), ∀ (k0_h1 : k0_cond1 i = 1#1), ∀ (k0_h100 : k0_cond100 v401 = 1#1), 8 ∣ (k0_mult99 v521).toNat := fun i v401 v521 k0_hw99 k0_h1 k0_h100 => k0_hw99.1 k0_h1 k0_h100
theorem k0_off99_inb : ∀ (i : grid0.Coords) (v401 : BitVec 32) (v521 : BitVec 32) (k0_hw99 : k0_chk99 i v401 v521), ∀ (k0_h1 : k0_cond1 i = 1#1), ∀ (k0_h100 : k0_cond100 v401 = 1#1), ∀ a, (k0_off99 v521) a + S256x2048.size a ≤ S40960x2048.size a := fun i v401 v521 k0_hw99 k0_h1 k0_h100 => k0_hw99.2 k0_h1 k0_h100

def k0_mult100 (v521 : BitVec 32) : BitVec 32 :=
  let c0_i32_330 : BitVec 32 := 0#32
  let v522 : BitVec 32 := Scalar.maxsi v521 c0_i32_330
  v522
def k0_cond101 (v405 : BitVec 32) : BitVec 1 :=
  let c0_i32_243 : BitVec 32 := 0#32
  let v406 : BitVec 1 := Scalar.cmpi .sge v405 c0_i32_243
  let v407 : BitVec 32 := Scalar.extui v406
  let c0_i32_244 : BitVec 32 := 0#32
  let v408 : BitVec 1 := Scalar.cmpi .ne v407 c0_i32_244
  v408

def k0_off100 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk100 (i : grid0.Coords) (v405 : BitVec 32) (v521 : BitVec 32) : Prop :=
  (∀ (k0_h1 : k0_cond1 i = 1#1), ∀ (k0_h101 : k0_cond101 v405 = 1#1), 8 ∣ (k0_mult100 v521).toNat) ∧
  (∀ (k0_h1 : k0_cond1 i = 1#1), ∀ (k0_h101 : k0_cond101 v405 = 1#1), ∀ a, (k0_off100 v521) a + S256x2048.size a ≤ S40960x2048.size a)
theorem k0_mult100_dvd : ∀ (i : grid0.Coords) (v405 : BitVec 32) (v521 : BitVec 32) (k0_hw100 : k0_chk100 i v405 v521), ∀ (k0_h1 : k0_cond1 i = 1#1), ∀ (k0_h101 : k0_cond101 v405 = 1#1), 8 ∣ (k0_mult100 v521).toNat := fun i v405 v521 k0_hw100 k0_h1 k0_h101 => k0_hw100.1 k0_h1 k0_h101
theorem k0_off100_inb : ∀ (i : grid0.Coords) (v405 : BitVec 32) (v521 : BitVec 32) (k0_hw100 : k0_chk100 i v405 v521), ∀ (k0_h1 : k0_cond1 i = 1#1), ∀ (k0_h101 : k0_cond101 v405 = 1#1), ∀ a, (k0_off100 v521) a + S256x2048.size a ≤ S40960x2048.size a := fun i v405 v521 k0_hw100 k0_h1 k0_h101 => k0_hw100.2 k0_h1 k0_h101

def k0_mult101 (v521 : BitVec 32) : BitVec 32 :=
  let c0_i32_330 : BitVec 32 := 0#32
  let v522 : BitVec 32 := Scalar.maxsi v521 c0_i32_330
  v522
def k0_cond102 (v409 : BitVec 32) : BitVec 1 :=
  let c0_i32_246 : BitVec 32 := 0#32
  let v410 : BitVec 1 := Scalar.cmpi .sge v409 c0_i32_246
  let v411 : BitVec 32 := Scalar.extui v410
  let c0_i32_247 : BitVec 32 := 0#32
  let v412 : BitVec 1 := Scalar.cmpi .ne v411 c0_i32_247
  v412

def k0_off101 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk101 (i : grid0.Coords) (v409 : BitVec 32) (v521 : BitVec 32) : Prop :=
  (∀ (k0_h1 : k0_cond1 i = 1#1), ∀ (k0_h102 : k0_cond102 v409 = 1#1), 8 ∣ (k0_mult101 v521).toNat) ∧
  (∀ (k0_h1 : k0_cond1 i = 1#1), ∀ (k0_h102 : k0_cond102 v409 = 1#1), ∀ a, (k0_off101 v521) a + S256x2048.size a ≤ S40960x2048.size a)
theorem k0_mult101_dvd : ∀ (i : grid0.Coords) (v409 : BitVec 32) (v521 : BitVec 32) (k0_hw101 : k0_chk101 i v409 v521), ∀ (k0_h1 : k0_cond1 i = 1#1), ∀ (k0_h102 : k0_cond102 v409 = 1#1), 8 ∣ (k0_mult101 v521).toNat := fun i v409 v521 k0_hw101 k0_h1 k0_h102 => k0_hw101.1 k0_h1 k0_h102
theorem k0_off101_inb : ∀ (i : grid0.Coords) (v409 : BitVec 32) (v521 : BitVec 32) (k0_hw101 : k0_chk101 i v409 v521), ∀ (k0_h1 : k0_cond1 i = 1#1), ∀ (k0_h102 : k0_cond102 v409 = 1#1), ∀ a, (k0_off101 v521) a + S256x2048.size a ≤ S40960x2048.size a := fun i v409 v521 k0_hw101 k0_h1 k0_h102 => k0_hw101.2 k0_h1 k0_h102

def k0_mult102 (v521 : BitVec 32) : BitVec 32 :=
  let c0_i32_330 : BitVec 32 := 0#32
  let v522 : BitVec 32 := Scalar.maxsi v521 c0_i32_330
  v522
def k0_cond103 (v413 : BitVec 32) : BitVec 1 :=
  let c0_i32_249 : BitVec 32 := 0#32
  let v414 : BitVec 1 := Scalar.cmpi .sge v413 c0_i32_249
  let v415 : BitVec 32 := Scalar.extui v414
  let c0_i32_250 : BitVec 32 := 0#32
  let v416 : BitVec 1 := Scalar.cmpi .ne v415 c0_i32_250
  v416

def k0_off102 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk102 (i : grid0.Coords) (v413 : BitVec 32) (v521 : BitVec 32) : Prop :=
  (∀ (k0_h1 : k0_cond1 i = 1#1), ∀ (k0_h103 : k0_cond103 v413 = 1#1), 8 ∣ (k0_mult102 v521).toNat) ∧
  (∀ (k0_h1 : k0_cond1 i = 1#1), ∀ (k0_h103 : k0_cond103 v413 = 1#1), ∀ a, (k0_off102 v521) a + S256x2048.size a ≤ S40960x2048.size a)
theorem k0_mult102_dvd : ∀ (i : grid0.Coords) (v413 : BitVec 32) (v521 : BitVec 32) (k0_hw102 : k0_chk102 i v413 v521), ∀ (k0_h1 : k0_cond1 i = 1#1), ∀ (k0_h103 : k0_cond103 v413 = 1#1), 8 ∣ (k0_mult102 v521).toNat := fun i v413 v521 k0_hw102 k0_h1 k0_h103 => k0_hw102.1 k0_h1 k0_h103
theorem k0_off102_inb : ∀ (i : grid0.Coords) (v413 : BitVec 32) (v521 : BitVec 32) (k0_hw102 : k0_chk102 i v413 v521), ∀ (k0_h1 : k0_cond1 i = 1#1), ∀ (k0_h103 : k0_cond103 v413 = 1#1), ∀ a, (k0_off102 v521) a + S256x2048.size a ≤ S40960x2048.size a := fun i v413 v521 k0_hw102 k0_h1 k0_h103 => k0_hw102.2 k0_h1 k0_h103

def k0_mult103 (v521 : BitVec 32) : BitVec 32 :=
  let c0_i32_330 : BitVec 32 := 0#32
  let v522 : BitVec 32 := Scalar.maxsi v521 c0_i32_330
  v522
def k0_cond104 (v417 : BitVec 32) : BitVec 1 :=
  let c0_i32_252 : BitVec 32 := 0#32
  let v418 : BitVec 1 := Scalar.cmpi .sge v417 c0_i32_252
  let v419 : BitVec 32 := Scalar.extui v418
  let c0_i32_253 : BitVec 32 := 0#32
  let v420 : BitVec 1 := Scalar.cmpi .ne v419 c0_i32_253
  v420

def k0_off103 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk103 (i : grid0.Coords) (v417 : BitVec 32) (v521 : BitVec 32) : Prop :=
  (∀ (k0_h1 : k0_cond1 i = 1#1), ∀ (k0_h104 : k0_cond104 v417 = 1#1), 8 ∣ (k0_mult103 v521).toNat) ∧
  (∀ (k0_h1 : k0_cond1 i = 1#1), ∀ (k0_h104 : k0_cond104 v417 = 1#1), ∀ a, (k0_off103 v521) a + S256x2048.size a ≤ S40960x2048.size a)
theorem k0_mult103_dvd : ∀ (i : grid0.Coords) (v417 : BitVec 32) (v521 : BitVec 32) (k0_hw103 : k0_chk103 i v417 v521), ∀ (k0_h1 : k0_cond1 i = 1#1), ∀ (k0_h104 : k0_cond104 v417 = 1#1), 8 ∣ (k0_mult103 v521).toNat := fun i v417 v521 k0_hw103 k0_h1 k0_h104 => k0_hw103.1 k0_h1 k0_h104
theorem k0_off103_inb : ∀ (i : grid0.Coords) (v417 : BitVec 32) (v521 : BitVec 32) (k0_hw103 : k0_chk103 i v417 v521), ∀ (k0_h1 : k0_cond1 i = 1#1), ∀ (k0_h104 : k0_cond104 v417 = 1#1), ∀ a, (k0_off103 v521) a + S256x2048.size a ≤ S40960x2048.size a := fun i v417 v521 k0_hw103 k0_h1 k0_h104 => k0_hw103.2 k0_h1 k0_h104

def k0_mult104 (v521 : BitVec 32) : BitVec 32 :=
  let c0_i32_330 : BitVec 32 := 0#32
  let v522 : BitVec 32 := Scalar.maxsi v521 c0_i32_330
  v522
def k0_cond105 (v421 : BitVec 32) : BitVec 1 :=
  let c0_i32_255 : BitVec 32 := 0#32
  let v422 : BitVec 1 := Scalar.cmpi .sge v421 c0_i32_255
  let v423 : BitVec 32 := Scalar.extui v422
  let c0_i32_256 : BitVec 32 := 0#32
  let v424 : BitVec 1 := Scalar.cmpi .ne v423 c0_i32_256
  v424

def k0_off104 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk104 (i : grid0.Coords) (v421 : BitVec 32) (v521 : BitVec 32) : Prop :=
  (∀ (k0_h1 : k0_cond1 i = 1#1), ∀ (k0_h105 : k0_cond105 v421 = 1#1), 8 ∣ (k0_mult104 v521).toNat) ∧
  (∀ (k0_h1 : k0_cond1 i = 1#1), ∀ (k0_h105 : k0_cond105 v421 = 1#1), ∀ a, (k0_off104 v521) a + S256x2048.size a ≤ S40960x2048.size a)
theorem k0_mult104_dvd : ∀ (i : grid0.Coords) (v421 : BitVec 32) (v521 : BitVec 32) (k0_hw104 : k0_chk104 i v421 v521), ∀ (k0_h1 : k0_cond1 i = 1#1), ∀ (k0_h105 : k0_cond105 v421 = 1#1), 8 ∣ (k0_mult104 v521).toNat := fun i v421 v521 k0_hw104 k0_h1 k0_h105 => k0_hw104.1 k0_h1 k0_h105
theorem k0_off104_inb : ∀ (i : grid0.Coords) (v421 : BitVec 32) (v521 : BitVec 32) (k0_hw104 : k0_chk104 i v421 v521), ∀ (k0_h1 : k0_cond1 i = 1#1), ∀ (k0_h105 : k0_cond105 v421 = 1#1), ∀ a, (k0_off104 v521) a + S256x2048.size a ≤ S40960x2048.size a := fun i v421 v521 k0_hw104 k0_h1 k0_h105 => k0_hw104.2 k0_h1 k0_h105

def k0_mult105 (v521 : BitVec 32) : BitVec 32 :=
  let c0_i32_330 : BitVec 32 := 0#32
  let v522 : BitVec 32 := Scalar.maxsi v521 c0_i32_330
  v522
def k0_cond106 (v425 : BitVec 32) : BitVec 1 :=
  let c0_i32_258 : BitVec 32 := 0#32
  let v426 : BitVec 1 := Scalar.cmpi .sge v425 c0_i32_258
  let v427 : BitVec 32 := Scalar.extui v426
  let c0_i32_259 : BitVec 32 := 0#32
  let v428 : BitVec 1 := Scalar.cmpi .ne v427 c0_i32_259
  v428

def k0_off105 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk105 (i : grid0.Coords) (v425 : BitVec 32) (v521 : BitVec 32) : Prop :=
  (∀ (k0_h1 : k0_cond1 i = 1#1), ∀ (k0_h106 : k0_cond106 v425 = 1#1), 8 ∣ (k0_mult105 v521).toNat) ∧
  (∀ (k0_h1 : k0_cond1 i = 1#1), ∀ (k0_h106 : k0_cond106 v425 = 1#1), ∀ a, (k0_off105 v521) a + S256x2048.size a ≤ S40960x2048.size a)
theorem k0_mult105_dvd : ∀ (i : grid0.Coords) (v425 : BitVec 32) (v521 : BitVec 32) (k0_hw105 : k0_chk105 i v425 v521), ∀ (k0_h1 : k0_cond1 i = 1#1), ∀ (k0_h106 : k0_cond106 v425 = 1#1), 8 ∣ (k0_mult105 v521).toNat := fun i v425 v521 k0_hw105 k0_h1 k0_h106 => k0_hw105.1 k0_h1 k0_h106
theorem k0_off105_inb : ∀ (i : grid0.Coords) (v425 : BitVec 32) (v521 : BitVec 32) (k0_hw105 : k0_chk105 i v425 v521), ∀ (k0_h1 : k0_cond1 i = 1#1), ∀ (k0_h106 : k0_cond106 v425 = 1#1), ∀ a, (k0_off105 v521) a + S256x2048.size a ≤ S40960x2048.size a := fun i v425 v521 k0_hw105 k0_h1 k0_h106 => k0_hw105.2 k0_h1 k0_h106

def k0_mult106 (v521 : BitVec 32) : BitVec 32 :=
  let c0_i32_330 : BitVec 32 := 0#32
  let v522 : BitVec 32 := Scalar.maxsi v521 c0_i32_330
  v522
def k0_cond107 (v429 : BitVec 32) : BitVec 1 :=
  let c0_i32_261 : BitVec 32 := 0#32
  let v430 : BitVec 1 := Scalar.cmpi .sge v429 c0_i32_261
  let v431 : BitVec 32 := Scalar.extui v430
  let c0_i32_262 : BitVec 32 := 0#32
  let v432 : BitVec 1 := Scalar.cmpi .ne v431 c0_i32_262
  v432

def k0_off106 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk106 (i : grid0.Coords) (v429 : BitVec 32) (v521 : BitVec 32) : Prop :=
  (∀ (k0_h1 : k0_cond1 i = 1#1), ∀ (k0_h107 : k0_cond107 v429 = 1#1), 8 ∣ (k0_mult106 v521).toNat) ∧
  (∀ (k0_h1 : k0_cond1 i = 1#1), ∀ (k0_h107 : k0_cond107 v429 = 1#1), ∀ a, (k0_off106 v521) a + S256x2048.size a ≤ S40960x2048.size a)
theorem k0_mult106_dvd : ∀ (i : grid0.Coords) (v429 : BitVec 32) (v521 : BitVec 32) (k0_hw106 : k0_chk106 i v429 v521), ∀ (k0_h1 : k0_cond1 i = 1#1), ∀ (k0_h107 : k0_cond107 v429 = 1#1), 8 ∣ (k0_mult106 v521).toNat := fun i v429 v521 k0_hw106 k0_h1 k0_h107 => k0_hw106.1 k0_h1 k0_h107
theorem k0_off106_inb : ∀ (i : grid0.Coords) (v429 : BitVec 32) (v521 : BitVec 32) (k0_hw106 : k0_chk106 i v429 v521), ∀ (k0_h1 : k0_cond1 i = 1#1), ∀ (k0_h107 : k0_cond107 v429 = 1#1), ∀ a, (k0_off106 v521) a + S256x2048.size a ≤ S40960x2048.size a := fun i v429 v521 k0_hw106 k0_h1 k0_h107 => k0_hw106.2 k0_h1 k0_h107

def k0_mult107 (v521 : BitVec 32) : BitVec 32 :=
  let c0_i32_330 : BitVec 32 := 0#32
  let v522 : BitVec 32 := Scalar.maxsi v521 c0_i32_330
  v522
def k0_cond108 (v433 : BitVec 32) : BitVec 1 :=
  let c0_i32_264 : BitVec 32 := 0#32
  let v434 : BitVec 1 := Scalar.cmpi .sge v433 c0_i32_264
  let v435 : BitVec 32 := Scalar.extui v434
  let c0_i32_265 : BitVec 32 := 0#32
  let v436 : BitVec 1 := Scalar.cmpi .ne v435 c0_i32_265
  v436

def k0_off107 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk107 (i : grid0.Coords) (v433 : BitVec 32) (v521 : BitVec 32) : Prop :=
  (∀ (k0_h1 : k0_cond1 i = 1#1), ∀ (k0_h108 : k0_cond108 v433 = 1#1), 8 ∣ (k0_mult107 v521).toNat) ∧
  (∀ (k0_h1 : k0_cond1 i = 1#1), ∀ (k0_h108 : k0_cond108 v433 = 1#1), ∀ a, (k0_off107 v521) a + S256x2048.size a ≤ S40960x2048.size a)
theorem k0_mult107_dvd : ∀ (i : grid0.Coords) (v433 : BitVec 32) (v521 : BitVec 32) (k0_hw107 : k0_chk107 i v433 v521), ∀ (k0_h1 : k0_cond1 i = 1#1), ∀ (k0_h108 : k0_cond108 v433 = 1#1), 8 ∣ (k0_mult107 v521).toNat := fun i v433 v521 k0_hw107 k0_h1 k0_h108 => k0_hw107.1 k0_h1 k0_h108
theorem k0_off107_inb : ∀ (i : grid0.Coords) (v433 : BitVec 32) (v521 : BitVec 32) (k0_hw107 : k0_chk107 i v433 v521), ∀ (k0_h1 : k0_cond1 i = 1#1), ∀ (k0_h108 : k0_cond108 v433 = 1#1), ∀ a, (k0_off107 v521) a + S256x2048.size a ≤ S40960x2048.size a := fun i v433 v521 k0_hw107 k0_h1 k0_h108 => k0_hw107.2 k0_h1 k0_h108

def k0_mult108 (v521 : BitVec 32) : BitVec 32 :=
  let c0_i32_330 : BitVec 32 := 0#32
  let v522 : BitVec 32 := Scalar.maxsi v521 c0_i32_330
  v522
def k0_cond109 (v437 : BitVec 32) : BitVec 1 :=
  let c0_i32_267 : BitVec 32 := 0#32
  let v438 : BitVec 1 := Scalar.cmpi .sge v437 c0_i32_267
  let v439 : BitVec 32 := Scalar.extui v438
  let c0_i32_268 : BitVec 32 := 0#32
  let v440 : BitVec 1 := Scalar.cmpi .ne v439 c0_i32_268
  v440

def k0_off108 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk108 (i : grid0.Coords) (v437 : BitVec 32) (v521 : BitVec 32) : Prop :=
  (∀ (k0_h1 : k0_cond1 i = 1#1), ∀ (k0_h109 : k0_cond109 v437 = 1#1), 8 ∣ (k0_mult108 v521).toNat) ∧
  (∀ (k0_h1 : k0_cond1 i = 1#1), ∀ (k0_h109 : k0_cond109 v437 = 1#1), ∀ a, (k0_off108 v521) a + S256x2048.size a ≤ S40960x2048.size a)
theorem k0_mult108_dvd : ∀ (i : grid0.Coords) (v437 : BitVec 32) (v521 : BitVec 32) (k0_hw108 : k0_chk108 i v437 v521), ∀ (k0_h1 : k0_cond1 i = 1#1), ∀ (k0_h109 : k0_cond109 v437 = 1#1), 8 ∣ (k0_mult108 v521).toNat := fun i v437 v521 k0_hw108 k0_h1 k0_h109 => k0_hw108.1 k0_h1 k0_h109
theorem k0_off108_inb : ∀ (i : grid0.Coords) (v437 : BitVec 32) (v521 : BitVec 32) (k0_hw108 : k0_chk108 i v437 v521), ∀ (k0_h1 : k0_cond1 i = 1#1), ∀ (k0_h109 : k0_cond109 v437 = 1#1), ∀ a, (k0_off108 v521) a + S256x2048.size a ≤ S40960x2048.size a := fun i v437 v521 k0_hw108 k0_h1 k0_h109 => k0_hw108.2 k0_h1 k0_h109

def k0_mult109 (v521 : BitVec 32) : BitVec 32 :=
  let c0_i32_330 : BitVec 32 := 0#32
  let v522 : BitVec 32 := Scalar.maxsi v521 c0_i32_330
  v522
def k0_cond110 (v441 : BitVec 32) : BitVec 1 :=
  let c0_i32_270 : BitVec 32 := 0#32
  let v442 : BitVec 1 := Scalar.cmpi .sge v441 c0_i32_270
  let v443 : BitVec 32 := Scalar.extui v442
  let c0_i32_271 : BitVec 32 := 0#32
  let v444 : BitVec 1 := Scalar.cmpi .ne v443 c0_i32_271
  v444

def k0_off109 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk109 (i : grid0.Coords) (v441 : BitVec 32) (v521 : BitVec 32) : Prop :=
  (∀ (k0_h1 : k0_cond1 i = 1#1), ∀ (k0_h110 : k0_cond110 v441 = 1#1), 8 ∣ (k0_mult109 v521).toNat) ∧
  (∀ (k0_h1 : k0_cond1 i = 1#1), ∀ (k0_h110 : k0_cond110 v441 = 1#1), ∀ a, (k0_off109 v521) a + S256x2048.size a ≤ S40960x2048.size a)
theorem k0_mult109_dvd : ∀ (i : grid0.Coords) (v441 : BitVec 32) (v521 : BitVec 32) (k0_hw109 : k0_chk109 i v441 v521), ∀ (k0_h1 : k0_cond1 i = 1#1), ∀ (k0_h110 : k0_cond110 v441 = 1#1), 8 ∣ (k0_mult109 v521).toNat := fun i v441 v521 k0_hw109 k0_h1 k0_h110 => k0_hw109.1 k0_h1 k0_h110
theorem k0_off109_inb : ∀ (i : grid0.Coords) (v441 : BitVec 32) (v521 : BitVec 32) (k0_hw109 : k0_chk109 i v441 v521), ∀ (k0_h1 : k0_cond1 i = 1#1), ∀ (k0_h110 : k0_cond110 v441 = 1#1), ∀ a, (k0_off109 v521) a + S256x2048.size a ≤ S40960x2048.size a := fun i v441 v521 k0_hw109 k0_h1 k0_h110 => k0_hw109.2 k0_h1 k0_h110

def k0_mult110 (v521 : BitVec 32) : BitVec 32 :=
  let c0_i32_330 : BitVec 32 := 0#32
  let v522 : BitVec 32 := Scalar.maxsi v521 c0_i32_330
  v522
def k0_cond111 (v445 : BitVec 32) : BitVec 1 :=
  let c0_i32_273 : BitVec 32 := 0#32
  let v446 : BitVec 1 := Scalar.cmpi .sge v445 c0_i32_273
  let v447 : BitVec 32 := Scalar.extui v446
  let c0_i32_274 : BitVec 32 := 0#32
  let v448 : BitVec 1 := Scalar.cmpi .ne v447 c0_i32_274
  v448

def k0_off110 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk110 (i : grid0.Coords) (v445 : BitVec 32) (v521 : BitVec 32) : Prop :=
  (∀ (k0_h1 : k0_cond1 i = 1#1), ∀ (k0_h111 : k0_cond111 v445 = 1#1), 8 ∣ (k0_mult110 v521).toNat) ∧
  (∀ (k0_h1 : k0_cond1 i = 1#1), ∀ (k0_h111 : k0_cond111 v445 = 1#1), ∀ a, (k0_off110 v521) a + S256x2048.size a ≤ S40960x2048.size a)
theorem k0_mult110_dvd : ∀ (i : grid0.Coords) (v445 : BitVec 32) (v521 : BitVec 32) (k0_hw110 : k0_chk110 i v445 v521), ∀ (k0_h1 : k0_cond1 i = 1#1), ∀ (k0_h111 : k0_cond111 v445 = 1#1), 8 ∣ (k0_mult110 v521).toNat := fun i v445 v521 k0_hw110 k0_h1 k0_h111 => k0_hw110.1 k0_h1 k0_h111
theorem k0_off110_inb : ∀ (i : grid0.Coords) (v445 : BitVec 32) (v521 : BitVec 32) (k0_hw110 : k0_chk110 i v445 v521), ∀ (k0_h1 : k0_cond1 i = 1#1), ∀ (k0_h111 : k0_cond111 v445 = 1#1), ∀ a, (k0_off110 v521) a + S256x2048.size a ≤ S40960x2048.size a := fun i v445 v521 k0_hw110 k0_h1 k0_h111 => k0_hw110.2 k0_h1 k0_h111

def k0_mult111 (v521 : BitVec 32) : BitVec 32 :=
  let c0_i32_330 : BitVec 32 := 0#32
  let v522 : BitVec 32 := Scalar.maxsi v521 c0_i32_330
  v522
def k0_cond112 (v449 : BitVec 32) : BitVec 1 :=
  let c0_i32_276 : BitVec 32 := 0#32
  let v450 : BitVec 1 := Scalar.cmpi .sge v449 c0_i32_276
  let v451 : BitVec 32 := Scalar.extui v450
  let c0_i32_277 : BitVec 32 := 0#32
  let v452 : BitVec 1 := Scalar.cmpi .ne v451 c0_i32_277
  v452

def k0_off111 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk111 (i : grid0.Coords) (v449 : BitVec 32) (v521 : BitVec 32) : Prop :=
  (∀ (k0_h1 : k0_cond1 i = 1#1), ∀ (k0_h112 : k0_cond112 v449 = 1#1), 8 ∣ (k0_mult111 v521).toNat) ∧
  (∀ (k0_h1 : k0_cond1 i = 1#1), ∀ (k0_h112 : k0_cond112 v449 = 1#1), ∀ a, (k0_off111 v521) a + S256x2048.size a ≤ S40960x2048.size a)
theorem k0_mult111_dvd : ∀ (i : grid0.Coords) (v449 : BitVec 32) (v521 : BitVec 32) (k0_hw111 : k0_chk111 i v449 v521), ∀ (k0_h1 : k0_cond1 i = 1#1), ∀ (k0_h112 : k0_cond112 v449 = 1#1), 8 ∣ (k0_mult111 v521).toNat := fun i v449 v521 k0_hw111 k0_h1 k0_h112 => k0_hw111.1 k0_h1 k0_h112
theorem k0_off111_inb : ∀ (i : grid0.Coords) (v449 : BitVec 32) (v521 : BitVec 32) (k0_hw111 : k0_chk111 i v449 v521), ∀ (k0_h1 : k0_cond1 i = 1#1), ∀ (k0_h112 : k0_cond112 v449 = 1#1), ∀ a, (k0_off111 v521) a + S256x2048.size a ≤ S40960x2048.size a := fun i v449 v521 k0_hw111 k0_h1 k0_h112 => k0_hw111.2 k0_h1 k0_h112

def k0_mult112 (v521 : BitVec 32) : BitVec 32 :=
  let c0_i32_330 : BitVec 32 := 0#32
  let v522 : BitVec 32 := Scalar.maxsi v521 c0_i32_330
  v522
def k0_cond113 (v453 : BitVec 32) : BitVec 1 :=
  let c0_i32_279 : BitVec 32 := 0#32
  let v454 : BitVec 1 := Scalar.cmpi .sge v453 c0_i32_279
  let v455 : BitVec 32 := Scalar.extui v454
  let c0_i32_280 : BitVec 32 := 0#32
  let v456 : BitVec 1 := Scalar.cmpi .ne v455 c0_i32_280
  v456

def k0_off112 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk112 (i : grid0.Coords) (v453 : BitVec 32) (v521 : BitVec 32) : Prop :=
  (∀ (k0_h1 : k0_cond1 i = 1#1), ∀ (k0_h113 : k0_cond113 v453 = 1#1), 8 ∣ (k0_mult112 v521).toNat) ∧
  (∀ (k0_h1 : k0_cond1 i = 1#1), ∀ (k0_h113 : k0_cond113 v453 = 1#1), ∀ a, (k0_off112 v521) a + S256x2048.size a ≤ S40960x2048.size a)
theorem k0_mult112_dvd : ∀ (i : grid0.Coords) (v453 : BitVec 32) (v521 : BitVec 32) (k0_hw112 : k0_chk112 i v453 v521), ∀ (k0_h1 : k0_cond1 i = 1#1), ∀ (k0_h113 : k0_cond113 v453 = 1#1), 8 ∣ (k0_mult112 v521).toNat := fun i v453 v521 k0_hw112 k0_h1 k0_h113 => k0_hw112.1 k0_h1 k0_h113
theorem k0_off112_inb : ∀ (i : grid0.Coords) (v453 : BitVec 32) (v521 : BitVec 32) (k0_hw112 : k0_chk112 i v453 v521), ∀ (k0_h1 : k0_cond1 i = 1#1), ∀ (k0_h113 : k0_cond113 v453 = 1#1), ∀ a, (k0_off112 v521) a + S256x2048.size a ≤ S40960x2048.size a := fun i v453 v521 k0_hw112 k0_h1 k0_h113 => k0_hw112.2 k0_h1 k0_h113

def k0_mult113 (v521 : BitVec 32) : BitVec 32 :=
  let c0_i32_330 : BitVec 32 := 0#32
  let v522 : BitVec 32 := Scalar.maxsi v521 c0_i32_330
  v522
def k0_cond114 (v457 : BitVec 32) : BitVec 1 :=
  let c0_i32_282 : BitVec 32 := 0#32
  let v458 : BitVec 1 := Scalar.cmpi .sge v457 c0_i32_282
  let v459 : BitVec 32 := Scalar.extui v458
  let c0_i32_283 : BitVec 32 := 0#32
  let v460 : BitVec 1 := Scalar.cmpi .ne v459 c0_i32_283
  v460

def k0_off113 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk113 (i : grid0.Coords) (v457 : BitVec 32) (v521 : BitVec 32) : Prop :=
  (∀ (k0_h1 : k0_cond1 i = 1#1), ∀ (k0_h114 : k0_cond114 v457 = 1#1), 8 ∣ (k0_mult113 v521).toNat) ∧
  (∀ (k0_h1 : k0_cond1 i = 1#1), ∀ (k0_h114 : k0_cond114 v457 = 1#1), ∀ a, (k0_off113 v521) a + S256x2048.size a ≤ S40960x2048.size a)
theorem k0_mult113_dvd : ∀ (i : grid0.Coords) (v457 : BitVec 32) (v521 : BitVec 32) (k0_hw113 : k0_chk113 i v457 v521), ∀ (k0_h1 : k0_cond1 i = 1#1), ∀ (k0_h114 : k0_cond114 v457 = 1#1), 8 ∣ (k0_mult113 v521).toNat := fun i v457 v521 k0_hw113 k0_h1 k0_h114 => k0_hw113.1 k0_h1 k0_h114
theorem k0_off113_inb : ∀ (i : grid0.Coords) (v457 : BitVec 32) (v521 : BitVec 32) (k0_hw113 : k0_chk113 i v457 v521), ∀ (k0_h1 : k0_cond1 i = 1#1), ∀ (k0_h114 : k0_cond114 v457 = 1#1), ∀ a, (k0_off113 v521) a + S256x2048.size a ≤ S40960x2048.size a := fun i v457 v521 k0_hw113 k0_h1 k0_h114 => k0_hw113.2 k0_h1 k0_h114

def k0_mult114 (v521 : BitVec 32) : BitVec 32 :=
  let c0_i32_330 : BitVec 32 := 0#32
  let v522 : BitVec 32 := Scalar.maxsi v521 c0_i32_330
  v522
def k0_cond115 (v461 : BitVec 32) : BitVec 1 :=
  let c0_i32_285 : BitVec 32 := 0#32
  let v462 : BitVec 1 := Scalar.cmpi .sge v461 c0_i32_285
  let v463 : BitVec 32 := Scalar.extui v462
  let c0_i32_286 : BitVec 32 := 0#32
  let v464 : BitVec 1 := Scalar.cmpi .ne v463 c0_i32_286
  v464

def k0_off114 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk114 (i : grid0.Coords) (v461 : BitVec 32) (v521 : BitVec 32) : Prop :=
  (∀ (k0_h1 : k0_cond1 i = 1#1), ∀ (k0_h115 : k0_cond115 v461 = 1#1), 8 ∣ (k0_mult114 v521).toNat) ∧
  (∀ (k0_h1 : k0_cond1 i = 1#1), ∀ (k0_h115 : k0_cond115 v461 = 1#1), ∀ a, (k0_off114 v521) a + S256x2048.size a ≤ S40960x2048.size a)
theorem k0_mult114_dvd : ∀ (i : grid0.Coords) (v461 : BitVec 32) (v521 : BitVec 32) (k0_hw114 : k0_chk114 i v461 v521), ∀ (k0_h1 : k0_cond1 i = 1#1), ∀ (k0_h115 : k0_cond115 v461 = 1#1), 8 ∣ (k0_mult114 v521).toNat := fun i v461 v521 k0_hw114 k0_h1 k0_h115 => k0_hw114.1 k0_h1 k0_h115
theorem k0_off114_inb : ∀ (i : grid0.Coords) (v461 : BitVec 32) (v521 : BitVec 32) (k0_hw114 : k0_chk114 i v461 v521), ∀ (k0_h1 : k0_cond1 i = 1#1), ∀ (k0_h115 : k0_cond115 v461 = 1#1), ∀ a, (k0_off114 v521) a + S256x2048.size a ≤ S40960x2048.size a := fun i v461 v521 k0_hw114 k0_h1 k0_h115 => k0_hw114.2 k0_h1 k0_h115

def k0_mult115 (v521 : BitVec 32) : BitVec 32 :=
  let c0_i32_330 : BitVec 32 := 0#32
  let v522 : BitVec 32 := Scalar.maxsi v521 c0_i32_330
  v522
def k0_cond116 (v465 : BitVec 32) : BitVec 1 :=
  let c0_i32_288 : BitVec 32 := 0#32
  let v466 : BitVec 1 := Scalar.cmpi .sge v465 c0_i32_288
  let v467 : BitVec 32 := Scalar.extui v466
  let c0_i32_289 : BitVec 32 := 0#32
  let v468 : BitVec 1 := Scalar.cmpi .ne v467 c0_i32_289
  v468

def k0_off115 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk115 (i : grid0.Coords) (v465 : BitVec 32) (v521 : BitVec 32) : Prop :=
  (∀ (k0_h1 : k0_cond1 i = 1#1), ∀ (k0_h116 : k0_cond116 v465 = 1#1), 8 ∣ (k0_mult115 v521).toNat) ∧
  (∀ (k0_h1 : k0_cond1 i = 1#1), ∀ (k0_h116 : k0_cond116 v465 = 1#1), ∀ a, (k0_off115 v521) a + S256x2048.size a ≤ S40960x2048.size a)
theorem k0_mult115_dvd : ∀ (i : grid0.Coords) (v465 : BitVec 32) (v521 : BitVec 32) (k0_hw115 : k0_chk115 i v465 v521), ∀ (k0_h1 : k0_cond1 i = 1#1), ∀ (k0_h116 : k0_cond116 v465 = 1#1), 8 ∣ (k0_mult115 v521).toNat := fun i v465 v521 k0_hw115 k0_h1 k0_h116 => k0_hw115.1 k0_h1 k0_h116
theorem k0_off115_inb : ∀ (i : grid0.Coords) (v465 : BitVec 32) (v521 : BitVec 32) (k0_hw115 : k0_chk115 i v465 v521), ∀ (k0_h1 : k0_cond1 i = 1#1), ∀ (k0_h116 : k0_cond116 v465 = 1#1), ∀ a, (k0_off115 v521) a + S256x2048.size a ≤ S40960x2048.size a := fun i v465 v521 k0_hw115 k0_h1 k0_h116 => k0_hw115.2 k0_h1 k0_h116

def k0_mult116 (v521 : BitVec 32) : BitVec 32 :=
  let c0_i32_330 : BitVec 32 := 0#32
  let v522 : BitVec 32 := Scalar.maxsi v521 c0_i32_330
  v522
def k0_cond117 (v469 : BitVec 32) : BitVec 1 :=
  let c0_i32_291 : BitVec 32 := 0#32
  let v470 : BitVec 1 := Scalar.cmpi .sge v469 c0_i32_291
  let v471 : BitVec 32 := Scalar.extui v470
  let c0_i32_292 : BitVec 32 := 0#32
  let v472 : BitVec 1 := Scalar.cmpi .ne v471 c0_i32_292
  v472

def k0_off116 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk116 (i : grid0.Coords) (v469 : BitVec 32) (v521 : BitVec 32) : Prop :=
  (∀ (k0_h1 : k0_cond1 i = 1#1), ∀ (k0_h117 : k0_cond117 v469 = 1#1), 8 ∣ (k0_mult116 v521).toNat) ∧
  (∀ (k0_h1 : k0_cond1 i = 1#1), ∀ (k0_h117 : k0_cond117 v469 = 1#1), ∀ a, (k0_off116 v521) a + S256x2048.size a ≤ S40960x2048.size a)
theorem k0_mult116_dvd : ∀ (i : grid0.Coords) (v469 : BitVec 32) (v521 : BitVec 32) (k0_hw116 : k0_chk116 i v469 v521), ∀ (k0_h1 : k0_cond1 i = 1#1), ∀ (k0_h117 : k0_cond117 v469 = 1#1), 8 ∣ (k0_mult116 v521).toNat := fun i v469 v521 k0_hw116 k0_h1 k0_h117 => k0_hw116.1 k0_h1 k0_h117
theorem k0_off116_inb : ∀ (i : grid0.Coords) (v469 : BitVec 32) (v521 : BitVec 32) (k0_hw116 : k0_chk116 i v469 v521), ∀ (k0_h1 : k0_cond1 i = 1#1), ∀ (k0_h117 : k0_cond117 v469 = 1#1), ∀ a, (k0_off116 v521) a + S256x2048.size a ≤ S40960x2048.size a := fun i v469 v521 k0_hw116 k0_h1 k0_h117 => k0_hw116.2 k0_h1 k0_h117

def k0_mult117 (v521 : BitVec 32) : BitVec 32 :=
  let c0_i32_330 : BitVec 32 := 0#32
  let v522 : BitVec 32 := Scalar.maxsi v521 c0_i32_330
  v522
def k0_cond118 (v473 : BitVec 32) : BitVec 1 :=
  let c0_i32_294 : BitVec 32 := 0#32
  let v474 : BitVec 1 := Scalar.cmpi .sge v473 c0_i32_294
  let v475 : BitVec 32 := Scalar.extui v474
  let c0_i32_295 : BitVec 32 := 0#32
  let v476 : BitVec 1 := Scalar.cmpi .ne v475 c0_i32_295
  v476

def k0_off117 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk117 (i : grid0.Coords) (v473 : BitVec 32) (v521 : BitVec 32) : Prop :=
  (∀ (k0_h1 : k0_cond1 i = 1#1), ∀ (k0_h118 : k0_cond118 v473 = 1#1), 8 ∣ (k0_mult117 v521).toNat) ∧
  (∀ (k0_h1 : k0_cond1 i = 1#1), ∀ (k0_h118 : k0_cond118 v473 = 1#1), ∀ a, (k0_off117 v521) a + S256x2048.size a ≤ S40960x2048.size a)
theorem k0_mult117_dvd : ∀ (i : grid0.Coords) (v473 : BitVec 32) (v521 : BitVec 32) (k0_hw117 : k0_chk117 i v473 v521), ∀ (k0_h1 : k0_cond1 i = 1#1), ∀ (k0_h118 : k0_cond118 v473 = 1#1), 8 ∣ (k0_mult117 v521).toNat := fun i v473 v521 k0_hw117 k0_h1 k0_h118 => k0_hw117.1 k0_h1 k0_h118
theorem k0_off117_inb : ∀ (i : grid0.Coords) (v473 : BitVec 32) (v521 : BitVec 32) (k0_hw117 : k0_chk117 i v473 v521), ∀ (k0_h1 : k0_cond1 i = 1#1), ∀ (k0_h118 : k0_cond118 v473 = 1#1), ∀ a, (k0_off117 v521) a + S256x2048.size a ≤ S40960x2048.size a := fun i v473 v521 k0_hw117 k0_h1 k0_h118 => k0_hw117.2 k0_h1 k0_h118

def k0_mult118 (v521 : BitVec 32) : BitVec 32 :=
  let c0_i32_330 : BitVec 32 := 0#32
  let v522 : BitVec 32 := Scalar.maxsi v521 c0_i32_330
  v522
def k0_cond119 (v477 : BitVec 32) : BitVec 1 :=
  let c0_i32_297 : BitVec 32 := 0#32
  let v478 : BitVec 1 := Scalar.cmpi .sge v477 c0_i32_297
  let v479 : BitVec 32 := Scalar.extui v478
  let c0_i32_298 : BitVec 32 := 0#32
  let v480 : BitVec 1 := Scalar.cmpi .ne v479 c0_i32_298
  v480

def k0_off118 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk118 (i : grid0.Coords) (v477 : BitVec 32) (v521 : BitVec 32) : Prop :=
  (∀ (k0_h1 : k0_cond1 i = 1#1), ∀ (k0_h119 : k0_cond119 v477 = 1#1), 8 ∣ (k0_mult118 v521).toNat) ∧
  (∀ (k0_h1 : k0_cond1 i = 1#1), ∀ (k0_h119 : k0_cond119 v477 = 1#1), ∀ a, (k0_off118 v521) a + S256x2048.size a ≤ S40960x2048.size a)
theorem k0_mult118_dvd : ∀ (i : grid0.Coords) (v477 : BitVec 32) (v521 : BitVec 32) (k0_hw118 : k0_chk118 i v477 v521), ∀ (k0_h1 : k0_cond1 i = 1#1), ∀ (k0_h119 : k0_cond119 v477 = 1#1), 8 ∣ (k0_mult118 v521).toNat := fun i v477 v521 k0_hw118 k0_h1 k0_h119 => k0_hw118.1 k0_h1 k0_h119
theorem k0_off118_inb : ∀ (i : grid0.Coords) (v477 : BitVec 32) (v521 : BitVec 32) (k0_hw118 : k0_chk118 i v477 v521), ∀ (k0_h1 : k0_cond1 i = 1#1), ∀ (k0_h119 : k0_cond119 v477 = 1#1), ∀ a, (k0_off118 v521) a + S256x2048.size a ≤ S40960x2048.size a := fun i v477 v521 k0_hw118 k0_h1 k0_h119 => k0_hw118.2 k0_h1 k0_h119

def k0_mult119 (v521 : BitVec 32) : BitVec 32 :=
  let c0_i32_330 : BitVec 32 := 0#32
  let v522 : BitVec 32 := Scalar.maxsi v521 c0_i32_330
  v522
def k0_cond120 (v481 : BitVec 32) : BitVec 1 :=
  let c0_i32_300 : BitVec 32 := 0#32
  let v482 : BitVec 1 := Scalar.cmpi .sge v481 c0_i32_300
  let v483 : BitVec 32 := Scalar.extui v482
  let c0_i32_301 : BitVec 32 := 0#32
  let v484 : BitVec 1 := Scalar.cmpi .ne v483 c0_i32_301
  v484

def k0_off119 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk119 (i : grid0.Coords) (v481 : BitVec 32) (v521 : BitVec 32) : Prop :=
  (∀ (k0_h1 : k0_cond1 i = 1#1), ∀ (k0_h120 : k0_cond120 v481 = 1#1), 8 ∣ (k0_mult119 v521).toNat) ∧
  (∀ (k0_h1 : k0_cond1 i = 1#1), ∀ (k0_h120 : k0_cond120 v481 = 1#1), ∀ a, (k0_off119 v521) a + S256x2048.size a ≤ S40960x2048.size a)
theorem k0_mult119_dvd : ∀ (i : grid0.Coords) (v481 : BitVec 32) (v521 : BitVec 32) (k0_hw119 : k0_chk119 i v481 v521), ∀ (k0_h1 : k0_cond1 i = 1#1), ∀ (k0_h120 : k0_cond120 v481 = 1#1), 8 ∣ (k0_mult119 v521).toNat := fun i v481 v521 k0_hw119 k0_h1 k0_h120 => k0_hw119.1 k0_h1 k0_h120
theorem k0_off119_inb : ∀ (i : grid0.Coords) (v481 : BitVec 32) (v521 : BitVec 32) (k0_hw119 : k0_chk119 i v481 v521), ∀ (k0_h1 : k0_cond1 i = 1#1), ∀ (k0_h120 : k0_cond120 v481 = 1#1), ∀ a, (k0_off119 v521) a + S256x2048.size a ≤ S40960x2048.size a := fun i v481 v521 k0_hw119 k0_h1 k0_h120 => k0_hw119.2 k0_h1 k0_h120

def k0_mult120 (v521 : BitVec 32) : BitVec 32 :=
  let c0_i32_330 : BitVec 32 := 0#32
  let v522 : BitVec 32 := Scalar.maxsi v521 c0_i32_330
  v522
def k0_cond121 (v485 : BitVec 32) : BitVec 1 :=
  let c0_i32_303 : BitVec 32 := 0#32
  let v486 : BitVec 1 := Scalar.cmpi .sge v485 c0_i32_303
  let v487 : BitVec 32 := Scalar.extui v486
  let c0_i32_304 : BitVec 32 := 0#32
  let v488 : BitVec 1 := Scalar.cmpi .ne v487 c0_i32_304
  v488

def k0_off120 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk120 (i : grid0.Coords) (v485 : BitVec 32) (v521 : BitVec 32) : Prop :=
  (∀ (k0_h1 : k0_cond1 i = 1#1), ∀ (k0_h121 : k0_cond121 v485 = 1#1), 8 ∣ (k0_mult120 v521).toNat) ∧
  (∀ (k0_h1 : k0_cond1 i = 1#1), ∀ (k0_h121 : k0_cond121 v485 = 1#1), ∀ a, (k0_off120 v521) a + S256x2048.size a ≤ S40960x2048.size a)
theorem k0_mult120_dvd : ∀ (i : grid0.Coords) (v485 : BitVec 32) (v521 : BitVec 32) (k0_hw120 : k0_chk120 i v485 v521), ∀ (k0_h1 : k0_cond1 i = 1#1), ∀ (k0_h121 : k0_cond121 v485 = 1#1), 8 ∣ (k0_mult120 v521).toNat := fun i v485 v521 k0_hw120 k0_h1 k0_h121 => k0_hw120.1 k0_h1 k0_h121
theorem k0_off120_inb : ∀ (i : grid0.Coords) (v485 : BitVec 32) (v521 : BitVec 32) (k0_hw120 : k0_chk120 i v485 v521), ∀ (k0_h1 : k0_cond1 i = 1#1), ∀ (k0_h121 : k0_cond121 v485 = 1#1), ∀ a, (k0_off120 v521) a + S256x2048.size a ≤ S40960x2048.size a := fun i v485 v521 k0_hw120 k0_h1 k0_h121 => k0_hw120.2 k0_h1 k0_h121

def k0_mult121 (v521 : BitVec 32) : BitVec 32 :=
  let c0_i32_330 : BitVec 32 := 0#32
  let v522 : BitVec 32 := Scalar.maxsi v521 c0_i32_330
  v522
def k0_cond122 (v489 : BitVec 32) : BitVec 1 :=
  let c0_i32_306 : BitVec 32 := 0#32
  let v490 : BitVec 1 := Scalar.cmpi .sge v489 c0_i32_306
  let v491 : BitVec 32 := Scalar.extui v490
  let c0_i32_307 : BitVec 32 := 0#32
  let v492 : BitVec 1 := Scalar.cmpi .ne v491 c0_i32_307
  v492

def k0_off121 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk121 (i : grid0.Coords) (v489 : BitVec 32) (v521 : BitVec 32) : Prop :=
  (∀ (k0_h1 : k0_cond1 i = 1#1), ∀ (k0_h122 : k0_cond122 v489 = 1#1), 8 ∣ (k0_mult121 v521).toNat) ∧
  (∀ (k0_h1 : k0_cond1 i = 1#1), ∀ (k0_h122 : k0_cond122 v489 = 1#1), ∀ a, (k0_off121 v521) a + S256x2048.size a ≤ S40960x2048.size a)
theorem k0_mult121_dvd : ∀ (i : grid0.Coords) (v489 : BitVec 32) (v521 : BitVec 32) (k0_hw121 : k0_chk121 i v489 v521), ∀ (k0_h1 : k0_cond1 i = 1#1), ∀ (k0_h122 : k0_cond122 v489 = 1#1), 8 ∣ (k0_mult121 v521).toNat := fun i v489 v521 k0_hw121 k0_h1 k0_h122 => k0_hw121.1 k0_h1 k0_h122
theorem k0_off121_inb : ∀ (i : grid0.Coords) (v489 : BitVec 32) (v521 : BitVec 32) (k0_hw121 : k0_chk121 i v489 v521), ∀ (k0_h1 : k0_cond1 i = 1#1), ∀ (k0_h122 : k0_cond122 v489 = 1#1), ∀ a, (k0_off121 v521) a + S256x2048.size a ≤ S40960x2048.size a := fun i v489 v521 k0_hw121 k0_h1 k0_h122 => k0_hw121.2 k0_h1 k0_h122

def k0_mult122 (v521 : BitVec 32) : BitVec 32 :=
  let c0_i32_330 : BitVec 32 := 0#32
  let v522 : BitVec 32 := Scalar.maxsi v521 c0_i32_330
  v522
def k0_cond123 (v493 : BitVec 32) : BitVec 1 :=
  let c0_i32_309 : BitVec 32 := 0#32
  let v494 : BitVec 1 := Scalar.cmpi .sge v493 c0_i32_309
  let v495 : BitVec 32 := Scalar.extui v494
  let c0_i32_310 : BitVec 32 := 0#32
  let v496 : BitVec 1 := Scalar.cmpi .ne v495 c0_i32_310
  v496

def k0_off122 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk122 (i : grid0.Coords) (v493 : BitVec 32) (v521 : BitVec 32) : Prop :=
  (∀ (k0_h1 : k0_cond1 i = 1#1), ∀ (k0_h123 : k0_cond123 v493 = 1#1), 8 ∣ (k0_mult122 v521).toNat) ∧
  (∀ (k0_h1 : k0_cond1 i = 1#1), ∀ (k0_h123 : k0_cond123 v493 = 1#1), ∀ a, (k0_off122 v521) a + S256x2048.size a ≤ S40960x2048.size a)
theorem k0_mult122_dvd : ∀ (i : grid0.Coords) (v493 : BitVec 32) (v521 : BitVec 32) (k0_hw122 : k0_chk122 i v493 v521), ∀ (k0_h1 : k0_cond1 i = 1#1), ∀ (k0_h123 : k0_cond123 v493 = 1#1), 8 ∣ (k0_mult122 v521).toNat := fun i v493 v521 k0_hw122 k0_h1 k0_h123 => k0_hw122.1 k0_h1 k0_h123
theorem k0_off122_inb : ∀ (i : grid0.Coords) (v493 : BitVec 32) (v521 : BitVec 32) (k0_hw122 : k0_chk122 i v493 v521), ∀ (k0_h1 : k0_cond1 i = 1#1), ∀ (k0_h123 : k0_cond123 v493 = 1#1), ∀ a, (k0_off122 v521) a + S256x2048.size a ≤ S40960x2048.size a := fun i v493 v521 k0_hw122 k0_h1 k0_h123 => k0_hw122.2 k0_h1 k0_h123

def k0_mult123 (v521 : BitVec 32) : BitVec 32 :=
  let c0_i32_330 : BitVec 32 := 0#32
  let v522 : BitVec 32 := Scalar.maxsi v521 c0_i32_330
  v522
def k0_cond124 (v497 : BitVec 32) : BitVec 1 :=
  let c0_i32_312 : BitVec 32 := 0#32
  let v498 : BitVec 1 := Scalar.cmpi .sge v497 c0_i32_312
  let v499 : BitVec 32 := Scalar.extui v498
  let c0_i32_313 : BitVec 32 := 0#32
  let v500 : BitVec 1 := Scalar.cmpi .ne v499 c0_i32_313
  v500

def k0_off123 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk123 (i : grid0.Coords) (v497 : BitVec 32) (v521 : BitVec 32) : Prop :=
  (∀ (k0_h1 : k0_cond1 i = 1#1), ∀ (k0_h124 : k0_cond124 v497 = 1#1), 8 ∣ (k0_mult123 v521).toNat) ∧
  (∀ (k0_h1 : k0_cond1 i = 1#1), ∀ (k0_h124 : k0_cond124 v497 = 1#1), ∀ a, (k0_off123 v521) a + S256x2048.size a ≤ S40960x2048.size a)
theorem k0_mult123_dvd : ∀ (i : grid0.Coords) (v497 : BitVec 32) (v521 : BitVec 32) (k0_hw123 : k0_chk123 i v497 v521), ∀ (k0_h1 : k0_cond1 i = 1#1), ∀ (k0_h124 : k0_cond124 v497 = 1#1), 8 ∣ (k0_mult123 v521).toNat := fun i v497 v521 k0_hw123 k0_h1 k0_h124 => k0_hw123.1 k0_h1 k0_h124
theorem k0_off123_inb : ∀ (i : grid0.Coords) (v497 : BitVec 32) (v521 : BitVec 32) (k0_hw123 : k0_chk123 i v497 v521), ∀ (k0_h1 : k0_cond1 i = 1#1), ∀ (k0_h124 : k0_cond124 v497 = 1#1), ∀ a, (k0_off123 v521) a + S256x2048.size a ≤ S40960x2048.size a := fun i v497 v521 k0_hw123 k0_h1 k0_h124 => k0_hw123.2 k0_h1 k0_h124

def k0_mult124 (v521 : BitVec 32) : BitVec 32 :=
  let c0_i32_330 : BitVec 32 := 0#32
  let v522 : BitVec 32 := Scalar.maxsi v521 c0_i32_330
  v522
def k0_cond125 (v501 : BitVec 32) : BitVec 1 :=
  let c0_i32_315 : BitVec 32 := 0#32
  let v502 : BitVec 1 := Scalar.cmpi .sge v501 c0_i32_315
  let v503 : BitVec 32 := Scalar.extui v502
  let c0_i32_316 : BitVec 32 := 0#32
  let v504 : BitVec 1 := Scalar.cmpi .ne v503 c0_i32_316
  v504

def k0_off124 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk124 (i : grid0.Coords) (v501 : BitVec 32) (v521 : BitVec 32) : Prop :=
  (∀ (k0_h1 : k0_cond1 i = 1#1), ∀ (k0_h125 : k0_cond125 v501 = 1#1), 8 ∣ (k0_mult124 v521).toNat) ∧
  (∀ (k0_h1 : k0_cond1 i = 1#1), ∀ (k0_h125 : k0_cond125 v501 = 1#1), ∀ a, (k0_off124 v521) a + S256x2048.size a ≤ S40960x2048.size a)
theorem k0_mult124_dvd : ∀ (i : grid0.Coords) (v501 : BitVec 32) (v521 : BitVec 32) (k0_hw124 : k0_chk124 i v501 v521), ∀ (k0_h1 : k0_cond1 i = 1#1), ∀ (k0_h125 : k0_cond125 v501 = 1#1), 8 ∣ (k0_mult124 v521).toNat := fun i v501 v521 k0_hw124 k0_h1 k0_h125 => k0_hw124.1 k0_h1 k0_h125
theorem k0_off124_inb : ∀ (i : grid0.Coords) (v501 : BitVec 32) (v521 : BitVec 32) (k0_hw124 : k0_chk124 i v501 v521), ∀ (k0_h1 : k0_cond1 i = 1#1), ∀ (k0_h125 : k0_cond125 v501 = 1#1), ∀ a, (k0_off124 v521) a + S256x2048.size a ≤ S40960x2048.size a := fun i v501 v521 k0_hw124 k0_h1 k0_h125 => k0_hw124.2 k0_h1 k0_h125

def k0_mult125 (v521 : BitVec 32) : BitVec 32 :=
  let c0_i32_330 : BitVec 32 := 0#32
  let v522 : BitVec 32 := Scalar.maxsi v521 c0_i32_330
  v522
def k0_cond126 (v505 : BitVec 32) : BitVec 1 :=
  let c0_i32_318 : BitVec 32 := 0#32
  let v506 : BitVec 1 := Scalar.cmpi .sge v505 c0_i32_318
  let v507 : BitVec 32 := Scalar.extui v506
  let c0_i32_319 : BitVec 32 := 0#32
  let v508 : BitVec 1 := Scalar.cmpi .ne v507 c0_i32_319
  v508

def k0_off125 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk125 (i : grid0.Coords) (v505 : BitVec 32) (v521 : BitVec 32) : Prop :=
  (∀ (k0_h1 : k0_cond1 i = 1#1), ∀ (k0_h126 : k0_cond126 v505 = 1#1), 8 ∣ (k0_mult125 v521).toNat) ∧
  (∀ (k0_h1 : k0_cond1 i = 1#1), ∀ (k0_h126 : k0_cond126 v505 = 1#1), ∀ a, (k0_off125 v521) a + S256x2048.size a ≤ S40960x2048.size a)
theorem k0_mult125_dvd : ∀ (i : grid0.Coords) (v505 : BitVec 32) (v521 : BitVec 32) (k0_hw125 : k0_chk125 i v505 v521), ∀ (k0_h1 : k0_cond1 i = 1#1), ∀ (k0_h126 : k0_cond126 v505 = 1#1), 8 ∣ (k0_mult125 v521).toNat := fun i v505 v521 k0_hw125 k0_h1 k0_h126 => k0_hw125.1 k0_h1 k0_h126
theorem k0_off125_inb : ∀ (i : grid0.Coords) (v505 : BitVec 32) (v521 : BitVec 32) (k0_hw125 : k0_chk125 i v505 v521), ∀ (k0_h1 : k0_cond1 i = 1#1), ∀ (k0_h126 : k0_cond126 v505 = 1#1), ∀ a, (k0_off125 v521) a + S256x2048.size a ≤ S40960x2048.size a := fun i v505 v521 k0_hw125 k0_h1 k0_h126 => k0_hw125.2 k0_h1 k0_h126

def k0_mult126 (v521 : BitVec 32) : BitVec 32 :=
  let c0_i32_330 : BitVec 32 := 0#32
  let v522 : BitVec 32 := Scalar.maxsi v521 c0_i32_330
  v522
def k0_cond127 (v509 : BitVec 32) : BitVec 1 :=
  let c0_i32_321 : BitVec 32 := 0#32
  let v510 : BitVec 1 := Scalar.cmpi .sge v509 c0_i32_321
  let v511 : BitVec 32 := Scalar.extui v510
  let c0_i32_322 : BitVec 32 := 0#32
  let v512 : BitVec 1 := Scalar.cmpi .ne v511 c0_i32_322
  v512

def k0_off126 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk126 (i : grid0.Coords) (v509 : BitVec 32) (v521 : BitVec 32) : Prop :=
  (∀ (k0_h1 : k0_cond1 i = 1#1), ∀ (k0_h127 : k0_cond127 v509 = 1#1), 8 ∣ (k0_mult126 v521).toNat) ∧
  (∀ (k0_h1 : k0_cond1 i = 1#1), ∀ (k0_h127 : k0_cond127 v509 = 1#1), ∀ a, (k0_off126 v521) a + S256x2048.size a ≤ S40960x2048.size a)
theorem k0_mult126_dvd : ∀ (i : grid0.Coords) (v509 : BitVec 32) (v521 : BitVec 32) (k0_hw126 : k0_chk126 i v509 v521), ∀ (k0_h1 : k0_cond1 i = 1#1), ∀ (k0_h127 : k0_cond127 v509 = 1#1), 8 ∣ (k0_mult126 v521).toNat := fun i v509 v521 k0_hw126 k0_h1 k0_h127 => k0_hw126.1 k0_h1 k0_h127
theorem k0_off126_inb : ∀ (i : grid0.Coords) (v509 : BitVec 32) (v521 : BitVec 32) (k0_hw126 : k0_chk126 i v509 v521), ∀ (k0_h1 : k0_cond1 i = 1#1), ∀ (k0_h127 : k0_cond127 v509 = 1#1), ∀ a, (k0_off126 v521) a + S256x2048.size a ≤ S40960x2048.size a := fun i v509 v521 k0_hw126 k0_h1 k0_h127 => k0_hw126.2 k0_h1 k0_h127

def k0_mult127 (v521 : BitVec 32) : BitVec 32 :=
  let c0_i32_330 : BitVec 32 := 0#32
  let v522 : BitVec 32 := Scalar.maxsi v521 c0_i32_330
  v522
def k0_cond128 (v513 : BitVec 32) : BitVec 1 :=
  let c0_i32_324 : BitVec 32 := 0#32
  let v514 : BitVec 1 := Scalar.cmpi .sge v513 c0_i32_324
  let v515 : BitVec 32 := Scalar.extui v514
  let c0_i32_325 : BitVec 32 := 0#32
  let v516 : BitVec 1 := Scalar.cmpi .ne v515 c0_i32_325
  v516

def k0_off127 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk127 (i : grid0.Coords) (v513 : BitVec 32) (v521 : BitVec 32) : Prop :=
  (∀ (k0_h1 : k0_cond1 i = 1#1), ∀ (k0_h128 : k0_cond128 v513 = 1#1), 8 ∣ (k0_mult127 v521).toNat) ∧
  (∀ (k0_h1 : k0_cond1 i = 1#1), ∀ (k0_h128 : k0_cond128 v513 = 1#1), ∀ a, (k0_off127 v521) a + S256x2048.size a ≤ S40960x2048.size a)
theorem k0_mult127_dvd : ∀ (i : grid0.Coords) (v513 : BitVec 32) (v521 : BitVec 32) (k0_hw127 : k0_chk127 i v513 v521), ∀ (k0_h1 : k0_cond1 i = 1#1), ∀ (k0_h128 : k0_cond128 v513 = 1#1), 8 ∣ (k0_mult127 v521).toNat := fun i v513 v521 k0_hw127 k0_h1 k0_h128 => k0_hw127.1 k0_h1 k0_h128
theorem k0_off127_inb : ∀ (i : grid0.Coords) (v513 : BitVec 32) (v521 : BitVec 32) (k0_hw127 : k0_chk127 i v513 v521), ∀ (k0_h1 : k0_cond1 i = 1#1), ∀ (k0_h128 : k0_cond128 v513 = 1#1), ∀ a, (k0_off127 v521) a + S256x2048.size a ≤ S40960x2048.size a := fun i v513 v521 k0_hw127 k0_h1 k0_h128 => k0_hw127.2 k0_h1 k0_h128

def k0_mult128 (v521 : BitVec 32) : BitVec 32 :=
  let c0_i32_330 : BitVec 32 := 0#32
  let v522 : BitVec 32 := Scalar.maxsi v521 c0_i32_330
  v522
def k0_cond129 (v517 : BitVec 32) : BitVec 1 :=
  let c0_i32_327 : BitVec 32 := 0#32
  let v518 : BitVec 1 := Scalar.cmpi .sge v517 c0_i32_327
  let v519 : BitVec 32 := Scalar.extui v518
  let c0_i32_328 : BitVec 32 := 0#32
  let v520 : BitVec 1 := Scalar.cmpi .ne v519 c0_i32_328
  v520

def k0_off128 (v521 : BitVec 32) : Fin 2 → Nat :=
  let c0_i32_330 : BitVec 32 := 0#32
  let v522 : BitVec 32 := Scalar.maxsi v521 c0_i32_330
  let v523 : BitVec 32 := v522
  let c0_i32_331 : BitVec 32 := 0#32
  ![v523.toNat, 0]

def k0_chk128 (i : grid0.Coords) (v517 : BitVec 32) (v521 : BitVec 32) : Prop :=
  (∀ (k0_h1 : k0_cond1 i = 1#1), ∀ (k0_h129 : k0_cond129 v517 = 1#1), 8 ∣ (k0_mult128 v521).toNat) ∧
  (∀ (k0_h1 : k0_cond1 i = 1#1), ∀ (k0_h129 : k0_cond129 v517 = 1#1), ∀ a, (k0_off128 v521) a + S256x2048.size a ≤ S40960x2048.size a)
theorem k0_mult128_dvd : ∀ (i : grid0.Coords) (v517 : BitVec 32) (v521 : BitVec 32) (k0_hw128 : k0_chk128 i v517 v521), ∀ (k0_h1 : k0_cond1 i = 1#1), ∀ (k0_h129 : k0_cond129 v517 = 1#1), 8 ∣ (k0_mult128 v521).toNat := fun i v517 v521 k0_hw128 k0_h1 k0_h129 => k0_hw128.1 k0_h1 k0_h129
theorem k0_off128_inb : ∀ (i : grid0.Coords) (v517 : BitVec 32) (v521 : BitVec 32) (k0_hw128 : k0_chk128 i v517 v521), ∀ (k0_h1 : k0_cond1 i = 1#1), ∀ (k0_h129 : k0_cond129 v517 = 1#1), ∀ a, (k0_off128 v521) a + S256x2048.size a ≤ S40960x2048.size a := fun i v517 v521 k0_hw128 k0_h1 k0_h129 => k0_hw128.2 k0_h1 k0_h129

@[reducible] def k0_t1_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k0_off129 (i : grid0.Coords) (k0_t1 : Fin k0_t1_loop.trips) : Fin 1 → Nat :=
  let arg0 : BitVec 32 := BitVec.ofNat 32 (i 0).val
  let c256_i32_7 : BitVec 32 := 256#32
  let v5 : BitVec 32 := Scalar.muli arg0 c256_i32_7
  let c0_i32_1 : BitVec 32 := 0#32
  let c1_i32 : BitVec 32 := 1#32
  let arg9 : BitVec 32 := Scf.iv c0_i32_1 c1_i32 k0_t1
  let v6 : BitVec 32 := Scalar.addi v5 arg9
  let v7 : Index := Scalar.indexCast v6
  ![v7.toNat]
def k0_off130 (v8 : BitVec 32) : Fin 2 → Nat :=
  let c0_i32_8 : BitVec 32 := 0#32
  ![v8.toNat, 0]

def k0_chk129 (v8 : BitVec 32) : Prop :=
  (∀ a, (k0_off130 v8) a + S1x2048.size a ≤ S40960x2048.size a)
theorem k0_off130_inb : ∀ (v8 : BitVec 32) (k0_hw129 : k0_chk129 v8), ∀ a, (k0_off130 v8) a + S1x2048.size a ≤ S40960x2048.size a := fun v8 k0_hw129 => k0_hw129

def k0_off131 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c0_i32_9 : BitVec 32 := 0#32
  ![arg9.toNat, 0]
def k0_off132 (i : grid0.Coords) (k0_t1 : Fin k0_t1_loop.trips) : Fin 1 → Nat :=
  let arg0 : BitVec 32 := BitVec.ofNat 32 (i 0).val
  let c256_i32_10 : BitVec 32 := 256#32
  let v11 : BitVec 32 := Scalar.muli arg0 c256_i32_10
  let c0_i32_1 : BitVec 32 := 0#32
  let c1_i32 : BitVec 32 := 1#32
  let arg9 : BitVec 32 := Scf.iv c0_i32_1 c1_i32 k0_t1
  let v12 : BitVec 32 := Scalar.addi v11 arg9
  let v13 : Index := Scalar.indexCast v12
  ![v13.toNat]
def k0_off133 (v14 : BitVec 32) : Fin 2 → Nat :=
  let c0_i32_11 : BitVec 32 := 0#32
  ![v14.toNat, 0]

def k0_chk130 (v14 : BitVec 32) : Prop :=
  (∀ a, (k0_off133 v14) a + S1x2048.size a ≤ S40960x2048.size a)
theorem k0_off133_inb : ∀ (v14 : BitVec 32) (k0_hw130 : k0_chk130 v14), ∀ a, (k0_off133 v14) a + S1x2048.size a ≤ S40960x2048.size a := fun v14 k0_hw130 => k0_hw130

def k0_off134 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c0_i32_12 : BitVec 32 := 0#32
  ![arg9.toNat, 0]
@[reducible] def k0_t2_loop : Scf.Loop 32 :=
  let c0_i32_3 : BitVec 32 := 0#32
  let c256_i32_4 : BitVec 32 := 256#32
  let v4 : BitVec 32 := Scalar.addi c0_i32_3 c256_i32_4
  let c1_i32_5 : BitVec 32 := 1#32
  ⟨c0_i32_3, v4, c1_i32_5⟩
def k0_off135 (i : grid0.Coords) (k0_t2 : Fin k0_t2_loop.trips) : Fin 1 → Nat :=
  let arg0 : BitVec 32 := BitVec.ofNat 32 (i 0).val
  let c256_i32_7 : BitVec 32 := 256#32
  let v5 : BitVec 32 := Scalar.muli arg0 c256_i32_7
  let c0_i32_3 : BitVec 32 := 0#32
  let c1_i32_5 : BitVec 32 := 1#32
  let arg9 : BitVec 32 := Scf.iv c0_i32_3 c1_i32_5 k0_t2
  let v6 : BitVec 32 := Scalar.addi v5 arg9
  let v7 : Index := Scalar.indexCast v6
  ![v7.toNat]
def k0_off136 (v8 : BitVec 32) : Fin 2 → Nat :=
  let c0_i32_8 : BitVec 32 := 0#32
  ![v8.toNat, 0]

def k0_chk131 (v8 : BitVec 32) : Prop :=
  (∀ a, (k0_off136 v8) a + S1x2048.size a ≤ S40960x2048.size a)
theorem k0_off136_inb : ∀ (v8 : BitVec 32) (k0_hw131 : k0_chk131 v8), ∀ a, (k0_off136 v8) a + S1x2048.size a ≤ S40960x2048.size a := fun v8 k0_hw131 => k0_hw131

def k0_off137 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c0_i32_9 : BitVec 32 := 0#32
  ![arg9.toNat, 0]
def k0_off138 (i : grid0.Coords) (k0_t2 : Fin k0_t2_loop.trips) : Fin 1 → Nat :=
  let arg0 : BitVec 32 := BitVec.ofNat 32 (i 0).val
  let c256_i32_10 : BitVec 32 := 256#32
  let v11 : BitVec 32 := Scalar.muli arg0 c256_i32_10
  let c0_i32_3 : BitVec 32 := 0#32
  let c1_i32_5 : BitVec 32 := 1#32
  let arg9 : BitVec 32 := Scf.iv c0_i32_3 c1_i32_5 k0_t2
  let v12 : BitVec 32 := Scalar.addi v11 arg9
  let v13 : Index := Scalar.indexCast v12
  ![v13.toNat]
def k0_off139 (v14 : BitVec 32) : Fin 2 → Nat :=
  let c0_i32_11 : BitVec 32 := 0#32
  ![v14.toNat, 0]

def k0_chk132 (v14 : BitVec 32) : Prop :=
  (∀ a, (k0_off139 v14) a + S1x2048.size a ≤ S40960x2048.size a)
theorem k0_off139_inb : ∀ (v14 : BitVec 32) (k0_hw132 : k0_chk132 v14), ∀ a, (k0_off139 v14) a + S1x2048.size a ≤ S40960x2048.size a := fun v14 k0_hw132 => k0_hw132

def k0_off140 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c0_i32_12 : BitVec 32 := 0#32
  ![arg9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S16384 : Shape := ⟨1, ![16384]⟩
abbrev S64 : Shape := ⟨1, ![64]⟩
abbrev S16384x2048 : Shape := ⟨2, ![16384, 2048]⟩
abbrev S_ : Shape := ⟨0, ![]⟩
abbrev S40960x2048 : Shape := ⟨2, ![40960, 2048]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S64, .i32⟩
  | .hbm, ⟨3, _⟩ => ⟨S16384x2048, .f32⟩
  | .hbm, ⟨4, _⟩ => ⟨S_, .f32⟩
  | .hbm, ⟨5, _⟩ => ⟨S40960x2048, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S40960x2048, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S40960x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S40960x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v4 : BitVec 32) : BitVec 1 :=
  let arg0 : BitVec 32 := BitVec.ofNat 32 (i 0).val
  let v5 : BitVec 1 := Scalar.cmpi .slt arg0 v4
  let v14 : BitVec 32 := Scalar.extui v5
  let c0_i32_2 : BitVec 32 := 0#32
  let v15 : BitVec 1 := Scalar.cmpi .ne v14 c0_i32_2
  v15

def k0_cond3 (i : grid0.Coords) (v4 : BitVec 32) : BitVec 1 :=
  let arg0 : BitVec 32 := BitVec.ofNat 32 (i 0).val
  let v5 : BitVec 1 := Scalar.cmpi .slt arg0 v4
  let v_true : BitVec 1 := 1#1
  let v16 : BitVec 1 := Scalar.xori v5 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S_ : Shape := ⟨0, ![]⟩
abbrev S160x1 : Shape := ⟨2, ![160, 1]⟩
abbrev S1x32 : Shape := ⟨2, ![1, 32]⟩
abbrev S160x32 : Shape := ⟨2, ![160, 32]⟩
abbrev S160x256x32 : Shape := ⟨3, ![160, 256, 32]⟩
abbrev S40960x32 : Shape := ⟨2, ![40960, 32]⟩
abbrev S32x512x40960 : Shape := ⟨3, ![32, 512, 40960]⟩
abbrev S32x40960x512 : Shape := ⟨3, ![32, 40960, 512]⟩
abbrev S32x40960x2048 : Shape := ⟨3, ![32, 40960, 2048]⟩

abbrev nBuf : Space → Nat
  | .hbm => 38
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S160, .i32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S160, .f32⟩
  | .hbm, ⟨11, _⟩ => ⟨S160x1, .i32⟩
  | .hbm, ⟨12, _⟩ => ⟨S1x32, .i32⟩
  | .hbm, ⟨13, _⟩ => ⟨S160x32, .i32⟩
  | .hbm, ⟨14, _⟩ => ⟨S160x32, .i32⟩
  | .hbm, ⟨15, _⟩ => ⟨S160x32, .i1⟩
  | .hbm, ⟨16, _⟩ => ⟨S160x32, .f32⟩
  | .hbm, ⟨17, _⟩ => ⟨S160x1, .f32⟩
  | .hbm, ⟨18, _⟩ => ⟨S160x32, .f32⟩
  | .hbm, ⟨19, _⟩ => ⟨S160x32, .f32⟩
  | .hbm, ⟨20, _⟩ => ⟨S160x256x32, .f32⟩
  | .hbm, ⟨21, _⟩ => ⟨S40960x32, .f32⟩
  | .hbm, ⟨22, _⟩ => ⟨S32x512x40960, .f32⟩
  | .hbm, ⟨23, _⟩ => ⟨S32x40960x512, .f32⟩
  | .hbm, ⟨24, _⟩ => ⟨S32x40960x512, .f32⟩
  | .hbm, ⟨25, _⟩ => ⟨S32x40960x512, .f32⟩
  | .hbm, ⟨26, _⟩ => ⟨S_, .f32⟩
  | .hbm, ⟨27, _⟩ => ⟨S32x40960x512, .f32⟩
  | .hbm, ⟨28, _⟩ => ⟨S32x40960x512, .f32⟩
  | .hbm, ⟨29, _⟩ => ⟨S_, .f32⟩
  | .hbm, ⟨30, _⟩ => ⟨S32x40960x512, .f32⟩
  | .hbm, ⟨31, _⟩ => ⟨S32x40960x512, .f32⟩
  | .hbm, ⟨32, _⟩ => ⟨S32x40960x512, .f32⟩
  | .hbm, ⟨33, _⟩ => ⟨S32x512x40960, .f32⟩
  | .hbm, ⟨34, _⟩ => ⟨S32x40960x512, .f32⟩
  | .hbm, ⟨35, _⟩ => ⟨S32x40960x512, .f32⟩
  | .hbm, ⟨36, _⟩ => ⟨S32x40960x2048, .f32⟩
  | .hbm, ⟨37, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Combine.lean ====
abbrev S16384 : Shape := ⟨1, ![16384]⟩
abbrev S16384x2048 : Shape := ⟨2, ![16384, 2048]⟩
abbrev S16384x128 : Shape := ⟨2, ![16384, 128]⟩
abbrev S40960x2048 : Shape := ⟨2, ![40960, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S_ : Shape := ⟨0, ![]⟩
abbrev S1 : Shape := ⟨1, ![1]⟩
abbrev S256x1 : Shape := ⟨2, ![256, 1]⟩
abbrev S256 : Shape := ⟨1, ![256]⟩

abbrev nBuf : Space → Nat
  | .hbm => 6
  | .vmem => 9
  | .smem => 2
  | _ => 0

abbrev bufTy : (tb : Table) → Fin (tcTables nBuf tb) → BufTy
  | .hbm, ⟨0, _⟩ => ⟨S16384x2048, .f32⟩
  | .hbm, ⟨1, _⟩ => ⟨S16384x128, .f32⟩
  | .hbm, ⟨2, _⟩ => ⟨S40960x2048, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S16384, .i32⟩
  | .local _ .smem, ⟨1, _⟩ => ⟨S16384, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c256_i32_18 : BitVec 32 := 256#32
  let v29 : BitVec 32 := Scalar.muli arg0 c256_i32_18
  let c0_i32 : BitVec 32 := 0#32
  let c1_i32 : BitVec 32 := 1#32
  let arg11 : BitVec 32 := Scf.iv c0_i32 c1_i32 k0_t1
  let v30 : BitVec 32 := Scalar.addi v29 arg11
  let v31 : Index := Scalar.indexCast v30
  ![v31.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_19 : BitVec 32 := 0#32
  ![arg11.toNat, 0]
def k0_off3 (v32 : BitVec 32) : Fin 2 → Nat :=
  let c0_i32_20 : BitVec 32 := 0#32
  ![v32.toNat, 0]

def k0_chk1 (v32 : BitVec 32) : Prop :=
  (∀ a, (k0_off3 v32) a + S1x2048.size a ≤ S40960x2048.size a)
theorem k0_off3_inb : ∀ (v32 : BitVec 32) (k0_hw1 : k0_chk1 v32), ∀ a, (k0_off3 v32) a + S1x2048.size a ≤ S40960x2048.size a := fun v32 k0_hw1 => k0_hw1

def k0_off4 (i : grid0.Coords) (k0_t1 : Fin k0_t1_loop.trips) : Fin 1 → Nat :=
  let arg0 : BitVec 32 := BitVec.ofNat 32 (i 0).val
  let c256_i32_21 : BitVec 32 := 256#32
  let v35 : BitVec 32 := Scalar.muli arg0 c256_i32_21
  let c0_i32 : BitVec 32 := 0#32
  let c1_i32 : BitVec 32 := 1#32
  let arg11 : BitVec 32 := Scf.iv c0_i32 c1_i32 k0_t1
  let v36 : BitVec 32 := Scalar.addi v35 arg11
  let v37 : Index := Scalar.indexCast v36
  ![v37.toNat]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_22 : BitVec 32 := 0#32
  ![arg11.toNat, 0]
def k0_off6 (v38 : BitVec 32) : Fin 2 → Nat :=
  let c0_i32_23 : BitVec 32 := 0#32
  ![v38.toNat, 0]

def k0_chk2 (v38 : BitVec 32) : Prop :=
  (∀ a, (k0_off6 v38) a + S1x2048.size a ≤ S40960x2048.size a)
theorem k0_off6_inb : ∀ (v38 : BitVec 32) (k0_hw2 : k0_chk2 v38), ∀ a, (k0_off6 v38) a + S1x2048.size a ≤ S40960x2048.size a := fun v38 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (i : grid0.Coords) (k0_t2 : Fin k0_t2_loop.trips) : Fin 1 → Nat :=
  let arg0 : BitVec 32 := BitVec.ofNat 32 (i 0).val
  let c256_i32_18 : BitVec 32 := 256#32
  let v29 : BitVec 32 := Scalar.muli arg0 c256_i32_18
  let c0_i32_1 : BitVec 32 := 0#32
  let c1_i32_3 : BitVec 32 := 1#32
  let arg11 : BitVec 32 := Scf.iv c0_i32_1 c1_i32_3 k0_t2
  let v30 : BitVec 32 := Scalar.addi v29 arg11
  let v31 : Index := Scalar.indexCast v30
  ![v31.toNat]
def k0_off8 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c0_i32_19 : BitVec 32 := 0#32
  ![arg11.toNat, 0]
def k0_off9 (v32 : BitVec 32) : Fin 2 → Nat :=
  let c0_i32_20 : BitVec 32 := 0#32
  ![v32.toNat, 0]

def k0_chk3 (v32 : BitVec 32) : Prop :=
  (∀ a, (k0_off9 v32) a + S1x2048.size a ≤ S40960x2048.size a)
theorem k0_off9_inb : ∀ (v32 : BitVec 32) (k0_hw3 : k0_chk3 v32), ∀ a, (k0_off9 v32) a + S1x2048.size a ≤ S40960x2048.size a := fun v32 k0_hw3 => k0_hw3

def k0_off10 (i : grid0.Coords) (k0_t2 : Fin k0_t2_loop.trips) : Fin 1 → Nat :=
  let arg0 : BitVec 32 := BitVec.ofNat 32 (i 0).val
  let c256_i32_21 : BitVec 32 := 256#32
  let v35 : BitVec 32 := Scalar.muli arg0 c256_i32_21
  let c0_i32_1 : BitVec 32 := 0#32
  let c1_i32_3 : BitVec 32 := 1#32
  let arg11 : BitVec 32 := Scf.iv c0_i32_1 c1_i32_3 k0_t2
  let v36 : BitVec 32 := Scalar.addi v35 arg11
  let v37 : Index := Scalar.indexCast v36
  ![v37.toNat]
def k0_off11 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c0_i32_22 : BitVec 32 := 0#32
  ![arg11.toNat, 0]
def k0_off12 (v38 : BitVec 32) : Fin 2 → Nat :=
  let c0_i32_23 : BitVec 32 := 0#32
  ![v38.toNat, 0]

def k0_chk4 (v38 : BitVec 32) : Prop :=
  (∀ a, (k0_off12 v38) a + S1x2048.size a ≤ S40960x2048.size a)
theorem k0_off12_inb : ∀ (v38 : BitVec 32) (k0_hw4 : k0_chk4 v38), ∀ a, (k0_off12 v38) a + S1x2048.size a ≤ S40960x2048.size a := fun v38 k0_hw4 => k0_hw4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S16384 : Shape := ⟨1, ![16384]⟩
abbrev S16384x2048 : Shape := ⟨2, ![16384, 2048]⟩
abbrev S16384x128 : Shape := ⟨2, ![16384, 128]⟩
abbrev S40960x2048 : Shape := ⟨2, ![40960, 2048]⟩
abbrev S2048 : Shape := ⟨1, ![2048]⟩
abbrev S16384x1 : Shape := ⟨2, ![16384, 1]⟩
abbrev S_ : Shape := ⟨0, ![]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x2048, .f32⟩
  | .hbm, ⟨3, _⟩ => ⟨S16384x128, .f32⟩
  | .hbm, ⟨4, _⟩ => ⟨S40960x2048, .f32⟩
  | .hbm, ⟨5, _⟩ => ⟨S2048, .f32⟩
  | .hbm, ⟨6, _⟩ => ⟨S16384x1, .f32⟩
  | .hbm, ⟨7, _⟩ => ⟨S16384x1, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== InProj.lean ====
abbrev S2x8192x2048 : Shape := ⟨3, ![2, 8192, 2048]⟩
abbrev S1x2048 : Shape := ⟨2, ![1, 2048]⟩
abbrev S1x2048x6160 : Shape := ⟨3, ![1, 2048, 6160]⟩
abbrev S1x8 : Shape := ⟨2, ![1, 8]⟩
abbrev S16384x2048 : Shape := ⟨2, ![16384, 2048]⟩
abbrev S2048x6160 : Shape := ⟨2, ![2048, 6160]⟩
abbrev S2048x4096 : Shape := ⟨2, ![2048, 4096]⟩
abbrev S2048x2048 : Shape := ⟨2, ![2048, 2048]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S8 : Shape := ⟨1, ![8]⟩
abbrev S1x128 : Shape := ⟨2, ![1, 128]⟩
abbrev S1 : Shape := ⟨1, ![1]⟩
abbrev S2 : Shape := ⟨1, ![2]⟩
abbrev S2048 : Shape := ⟨1, ![2048]⟩
abbrev S6x16384x1024 : Shape := ⟨3, ![6, 16384, 1024]⟩
abbrev S16384x128 : Shape := ⟨2, ![16384, 128]⟩
abbrev S512x2048 : Shape := ⟨2, ![512, 2048]⟩
abbrev S2048x1024 : Shape := ⟨2, ![2048, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 38
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x6160, .f32⟩
  | .hbm, ⟨3, _⟩ => ⟨S1x8, .f32⟩
  | .hbm, ⟨4, _⟩ => ⟨S1x8, .f32⟩
  | .hbm, ⟨5, _⟩ => ⟨S16384x2048, .f32⟩
  | .hbm, ⟨6, _⟩ => ⟨S2048x6160, .f32⟩
  | .hbm, ⟨7, _⟩ => ⟨S2048x4096, .f32⟩
  | .hbm, ⟨8, _⟩ => ⟨S2048x2048, .f32⟩
  | .hbm, ⟨9, _⟩ => ⟨S2048x6144, .f32⟩
  | .hbm, ⟨10, _⟩ => ⟨S2048x6144, .bf16⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S8, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S8, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S2048, .f32⟩
  | .hbm, ⟨35, _⟩ => ⟨S1x2048, .f32⟩
  | .hbm, ⟨36, _⟩ => ⟨S6x16384x1024, .bf16⟩
  | .hbm, ⟨37, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S1x512x1024, .bf16⟩
  | .local _ .vmem, ⟨9, _⟩ => ⟨S1x512x1024, .bf16⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjReferenceIdeal.lean ====
abbrev S2x8192x2048 : Shape := ⟨3, ![2, 8192, 2048]⟩
abbrev S1x2048 : Shape := ⟨2, ![1, 2048]⟩
abbrev S1x2048x6160 : Shape := ⟨3, ![1, 2048, 6160]⟩
abbrev S1x8 : Shape := ⟨2, ![1, 8]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6160 : Shape := ⟨2, ![2048, 6160]⟩
abbrev S16384x6160 : Shape := ⟨2, ![16384, 6160]⟩
abbrev S16384x1024 : Shape := ⟨2, ![16384, 1024]⟩
abbrev S16384x8 : Shape := ⟨2, ![16384, 8]⟩
abbrev S8 : Shape := ⟨1, ![8]⟩
abbrev S16384x112 : Shape := ⟨2, ![16384, 112]⟩
abbrev S1x16384x1024 : Shape := ⟨3, ![1, 16384, 1024]⟩
abbrev S6x16384x1024 : Shape := ⟨3, ![6, 16384, 1024]⟩
abbrev S16384x128 : Shape := ⟨2, ![16384, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x6160, .f32⟩
  | .hbm, ⟨3, _⟩ => ⟨S1x8, .f32⟩
  | .hbm, ⟨4, _⟩ => ⟨S1x8, .f32⟩
  | .hbm, ⟨5, _⟩ => ⟨S16384x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x6160, .f32⟩
  | .hbm, ⟨24, _⟩ => ⟨S16384x6160, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x8, .f32⟩
  | .hbm, ⟨30, _⟩ => ⟨S16384x8, .f32⟩
  | .hbm, ⟨31, _⟩ => ⟨S16384x1024, .f32⟩
  | .hbm, ⟨32, _⟩ => ⟨S16384x1024, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384x8, .f32⟩
  | .hbm, ⟨40, _⟩ => ⟨S16384x8, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S1x8, .f32⟩
  | .hbm, ⟨46, _⟩ => ⟨S16384x8, .f32⟩
  | .hbm, ⟨47, _⟩ => ⟨S16384x8, .f32⟩
  | .hbm, ⟨48, _⟩ => ⟨S_, .f32⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x8, .f32⟩
  | .hbm, ⟨53, _⟩ => ⟨S16384x8, .i1⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S16384x8, .f32⟩
  | .hbm, ⟨61, _⟩ => ⟨S16384x8, .f32⟩
  | .hbm, ⟨62, _⟩ => ⟨S1x8, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S16384x112, .f32⟩
  | .hbm, ⟨67, _⟩ => ⟨S_, .f32⟩
  | .hbm, ⟨68, _⟩ => ⟨S16384x112, .f32⟩
  | .hbm, ⟨69, _⟩ => ⟨S16384x112, .f32⟩
  | .hbm, ⟨70, _⟩ => ⟨S16384x112, .f32⟩
  | .hbm, ⟨71, _⟩ => ⟨S16384x112, .f32⟩
  | .hbm, ⟨72, _⟩ => ⟨S16384x112, .i1⟩
  | .hbm, ⟨73, _⟩ => ⟨S16384x112, .f32⟩
  | .hbm, ⟨74, _⟩ => ⟨S16384x112, .f32⟩
  | .hbm, ⟨75, _⟩ => ⟨S16384x112, .f32⟩
  | .hbm, ⟨76, _⟩ => ⟨S16384x112, .f32⟩
  | .hbm, ⟨77, _⟩ => ⟨S16384x112, .f32⟩
  | .hbm, ⟨78, _⟩ => ⟨S16384x112, .f32⟩
  | .hbm, ⟨79, _⟩ => ⟨S16384x112, .f32⟩
  | .hbm, ⟨80, _⟩ => ⟨S16384x112, .f32⟩
  | .hbm, ⟨81, _⟩ => ⟨S16384x112, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1x16384x1024, .f32⟩
  | .hbm, ⟨86, _⟩ => ⟨S1x16384x1024, .f32⟩
  | .hbm, ⟨87, _⟩ => ⟨S1x16384x1024, .f32⟩
  | .hbm, ⟨88, _⟩ => ⟨S6x16384x1024, .f32⟩
  | .hbm, ⟨89, _⟩ => ⟨S6x16384x1024, .bf16⟩
  | .hbm, ⟨90, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩

abbrev nD : Nat := 1
abbrev τ : Topo := Topo.v7x

variable {F : FTy → Type} [FloatOps F]
-- ==== Proof.Common.lean ====
/-
  What the proofs of the dispatch share: the operands by name, the element sets the copies land on, the words read
  from the tables, and the facts about the routing tables the precondition states.
-/
module

public import proofs.«01_k».proof.Proof.Gen.KernelIdeal.Skeleton
public import proofs.«01_k».proof.Proof.Gen.KernelIdeal.Launch
public import Idealize.ShloMosaic.Lib.Pipeline.FrameValue
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.Affine

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

/-! ## The operands -/

/-- The two position tables and the list of padding tiles. -/
abbrev t1M : Memref sig .tc .smem S16384 .i32 := Memref.whole main_arg0
abbrev t2M : Memref sig .tc .smem S16384 .i32 := Memref.whole main_arg1
abbrev t3M : Memref sig .tc .smem S64 .i32 := Memref.whole main_arg2
/-- The result in HBM and the zeros in VMEM. -/
abbrev xsM : Memref sig .tc .hbm S40960x2048 .f32 := Memref.whole main_v0
abbrev zM : Memref sig .tc .vmem S256x2048 .f32 := Memref.whole cc0_scratch0

/-- Contents of the result, of a block of tokens, of the tables. -/
abbrev XsBuf : Type := S40960x2048.Idx → Elt F .f32
abbrev Blk : Type := S256x2048.Idx → Elt F .f32

/-- The result on the core, on the elements `S`, at contents `f`. -/
abbrev xsPt (c : Dev nD) (S : Finset S40960x2048.Idx) (f : XsBuf (F := F)) : sProp 𝕄 :=
  xsM.view.loc (c : Thread nD τ) ↦[S]{fullShare} f

/-! ## Element sets -/

/-- The elements of row `p` of the result, and of the 256 rows from `p` on. -/
def rowSet (p : ℕ) : Finset S40960x2048.Idx := Finset.univ.filter fun y => (y 0).val = p
def tileSet (p : ℕ) : Finset S40960x2048.Idx := Finset.univ.filter fun y => p ≤ (y 0).val ∧ (y 0).val < p + 256
/-- The elements of row `r` of a block. -/
def brow (r : ℕ) : Finset S256x2048.Idx := Finset.univ.filter fun y => (y 0).val = r

theorem mem_rowSet (p : ℕ) (y : S40960x2048.Idx) : y ∈ rowSet p ↔ (y 0).val = p := by simp [rowSet]
theorem mem_tileSet (p : ℕ) (y : S40960x2048.Idx) : y ∈ tileSet p ↔ p ≤ (y 0).val ∧ (y 0).val < p + 256 := by simp [tileSet]
theorem mem_brow (r : ℕ) (y : S256x2048.Idx) : y ∈ brow r ↔ (y 0).val = r := by simp [brow]

theorem row_set_eq (off : Fin 2 → ℕ) (p : ℕ) (h0 : off 0 = p) (h1 : off 1 = 0)
    (inb : ∀ a, off a + S1x2048.size a ≤ S40960x2048.size a) :
    (xsM.slice (Rect.unit (s := S40960x2048) off S1x2048.size inb) (fun _ => rfl)).view.set = rowSet p := by
  refine (View.set_slice_whole _ _).trans ?_
  ext y
  rw [Rect.mem_set_unit, mem_rowSet]
  have hy : (y 1).val < 2048 := (y 1).isLt
  constructor
  · intro H
    have := H 0
    have e : off 0 ≤ (y 0).val ∧ (y 0).val < off 0 + 1 := this
    omega
  · intro H a
    fin_cases a
    · show off 0 ≤ (y 0).val ∧ (y 0).val < off 0 + 1; omega
    · show off 1 ≤ (y 1).val ∧ (y 1).val < off 1 + 2048; omega

theorem tile_set_eq (off : Fin 2 → ℕ) (p : ℕ) (h0 : off 0 = p) (h1 : off 1 = 0)
    (inb : ∀ a, off a + S256x2048.size a ≤ S40960x2048.size a) :
    (xsM.slice (Rect.unit (s := S40960x2048) off S256x2048.size inb) (fun _ => rfl)).view.set = tileSet p := by
  refine (View.set_slice_whole _ _).trans ?_
  ext y
  rw [Rect.mem_set_unit, mem_tileSet]
  have hy : (y 1).val < 2048 := (y 1).isLt
  constructor
  · intro H
    have e : off 0 ≤ (y 0).val ∧ (y 0).val < off 0 + 256 := H 0
    omega
  · intro H a
    fin_cases a
    · show off 0 ≤ (y 0).val ∧ (y 0).val < off 0 + 256; omega
    · show off 1 ≤ (y 1).val ∧ (y 1).val < off 1 + 2048; omega

/-! ## The copies' amounts -/

/-- What one row's copy credits its semaphore, and what one tile's copy does. -/
abbrev NR : ℕ := main_v0.dmaCredit S1x2048 .f32
abbrev NZ : ℕ := main_v0.dmaCredit S256x2048 .f32
theorem NR_pos : 0 < NR := by decide
theorem NZ_pos : 0 < NZ := by decide

/-! ## Words of a table -/

/-- The word a load of one element reads, as the table's entry there. -/
theorem read_word {n : ℕ} (b : Ref sig .tc) (f : (Memref.whole b).view.ty.Contents (Elt F)) (r : Rect b.ty.shape) (x : r.shape.Idx) :
    ((Memref.whole b).access r).read (Elt F) f x = f (r.emb x) := rfl

end Cert.KernelIdeal.Hand

end
-- ==== Proof.Rows.lean ====
/-
  One row's copy, and one wait for it, as the trips of the two loops print them.
-/
module

public import proofs.«01_k».proof.Proof.Common

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

/-- A row of the block in `M`, by the elements of the buffer that hold it. -/
def bset (M : Memref sig .tc .vmem S256x2048 .f32) (r : ℕ) : Finset M.view.ty.Idx := (brow r).map M.view.emb

theorem bset_eq (M : Memref sig .tc .vmem S256x2048 .f32) (off : Fin 2 → ℕ) (r : ℕ) (h0 : off 0 = r) (h1 : off 1 = 0)
    (inb : ∀ a, off a + S1x2048.size a ≤ S256x2048.size a) :
    (M.slice (Rect.unit (s := S256x2048) off S1x2048.size inb) (fun _ => rfl)).view.set = bset M r := by
  refine (View.set_slice _ _).trans ?_
  unfold bset
  congr 1
  ext y
  rw [Rect.mem_set_unit, mem_brow]
  have hy : (y 1).val < 2048 := (y 1).isLt
  constructor
  · intro H
    have e : off 0 ≤ (y 0).val ∧ (y 0).val < off 0 + 1 := H 0
    omega
  · intro H a
    fin_cases a
    · show off 0 ≤ (y 0).val ∧ (y 0).val < off 0 + 1; omega
    · show off 1 ≤ (y 1).val ∧ (y 1).val < off 1 + 2048; omega

/-- What the copy of row `r` of the block at contents `fs` lands on row `p` of the result. -/
theorem row_landed (M : Memref sig .tc .vmem S256x2048 .f32) (c : Dev nD) (fs : Buf (Elt F) (M.view.loc (c : Thread nD τ)))
    (fd X : XsBuf (F := F)) (off boff : Fin 2 → ℕ) (p r : ℕ) (h0 : off 0 = p) (h1 : off 1 = 0) (b0 : boff 0 = r) (b1 : boff 1 = 0)
    (inb : ∀ a, off a + S1x2048.size a ≤ S40960x2048.size a) (binb : ∀ a, boff a + S1x2048.size a ≤ S256x2048.size a)
    (hX : ∀ y ∈ rowSet p, ∀ z : S256x2048.Idx, (z 0).val = r → (z 1).val = (y 1).val → X y = M.view.read (Elt F) fs z) :
    ∀ y ∈ rowSet p, (xsM.slice (Rect.unit (s := S40960x2048) off S1x2048.size inb) (fun _ => rfl)).view.write (Elt F) fd
      (ReadAs.same.apply ((M.slice (Rect.unit (s := S256x2048) boff S1x2048.size binb) (fun _ => rfl)).view.read (Elt F) fs)) Finset.univ y = X y := by
  intro y hy
  have hy' := hy
  rw [← row_set_eq off p h0 h1 inb, View.set, Finset.mem_map] at hy'
  obtain ⟨x, -, hx⟩ := hy'
  subst hx
  rw [View.write_emb_of_mem _ _ (Finset.mem_univ x)]
  have e0 : (x 0).val = 0 := by have : (x 0).val < 1 := (x 0).isLt; omega
  refine (hX _ hy ((Rect.unit (s := S256x2048) boff S1x2048.size binb).emb x) ?_ ?_).symm
  · show boff 0 + 1 * (x 0).val = r; omega
  · show boff 1 + 1 * (x 1).val = off 1 + 1 * (x 1).val; omega

/-- One start of a row's copy: the word of the table, the check of the address, the copy. -/
def rowStart (tM : Memref sig .tc .smem S16384 .i32) (M : Memref sig .tc .vmem S256x2048 .f32) (xM : Memref sig .tc .hbm S40960x2048 .f32) (sem : DmaSems sig S_)
    (toff : Fin 1 → ℕ) (hti : ∀ a, toff a + S1.size a ≤ S16384.size a) (boff : Fin 2 → ℕ) (hbi : ∀ a, boff a + S1x2048.size a ≤ S256x2048.size a)
    (k : Prog (TpuEff nD τ sig (Elt F) Λ₀ .tc) Unit) : Prog (TpuEff nD τ sig (Elt F) Λ₀ .tc) Unit :=
  smemLoadElt tM (Rect.unit (s := S16384) toff S1.size hti) (View.loads_smem_one rfl numel1_S1) (Shape.Idx.first (numel1_S1.symm ▸ Nat.one_pos)) fun v =>
    .op (.assume (k0_chk129 v) (k0_chk129.dec v)) fun h =>
      .op (.enqueueDma (M.slice (Rect.unit (s := S256x2048) boff S1x2048.size hbi) (fun _ => rfl))
        (.here (xM.slice (Rect.unit (s := S40960x2048) (k0_off130 v) S1x2048.size (k0_off130_inb v h.down)) (fun _ => rfl)))
        (.dma sem.sem) (View.wordExact_bits rfl) (View.wordExact_bits rfl) ⟨Or.inl rfl, trivial⟩) fun _ => k

/-- One wait for a row's copy. -/
def rowWait (tM : Memref sig .tc .smem S16384 .i32) (M : Memref sig .tc .vmem S256x2048 .f32) (xM : Memref sig .tc .hbm S40960x2048 .f32) (sem : DmaSems sig S_)
    (toff : Fin 1 → ℕ) (hti : ∀ a, toff a + S1.size a ≤ S16384.size a) (boff : Fin 2 → ℕ) (hbi : ∀ a, boff a + S1x2048.size a ≤ S256x2048.size a)
    (k : Prog (TpuEff nD τ sig (Elt F) Λ₀ .tc) Unit) : Prog (TpuEff nD τ sig (Elt F) Λ₀ .tc) Unit :=
  smemLoadElt tM (Rect.unit (s := S16384) toff S1.size hti) (View.loads_smem_one rfl numel1_S1) (Shape.Idx.first (numel1_S1.symm ▸ Nat.one_pos)) fun v =>
    .op (.assume (k0_chk129 v) (k0_chk129.dec v)) fun h =>
      .op (.waitDma2 sem.sem (M.slice (Rect.unit (s := S256x2048) boff S1x2048.size hbi) (fun _ => rfl))
        (xM.slice (Rect.unit (s := S40960x2048) (k0_off130 v) S1x2048.size (k0_off130_inb v h.down)) (fun _ => rfl))
        (View.wordExact_bits rfl) (View.wordExact_bits rfl)) fun _ => k

/-- The two trips' regions are two starts, and two waits. -/
theorem t1_body_eq (i : grid0.Coords) (a1 : Memref sig .tc .smem S16384 .i32) (h1) (a2 : Memref sig .tc .smem S16384 .i32) (h2) (a3 : Memref sig .tc .smem S64 .i32) (h3)
    (a4 : Memref sig .tc .vmem S256x2048 .f32) (h4) (a5 : Memref sig .tc .hbm S40960x2048 .f32) (h5) (a6 : Memref sig .tc .vmem S256x2048 .f32) (h6) (a7 a8 : DmaSems sig S_)
    (t : Fin k0_t1_loop.trips) (u : Unit) :
    k0_t1_body (F := F) i a1 h1 a2 h2 a3 h3 a4 h4 a5 h5 a6 h6 a7 a8 t u
      = rowStart a1 a4 a5 a7 (k0_off129 i t) (k0_off129_inb i t) (k0_off131 t) (k0_off131_inb t)
          (rowStart a2 a4 a5 a7 (k0_off132 i t) (k0_off132_inb i t) (k0_off134 t) (k0_off134_inb t) (pure ())) := rfl

theorem t2_body_eq (i : grid0.Coords) (a1 : Memref sig .tc .smem S16384 .i32) (h1) (a2 : Memref sig .tc .smem S16384 .i32) (h2) (a3 : Memref sig .tc .smem S64 .i32) (h3)
    (a4 : Memref sig .tc .vmem S256x2048 .f32) (h4) (a5 : Memref sig .tc .hbm S40960x2048 .f32) (h5) (a6 : Memref sig .tc .vmem S256x2048 .f32) (h6) (a7 a8 : DmaSems sig S_)
    (t : Fin k0_t2_loop.trips) (u : Unit) :
    k0_t2_body (F := F) i a1 h1 a2 h2 a3 h3 a4 h4 a5 h5 a6 h6 a7 a8 t u
      = rowWait a1 a4 a5 a7 (k0_off135 i t) (k0_off135_inb i t) (k0_off137 t) (k0_off137_inb t)
          (rowWait a2 a4 a5 a7 (k0_off138 i t) (k0_off138_inb i t) (k0_off140 t) (k0_off140_inb t) (pure ())) := rfl

section Specs

variable (c : Dev nD) (b : Ref sig .tc) (M : Memref sig .tc .vmem S256x2048 .f32)

/-- A position table on the core. -/
abbrev tabPt (tM : Memref sig .tc .smem S16384 .i32) (q : PosShare TreeShare) (f : Buf (Elt F) (tM.view.loc (c : Thread nD τ))) : sProp 𝕄 :=
  tM.view.loc (c : Thread nD τ) ↦{q} f
/-- Row `r` of the block in `M`, at share `q`. -/
abbrev bPt (r : ℕ) (q : PosShare TreeShare) (fs : Buf (Elt F) (M.view.loc (c : Thread nD τ))) : sProp 𝕄 :=
  M.view.loc (c : Thread nD τ) ↦[bset M r]{q} fs

/-- The row loop's copies land on the cell of pool number 2. -/
abbrev rowBatch {n : ℕ} (D : Fin n → sProp 𝕄) (j u : ℕ) : sProp 𝕄 :=
  Transfers.Batch (Lvl := ℕ) (Name := ℕ) (countersEmb (U := Pipeline.UD sig nD τ)) (c : Thread nD τ) (SemLoc.dma cc0_scratch1.sem) () NR D j u

theorem wp_rowStart {n : ℕ} {D : Fin n → sProp 𝕄} {j u : ℕ} (hj : j < n) (hu : u ≤ j * NR)
    (tM : Memref sig .tc .smem S16384 .i32) (qt : PosShare TreeShare) (ft : Buf (Elt F) (tM.view.loc (c : Thread nD τ)))
    (toff : Fin 1 → ℕ) (hti : ∀ a, toff a + S1.size a ≤ S16384.size a) (boff : Fin 2 → ℕ) (hbi : ∀ a, boff a + S1x2048.size a ≤ S256x2048.size a)
    (x p r : ℕ) (hx : toff 0 = x) (b0 : boff 0 = r) (b1 : boff 1 = 0) (hlt : p < 40960)
    (hp : ∀ y : S16384.Idx, (y 0).val = x → (tM.view.read (Elt F) ft y : BitVec 32).toNat = p)
    (q : PosShare TreeShare) (fs : Buf (Elt F) (M.view.loc (c : Thread nD τ)))
    (S : Finset S40960x2048.Idx) (hS : rowSet p ⊆ S) (fd X : XsBuf (F := F))
    (hX : ∀ y ∈ rowSet p, ∀ z : S256x2048.Idx, (z 0).val = r → (z 1).val = (y 1).val → X y = M.view.read (Elt F) fs z)
    (hD : iprop(xsPt c (rowSet p) X ∗ bPt c M r q fs) ⊢ D ⟨j, hj⟩)
    (k : Prog (TpuEff nD τ sig (Elt F) Λ₀ .tc) Unit) (Q : Unit → sProp 𝕄) :
    iprop(tabPt c tM qt ft ∗ bPt c M r q fs ∗ xsPt c S fd ∗ rowBatch c D j u)
      ⊢ iprop((iprop(tabPt c tM qt ft ∗ xsPt c (S \ rowSet p) fd ∗ rowBatch c D (j + 1) u)
            -∗ wp frame (wpE (defs₀ (F := F)) Variants.none c none) Set.univ k Q)
          -∗ wp frame (wpE (defs₀ (F := F)) Variants.none c none) Set.univ (rowStart tM M xsM cc0_scratch1 toff hti boff hbi k) Q) := by
  unfold rowStart
  iintro ⟨Ht, Hb, Hx, HB⟩ Hk
  iapply (wp_smemLoadElt_named Variants.none (c : Thread nD τ) none Set.univ (m := tM) (r := Rect.unit (s := S16384) toff S1.size hti) (S := Finset.univ) (q := qt) (f := ft)) $$ Ht
  iintro Ht %v %hv
  have hvp : (v : BitVec 32).toNat = p := by
    rw [hv]
    refine hp ((Rect.unit (s := S16384) toff S1.size hti).emb (Shape.Idx.first (numel1_S1.symm ▸ Nat.one_pos))) ?_
    have h0 : ((Shape.Idx.first (s := S1) (numel1_S1.symm ▸ Nat.one_pos)) 0).val < 1 := ((Shape.Idx.first (s := S1) (numel1_S1.symm ▸ Nat.one_pos)) 0).isLt
    show toff 0 + 1 * ((Shape.Idx.first (s := S1) (numel1_S1.symm ▸ Nat.one_pos)) 0).val = x
    omega
  have o0 : k0_off130 v 0 = p := hvp
  have o1 : k0_off130 v 1 = 0 := rfl
  have hw : k0_chk129 v := by
    intro a
    fin_cases a
    · show k0_off130 v 0 + 1 ≤ 40960; omega
    · show k0_off130 v 1 + 2048 ≤ 2048; omega
  iapply (wp_assume Variants.none (c : Thread nD τ) none Set.univ hw)
  ihave Hx' := (pointsTo_split_subset hS).1 $$ Hx
  icases Hx' with ⟨Hd, Hx⟩
  iapply (Transfers.wp_dmaBatch (countersEmb (U := Pipeline.UD sig nD τ)) Variants.none (c : Thread nD τ) none (q := q)
      (src := M.slice (Rect.unit (s := S256x2048) boff S1x2048.size hbi) (fun _ => rfl))
      (dst := xsM.slice (Rect.unit (s := S40960x2048) (k0_off130 v) S1x2048.size (k0_off130_inb v hw)) (fun _ => rfl))
      (Sd := rowSet p) (fs := fs) (fd := fd) (D := D) (j := j) (u := u)
      () NR rfl (Finset.Subset.antisymm_iff.mp (row_set_eq _ p o0 o1 _)).1 hj hu
      ((BIClass.sep_mono (Entails.of_eq (pointsTo_congr (row_landed M c fs fd X _ boff p r o0 o1 b0 b1 _ hbi hX)))
        (Entails.of_eq (by rw [bset_eq M boff r b0 b1 hbi]))).trans hD)) $$ [Hb Hd HB]
  · isplitl [Hb]
    · rw [bset_eq M boff r b0 b1 hbi]; iexact Hb
    isplitl [Hd]; · iexact Hd
    iexact HB
  iintro HB
  iapply Hk
  isplitl [Ht]; · iexact Ht
  isplitl [Hx]; · iexact Hx
  iexact HB

theorem wp_rowWait {n : ℕ} {D : Fin n → sProp 𝕄} {j u : ℕ} (hu : u + NR ≤ NR * j)
    (tM : Memref sig .tc .smem S16384 .i32) (qt : PosShare TreeShare) (ft : Buf (Elt F) (tM.view.loc (c : Thread nD τ)))
    (toff : Fin 1 → ℕ) (hti : ∀ a, toff a + S1.size a ≤ S16384.size a) (boff : Fin 2 → ℕ) (hbi : ∀ a, boff a + S1x2048.size a ≤ S256x2048.size a)
    (hp : ∀ y : S16384.Idx, (tM.view.read (Elt F) ft y : BitVec 32).toNat < 40960) (W : Waits sig Unit)
    (k : Prog (TpuEff nD τ sig (Elt F) Λ₀ .tc) Unit) (Q : Unit → sProp 𝕄) :
    iprop(tabPt c tM qt ft ∗ rowBatch c D j u ∗ owes (c : Thread nD τ) 0 W)
      ⊢ iprop((iprop(tabPt c tM qt ft ∗ rowBatch c D j (u + NR) ∗ ∃ W', owes (c : Thread nD τ) 0 W')
            -∗ wp frame (wpE (defs₀ (F := F)) Variants.none c none) Set.univ k Q)
          -∗ wp frame (wpE (defs₀ (F := F)) Variants.none c none) Set.univ (rowWait tM M xsM cc0_scratch1 toff hti boff hbi k) Q) := by
  unfold rowWait
  iintro ⟨Ht, HB, HO⟩ Hk
  iapply (wp_smemLoadElt_named Variants.none (c : Thread nD τ) none Set.univ (m := tM) (r := Rect.unit (s := S16384) toff S1.size hti) (S := Finset.univ) (q := qt) (f := ft)) $$ Ht
  iintro Ht %v %hv
  have hvp : (v : BitVec 32).toNat < 40960 := by
    rw [hv]
    exact hp ((Rect.unit (s := S16384) toff S1.size hti).emb (Shape.Idx.first (numel1_S1.symm ▸ Nat.one_pos)))
  have o0 : k0_off130 v 0 = (v : BitVec 32).toNat := rfl
  have o1 : k0_off130 v 1 = 0 := rfl
  have hw : k0_chk129 v := by
    intro a
    fin_cases a
    · show k0_off130 v 0 + 1 ≤ 40960; omega
    · show k0_off130 v 1 + 2048 ≤ 2048; omega
  iapply (wp_assume Variants.none (c : Thread nD τ) none Set.univ hw)
  iapply (Transfers.wp_waitBatchMul (countersEmb (U := Pipeline.UD sig nD τ)) Variants.none (c : Thread nD τ) none () 1
      (N := NR) (D := D) (j := j) (u := u) (W := W) (show _ = 1 * NR by rw [Nat.one_mul]; rfl) (by omega)) $$ [HB HO]
  · isplitl [HB]; · iexact HB
    iexact HO
  iintro ⟨HB, HO⟩
  iapply Hk
  isplitl [Ht]; · iexact Ht
  isplitl [HB]; · rw [Nat.one_mul]; iexact HB
  iexists _; iexact HO

end Specs

end Cert.KernelIdeal.Hand

end
-- ==== Proof.Loops.lean ====
/-
  The two loops of a grid step: 512 copies of a row of the block into the result, then 512 waits.
-/
module

public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

theorem trips1 : k0_t1_loop.trips = 256 := by decide
theorem trips2 : k0_t2_loop.trips = 256 := by decide

/-! ## The offsets -/

theorem iv_word (k : ℕ) : Scf.iv 0#32 1#32 k = BitVec.ofNat 32 k := by simp [Scf.iv]
theorem iv_toNat (k : ℕ) (hk : k < 256) : (Scf.iv 0#32 1#32 k).toNat = k := by
  rw [iv_word, BitVec.toNat_ofNat]; omega

theorem base_word (i : grid0.Coords) (k : ℕ) (hk : k < 256) :
    (Scalar.addi (Scalar.muli (BitVec.ofNat 32 (i 0).val) 256#32) (Scf.iv 0#32 1#32 k)).toNat = 256 * (i 0).val + k := by
  have hi : (i 0).val < 64 := (i 0).isLt
  rw [iv_word]
  show (BitVec.ofNat 32 (i 0).val * 256#32 + BitVec.ofNat 32 k).toNat = _
  rw [BitVec.toNat_add, BitVec.toNat_mul, BitVec.toNat_ofNat, BitVec.toNat_ofNat, BitVec.toNat_ofNat]
  omega

theorem off129_eq (i : grid0.Coords) (t : Fin k0_t1_loop.trips) : k0_off129 i t 0 = 256 * (i 0).val + t.val :=
  base_word i t.val (trips1 ▸ t.isLt)
theorem off132_eq (i : grid0.Coords) (t : Fin k0_t1_loop.trips) : k0_off132 i t 0 = 256 * (i 0).val + t.val :=
  base_word i t.val (trips1 ▸ t.isLt)
theorem off131_eq (t : Fin k0_t1_loop.trips) : k0_off131 t 0 = t.val :=
  iv_toNat t.val (trips1 ▸ t.isLt)
theorem off134_eq (t : Fin k0_t1_loop.trips) : k0_off134 t 0 = t.val :=
  iv_toNat t.val (trips1 ▸ t.isLt)

/-! ## One step's rows -/

/-- The rows one grid step writes: token `256 i + r` of the step goes to the two rows `w1 r` and `w2 r`, all of them
    different. -/
structure StepRows (w1 w2 : ℕ → ℕ) : Prop where
  lt1 : ∀ r < 256, w1 r < 40960
  lt2 : ∀ r < 256, w2 r < 40960
  inj1 : ∀ r < 256, ∀ r' < 256, w1 r = w1 r' → r = r'
  inj2 : ∀ r < 256, ∀ r' < 256, w2 r = w2 r' → r = r'
  disj : ∀ r < 256, ∀ r' < 256, w1 r ≠ w2 r'

/-- The elements of the result no copy before trip `k` was issued for. -/
def unissued (w1 w2 : ℕ → ℕ) (k : ℕ) : Finset S40960x2048.Idx :=
  Finset.univ.filter fun y => ∀ r < k, w1 r ≠ (y 0).val ∧ w2 r ≠ (y 0).val

theorem mem_unissued (w1 w2 : ℕ → ℕ) (k : ℕ) (y : S40960x2048.Idx) :
    y ∈ unissued w1 w2 k ↔ ∀ r < k, w1 r ≠ (y 0).val ∧ w2 r ≠ (y 0).val := by simp [unissued]

theorem unissued_zero (w1 w2 : ℕ → ℕ) : unissued w1 w2 0 = Finset.univ := by
  ext y; simp [mem_unissued]

theorem unissued_succ (w1 w2 : ℕ → ℕ) (k : ℕ) : unissued w1 w2 (k + 1) = (unissued w1 w2 k \ rowSet (w1 k)) \ rowSet (w2 k) := by
  ext y
  simp only [Finset.mem_sdiff, mem_unissued, mem_rowSet]
  constructor
  · intro h
    exact ⟨⟨fun r hr => h r (by omega), fun e => (h k (by omega)).1 e.symm⟩, fun e => (h k (by omega)).2 e.symm⟩
  · rintro ⟨⟨h, h1⟩, h2⟩ r hr
    rcases Nat.lt_succ_iff_lt_or_eq.mp hr with h' | rfl
    · exact h r h'
    · exact ⟨fun e => h1 e.symm, fun e => h2 e.symm⟩

section Step

variable (c : Dev nD) (i : grid0.Coords) (M : Memref sig .tc .vmem S256x2048 .f32) (hM : M.IsWhole)
  (q1 q2 : PosShare TreeShare) (f1 : Buf (Elt F) (t1M.view.loc (c : Thread nD τ))) (f2 : Buf (Elt F) (t2M.view.loc (c : Thread nD τ)))
  (fs : Buf (Elt F) (M.view.loc (c : Thread nD τ))) (f X : XsBuf (F := F)) (w1 w2 : ℕ → ℕ)

/-- What is known of the step: its rows are where the tables say, and `X` is the result after it. -/
structure StepFacts : Prop where
  rows : StepRows w1 w2
  tab1 : ∀ r < 256, ∀ y : S16384.Idx, (y 0).val = 256 * (i 0).val + r → (t1M.view.read (Elt F) f1 y : BitVec 32).toNat = w1 r
  tab2 : ∀ r < 256, ∀ y : S16384.Idx, (y 0).val = 256 * (i 0).val + r → (t2M.view.read (Elt F) f2 y : BitVec 32).toNat = w2 r
  all1 : ∀ y : S16384.Idx, (t1M.view.read (Elt F) f1 y : BitVec 32).toNat < 40960
  all2 : ∀ y : S16384.Idx, (t2M.view.read (Elt F) f2 y : BitVec 32).toNat < 40960
  new1 : ∀ r < 256, ∀ y ∈ rowSet (w1 r), ∀ z : S256x2048.Idx, (z 0).val = r → (z 1).val = (y 1).val → X y = M.view.read (Elt F) fs z
  new2 : ∀ r < 256, ∀ y ∈ rowSet (w2 r), ∀ z : S256x2048.Idx, (z 0).val = r → (z 1).val = (y 1).val → X y = M.view.read (Elt F) fs z
  old : ∀ y ∈ unissued w1 w2 256, f y = X y

/-- The deliveries: row `w1 r` at the new contents and half of the block's row `r`, row `w2 r` and the other half. -/
abbrev dA (r : ℕ) : sProp 𝕄 := iprop(xsPt c (rowSet (w1 r)) X ∗ bPt c M r fullShare.left fs)
abbrev dB (r : ℕ) : sProp 𝕄 := iprop(xsPt c (rowSet (w2 r)) X ∗ bPt c M r fullShare.right fs)
abbrev rowD : Fin (2 * 256) → sProp 𝕄 := Ring.interleaved 256 (dA c M fs X w1) (dB c M fs X w2)

/-- Before trip `k` of the first loop. -/
def issueAt (k : ℕ) (_ : Unit) : sProp 𝕄 :=
  iprop(tabPt c t1M q1 f1 ∗ tabPt c t2M q2 f2 ∗ bigSep (Ring.rangeSet 256 k 256) (fun r => bPt c M r.val fullShare fs)
    ∗ xsPt c (unissued w1 w2 k) f ∗ rowBatch c (rowD c M fs X w1 w2) (2 * k) 0)

variable {c i M q1 q2 f1 f2 fs f X w1 w2}

theorem issue_step (H : StepFacts c i M f1 f2 fs f X w1 w2) (k : Fin k0_t1_loop.trips) (acc : Unit) :
    issueAt c M q1 q2 f1 f2 fs f X w1 w2 k acc ⊢ wp frame (wpE (defs₀ (F := F)) Variants.none c none) Set.univ
      (k0_t1_body i t1M (Memref.isWhole_whole _) t2M (Memref.isWhole_whole _) t3M (Memref.isWhole_whole _) M hM xsM (Memref.isWhole_whole _)
        zM (Memref.isWhole_whole _) cc0_scratch1 cc0_scratch2 k acc)
      (issueAt c M q1 q2 f1 f2 fs f X w1 w2 (k.val + 1)) := by
  have hk : k.val < 256 := trips1 ▸ k.isLt
  rw [t1_body_eq]
  unfold issueAt
  rw [Ring.bigSep_rangeSet_head hk hk, unissued_succ, show 2 * (k.val + 1) = 2 * k.val + 1 + 1 by omega]
  iintro ⟨Ht1, Ht2, ⟨Hb, Hbs⟩, Hx, HB⟩
  ihave Hb' := (pointsTo_share (PosShare.mem_left_op_right fullShare)).1 $$ Hb
  icases Hb' with ⟨Hl, Hr⟩
  iapply (wp_rowStart c M (D := rowD c M fs X w1 w2) (j := 2 * k.val) (u := 0) (by omega) (Nat.zero_le _) t1M q1 f1 _ _ _ _
    (256 * (i 0).val + k.val) (w1 k.val) k.val (off129_eq i k) (off131_eq k) rfl (H.rows.lt1 _ hk) (H.tab1 _ hk) fullShare.left fs
    (unissued w1 w2 k.val) ?_ f X (H.new1 _ hk) (Entails.of_eq (Ring.interleaved_even 256 (dA c M fs X w1) (dB c M fs X w2) k.val (by omega)).symm)) $$ [Ht1 Hl Hx HB]
  · intro y hy
    rw [mem_rowSet] at hy
    rw [mem_unissued]
    intro r hr
    exact ⟨fun e => by have := H.rows.inj1 r (by omega) _ hk (e.trans hy); omega,
      fun e => H.rows.disj _ hk r (by omega) (hy.symm.trans e.symm)⟩
  · isplitl [Ht1]; · iexact Ht1
    isplitl [Hl]; · iexact Hl
    isplitl [Hx] <;> iassumption
  iintro ⟨Ht1, Hx, HB⟩
  iapply (wp_rowStart c M (D := rowD c M fs X w1 w2) (j := 2 * k.val + 1) (u := 0) (by omega) (Nat.zero_le _) t2M q2 f2 _ _ _ _
    (256 * (i 0).val + k.val) (w2 k.val) k.val (off132_eq i k) (off134_eq k) rfl (H.rows.lt2 _ hk) (H.tab2 _ hk) fullShare.right fs
    (unissued w1 w2 k.val \ rowSet (w1 k.val)) ?_ f X (H.new2 _ hk) (Entails.of_eq (Ring.interleaved_odd 256 (dA c M fs X w1) (dB c M fs X w2) k.val (by omega)).symm)) $$ [Ht2 Hr Hx HB]
  · intro y hy
    rw [mem_rowSet] at hy
    rw [Finset.mem_sdiff, mem_unissued, mem_rowSet]
    exact ⟨fun r hr => ⟨fun e => H.rows.disj r (by omega) _ hk (e.trans hy), fun e => by
      have := H.rows.inj2 r (by omega) _ hk (e.trans hy); omega⟩, fun e => H.rows.disj _ hk _ hk (e.symm.trans hy)⟩
  · isplitl [Ht2]; · iexact Ht2
    isplitl [Hr]; · iexact Hr
    isplitl [Hx] <;> iassumption
  iintro ⟨Ht2, Hx, HB⟩
  sl_step
  isplitl [Ht1]; · iexact Ht1
  isplitl [Ht2]; · iexact Ht2
  isplitl [Hbs]; · iexact Hbs
  isplitl [Hx] <;> iassumption

/-- Before trip `k` of the second loop. -/
def drainAt (c : Dev nD) (M : Memref sig .tc .vmem S256x2048 .f32)
    (q1 q2 : PosShare TreeShare) (f1 : Buf (Elt F) (t1M.view.loc (c : Thread nD τ))) (f2 : Buf (Elt F) (t2M.view.loc (c : Thread nD τ)))
    (D : Fin (2 * 256) → sProp 𝕄) (k : ℕ) (_ : Unit) : sProp 𝕄 :=
  iprop(tabPt c t1M q1 f1 ∗ tabPt c t2M q2 f2 ∗ rowBatch c D (2 * 256) (2 * k * NR) ∗ ∃ W, owes (c : Thread nD τ) 0 W)

theorem drain_step (H : StepFacts c i M f1 f2 fs f X w1 w2) (D : Fin (2 * 256) → sProp 𝕄) (k : Fin k0_t2_loop.trips) (acc : Unit) :
    drainAt c M q1 q2 f1 f2 D k acc ⊢ wp frame (wpE (defs₀ (F := F)) Variants.none c none) Set.univ
      (k0_t2_body i t1M (Memref.isWhole_whole _) t2M (Memref.isWhole_whole _) t3M (Memref.isWhole_whole _) M hM xsM (Memref.isWhole_whole _)
        zM (Memref.isWhole_whole _) cc0_scratch1 cc0_scratch2 k acc)
      (drainAt c M q1 q2 f1 f2 D (k.val + 1)) := by
  have hk : k.val < 256 := trips2 ▸ k.isLt
  have hN := NR_pos
  rw [t2_body_eq]
  unfold drainAt
  have e : 2 * (k.val + 1) * NR = 2 * k.val * NR + NR + NR := by
    rw [show 2 * (k.val + 1) = 2 * k.val + 1 + 1 by omega, Nat.add_mul, Nat.add_mul, Nat.one_mul]
  have b1 : 2 * k.val * NR + NR + NR ≤ NR * (2 * 256) := by rw [← e, Nat.mul_comm]; exact Nat.mul_le_mul_left _ (by omega)
  rw [e]
  iintro ⟨Ht1, Ht2, HB, ⟨%W, HO⟩⟩
  iapply (wp_rowWait c M (D := D) (j := 2 * 256) (u := 2 * k.val * NR) (by omega) t1M q1 f1 _ _ _ _ H.all1 W) $$ [Ht1 HB HO]
  · isplitl [Ht1]; · iexact Ht1
    isplitl [HB] <;> iassumption
  iintro ⟨Ht1, HB, ⟨%W', HO⟩⟩
  iapply (wp_rowWait c M (D := D) (j := 2 * 256) (u := 2 * k.val * NR + NR) b1 t2M q2 f2 _ _ _ _ H.all2 W') $$ [Ht2 HB HO]
  · isplitl [Ht2]; · iexact Ht2
    isplitl [HB] <;> iassumption
  iintro ⟨Ht2, HB, HO⟩
  sl_step
  isplitl [Ht1]; · iexact Ht1
  isplitl [Ht2]; · iexact Ht2
  isplitl [HB] <;> iassumption

/-! ## The block as rows, the result as rows -/

theorem bset_disj (r r' : ℕ) (h : r ≠ r') : Disjoint (bset M r) (bset M r') := by
  unfold bset
  rw [Finset.disjoint_map, Finset.disjoint_left]
  intro y hy hy'
  rw [mem_brow] at hy hy'
  exact h (hy.symm.trans hy')

theorem bset_cover : (Finset.range 256).biUnion (bset M) = M.view.set := by
  ext y
  unfold bset View.set
  simp only [Finset.mem_biUnion, Finset.mem_map, Finset.mem_range, Finset.mem_univ, true_and, mem_brow]
  constructor
  · rintro ⟨r, -, z, -, hz⟩; exact ⟨z, hz⟩
  · rintro ⟨z, hz⟩; exact ⟨(z 0).val, (z 0).isLt, z, rfl, hz⟩

theorem block_rows (c : Dev nD) (M : Memref sig .tc .vmem S256x2048 .f32) (fs : Buf (Elt F) (M.view.loc (c : Thread nD τ))) :
    (M.view.loc (c : Thread nD τ) ↦[M.view.set]{fullShare} fs : sProp 𝕄) = bigSep (Finset.range 256) (fun r => bPt c M r fullShare fs) := by
  rw [← bset_cover]
  exact pointsTo_biUnion _ _ fun r _ r' _ h => bset_disj r r' h

theorem rows_join (c : Dev nD) (w : ℕ → ℕ) (hinj : ∀ r < 256, ∀ r' < 256, w r = w r' → r = r') (X : XsBuf (F := F)) :
    (bigSep (Finset.range 256) (fun r => xsPt c (rowSet (w r)) X) : sProp 𝕄) = xsPt c ((Finset.range 256).biUnion fun r => rowSet (w r)) X := by
  refine (pointsTo_biUnion _ _ fun r hr r' hr' h => ?_).symm
  rw [Finset.disjoint_left]
  intro y hy hy'
  rw [mem_rowSet] at hy hy'
  exact h (hinj r (Finset.mem_range.mp hr) r' (Finset.mem_range.mp hr') (hy.symm.trans hy'))

theorem rest_eq (w1 w2 : ℕ → ℕ) :
    (Finset.univ \ (Finset.range 256).biUnion fun r => rowSet (w1 r)) \ ((Finset.range 256).biUnion fun r => rowSet (w2 r)) = unissued w1 w2 256 := by
  ext y
  simp only [Finset.mem_sdiff, Finset.mem_univ, true_and, Finset.mem_biUnion, Finset.mem_range, mem_rowSet, mem_unissued, not_exists, not_and]
  exact ⟨fun h r hr => ⟨fun e => h.1 r hr e.symm, fun e => h.2 r hr e.symm⟩, fun h => ⟨fun r hr e => (h r hr).1 e.symm, fun r hr e => (h r hr).2 e.symm⟩⟩

/-- Everything the copies delivered, and the rows none was issued for, put together. -/
theorem delivered (H : StepFacts c i M f1 f2 fs f X w1 w2) :
    iprop(xsPt c (unissued w1 w2 256) f ∗ bigSep Finset.univ (rowD c M fs X w1 w2))
      ⊢ iprop((M.view.loc (c : Thread nD τ) ↦[M.view.set]{fullShare} fs) ∗ xsPt c Finset.univ X : sProp 𝕄) := by
  unfold rowD
  rw [Ring.bigSep_interleaved,
    show bigSep (Finset.range 256) (dA c M fs X w1) = iprop(bigSep (Finset.range 256) (fun r => xsPt c (rowSet (w1 r)) X)
      ∗ bigSep (Finset.range 256) (fun r => bPt c M r fullShare.left fs)) from BI.bigSep_sep _ _ _,
    show bigSep (Finset.range 256) (dB c M fs X w2) = iprop(bigSep (Finset.range 256) (fun r => xsPt c (rowSet (w2 r)) X)
      ∗ bigSep (Finset.range 256) (fun r => bPt c M r fullShare.right fs)) from BI.bigSep_sep _ _ _,
    rows_join c w1 H.rows.inj1, rows_join c w2 H.rows.inj2,
    show xsPt c (unissued w1 w2 256) f = xsPt c (unissued w1 w2 256) X from pointsTo_congr H.old, block_rows]
  iintro ⟨Hx, ⟨H1, Hl⟩, ⟨H2, Hr⟩⟩
  isplitl [Hl Hr]
  · iapply (show iprop(bigSep (Finset.range 256) (fun r => bPt c M r fullShare.left fs) ∗ bigSep (Finset.range 256) (fun r => bPt c M r fullShare.right fs))
        ⊢ bigSep (Finset.range 256) (fun r => bPt c M r fullShare fs) from
      (Entails.of_eq (BI.bigSep_sep _ _ _).symm).trans (BI.bigSep_mono fun r _ => (pointsTo_share (PosShare.mem_left_op_right fullShare)).2))
    isplitl [Hl] <;> iassumption
  · have hs2 : ((Finset.range 256).biUnion fun r => rowSet (w2 r)) ⊆ Finset.univ \ (Finset.range 256).biUnion fun r => rowSet (w1 r) := by
      intro y hy
      simp only [Finset.mem_sdiff, Finset.mem_univ, true_and, Finset.mem_biUnion, Finset.mem_range, mem_rowSet] at hy ⊢
      rintro ⟨r, hr, e⟩
      obtain ⟨r', hr', e'⟩ := hy
      exact H.rows.disj r hr r' hr' (e.symm.trans e')
    rw [← rest_eq]
    iapply (pointsTo_split_subset (Finset.subset_univ ((Finset.range 256).biUnion fun r => rowSet (w1 r)))).2
    isplitl [H1]; · iexact H1
    iapply (pointsTo_split_subset hs2).2
    isplitl [H2] <;> iassumption

instance rowD_storable (t : Fin (2 * 256)) : BI.Storable (upEmb : UEmb _ 𝕄) (rowD c M fs X w1 w2 t) := by
  unfold rowD; infer_instance

/-- The two loops of one step: what a grid step other than the first runs. -/
def rowsProg (i : grid0.Coords) (M : Memref sig .tc .vmem S256x2048 .f32) (hM : M.IsWhole) : Prog (TpuEff nD τ sig (Elt F) Λ₀ .tc) PUnit := do
  Scf.Loop.for k0_t1_loop k0_t1_ok ⟨⟩ (k0_t1_body i t1M (Memref.isWhole_whole _) t2M (Memref.isWhole_whole _) t3M (Memref.isWhole_whole _) M hM xsM (Memref.isWhole_whole _)
        zM (Memref.isWhole_whole _) cc0_scratch1 cc0_scratch2)
  Scf.Loop.for k0_t2_loop k0_t2_ok ⟨⟩ (k0_t2_body i t1M (Memref.isWhole_whole _) t2M (Memref.isWhole_whole _) t3M (Memref.isWhole_whole _) M hM xsM (Memref.isWhole_whole _)
        zM (Memref.isWhole_whole _) cc0_scratch1 cc0_scratch2)
  pure ⟨⟩

theorem issue_init :
    iprop(tabPt c t1M q1 f1 ∗ tabPt c t2M q2 f2 ∗ (M.view.loc (c : Thread nD τ) ↦[M.view.set]{fullShare} fs) ∗ xsPt c Finset.univ f
        ∗ rowBatch c (rowD c M fs X w1 w2) 0 0) ⊢ issueAt c M q1 q2 f1 f2 fs f X w1 w2 0 () := by
  unfold issueAt
  rw [unissued_zero, block_rows, Ring.bigSep_rangeSet_eq_range (NB := 256) (lo := 0) (hi := 256) le_rfl (fun r => bPt c M r fullShare fs)
    (fun k hk => by show bPt c M k fullShare fs = bPt c M (0 + k) fullShare fs; rw [Nat.zero_add])]

theorem wp_rows (H : StepFacts c i M f1 f2 fs f X w1 w2) (W : Waits sig Unit) (Q : PUnit → sProp 𝕄) :
    iprop(tabPt c t1M q1 f1 ∗ tabPt c t2M q2 f2 ∗ (M.view.loc (c : Thread nD τ) ↦[M.view.set]{fullShare} fs) ∗ xsPt c Finset.univ f
        ∗ semVal ((c : Thread nD τ), SemLoc.dma cc0_scratch1.sem) 0 ∗ owes (c : Thread nD τ) 0 W
        ∗ (iprop(tabPt c t1M q1 f1 ∗ tabPt c t2M q2 f2 ∗ (M.view.loc (c : Thread nD τ) ↦[M.view.set]{fullShare} fs) ∗ xsPt c Finset.univ X
            ∗ semVal ((c : Thread nD τ), SemLoc.dma cc0_scratch1.sem) 0 ∗ ∃ W', owes (c : Thread nD τ) 0 W') -∗ Q ⟨⟩))
      ⊢ wp frame (wpE (defs₀ (F := F)) Variants.none c none) Set.univ (rowsProg i M hM) Q := by
  unfold rowsProg
  iintro ⟨Ht1, Ht2, Hb, Hx, Hq, HO, Hk⟩
  imod (Transfers.batch_alloc' (Lvl := ℕ) (countersEmb (U := Pipeline.UD sig nD τ)) (c : Thread nD τ) () NR (rowD c M fs X w1 w2)
    (sm := SemLoc.dma cc0_scratch1.sem) (E := Set.univ)) $$ Hq with HB
  iapply (Scf.wp_for_bind frame (wpE (defs₀ (F := F)) Variants.none c none) Set.univ _ _ _ _ _ _ (issueAt c M q1 q2 f1 f2 fs f X w1 w2)
    (fun k acc => issue_step hM H k acc)) $$ [Ht1 Ht2 Hb Hx HB]
  · iapply issue_init
    isplitl [Ht1]; · iexact Ht1
    isplitl [Ht2]; · iexact Ht2
    isplitl [Hb]; · iexact Hb
    isplitl [Hx] <;> iassumption
  iintro %acc HL
  ihave HL' := (show issueAt c M q1 q2 f1 f2 fs f X w1 w2 (Scf.trips k0_t1_loop.lb k0_t1_loop.ub k0_t1_loop.st) acc
      ⊢ iprop(tabPt c t1M q1 f1 ∗ tabPt c t2M q2 f2 ∗ xsPt c (unissued w1 w2 256) f ∗ rowBatch c (rowD c M fs X w1 w2) (2 * 256) 0) from by
    rw [show Scf.trips k0_t1_loop.lb k0_t1_loop.ub k0_t1_loop.st = 256 from trips1]
    unfold issueAt
    iintro ⟨Ht1, Ht2, -, Hx, HB⟩
    isplitl [Ht1]; · iexact Ht1
    isplitl [Ht2]; · iexact Ht2
    isplitl [Hx] <;> iassumption) $$ HL
  icases HL' with ⟨Ht1, Ht2, Hx, HB⟩
  iapply (Scf.wp_for_bind frame (wpE (defs₀ (F := F)) Variants.none c none) Set.univ _ _ _ _ _ _ (drainAt c M q1 q2 f1 f2 (rowD c M fs X w1 w2))
    (fun k acc => drain_step hM H _ k acc)) $$ [Ht1 Ht2 HB HO]
  · unfold drainAt
    rw [Nat.mul_zero, Nat.zero_mul]
    isplitl [Ht1]; · iexact Ht1
    isplitl [Ht2]; · iexact Ht2
    isplitl [HB]; · iexact HB
    iexists _; iexact HO
  iintro %acc' HL
  ihave HL' := (show drainAt c M q1 q2 f1 f2 (rowD c M fs X w1 w2) (Scf.trips k0_t2_loop.lb k0_t2_loop.ub k0_t2_loop.st) acc'
      ⊢ iprop(tabPt c t1M q1 f1 ∗ tabPt c t2M q2 f2 ∗ rowBatch c (rowD c M fs X w1 w2) (2 * 256) (NR * (2 * 256)) ∗ ∃ W, owes (c : Thread nD τ) 0 W) from by
    rw [show Scf.trips k0_t2_loop.lb k0_t2_loop.ub k0_t2_loop.st = 256 from trips2]
    unfold drainAt
    rw [Nat.mul_comm NR]) $$ HL
  icases HL' with ⟨Ht1, Ht2, HB, HO⟩
  imod (Transfers.batch_collect' (Lvl := ℕ) (countersEmb (U := Pipeline.UD sig nD τ)) (c : Thread nD τ) (sm := SemLoc.dma cc0_scratch1.sem) NR_pos) $$ HB with ⟨HD, Hq⟩
  ihave HD' := (delivered H) $$ [Hx HD]
  · isplitl [Hx] <;> iassumption
  icases HD' with ⟨Hb, Hx⟩
  sl_step
  iapply Hk
  isplitl [Ht1]; · iexact Ht1
  isplitl [Ht2]; · iexact Ht2
  isplitl [Hb]; · iexact Hb
  isplitl [Hx]; · iexact Hx
  isplitl [Hq] <;> iassumption

end Step

end Cert.KernelIdeal.Hand

end
-- ==== Proof.Zero.lean ====
/-
  Step 0's filling of the padding tiles: 64 guarded starts of a tile of zeros, then 64 guarded waits, as one
  sequence of 128 guards,
-/
module

public import proofs.«01_k».proof.Proof.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

/-- Programs of the TensorCore's thread. -/
abbrev P (F : FTy → Type) [FloatOps F] (α : Type) : Type 1 := Prog (TpuEff nD τ sig (Elt F) Λ₀ .tc) α

/-! ## The sequence of guards -/

theorem entry_inb (g : ℕ) : ∀ a, (![g % 64] : Fin 1 → ℕ) a + S1.size a ≤ S64.size a := by
  intro a
  fin_cases a
  show g % 64 + 1 ≤ 64
  omega

/-- The load of guard `g`'s entry of the list of padding tiles. -/
def ldPad {α : Type} (g : ℕ) (k : BitVec 32 → P F α) : P F α :=
  smemLoadElt t3M (Rect.unit (s := S64) ![g % 64] S1.size (entry_inb g)) (View.loads_smem_one rfl numel1_S1) (Shape.Idx.first (numel1_S1.symm ▸ Nat.one_pos)) k

/-- Guard `g` once its entry is read as `v`: of the first 64 a start, of the others a wait. -/
def guard {α : Type} (i : grid0.Coords) (h1 : k0_cond1 i = 1#1) (g : ℕ) (v : BitVec 32) (k : P F α) : P F α :=
  if h : k0_cond2 v = 1#1 then
    ldPad g fun u => .op (.assume (k0_chk1 i v u) (k0_chk1.dec i v u)) fun hw =>
      bif Nat.ble 64 g then
        .op (.waitDma2 cc0_scratch2.sem zM (xsM.slice (Rect.unit (s := S40960x2048) (k0_off1 u) S256x2048.size (k0_off1_inb i v u hw.down h1 h)) (fun _ => rfl))
          (Memref.isWhole_whole _ : zM.IsWhole).wordExact (View.wordExact_bits rfl)) fun _ => k
      else
        .op (.enqueueDma zM (.here (xsM.slice (Rect.unit (s := S40960x2048) (k0_off1 u) S256x2048.size (k0_off1_inb i v u hw.down h1 h)) (fun _ => rfl)))
          (.dma cc0_scratch2.sem) (Memref.isWhole_whole _ : zM.IsWhole).wordExact (View.wordExact_bits rfl) ⟨Or.inl rfl, trivial⟩) fun _ => k
  else k

/-- `n` guards from number `g` on. -/
def guards {α : Type} (i : grid0.Coords) (h1 : k0_cond1 i = 1#1) : ℕ → ℕ → P F α → P F α
  | 0, _, k => k
  | n + 1, g, k => ldPad g fun v => guard i h1 g v (guards i h1 n (g + 1) k)

/-- An odd part reads the entry of the next part's first guard last; an even part begins with that guard. -/
def oddPart (i : grid0.Coords) (h1 : k0_cond1 i = 1#1) (n g : ℕ) : P F (Σ' (_ : Elt F .i32), BitVec 1) :=
  guards i h1 n g (ldPad (g + n) fun v => pure ⟨v, Scalar.cmpi .sge v 0#32⟩)
def evenPart (i : grid0.Coords) (h1 : k0_cond1 i = 1#1) (g : ℕ) (v : BitVec 32) : P F PUnit :=
  guard i h1 g v (guards i h1 7 (g + 1) (pure ⟨⟩))

/-! ## The list of padding tiles -/

/-- An entry that names a tile: a word that is nonnegative signed. -/
def Named (v : BitVec 32) : Prop := 2 * v.toNat < 2 ^ 32

instance (v : BitVec 32) : Decidable (Named v) := inferInstanceAs (Decidable (_ < _))

theorem cond_iff (v : BitVec 32) : k0_cond2 v = 1#1 ↔ Named v := (Scalar.guard_iff _).trans (Scalar.nonneg_iff v)
theorem off1_zero {v : BitVec 32} (hv : Named v) : k0_off1 v 0 = v.toNat := by
  show (Scalar.maxsi v 0#32).toNat = v.toNat
  rw [Scalar.maxsi_zero_of_nonneg hv]
theorem mult1_eq {v : BitVec 32} (hv : Named v) : k0_mult1 v = v := Scalar.maxsi_zero_of_nonneg hv

/-- What is known of the entries `pw 0 … pw 63`: a named tile is one of the result's, and named once. -/
structure Pads (pw : ℕ → BitVec 32) : Prop where
  tile : ∀ e < 64, Named (pw e) → (pw e).toNat % 256 = 0 ∧ (pw e).toNat < 40960
  once : ∀ e < 64, ∀ e' < 64, Named (pw e) → Named (pw e') → (pw e).toNat = (pw e').toNat → e = e'

/-- How many of the first `e` entries name a tile. -/
def cnt (pw : ℕ → BitVec 32) : ℕ → ℕ
  | 0 => 0
  | e + 1 => cnt pw e + if Named (pw e) then 1 else 0

theorem cnt_mono (pw : ℕ → BitVec 32) {a b : ℕ} (h : a ≤ b) : cnt pw a ≤ cnt pw b := by
  induction h with
  | refl => exact le_rfl
  | step _ ih => exact ih.trans (Nat.le_add_right _ _)
theorem cnt_succ_of (pw : ℕ → BitVec 32) {e : ℕ} (h : Named (pw e)) : cnt pw (e + 1) = cnt pw e + 1 := by simp [cnt, h]
theorem cnt_succ_of_not (pw : ℕ → BitVec 32) {e : ℕ} (h : ¬Named (pw e)) : cnt pw (e + 1) = cnt pw e := by simp [cnt, h]
theorem cnt_lt (pw : ℕ → BitVec 32) {a b : ℕ} (h : a < b) (ha : Named (pw a)) : cnt pw a < cnt pw b := by
  have := cnt_mono pw (show a + 1 ≤ b from h)
  rw [cnt_succ_of pw ha] at this
  omega
theorem cnt_inj (pw : ℕ → BitVec 32) {a b : ℕ} (ha : Named (pw a)) (hb : Named (pw b)) (h : cnt pw a = cnt pw b) : a = b := by
  rcases lt_trichotomy a b with l | l | l
  · have := cnt_lt pw l ha; omega
  · exact l
  · have := cnt_lt pw l hb; omega
/-- Every copy's number is some named entry's. -/
theorem exists_cnt (pw : ℕ → BitVec 32) : ∀ (n t : ℕ), t < cnt pw n → ∃ e < n, Named (pw e) ∧ cnt pw e = t
  | 0, t, h => absurd h (Nat.not_lt_zero _)
  | n + 1, t, h => by
    by_cases ht : t < cnt pw n
    · obtain ⟨e, he, h'⟩ := exists_cnt pw n t ht
      exact ⟨e, by omega, h'⟩
    · by_cases hn : Named (pw n)
      · rw [cnt_succ_of pw hn] at h
        exact ⟨n, by omega, hn, by omega⟩
      · rw [cnt_succ_of_not pw hn] at h
        exact absurd h ht

/-- The elements no tile of the first `e` entries holds. -/
def unfilled (pw : ℕ → BitVec 32) (e : ℕ) : Finset S40960x2048.Idx :=
  Finset.univ.filter fun y => ∀ j < e, Named (pw j) → y ∉ tileSet (pw j).toNat

theorem mem_unfilled (pw : ℕ → BitVec 32) (e : ℕ) (y : S40960x2048.Idx) :
    y ∈ unfilled pw e ↔ ∀ j < e, Named (pw j) → y ∉ tileSet (pw j).toNat := by simp [unfilled]
theorem unfilled_zero (pw : ℕ → BitVec 32) : unfilled pw 0 = Finset.univ := by
  ext y; simp [mem_unfilled]
theorem unfilled_succ_of (pw : ℕ → BitVec 32) {e : ℕ} (h : Named (pw e)) :
    unfilled pw (e + 1) = unfilled pw e \ tileSet (pw e).toNat := by
  ext y
  rw [Finset.mem_sdiff, mem_unfilled, mem_unfilled]
  constructor
  · intro H
    exact ⟨fun j hj => H j (by omega), H e (by omega) h⟩
  · rintro ⟨H, h'⟩ j hj hn
    rcases Nat.lt_succ_iff_lt_or_eq.mp hj with l | l
    · exact H j l hn
    · subst l; exact h'
theorem unfilled_succ_of_not (pw : ℕ → BitVec 32) {e : ℕ} (h : ¬Named (pw e)) : unfilled pw (e + 1) = unfilled pw e := by
  ext y
  rw [mem_unfilled, mem_unfilled]
  constructor
  · intro H j hj
    exact H j (by omega)
  · intro H j hj hn
    rcases Nat.lt_succ_iff_lt_or_eq.mp hj with l | l
    · exact H j l hn
    · subst l; exact absurd hn h

/-- Two named tiles share no element, so a later one is still untouched. -/
theorem tile_disjoint {pw : ℕ → BitVec 32} (H : Pads pw) {e e' : ℕ} (he : e < 64) (he' : e' < 64) (hn : Named (pw e)) (hn' : Named (pw e'))
    (hne : e ≠ e') (y : S40960x2048.Idx) (hy : y ∈ tileSet (pw e).toNat) : y ∉ tileSet (pw e').toNat := by
  intro hy'
  rw [mem_tileSet] at hy hy'
  have a := H.tile e he hn
  have b := H.tile e' he' hn'
  exact hne (H.once e he e' he' hn hn' (by omega))
theorem tile_unfilled {pw : ℕ → BitVec 32} (H : Pads pw) {e : ℕ} (he : e < 64) (hn : Named (pw e)) : tileSet (pw e).toNat ⊆ unfilled pw e := by
  intro y hy
  rw [mem_unfilled]
  intro j hj hj'
  exact tile_disjoint H he (by omega) hn hj' (by omega) y hy

/-- The tile the `t`-th copy lands on. -/
def nthTile (pw : ℕ → BitVec 32) (t : ℕ) : ℕ := if h : t < cnt pw 64 then (pw (exists_cnt pw 64 t h).choose).toNat else 0
theorem nthTile_cnt (pw : ℕ → BitVec 32) {e : ℕ} (he : e < 64) (hn : Named (pw e)) : nthTile pw (cnt pw e) = (pw e).toNat := by
  have h := cnt_lt pw he hn
  rw [nthTile, dif_pos h]
  have := (exists_cnt pw 64 _ h).choose_spec
  rw [cnt_inj pw this.2.1 hn this.2.2]

/-! ## One guard -/

section Specs

variable (c : Dev nD) (pw : ℕ → BitVec 32)

/-- The list of padding tiles on the core, and the zeros in VMEM at share `q`. -/
abbrev padPt (q : PosShare TreeShare) (f : Buf (Elt F) (t3M.view.loc (c : Thread nD τ))) : sProp 𝕄 := t3M.view.loc (c : Thread nD τ) ↦{q} f
abbrev zPt (q : PosShare TreeShare) (f : Blk (F := F)) : sProp 𝕄 := zM.view.loc (c : Thread nD τ) ↦{q} f

/-- What the `t`-th tile's copy gives back: the tile at the zeros, and the copy's share of the source. -/
def zeroD (Z : XsBuf (F := F)) (fz : Blk (F := F)) (t : Fin (cnt pw 64)) : sProp 𝕄 :=
  iprop(xsPt c (tileSet (nthTile pw t.val)) Z ∗ zPt c (Transfers.shareTokN fullShare t.val) fz)

/-- The tile copies land on the cell of pool number 3. -/
abbrev zeroBatch (Z : XsBuf (F := F)) (fz : Blk (F := F)) (j u : ℕ) : sProp 𝕄 :=
  Transfers.Batch (Lvl := ℕ) (Name := ℕ) (countersEmb (U := Pipeline.UD sig nD τ)) (c : Thread nD τ) (SemLoc.dma cc0_scratch2.sem) () NZ (zeroD c pw Z fz) j u

/-- Before guard `g`: the tiles still to be written and the source's share still to be lent, and the copies so far. -/
def zeroAt (q3 : PosShare TreeShare) (f3 : Buf (Elt F) (t3M.view.loc (c : Thread nD τ))) (f Z : XsBuf (F := F)) (fz : Blk (F := F)) (g : ℕ) : sProp 𝕄 :=
  iprop(padPt c q3 f3 ∗ xsPt c (unfilled pw (min g 64)) f ∗ zPt c (Transfers.shareDrop fullShare (cnt pw (min g 64))) fz
    ∗ zeroBatch c pw Z fz (cnt pw (min g 64)) (cnt pw (g - 64) * NZ) ∗ ∃ W, owes (c : Thread nD τ) 0 W)

theorem wp_ldPad {α : Type} (g : ℕ) (q3 : PosShare TreeShare) (f3 : Buf (Elt F) (t3M.view.loc (c : Thread nD τ)))
    (hp : ∀ y : S64.Idx, t3M.view.read (Elt F) f3 y = pw (y 0).val) (k : BitVec 32 → P F α) (Q : α → sProp 𝕄) :
    (padPt c q3 f3 : sProp 𝕄) ⊢ iprop((padPt c q3 f3 -∗ wp frame (wpE (defs₀ (F := F)) Variants.none c none) Set.univ (k (pw (g % 64))) Q)
      -∗ wp frame (wpE (defs₀ (F := F)) Variants.none c none) Set.univ (ldPad g k) Q) := by
  unfold ldPad
  iintro Ht Hk
  iapply (wp_smemLoadElt_named Variants.none (c : Thread nD τ) none Set.univ (m := t3M) (r := Rect.unit (s := S64) ![g % 64] S1.size (entry_inb g)) (S := Finset.univ) (q := q3) (f := f3)) $$ Ht
  iintro Ht %v %hv
  have hvp : v = pw (g % 64) := by
    rw [hv]
    refine (hp ((Rect.unit (s := S64) ![g % 64] S1.size (entry_inb g)).emb (Shape.Idx.first (numel1_S1.symm ▸ Nat.one_pos)))).trans ?_
    congr 1
  subst hvp
  iapply Hk
  iexact Ht

variable (i : grid0.Coords) (h1 : k0_cond1 i = 1#1)

theorem chk_of {pw : ℕ → BitVec 32} (H : Pads pw) {e : ℕ} (he : e < 64) (hn : Named (pw e)) : k0_chk1 i (pw e) (pw e) := by
  have ht := H.tile e he hn
  refine ⟨fun _ _ => ?_, fun _ _ a => ?_⟩
  · rw [mult1_eq hn]; omega
  · have o0 := off1_zero hn
    have o1 : k0_off1 (pw e) 1 = 0 := rfl
    fin_cases a
    · show k0_off1 (pw e) 0 + 256 ≤ 40960; omega
    · show k0_off1 (pw e) 1 + 2048 ≤ 2048; omega

/-- A tile's copy lands what the source holds, the same word everywhere. -/
theorem tile_landed (fd Z : XsBuf (F := F)) (fz : Blk (F := F)) (off : Fin 2 → ℕ) (p : ℕ) (h0 : off 0 = p) (h1 : off 1 = 0)
    (inb : ∀ a, off a + S256x2048.size a ≤ S40960x2048.size a)
    (hZ : ∀ y ∈ tileSet p, ∀ z : S256x2048.Idx, Z y = fz z) :
    ∀ y ∈ tileSet p, (xsM.slice (Rect.unit (s := S40960x2048) off S256x2048.size inb) (fun _ => rfl)).view.write (Elt F) fd
      (ReadAs.same.apply (zM.view.read (Elt F) fz)) Finset.univ y = Z y := by
  intro y hy
  have hy' := hy
  rw [← tile_set_eq off p h0 h1 inb, View.set, Finset.mem_map] at hy'
  obtain ⟨x, -, hx⟩ := hy'
  subst hx
  rw [View.write_emb_of_mem _ _ (Finset.mem_univ x)]
  exact (hZ _ hy x).symm

theorem zset : zM.view.set = Finset.univ := (Memref.isWhole_whole _ : zM.IsWhole).set_eq_univ

variable {pw}

theorem wp_guard {α : Type} (H : Pads pw) (g : ℕ) (hg : g < 128) (q3 : PosShare TreeShare) (f3 : Buf (Elt F) (t3M.view.loc (c : Thread nD τ)))
    (hp : ∀ y : S64.Idx, t3M.view.read (Elt F) f3 y = pw (y 0).val) (f Z : XsBuf (F := F)) (fz : Blk (F := F))
    (hZ : ∀ e < 64, Named (pw e) → ∀ y ∈ tileSet (pw e).toNat, ∀ z : S256x2048.Idx, Z y = fz z) (k : P F α) (Q : α → sProp 𝕄) :
    (zeroAt c pw q3 f3 f Z fz g : sProp 𝕄)
      ⊢ iprop((zeroAt c pw q3 f3 f Z fz (g + 1) -∗ wp frame (wpE (defs₀ (F := F)) Variants.none c none) Set.univ k Q)
        -∗ wp frame (wpE (defs₀ (F := F)) Variants.none c none) Set.univ (guard i h1 g (pw (g % 64)) k) Q) := by
  unfold guard
  by_cases hn : Named (pw (g % 64))
  · have he : g % 64 < 64 := Nat.mod_lt _ (by decide)
    rw [dif_pos ((cond_iff _).mpr hn)]
    have o0 := off1_zero hn
    have o1 : k0_off1 (pw (g % 64)) 1 = 0 := rfl
    by_cases hl : g < 64
    · have eg : g % 64 = g := Nat.mod_eq_of_lt hl
      have em : min g 64 = g := by omega
      have em' : min (g + 1) 64 = g + 1 := by omega
      have en : Named (pw g) := eg ▸ hn
      have ez : g - 64 = 0 := by omega
      have ez' : g + 1 - 64 = 0 := by omega
      unfold zeroAt
      rw [em, em', ez, ez', cnt_succ_of pw en, unfilled_succ_of pw en]
      iintro ⟨Hp, Hx, Hz, HB, HO⟩ Hk
      iapply (wp_ldPad c pw g q3 f3 hp) $$ Hp
      iintro Hp
      iapply (wp_assume Variants.none (c : Thread nD τ) none Set.univ (chk_of i H he hn))
      rw [show Nat.ble 64 g = false from by rw [← Bool.not_eq_true, Nat.ble_eq]; omega]
      ihave Hx' := (pointsTo_split_subset (tile_unfilled H hl en)).1 $$ Hx
      icases Hx' with ⟨Hd, Hx⟩
      ihave Hz' := (pointsTo_share (PosShare.mem_left_op_right _)).1 $$ Hz
      icases Hz' with ⟨Hz, Hs⟩
      iapply (Transfers.wp_dmaBatch (countersEmb (U := Pipeline.UD sig nD τ)) Variants.none (c : Thread nD τ) none (q := Transfers.shareTokN fullShare (cnt pw g))
          (src := zM)
          (dst := xsM.slice (Rect.unit (s := S40960x2048) (k0_off1 (pw (g % 64))) S256x2048.size (k0_off1_inb i _ _ (chk_of i H he hn) h1 ((cond_iff _).mpr hn))) (fun _ => rfl))
          (Sd := tileSet (pw g).toNat) (fs := fz) (fd := f) (D := zeroD c pw Z fz) (j := cnt pw g) (u := cnt pw 0 * NZ)
          () NZ rfl (Finset.Subset.antisymm_iff.mp (tile_set_eq _ (pw g).toNat (o0.trans (congrArg (fun e => (pw e).toNat) eg)) o1 _)).1 (cnt_lt pw hl en) (by simp [cnt])
          (by
            unfold zeroD
            refine BIClass.sep_mono (Entails.of_eq ?_) (Entails.of_eq ?_)
            · rw [nthTile_cnt pw hl en]
              exact pointsTo_congr (tile_landed f Z fz _ _ (o0.trans (congrArg (fun e => (pw e).toNat) eg)) o1 _ (hZ g hl en))
            · rw [zset])) $$ [Hs Hd HB]
      · isplitl [Hs]; · rw [zset]; iexact Hs
        isplitl [Hd]; · iexact Hd
        iexact HB
      iintro HB
      iapply Hk
      isplitl [Hp]; · iexact Hp
      isplitl [Hx]; · iexact Hx
      isplitl [Hz]; · iexact Hz
      isplitl [HB]; · iexact HB
      iexact HO
    · have eg : g % 64 = g - 64 := by omega
      have em : min g 64 = 64 := by omega
      have em' : min (g + 1) 64 = 64 := by omega
      have en : Named (pw (g - 64)) := eg ▸ hn
      have ez' : g + 1 - 64 = g - 64 + 1 := by omega
      have hlt := cnt_lt pw (show g - 64 < 64 by omega) en
      unfold zeroAt
      rw [em, em', ez', cnt_succ_of pw en]
      iintro ⟨Hp, Hx, Hz, HB, HO⟩ Hk
      icases HO with ⟨%W, HO⟩
      iapply (wp_ldPad c pw g q3 f3 hp) $$ Hp
      iintro Hp
      iapply (wp_assume Variants.none (c : Thread nD τ) none Set.univ (chk_of i H he hn))
      rw [show Nat.ble 64 g = true from by rw [Nat.ble_eq]; omega]
      iapply (Transfers.wp_waitBatchMul (countersEmb (U := Pipeline.UD sig nD τ)) Variants.none (c : Thread nD τ) none () 1
          (N := NZ) (D := zeroD c pw Z fz) (j := cnt pw 64) (u := cnt pw (g - 64) * NZ) (W := W) (show _ = 1 * NZ by rw [Nat.one_mul]; rfl)
          (by rw [← Nat.add_mul, Nat.mul_comm NZ]; exact Nat.mul_le_mul_right _ hlt)) $$ [HB HO]
      · isplitl [HB]; · iexact HB
        iexact HO
      iintro ⟨HB, HO⟩
      iapply Hk
      isplitl [Hp]; · iexact Hp
      isplitl [Hx]; · iexact Hx
      isplitl [Hz]; · iexact Hz
      isplitl [HB]; · rw [Nat.add_mul]; iexact HB
      iexists _; iexact HO
  · have en : min (g + 1) 64 = min g 64 ∨ (min (g + 1) 64 = g + 1 ∧ min g 64 = g) := by omega
    rw [dif_neg (fun h => hn ((cond_iff _).mp h))]
    have e : zeroAt c pw q3 f3 f Z fz (g + 1) = zeroAt c pw q3 f3 f Z fz g := by
      unfold zeroAt
      by_cases hl : g < 64
      · have eg : g % 64 = g := Nat.mod_eq_of_lt hl
        rw [eg] at hn
        rw [show min (g + 1) 64 = g + 1 by omega, show min g 64 = g by omega, show g + 1 - 64 = g - 64 by omega,
          cnt_succ_of_not pw hn, unfilled_succ_of_not pw hn]
      · have eg : g % 64 = g - 64 := by omega
        rw [eg] at hn
        rw [show min (g + 1) 64 = 64 by omega, show min g 64 = 64 by omega, show g + 1 - 64 = g - 64 + 1 by omega, cnt_succ_of_not pw hn]
    rw [e]
    iintro HZ Hk
    iapply Hk
    iexact HZ

end Specs

end Cert.KernelIdeal.Hand

end
-- ==== Proof.Parts.lean ====
/-
  The parts the body prints step 0's guards in, as runs of the sequence.
-/
module

public import proofs.«01_k».proof.Proof.Zero

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

section Parts

set_option maxRecDepth 65536

variable (i : grid0.Coords) (h1 : k0_cond1 i = 1#1) (M : Memref sig .tc .vmem S256x2048 .f32) (hM : M.IsWhole)
  (a1 : t1M.IsWhole) (a2 : t2M.IsWhole) (a3 : t3M.IsWhole) (a5 : xsM.IsWhole) (a6 : zM.IsWhole)

theorem part1_eq : k0_part1 (F := F) i t1M a1 t2M a2 t3M a3 M hM xsM a5 zM a6 cc0_scratch1 cc0_scratch2 h1
    = (.op (.load zM (Rect.unit (s := S256x2048) ![0, 0] S256x2048.size inb_S256x2048_S256x2048_0_0).toLoadRect (View.loadsAt_vmem h_S256x2048)) fun _ =>
        .op (.store zM (Rect.unit (s := S256x2048) ![0, 0] S256x2048.size inb_S256x2048_S256x2048_0_0) (k0_pay1 (F := F)) Finset.univ
          (View.stores_vmem_bits_univ h_S256x2048 rfl) (.inl rfl)) fun _ => oddPart i h1 6 0) := rfl

theorem part2_eq (v : BitVec 32) (b : BitVec 1) : k0_part2 (F := F) i t1M a1 t2M a2 t3M a3 M hM xsM a5 zM a6 cc0_scratch1 cc0_scratch2 h1 v b = evenPart i h1 6 v := by
  unfold k0_part2 evenPart guard
  rfl
theorem part3_eq : k0_part3 (F := F) i t1M a1 t2M a2 t3M a3 M hM xsM a5 zM a6 cc0_scratch1 cc0_scratch2 h1 = oddPart i h1 7 14 := rfl
theorem part4_eq (v : BitVec 32) (b : BitVec 1) : k0_part4 (F := F) i t1M a1 t2M a2 t3M a3 M hM xsM a5 zM a6 cc0_scratch1 cc0_scratch2 h1 v b = evenPart i h1 21 v := by
  unfold k0_part4 evenPart guard
  rfl
theorem part5_eq : k0_part5 (F := F) i t1M a1 t2M a2 t3M a3 M hM xsM a5 zM a6 cc0_scratch1 cc0_scratch2 h1 = oddPart i h1 7 29 := rfl
theorem part6_eq (v : BitVec 32) (b : BitVec 1) : k0_part6 (F := F) i t1M a1 t2M a2 t3M a3 M hM xsM a5 zM a6 cc0_scratch1 cc0_scratch2 h1 v b = evenPart i h1 36 v := by
  unfold k0_part6 evenPart guard
  rfl
theorem part7_eq : k0_part7 (F := F) i t1M a1 t2M a2 t3M a3 M hM xsM a5 zM a6 cc0_scratch1 cc0_scratch2 h1 = oddPart i h1 7 44 := rfl
theorem part8_eq (v : BitVec 32) (b : BitVec 1) : k0_part8 (F := F) i t1M a1 t2M a2 t3M a3 M hM xsM a5 zM a6 cc0_scratch1 cc0_scratch2 h1 v b = evenPart i h1 51 v := by
  unfold k0_part8 evenPart guard
  rfl
theorem part9_eq : k0_part9 (F := F) i t1M a1 t2M a2 t3M a3 M hM xsM a5 zM a6 cc0_scratch1 cc0_scratch2 h1 = oddPart i h1 7 59 := rfl
theorem part10_eq (v : BitVec 32) (b : BitVec 1) : k0_part10 (F := F) i t1M a1 t2M a2 t3M a3 M hM xsM a5 zM a6 cc0_scratch1 cc0_scratch2 h1 v b = evenPart i h1 66 v := by
  unfold k0_part10 evenPart guard
  rfl
theorem part11_eq : k0_part11 (F := F) i t1M a1 t2M a2 t3M a3 M hM xsM a5 zM a6 cc0_scratch1 cc0_scratch2 h1 = oddPart i h1 7 74 := rfl
theorem part12_eq (v : BitVec 32) (b : BitVec 1) : k0_part12 (F := F) i t1M a1 t2M a2 t3M a3 M hM xsM a5 zM a6 cc0_scratch1 cc0_scratch2 h1 v b = evenPart i h1 81 v := by
  unfold k0_part12 evenPart guard
  rfl
theorem part13_eq : k0_part13 (F := F) i t1M a1 t2M a2 t3M a3 M hM xsM a5 zM a6 cc0_scratch1 cc0_scratch2 h1 = oddPart i h1 7 89 := rfl
theorem part14_eq (v : BitVec 32) (b : BitVec 1) : k0_part14 (F := F) i t1M a1 t2M a2 t3M a3 M hM xsM a5 zM a6 cc0_scratch1 cc0_scratch2 h1 v b = evenPart i h1 96 v := by
  unfold k0_part14 evenPart guard
  rfl
theorem part15_eq : k0_part15 (F := F) i t1M a1 t2M a2 t3M a3 M hM xsM a5 zM a6 cc0_scratch1 cc0_scratch2 h1 = oddPart i h1 7 104 := rfl
theorem part16_eq (v : BitVec 32) (b : BitVec 1) : k0_part16 (F := F) i t1M a1 t2M a2 t3M a3 M hM xsM a5 zM a6 cc0_scratch1 cc0_scratch2 h1 v b = evenPart i h1 111 v := by
  unfold k0_part16 evenPart guard
  rfl
theorem part17_eq : k0_part17 (F := F) i t1M a1 t2M a2 t3M a3 M hM xsM a5 zM a6 cc0_scratch1 cc0_scratch2 h1 = oddPart i h1 7 119 := rfl

/-- Step 0's filling of the tiles, then `k`. -/
def zeroRun (k : P F PUnit) : P F PUnit :=
  (.op (.load zM (Rect.unit (s := S256x2048) ![0, 0] S256x2048.size inb_S256x2048_S256x2048_0_0).toLoadRect (View.loadsAt_vmem h_S256x2048)) fun _ =>
    .op (.store zM (Rect.unit (s := S256x2048) ![0, 0] S256x2048.size inb_S256x2048_S256x2048_0_0) (k0_pay1 (F := F)) Finset.univ
      (View.stores_vmem_bits_univ h_S256x2048 rfl) (.inl rfl)) fun _ => oddPart i h1 6 0) >>= fun p => evenPart i h1 6 p.1 >>= fun _ =>
  oddPart i h1 7 14 >>= fun p => evenPart i h1 21 p.1 >>= fun _ =>
  oddPart i h1 7 29 >>= fun p => evenPart i h1 36 p.1 >>= fun _ =>
  oddPart i h1 7 44 >>= fun p => evenPart i h1 51 p.1 >>= fun _ =>
  oddPart i h1 7 59 >>= fun p => evenPart i h1 66 p.1 >>= fun _ =>
  oddPart i h1 7 74 >>= fun p => evenPart i h1 81 p.1 >>= fun _ =>
  oddPart i h1 7 89 >>= fun p => evenPart i h1 96 p.1 >>= fun _ =>
  oddPart i h1 7 104 >>= fun p => evenPart i h1 111 p.1 >>= fun _ =>
  oddPart i h1 7 119 >>= fun p => guard i h1 126 p.1 (guards i h1 1 127 k)

theorem dispatch_first : cc0_dispatch (F := F) i t1M (Memref.isWhole_whole _) t2M (Memref.isWhole_whole _) t3M (Memref.isWhole_whole _) M hM
    xsM (Memref.isWhole_whole _) zM (Memref.isWhole_whole _) cc0_scratch1 cc0_scratch2 = zeroRun i h1 (rowsProg i M hM) := by
  rw [cc0_dispatch_eq_skeleton]
  unfold cc0_dispatch_skel
  rw [dif_pos h1]
  simp only [part1_eq, part2_eq, part3_eq, part4_eq, part5_eq, part6_eq, part7_eq, part8_eq, part9_eq, part10_eq, part11_eq, part12_eq,
    part13_eq, part14_eq, part15_eq, part16_eq, part17_eq]
  unfold zeroRun guard guards
  rfl

theorem dispatch_later (h1 : ¬k0_cond1 i = 1#1) : cc0_dispatch (F := F) i t1M (Memref.isWhole_whole _) t2M (Memref.isWhole_whole _) t3M (Memref.isWhole_whole _) M hM
    xsM (Memref.isWhole_whole _) zM (Memref.isWhole_whole _) cc0_scratch1 cc0_scratch2 = rowsProg i M hM := by
  rw [cc0_dispatch_eq_skeleton]
  unfold cc0_dispatch_skel
  rw [dif_neg h1]
  rfl

end Parts

end Cert.KernelIdeal.Hand

end
-- ==== Proof.Fill.lean ====
/-
  Step 0 fills every named tile with zeros: the sequence of guards run through, the copies collected.
-/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the proof runs in. -/
local notation "𝕄" => MT nD τ sig Unit (Elt F) ℕ (Pipeline.UD sig nD τ) ℕ

/-- The word the tiles are filled with. -/
def zc : F .f32 := Scalar.ofBits .f32 0x00000000#32

/-- The whole scratch after its store: the word everywhere. -/
theorem zeros_stored (f : Blk (F := F)) :
    ((zM.access (Rect.unit (s := S256x2048) ![0, 0] S256x2048.size inb_S256x2048_S256x2048_0_0)).write (Elt F) f (k0_pay1 (F := F)) Finset.univ : Blk (F := F))
      = fun _ => zc := by
  funext y
  have e : (zM.access (Rect.unit (s := S256x2048) ![0, 0] S256x2048.size inb_S256x2048_S256x2048_0_0)).emb y = y := by
    funext a
    apply Fin.ext
    fin_cases a
    · show 0 + 1 * (y 0).val = (y 0).val; omega
    · show 0 + 1 * (y 1).val = (y 1).val; omega
  have h := View.write_emb_of_mem (v := zM.access (Rect.unit (s := S256x2048) ![0, 0] S256x2048.size inb_S256x2048_S256x2048_0_0)) f (k0_pay1 (F := F)) (Finset.mem_univ y)
  rw [e] at h
  exact h

section Fill

variable {c : Dev nD} {pw : ℕ → BitVec 32} (i : grid0.Coords) (h1 : k0_cond1 i = 1#1)
  {q3 : PosShare TreeShare} {f3 : Buf (Elt F) (t3M.view.loc (c : Thread nD τ))} {f Z : XsBuf (F := F)} {fz : Blk (F := F)}

/-- The facts the sequence runs under. -/
structure FillFacts (c : Dev nD) (pw : ℕ → BitVec 32) (f3 : Buf (Elt F) (t3M.view.loc (c : Thread nD τ))) (f Z : XsBuf (F := F)) (fz : Blk (F := F)) : Prop where
  pads : Pads pw
  tab : ∀ y : S64.Idx, t3M.view.read (Elt F) f3 y = pw (y 0).val
  filled : ∀ e < 64, Named (pw e) → ∀ y ∈ tileSet (pw e).toNat, ∀ z : S256x2048.Idx, Z y = fz z
  kept : ∀ y ∈ unfilled pw 64, f y = Z y

variable (H : FillFacts c pw f3 f Z fz)
include H

theorem wp_guards {α : Type} (Q : α → sProp 𝕄) (k : P F α) : ∀ (n g : ℕ), g + n ≤ 128 →
    (zeroAt c pw q3 f3 f Z fz g : sProp 𝕄)
      ⊢ iprop((zeroAt c pw q3 f3 f Z fz (g + n) -∗ wp frame (wpE (defs₀ (F := F)) Variants.none c none) Set.univ k Q)
        -∗ wp frame (wpE (defs₀ (F := F)) Variants.none c none) Set.univ (guards i h1 n g k) Q)
  | 0, g, _ => by
    unfold guards
    iintro HZ Hk
    iapply Hk
    iexact HZ
  | n + 1, g, h => by
    unfold guards
    iintro HZ Hk
    unfold zeroAt
    icases HZ with ⟨Hp, Hr⟩
    iapply (wp_ldPad c pw g q3 f3 H.tab) $$ Hp
    iintro Hp
    iapply (wp_guard c i h1 H.pads g (by omega) q3 f3 H.tab f Z fz H.filled) $$ [Hp Hr]
    · unfold zeroAt
      isplitl [Hp] <;> iassumption
    iintro HZ
    iapply (wp_guards Q k n (g + 1) (by omega)) $$ HZ
    rw [show g + 1 + n = g + (n + 1) by omega]
    unfold zeroAt
    iexact Hk

/-- An odd part and the even part after it. -/
theorem wp_odd_even {α : Type} (Q : α → sProp 𝕄) (n g m g' : ℕ) (hm : m = g + n) (hg : g' = g + n + 8) (h : g' ≤ 128) (k : PUnit → P F α) :
    (zeroAt c pw q3 f3 f Z fz g : sProp 𝕄)
      ⊢ iprop((zeroAt c pw q3 f3 f Z fz g' -∗ wp frame (wpE (defs₀ (F := F)) Variants.none c none) Set.univ (k ⟨⟩) Q)
        -∗ wp frame (wpE (defs₀ (F := F)) Variants.none c none) Set.univ (oddPart i h1 n g >>= fun p => evenPart i h1 m p.1 >>= k) Q) := by
  subst hm hg
  rw [wp_bind]
  unfold oddPart
  iintro HZ Hk
  iapply (wp_guards i h1 H _ _ n g (by omega)) $$ HZ
  iintro HZ
  unfold zeroAt
  icases HZ with ⟨Hp, Hr⟩
  iapply (wp_ldPad c pw (g + n) q3 f3 H.tab) $$ Hp
  iintro Hp
  sl_step
  rw [wp_bind]
  unfold evenPart
  iapply (wp_guard c i h1 H.pads (g + n) (by omega) q3 f3 H.tab f Z fz H.filled) $$ [Hp Hr]
  · unfold zeroAt
    isplitl [Hp] <;> iassumption
  iintro HZ
  iapply (wp_guards i h1 H _ _ 7 (g + n + 1) (by omega)) $$ HZ
  iintro HZ
  sl_step
  iapply Hk
  rw [show g + n + 1 + 7 = g + n + 8 by omega]
  unfold zeroAt
  iexact HZ

/-- The last odd part and the two guards after it. -/
theorem wp_last {α : Type} (Q : α → sProp 𝕄) (k : P F α) :
    (zeroAt c pw q3 f3 f Z fz 119 : sProp 𝕄)
      ⊢ iprop((zeroAt c pw q3 f3 f Z fz 128 -∗ wp frame (wpE (defs₀ (F := F)) Variants.none c none) Set.univ k Q)
        -∗ wp frame (wpE (defs₀ (F := F)) Variants.none c none) Set.univ (oddPart i h1 7 119 >>= fun p => guard i h1 126 p.1 (guards i h1 1 127 k)) Q) := by
  rw [wp_bind]
  unfold oddPart
  iintro HZ Hk
  iapply (wp_guards i h1 H _ _ 7 119 (by omega)) $$ HZ
  iintro HZ
  unfold zeroAt
  icases HZ with ⟨Hp, Hr⟩
  iapply (wp_ldPad c pw 126 q3 f3 H.tab) $$ Hp
  iintro Hp
  sl_step
  iapply (wp_guard c i h1 H.pads 126 (by omega) q3 f3 H.tab f Z fz H.filled) $$ [Hp Hr]
  · unfold zeroAt
    isplitl [Hp] <;> iassumption
  iintro HZ
  iapply (wp_guards i h1 H _ _ 1 127 (by omega)) $$ HZ
  unfold zeroAt
  iexact Hk

/-- After the last wait the tiles and the shares of the source are back. -/
theorem filled_all :
    iprop(xsPt c (unfilled pw 64) f ∗ zPt c (Transfers.shareDrop fullShare (cnt pw 64)) fz ∗ bigSep Finset.univ (zeroD c pw Z fz))
      ⊢ iprop(xsPt c Finset.univ Z ∗ zPt c fullShare fz : sProp 𝕄) := by
  have hdis : ∀ t ∈ Finset.range (cnt pw 64), ∀ t' ∈ Finset.range (cnt pw 64), t ≠ t' →
      Disjoint (tileSet (nthTile pw t)) (tileSet (nthTile pw t')) := by
    intro t ht t' ht' hne
    obtain ⟨e, he, hn, rfl⟩ := exists_cnt pw 64 t (Finset.mem_range.mp ht)
    obtain ⟨e', he', hn', rfl⟩ := exists_cnt pw 64 t' (Finset.mem_range.mp ht')
    rw [nthTile_cnt pw he hn, nthTile_cnt pw he' hn', Finset.disjoint_left]
    exact fun y hy => tile_disjoint H.pads he he' hn hn' (fun h => hne (by rw [h])) y hy
  have hset : unfilled pw 64 = Finset.univ \ (Finset.range (cnt pw 64)).biUnion fun t => tileSet (nthTile pw t) := by
    ext y
    rw [mem_unfilled, Finset.mem_sdiff, Finset.mem_biUnion]
    constructor
    · rintro h
      refine ⟨Finset.mem_univ _, ?_⟩
      rintro ⟨t, ht, hy⟩
      obtain ⟨e, he, hn, rfl⟩ := exists_cnt pw 64 t (Finset.mem_range.mp ht)
      rw [nthTile_cnt pw he hn] at hy
      exact h e he hn hy
    · rintro ⟨-, h⟩ e he hn hy
      exact h ⟨cnt pw e, Finset.mem_range.mpr (cnt_lt pw he hn), by rw [nthTile_cnt pw he hn]; exact hy⟩
  rw [show bigSep Finset.univ (zeroD c pw Z fz) = bigSep (Finset.range (cnt pw 64))
      (fun t => iprop(xsPt c (tileSet (nthTile pw t)) Z ∗ zPt c (Transfers.shareTokN fullShare t) fz)) from
      Ring.bigSep_fin_eq_range _ _ _ (fun t h => rfl),
    show bigSep (Finset.range (cnt pw 64)) (fun t => iprop(xsPt c (tileSet (nthTile pw t)) Z ∗ zPt c (Transfers.shareTokN fullShare t) fz))
      = iprop(bigSep (Finset.range (cnt pw 64)) (fun t => xsPt c (tileSet (nthTile pw t)) Z)
        ∗ bigSep (Finset.range (cnt pw 64)) (fun t => zPt c (Transfers.shareTokN fullShare t) fz)) from BI.bigSep_sep _ _ _,
    show bigSep (Finset.range (cnt pw 64)) (fun t => xsPt c (tileSet (nthTile pw t)) Z)
      = xsPt c ((Finset.range (cnt pw 64)).biUnion fun t => tileSet (nthTile pw t)) Z from (pointsTo_biUnion _ _ hdis).symm,
    show xsPt c (unfilled pw 64) f = xsPt c (unfilled pw 64) Z from pointsTo_congr H.kept, hset]
  iintro ⟨Hx, Hz, Ht, Hs⟩
  isplitl [Hx Ht]
  · iapply (pointsTo_split_subset (Finset.subset_univ ((Finset.range (cnt pw 64)).biUnion fun t => tileSet (nthTile pw t)))).2
    isplitl [Ht] <;> iassumption
  · iapply (Transfers.pointsTo_toks_range fullShare (cnt pw 64)).2
    isplitl [Hz] <;> iassumption

end Fill

instance zeroD_storable (c : Dev nD) (pw : ℕ → BitVec 32) (Z : XsBuf (F := F)) (fz : Blk (F := F)) (t : Fin (cnt pw 64)) :
    BI.Storable (upEmb : UEmb _ 𝕄) (zeroD c pw Z fz t) := by
  unfold zeroD; infer_instance

section Run

variable {c : Dev nD} {pw : ℕ → BitVec 32} (i : grid0.Coords) (h1 : k0_cond1 i = 1#1)
  {q3 : PosShare TreeShare} {f3 : Buf (Elt F) (t3M.view.loc (c : Thread nD τ))} {f Z : XsBuf (F := F)}

theorem wp_zeroRun (H : FillFacts c pw f3 f Z (fun _ => zc)) (W : Waits sig Unit) (fz : Blk (F := F)) (k : P F PUnit) (Q : PUnit → sProp 𝕄) :
    iprop(padPt c q3 f3 ∗ xsPt c Finset.univ f ∗ zPt c fullShare fz ∗ semVal ((c : Thread nD τ), SemLoc.dma cc0_scratch2.sem) 0
        ∗ owes (c : Thread nD τ) 0 W
        ∗ (iprop(padPt c q3 f3 ∗ xsPt c Finset.univ Z ∗ zPt c fullShare (fun _ => zc) ∗ semVal ((c : Thread nD τ), SemLoc.dma cc0_scratch2.sem) 0
            ∗ ∃ W', owes (c : Thread nD τ) 0 W') -∗ wp frame (wpE (defs₀ (F := F)) Variants.none c none) Set.univ k Q))
      ⊢ wp frame (wpE (defs₀ (F := F)) Variants.none c none) Set.univ (zeroRun i h1 k) Q := by
  unfold zeroRun
  iintro ⟨Hp, Hx, Hz, Hq, HO, Hk⟩
  iapply (wp_load Variants.none (c : Thread nD τ) none Set.univ (m := zM) (S := Finset.univ) (Finset.subset_univ _)) $$ Hz
  iintro Hz
  iapply (wp_store Variants.none (c : Thread nD τ) none Set.univ (m := zM) (r := Rect.unit (s := S256x2048) ![0, 0] S256x2048.size inb_S256x2048_S256x2048_0_0)
    (S := Finset.univ) (f := fz) (Finset.subset_univ _)) $$ [Hz]
  · iexact Hz
  iintro Hz
  rw [zeros_stored]
  imod (Transfers.batch_alloc' (Lvl := ℕ) (countersEmb (U := Pipeline.UD sig nD τ)) (c : Thread nD τ) () NZ (zeroD c pw Z (fun _ => zc))
    (sm := SemLoc.dma cc0_scratch2.sem) (E := Set.univ)) $$ Hq with HB
  iapply (wp_odd_even i h1 H Q 6 0 6 14 rfl rfl (by decide)) $$ [Hp Hx Hz HB HO]
  · unfold zeroAt
    rw [Nat.zero_min, unfilled_zero, show cnt pw (0 - 64) = 0 from rfl, Nat.zero_mul]
    isplitl [Hp]; · iexact Hp
    isplitl [Hx]; · iexact Hx
    isplitl [Hz]; · iexact Hz
    isplitl [HB]; · iexact HB
    iexists _; iexact HO
  iintro HZ
  iapply (wp_odd_even i h1 H Q 7 14 21 29 rfl rfl (by decide)) $$ HZ; iintro HZ
  iapply (wp_odd_even i h1 H Q 7 29 36 44 rfl rfl (by decide)) $$ HZ; iintro HZ
  iapply (wp_odd_even i h1 H Q 7 44 51 59 rfl rfl (by decide)) $$ HZ; iintro HZ
  iapply (wp_odd_even i h1 H Q 7 59 66 74 rfl rfl (by decide)) $$ HZ; iintro HZ
  iapply (wp_odd_even i h1 H Q 7 74 81 89 rfl rfl (by decide)) $$ HZ; iintro HZ
  iapply (wp_odd_even i h1 H Q 7 89 96 104 rfl rfl (by decide)) $$ HZ; iintro HZ
  iapply (wp_odd_even i h1 H Q 7 104 111 119 rfl rfl (by decide)) $$ HZ; iintro HZ
  iapply (wp_last i h1 H Q k) $$ HZ
  iintro HZ
  ihave HZ' := (show zeroAt c pw q3 f3 f Z (fun _ => zc) 128 ⊢ iprop(padPt c q3 f3 ∗ xsPt c (unfilled pw 64) f ∗ zPt c (Transfers.shareDrop fullShare (cnt pw 64)) (fun _ => zc)
      ∗ zeroBatch c pw Z (fun _ => zc) (cnt pw 64) (NZ * cnt pw 64) ∗ ∃ W, owes (c : Thread nD τ) 0 W) from by
    unfold zeroAt
    rw [show min 128 64 = 64 from rfl, show 128 - 64 = 64 from rfl, Nat.mul_comm NZ]) $$ HZ
  icases HZ' with ⟨Hp, Hx, Hz, HB, HO⟩
  imod (Transfers.batch_collect' (Lvl := ℕ) (countersEmb (U := Pipeline.UD sig nD τ)) (c : Thread nD τ) (sm := SemLoc.dma cc0_scratch2.sem) NZ_pos) $$ HB with ⟨HD, Hq⟩
  ihave HD' := (filled_all H) $$ [Hx Hz HD]
  · isplitl [Hx]; · iexact Hx
    isplitl [Hz] <;> iassumption
  icases HD' with ⟨Hx, Hz⟩
  iapply Hk
  isplitl [Hp]; · iexact Hp
  isplitl [Hx]; · iexact Hx
  isplitl [Hz]; · iexact Hz
  isplitl [Hq] <;> iassumption

end Run

end Cert.KernelIdeal.Hand

end
-- ==== Proof.Pre.lean ====
/-
  What the precondition says of the routing tables, entry by entry.
-/
module

public import proofs.«01_k».proof.Pre_routed
public import Idealize.ShloMosaic.Lib.ReduceAll
public import Idealize.ShloMosaic.Lib.Affine
public import Idealize.ShloMosaic.Lib.Pipeline.Value

@[expose] public section

noncomputable section

namespace Cert.Pre_routed.Hand

open Cert.Pre_routed Idealize.ShloMosaic

/-! ## Indices, and arrays spread over the rows or the columns of a table -/

/-- The index of one coordinate, and of two. -/
def ix1 {n : ℕ} (v : Fin n) : (⟨1, ![n]⟩ : Shape).Idx := fun a => ⟨v.val, by fin_cases a; exact v.isLt⟩
def ix2 {n m : ℕ} (v : Fin n) (w : Fin m) : (⟨2, ![n, m]⟩ : Shape).Idx := fun a => match a with
  | ⟨0, _⟩ => ⟨v.val, v.isLt⟩
  | ⟨1, _⟩ => ⟨w.val, w.isLt⟩

theorem eq_ix1 {n : ℕ} (y : (⟨1, ![n]⟩ : Shape).Idx) : y = ix1 (y 0) := by
  funext a; fin_cases a; rfl

variable {α : Type} {n m : ℕ}

theorem col_apply (hn : n ≠ 1) (h1 : (⟨1, ![n]⟩ : Shape).BroadcastsInDim ⟨2, ![n, 1]⟩ ![0])
    (h2 : (⟨2, ![n, 1]⟩ : Shape).BroadcastsInDim ⟨2, ![n, m]⟩ ![0, 1]) (x : (⟨1, ![n]⟩ : Shape).Idx → α) (v : Fin n) (w : Fin m) :
    broadcastInDim (⟨2, ![n, m]⟩ : Shape) ![0, 1] h2 (broadcastInDim (⟨2, ![n, 1]⟩ : Shape) ![0] h1 x) (ix2 v w) = x (ix1 v) := by
  rw [broadcastInDim_apply _ h2 _ _ (ix2 v (0 : Fin 1))]
  · rw [broadcastInDim_apply _ h1 _ _ (ix1 v)]
    intro a
    fin_cases a
    show v.val = if n = 1 then 0 else v.val
    rw [if_neg hn]
  · intro a
    fin_cases a
    · show v.val = if n = 1 then 0 else v.val
      rw [if_neg hn]
    · show 0 = if 1 = 1 then 0 else w.val
      rfl

theorem col1_apply (hn : n ≠ 1) (h2 : (⟨2, ![n, 1]⟩ : Shape).BroadcastsInDim ⟨2, ![n, m]⟩ ![0, 1])
    (x : (⟨2, ![n, 1]⟩ : Shape).Idx → α) (v : Fin n) (w : Fin m) :
    broadcastInDim (⟨2, ![n, m]⟩ : Shape) ![0, 1] h2 x (ix2 v w) = x (ix2 v 0) := by
  rw [broadcastInDim_apply _ h2 _ _ (ix2 v (0 : Fin 1))]
  intro a
  fin_cases a
  · show v.val = if n = 1 then 0 else v.val
    rw [if_neg hn]
  · show 0 = if 1 = 1 then 0 else w.val
    rfl

theorem colv_apply (hn : n ≠ 1) (h1 : (⟨1, ![n]⟩ : Shape).BroadcastsInDim ⟨2, ![n, 1]⟩ ![0])
    (x : (⟨1, ![n]⟩ : Shape).Idx → α) (v : Fin n) : broadcastInDim (⟨2, ![n, 1]⟩ : Shape) ![0] h1 x (ix2 v 0) = x (ix1 v) := by
  rw [broadcastInDim_apply _ h1 _ _ (ix1 v)]
  intro a
  fin_cases a
  show v.val = if n = 1 then 0 else v.val
  rw [if_neg hn]

theorem row1_apply (hm : m ≠ 1) (h2 : (⟨2, ![1, m]⟩ : Shape).BroadcastsInDim ⟨2, ![n, m]⟩ ![0, 1])
    (x : (⟨2, ![1, m]⟩ : Shape).Idx → α) (v : Fin n) (w : Fin m) :
    broadcastInDim (⟨2, ![n, m]⟩ : Shape) ![0, 1] h2 x (ix2 v w) = x (ix2 0 w) := by
  rw [broadcastInDim_apply _ h2 _ _ (ix2 (0 : Fin 1) w)]
  intro a
  fin_cases a
  · show 0 = if 1 = 1 then 0 else v.val
    rfl
  · show w.val = if m = 1 then 0 else w.val
    rw [if_neg hm]

theorem rowv_apply (hm : m ≠ 1) (h1 : (⟨1, ![m]⟩ : Shape).BroadcastsInDim ⟨2, ![1, m]⟩ ![1])
    (x : (⟨1, ![m]⟩ : Shape).Idx → α) (w : Fin m) : broadcastInDim (⟨2, ![1, m]⟩ : Shape) ![1] h1 x (ix2 0 w) = x (ix1 w) := by
  rw [broadcastInDim_apply _ h1 _ _ (ix1 w)]
  intro a
  fin_cases a
  show w.val = if m = 1 then 0 else w.val
  rw [if_neg hm]

/-- `jnp.any`: a reduce by `or` that is 1 met a 1. -/
theorem foldl_ori {ι : Type} (f : ι → BitVec 1) : ∀ (l : List ι) (init : BitVec 1), l.foldl (fun r n => IntOp.ori r (f n)) init = 1#1 →
    init = 1#1 ∨ ∃ n ∈ l, f n = 1#1
  | [], init, h => Or.inl h
  | a :: l, init, h => by
    rcases foldl_ori f l _ h with h1 | ⟨x, hx, hx'⟩
    · rcases IntOp.ori_eq_one.1 h1 with h2 | h2
      · exact Or.inl h2
      · exact Or.inr ⟨a, List.mem_cons_self .., h2⟩
    · exact Or.inr ⟨x, List.mem_cons_of_mem _ hx, hx'⟩

theorem any_row (h : (⟨2, ![n, m]⟩ : Shape).ReducesTo [1] ⟨1, ![n]⟩) (hu : 0 < S_.numel) (x : (⟨2, ![n, m]⟩ : Shape).Idx → BitVec 1) (v : Fin n)
    (e : Host.reduce IntOp.ori x (constantI S_ 1 0#1) h hu (ix1 v) = 1#1) : ∃ w : Fin m, x (ix2 v w) = 1#1 := by
  rw [Host.reduce_eq_foldl] at e
  rcases foldl_ori x _ _ e with h0 | ⟨i, hi, hx⟩
  · exact absurd h0 (by show ¬(0#1 : BitVec 1) = 1#1; decide)
  · have hd : h.drop i = ix1 v := by simpa using (List.mem_filter.1 hi).2
    have h0 : (i 0).val = v.val := congrArg (fun y : (⟨1, ![n]⟩ : Shape).Idx => (y 0).val) hd
    have hi' : ix2 v (⟨(i 1).val, (i 1).isLt⟩ : Fin m) = i := by
      funext a
      apply Fin.ext
      fin_cases a
      · exact h0.symm
      · rfl
    exact ⟨_, (congrArg x hi').trans hx⟩

/-! ## Words -/

theorem iota_inj {n : ℕ} (hn : n ≤ 40960) (v w : Fin n) (h : BitVec.ofNat 32 v.val = BitVec.ofNat 32 w.val) : v = w := by
  have := congrArg BitVec.toNat h
  rw [BitVec.toNat_ofNat, BitVec.toNat_ofNat] at this
  apply Fin.ext
  have := v.isLt
  have := w.isLt
  omega

/-- A word whose low 8 bits are clear is a multiple of 256; clearing them takes the remainder away. -/
theorem and_255 (v : BitVec 32) (h : v &&& 255#32 = 0#32) : v.toNat % 256 = 0 := by
  have := congrArg BitVec.toNat h
  rw [BitVec.toNat_and, show (255#32 : BitVec 32).toNat = 2 ^ 8 - 1 from rfl, Nat.and_two_pow_sub_one_eq_mod] at this
  exact this
theorem and_neg256 {p : ℕ} (hp : p < 40960) : (BitVec.ofNat 32 p &&& 4294967040#32).toNat = p - p % 256 := by
  have e : BitVec.ofNat 32 p &&& 4294967040#32 = BitVec.ofNat 32 (p / 256) <<< 8 := by
    apply BitVec.eq_of_getLsbD_eq
    intro i hi
    have hm : (4294967040#32 : BitVec 32).getLsbD i = decide (8 ≤ i) := by revert i; decide
    rw [BitVec.getLsbD_and, hm, BitVec.getLsbD_shiftLeft]
    by_cases h8 : i < 8
    · simp [h8]
    · have e8 : i - 8 + 8 = i := by omega
      have e' : (p / 2 ^ 8).testBit (i - 8) = p.testBit i := by rw [Nat.testBit_div_two_pow, e8]
      simp only [BitVec.getLsbD_ofNat, hi, h8, decide_true, decide_false, Bool.not_false, Bool.true_and, show i - 8 < 32 by omega,
        show 8 ≤ i by omega, Bool.and_true]
      exact e'.symm
  rw [e, BitVec.toNat_shiftLeft, BitVec.toNat_ofNat, Nat.shiftLeft_eq]
  omega

/-- What the tables satisfy. -/
structure Routed (a0 a1 : S16384.Idx → BitVec 32) (a2 : S64.Idx → BitVec 32) : Prop where
  lt0 : ∀ j, (a0 (ix1 j)).toNat < 40960
  lt1 : ∀ j, (a1 (ix1 j)).toNat < 40960
  inj0 : ∀ j j', a0 (ix1 j) = a0 (ix1 j') → j = j'
  inj1 : ∀ j j', a1 (ix1 j) = a1 (ix1 j') → j = j'
  disj : ∀ j j', a0 (ix1 j) ≠ a1 (ix1 j')
  tile : ∀ e, 2 * (a2 (ix1 e)).toNat < 2 ^ 32 → (a2 (ix1 e)).toNat % 256 = 0 ∧ (a2 (ix1 e)).toNat < 40960
  once : ∀ e e', 2 * (a2 (ix1 e)).toNat < 2 ^ 32 → a2 (ix1 e) = a2 (ix1 e') → e = e'
  cover : ∀ p < 40960, (∃ j, (a0 (ix1 j)).toNat = p) ∨ (∃ j, (a1 (ix1 j)).toNat = p)
    ∨ ∃ e, 2 * (a2 (ix1 e)).toNat < 2 ^ 32 ∧ (a2 (ix1 e)).toNat = p - p % 256

theorem lt_of_signed {v : BitVec 32} (h0 : IntOp.cmpi .sge v 0#32 = 1#1) (h1 : IntOp.cmpi .slt v 40960#32 = 1#1) : v.toNat < 40960 := by
  rw [IntOp.cmpi_sge] at h0
  rw [IntOp.cmpi_slt] at h1
  have h0' : (0 : ℤ) ≤ v.toInt := h0
  have h1' : v.toInt < 40960 := h1
  have hn := BitVec.toInt_pos_iff.mp h0'
  rw [BitVec.toInt_eq_toNat_of_lt hn] at h1'
  omega

variable {F : FTy → Type} [FloatOps F] [Facts]

theorem routed_of (a0 a1 : S16384.Idx → BitVec 32) (a2 : S64.Idx → BitVec 32) (a3 : FVec F S16384x2048 .f32)
    (h : fn (F := F) a0 a1 a2 a3 = fun _ => 1#1) : Routed a0 a1 a2 := by
  have h := congrFun h (fun a => a.elim0)
  unfold fn fn_part1 fn_part2 fn_part3 fn_part4 fn_part5 at h
  obtain ⟨h, hcover⟩ := IntOp.andi_eq_one.mp h
  obtain ⟨h, hpad⟩ := IntOp.andi_eq_one.mp h
  obtain ⟨hrange, honce⟩ := IntOp.andi_eq_one.mp h
  obtain ⟨hr0, hr1⟩ := IntOp.andi_eq_one.mp hrange
  obtain ⟨h, hdisj⟩ := IntOp.andi_eq_one.mp honce
  obtain ⟨hinj0, hinj1⟩ := IntOp.andi_eq_one.mp h
  obtain ⟨htile, honce⟩ := IntOp.andi_eq_one.mp hpad
  have sub : Subsingleton S_.Idx := ⟨fun a b => funext fun x => x.elim0⟩
  have neg : ∀ e, IntOp.cmpi .slt (a2 (ix1 e)) 0#32 = 1#1 → ¬2 * (a2 (ix1 e)).toNat < 2 ^ 32 := by
    intro e he hn
    rw [IntOp.cmpi_slt, BitVec.toInt_eq_toNat_of_lt hn, show (0#32 : BitVec 32).toInt = 0 from by decide] at he
    omega
  constructor
  · intro j
    have hj := Host.reduce_andi_all _ _ _ _ _ hr0 (ix1 j)
    obtain ⟨x, y⟩ := IntOp.andi_eq_one.mp hj
    exact lt_of_signed x y
  · intro j
    have hj := Host.reduce_andi_all _ _ _ _ _ hr1 (ix1 j)
    obtain ⟨x, y⟩ := IntOp.andi_eq_one.mp hj
    exact lt_of_signed x y
  · intro j j' e
    have hj := Host.reduce_andi_all _ _ _ _ _ hinj0 (ix2 j j')
    rcases IntOp.ori_eq_one.mp hj with x | x
    · refine absurd e ?_
      have x' := IntOp.cmpi_ne.mp x
      rwa [col_apply (by decide), row1_apply (by decide), rowv_apply (by decide)] at x'
    · have x' := IntOp.cmpi_eq.mp x
      rw [col_apply (by decide), row1_apply (by decide), rowv_apply (by decide)] at x'
      exact iota_inj (by decide) j j' x'
  · intro j j' e
    have hj := Host.reduce_andi_all _ _ _ _ _ hinj1 (ix2 j j')
    rcases IntOp.ori_eq_one.mp hj with x | x
    · refine absurd e ?_
      have x' := IntOp.cmpi_ne.mp x
      rwa [col_apply (by decide), row1_apply (by decide), rowv_apply (by decide)] at x'
    · have x' := IntOp.cmpi_eq.mp x
      rw [col_apply (by decide), row1_apply (by decide), rowv_apply (by decide)] at x'
      exact iota_inj (by decide) j j' x'
  · intro j j'
    have x' := IntOp.cmpi_ne.mp (Host.reduce_andi_all _ _ _ _ _ hdisj (ix2 j j'))
    rwa [col_apply (by decide), row1_apply (by decide), rowv_apply (by decide)] at x'
  · intro e hn
    rcases IntOp.ori_eq_one.mp (Host.reduce_andi_all _ _ _ _ _ htile (ix1 e)) with x | x
    · exact absurd hn (neg e x)
    · obtain ⟨x, y⟩ := IntOp.andi_eq_one.mp x
      refine ⟨and_255 _ (IntOp.cmpi_eq.mp x), ?_⟩
      have y' := IntOp.cmpi_slt.mp y
      have y'' : (a2 (ix1 e)).toInt < 40960 := y'
      rw [BitVec.toInt_eq_toNat_of_lt hn] at y''
      omega
  · intro e e' hn he
    rcases IntOp.ori_eq_one.mp (Host.reduce_andi_all _ _ _ _ _ honce (ix2 e e')) with x | x
    · rcases IntOp.ori_eq_one.mp x with x | x
      · have x' := IntOp.cmpi_ne.mp x
        rw [col_apply (by decide), row1_apply (by decide), rowv_apply (by decide)] at x'
        exact absurd he x'
      · rw [col1_apply (by decide)] at x
        have x' : IntOp.cmpi .slt _ 0#32 = 1#1 := x
        rw [colv_apply (by decide)] at x'
        exact absurd hn (neg e x')
    · have x' := IntOp.cmpi_eq.mp x
      rw [col_apply (by decide), row1_apply (by decide), rowv_apply (by decide)] at x'
      exact iota_inj (by decide) e e' x'
  · intro p hp
    have hc := Host.reduce_andi_all _ _ _ _ _ hcover (ix1 (⟨p, hp⟩ : Fin 40960))
    have key : ∀ (a : S16384.Idx → BitVec 32) (j : Fin 16384), a (ix1 j) = BitVec.ofNat 32 p → (a (ix1 j)).toNat = p := by
      intro a j e
      rw [e, BitVec.toNat_ofNat]
      omega
    rcases IntOp.ori_eq_one.mp hc with x | x
    · rcases IntOp.ori_eq_one.mp x with x | x
      · obtain ⟨j, x⟩ := any_row _ _ _ _ x
        have x' := IntOp.cmpi_eq.mp x
        rw [row1_apply (by decide), rowv_apply (by decide), col_apply (by decide)] at x'
        exact Or.inl ⟨j, key a0 j x'⟩
      · obtain ⟨j, x⟩ := any_row _ _ _ _ x
        have x' := IntOp.cmpi_eq.mp x
        rw [row1_apply (by decide), rowv_apply (by decide), col_apply (by decide)] at x'
        exact Or.inr (Or.inl ⟨j, key a1 j x'⟩)
    · obtain ⟨e, x⟩ := any_row _ _ _ _ x
      obtain ⟨x, y⟩ := IntOp.andi_eq_one.mp x
      rw [row1_apply (by decide)] at x
      have x' : IntOp.cmpi .sge _ 0#32 = 1#1 := x
      rw [rowv_apply (by decide)] at x'
      have y' := IntOp.cmpi_eq.mp y
      rw [row1_apply (by decide), rowv_apply (by decide), col1_apply (by decide)] at y'
      have y'' : a2 (ix1 e) = (_ &&& 4294967040#32 : BitVec 32) := y'
      rw [colv_apply (by decide)] at y''
      refine Or.inr (Or.inr ⟨e, (Scalar.nonneg_iff _).mp x', ?_⟩)
      rw [y'']
      exact and_neg256 hp

omit [FloatOps F] [Facts] in
/-- The function's own facts. -/
theorem facts : Cert.Pre_routed.Facts := by
  constructor <;> decide

end Cert.Pre_routed.Hand

end
-- ==== Proof.Plan.lean ====
/-
  What the result holds before each grid point, as a function of the tables, the tokens and what it held at first.
-/
module

public import proofs.«01_k».proof.Proof.Fill
public import proofs.«01_k».proof.Proof.Pre

@[expose] public section

noncomputable section

namespace Cert.KernelIdeal.Hand

open Cert.KernelIdeal Cert.KernelIdeal.Gen
open Idealize.ShloMosaic Idealize.ShloMosaic.TcCoe Idealize.ShloMosaic.Tactic
open Cert.Pre_routed.Hand (Routed ix1 ix2 eq_ix1)

variable {F : FTy → Type} [FloatOps F]

/-- The row token `j` goes to by a table, and entry `e` of the list of padding tiles. -/
def pos (p : S16384.Idx → BitVec 32) (j : ℕ) : ℕ := if h : j < 16384 then (p (ix1 ⟨j, h⟩)).toNat else 0
def padw (p : S64.Idx → BitVec 32) (e : ℕ) : BitVec 32 := if h : e < 64 then p (ix1 ⟨e, h⟩) else 0#32

theorem pos_of {p : S16384.Idx → BitVec 32} {j : ℕ} (h : j < 16384) : pos p j = (p (ix1 ⟨j, h⟩)).toNat := dif_pos h
theorem padw_of {p : S64.Idx → BitVec 32} {e : ℕ} (h : e < 64) : padw p e = p (ix1 ⟨e, h⟩) := dif_pos h

/-- Token `j` goes to row `p`. -/
def Goes (p1 p2 : S16384.Idx → BitVec 32) (j p : ℕ) : Prop := pos p1 j = p ∨ pos p2 j = p

section
variable {p1 p2 : S16384.Idx → BitVec 32} {p3 : S64.Idx → BitVec 32} (R : Routed p1 p2 p3)
include R

theorem pos_inj1 {j j' : ℕ} (h : j < 16384) (h' : j' < 16384) (e : pos p1 j = pos p1 j') : j = j' := by
  rw [pos_of h, pos_of h'] at e
  exact congrArg Fin.val (R.inj0 _ _ (BitVec.eq_of_toNat_eq e))
theorem pos_inj2 {j j' : ℕ} (h : j < 16384) (h' : j' < 16384) (e : pos p2 j = pos p2 j') : j = j' := by
  rw [pos_of h, pos_of h'] at e
  exact congrArg Fin.val (R.inj1 _ _ (BitVec.eq_of_toNat_eq e))
theorem pos_disj {j j' : ℕ} (h : j < 16384) (h' : j' < 16384) : pos p1 j ≠ pos p2 j' := by
  rw [pos_of h, pos_of h']
  exact fun e => R.disj _ _ (BitVec.eq_of_toNat_eq e)

/-- One token at most goes to a row. -/
theorem goes_unique {j j' p : ℕ} (h : j < 16384) (h' : j' < 16384) (a : Goes p1 p2 j p) (b : Goes p1 p2 j' p) : j = j' := by
  rcases a with a | a <;> rcases b with b | b
  · exact pos_inj1 R h h' (a.trans b.symm)
  · exact absurd (a.trans b.symm) (pos_disj R h h')
  · exact absurd (b.trans a.symm) (pos_disj R h' h)
  · exact pos_inj2 R h h' (a.trans b.symm)

theorem pads : Pads (padw p3) where
  tile e he hn := by rw [padw_of he] at hn ⊢; exact R.tile _ hn
  once e he e' he' hn _ h := by
    rw [padw_of he] at hn h
    rw [padw_of he'] at h
    exact congrArg Fin.val (R.once _ _ hn (BitVec.eq_of_toNat_eq h))

end

/-! ## The contents -/

open Classical in
/-- With the named tiles filled. -/
def filledAt (p3 : S64.Idx → BitVec 32) (v0 : XsBuf (F := F)) : XsBuf (F := F) := fun y =>
  if ∃ e < 64, Named (padw p3 e) ∧ y ∈ tileSet (padw p3 e).toNat then zc else v0 y

open Classical in
/-- `g` with the rows of the first `n` tokens at their tokens. -/
def sentAt (p1 p2 : S16384.Idx → BitVec 32) (h : S16384x2048.Idx → Elt F .f32) (g : XsBuf (F := F)) (n : ℕ) : XsBuf (F := F) := fun y =>
  if hj : ∃ j : Fin 16384, j.val < n ∧ Goes p1 p2 j.val (y 0).val then h (ix2 hj.choose (⟨(y 1).val, (y 1).isLt⟩ : Fin 2048)) else g y

/-- Before grid point `t`. -/
def xsAt (p1 p2 : S16384.Idx → BitVec 32) (p3 : S64.Idx → BitVec 32) (h : S16384x2048.Idx → Elt F .f32) (v0 : XsBuf (F := F)) (t : ℕ) : XsBuf (F := F) :=
  if t = 0 then v0 else sentAt p1 p2 h (filledAt p3 v0) (256 * t)

section
variable {p1 p2 : S16384.Idx → BitVec 32} {p3 : S64.Idx → BitVec 32} (R : Routed p1 p2 p3)
  (h : S16384x2048.Idx → Elt F .f32) (g v0 : XsBuf (F := F))
include R

theorem sentAt_of {n : ℕ} (j : Fin 16384) (hn : j.val < n) (y : S40960x2048.Idx) (hg : Goes p1 p2 j.val (y 0).val) :
    sentAt p1 p2 h g n y = h (ix2 j (⟨(y 1).val, (y 1).isLt⟩ : Fin 2048)) := by
  have hj : ∃ j : Fin 16384, j.val < n ∧ Goes p1 p2 j.val (y 0).val := ⟨j, hn, hg⟩
  unfold sentAt
  rw [dif_pos hj, show hj.choose = j from Fin.ext (goes_unique R hj.choose.isLt j.isLt hj.choose_spec.2 hg)]

omit R in
theorem sentAt_not {n : ℕ} (y : S40960x2048.Idx) (hg : ∀ j : Fin 16384, j.val < n → ¬Goes p1 p2 j.val (y 0).val) :
    sentAt p1 p2 h g n y = g y := dif_neg fun ⟨j, hn, hj⟩ => hg j hn hj

omit R in
theorem sentAt_zero : sentAt p1 p2 h g 0 = g := funext fun y => sentAt_not h g y fun j hj => absurd hj (Nat.not_lt_zero _)

theorem sentAt_step {n : ℕ} (y : S40960x2048.Idx) (hg : ∀ r < 256, ¬Goes p1 p2 (n + r) (y 0).val) :
    sentAt p1 p2 h g n y = sentAt p1 p2 h g (n + 256) y := by
  by_cases hj : ∃ j : Fin 16384, j.val < n ∧ Goes p1 p2 j.val (y 0).val
  · obtain ⟨j, hn, hj⟩ := hj
    rw [sentAt_of R h g j hn y hj, sentAt_of R h g j (by omega) y hj]
  · rw [sentAt_not h g y fun j hn hj' => hj ⟨j, hn, hj'⟩, sentAt_not h g y]
    intro j hn hj'
    by_cases hl : j.val < n
    · exact hj ⟨j, hl, hj'⟩
    · refine hg (j.val - n) (by omega) ?_
      rwa [show n + (j.val - n) = j.val by omega]

/-- The facts of the first point's filling. -/
theorem fillFacts (c : Dev nD) : FillFacts c (padw p3) p3 v0 (filledAt p3 v0) (fun _ => zc) where
  pads := pads R
  tab y := by
    have hy : (y 0).val < 64 := (y 0).isLt
    rw [padw_of hy]
    exact congrArg p3 (eq_ix1 y)
  filled e he hn y hy z := if_pos ⟨e, he, hn, hy⟩
  kept y hy := by
    refine (if_neg ?_).symm
    rintro ⟨e, he, hn, hy'⟩
    exact absurd hy' ((mem_unfilled _ _ _).mp hy e he hn)

/-- The facts of grid point `i`'s rows, the block staged in `M` being the tokens `256 i …`. -/
theorem stepFacts (c : Dev nD) (i : grid0.Coords) (M : Memref sig .tc .vmem S256x2048 .f32) (fs : Buf (Elt F) (M.view.loc (c : Thread nD τ)))
    (hfs : ∀ (r : ℕ) (hr : r < 256) (z : S256x2048.Idx), (z 0).val = r → ∀ hj : 256 * (i 0).val + r < 16384,
      M.view.read (Elt F) fs z = h (ix2 ⟨256 * (i 0).val + r, hj⟩ (⟨(z 1).val, (z 1).isLt⟩ : Fin 2048))) :
    StepFacts c i M p1 p2 fs (sentAt p1 p2 h g (256 * (i 0).val)) (sentAt p1 p2 h g (256 * (i 0).val + 256))
      (fun r => pos p1 (256 * (i 0).val + r)) (fun r => pos p2 (256 * (i 0).val + r)) := by
  have hi : (i 0).val < 64 := (i 0).isLt
  have lt : ∀ {r}, r < 256 → 256 * (i 0).val + r < 16384 := fun {r} hr => by omega
  refine ⟨⟨?_, ?_, ?_, ?_, ?_⟩, ?_, ?_, ?_, ?_, ?_, ?_, ?_⟩
  · intro r hr
    show pos p1 _ < _
    rw [pos_of (lt hr)]; exact R.lt0 _
  · intro r hr
    show pos p2 _ < _
    rw [pos_of (lt hr)]; exact R.lt1 _
  · intro r hr r' hr' e
    have := pos_inj1 R (lt hr) (lt hr') e
    omega
  · intro r hr r' hr' e
    have := pos_inj2 R (lt hr) (lt hr') e
    omega
  · intro r hr r' hr'
    exact pos_disj R (lt hr) (lt hr')
  · intro r hr y hy
    show (p1 y).toNat = pos p1 _
    rw [pos_of (lt hr), eq_ix1 y]
    congr 3
    exact Fin.ext hy
  · intro r hr y hy
    show (p2 y).toNat = pos p2 _
    rw [pos_of (lt hr), eq_ix1 y]
    congr 3
    exact Fin.ext hy
  · intro y
    show (p1 y).toNat < _
    rw [eq_ix1 y]; exact R.lt0 _
  · intro y
    show (p2 y).toNat < _
    rw [eq_ix1 y]; exact R.lt1 _
  · intro r hr y hy z hz0 hz1
    rw [mem_rowSet] at hy
    rw [hfs r hr z hz0 (lt hr), sentAt_of R h g ⟨_, lt hr⟩ (by show 256 * (i 0).val + r < _; omega) y (Or.inl hy.symm)]
    congr 2
    exact Fin.ext hz1.symm
  · intro r hr y hy z hz0 hz1
    rw [mem_rowSet] at hy
    rw [hfs r hr z hz0 (lt hr), sentAt_of R h g ⟨_, lt hr⟩ (by show 256 * (i 0).val + r < _; omega) y (Or.inr hy.symm)]
    congr 2
    exact Fin.ext hz1.symm
  · intro y hy
    refine sentAt_step R h g y ?_
    rintro r hr (e | e)
    · exact ((mem_unissued _ _ _ _).mp hy r hr).1 e
    · exact ((mem_unissued _ _ _ _).mp hy r hr).2 e

/-- The result: each row its token's, or zeros. -/
theorem xsAt_last_token (j : Fin 16384) (y : S40960x2048.Idx) (hg : Goes p1 p2 j.val (y 0).val) :
    xsAt p1 p2 p3 h v0 64 y = h (ix2 j (⟨(y 1).val, (y 1).isLt⟩ : Fin 2048)) := by
  unfold xsAt
  rw [if_neg (by decide)]
  exact sentAt_of R h _ j j.isLt y hg

theorem xsAt_last_pad (y : S40960x2048.Idx) (hg : ∀ j : Fin 16384, ¬Goes p1 p2 j.val (y 0).val) : xsAt p1 p2 p3 h v0 64 y = zc := by
  unfold xsAt
  rw [if_neg (by decide), sentAt_not _ _ _ fun j _ => hg j]
  refine if_pos ?_
  rcases R.cover (y 0).val (y 0).isLt with ⟨j, hj⟩ | ⟨j, hj⟩ | ⟨e, hn, he⟩
  · exact absurd (Or.inl ((pos_of j.isLt).trans hj)) (hg j)
  · exact absurd (Or.inr ((pos_of j.isLt).trans hj)) (hg j)
  · refine ⟨e.val, e.isLt, ?_, ?_⟩
    · rw [padw_of e.isLt]; exact hn
    · rw [padw_of e.isLt, mem_tileSet]
      have := Nat.mod_lt (y 0).val (show 256 > 0 by decide)
      have := Nat.mod_le (y 0).val 256
      show (p3 (ix1 e)).toNat ≤ _ ∧ _ < (p3 (ix1 e)).toNat + 256
      omega

end

end Cert.KernelIdeal.Hand

end
-- ==== Proof.Body.lean ====
/-
  The body at each grid point: from what the result holds before it to what it holds after.
-/
module

public import proofs.«01_k».proof.Proof.Plan
public import Idealize.ShloMosaic.Lib.Pipeline.Routed

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Pre_routed.Hand (Routed ix1 ix2 eq_ix1)

variable {F : FTy → Type} [FloatOps F]

/-- The logic the proof runs in. -/
local notation "𝕄" => MT nD τ sig Unit (Elt F) ℕ (Pipeline.UD sig nD τ) ℕ

variable (m : (ℓ : Loc nD τ sig) → Buf (Elt F) ℓ)

/-- What a buffer of core `c` holds at launch. -/
abbrev V (c : Dev nD) (b : Ref sig .tc) : Buf (Elt F) ((c : Thread nD τ).loc b) := m ((c : Thread nD τ).loc b)

/-- The tables at launch. -/
abbrev adm : (p : Fin 1) → (pcfgs (F := F) p).Adm := fun _ => ⟨fun k => m (((0 : Dev nD) : Thread nD τ).loc (pre0.ref k)), trivial⟩

/-- The body's two DMA cells: the rows' and the tiles'. -/
abbrev osem0 : Fin 2 → SemLoc sig := fun j => (![SemLoc.dma 2, SemLoc.dma 3] : Fin 2 → SemLoc sig) j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch1.sem) 0 ∗ semVal ((c : Thread nD τ), SemLoc.dma cc0_scratch2.sem) 0) := by
  rw [Pipeline.ownSems0_eq_of_list c osem0 [0, 1] (by decide) (by decide)]; rfl

/-- The written buffer, and the contents it is at before point `t`. -/
def R0 : Finset (Ref sig .tc) := {main_v0}
theorem R0_sub : R0 ⊆ Pipeline.restRefsP sig pre0 spec0 \ ∅ := by decide
abbrev xsNow (c : Dev nD) (t : ℕ) : XsBuf (F := F) := xsAt (V m c main_arg0) (V m c main_arg1) (V m c main_arg2) (V m c main_arg3) (V m c main_v0) t
def G (c : Dev nD) (t : ℕ) : (b : Ref sig .tc) → Buf (Elt F) ((c : Thread nD τ).loc b) := Function.update (V m c) main_v0 (xsNow m c t)

theorem G_zero (c : Dev nD) : G m c 0 = V m c := by
  unfold G
  rw [show xsNow m c 0 = V m c main_v0 from if_pos rfl, Function.update_eq_self]
theorem G_v0 (c : Dev nD) (t : ℕ) : G m c t main_v0 = xsNow m c t := Function.update_self ..

/-- The body's invariant: the scratch, the register, the two cells at zero, the result at its contents, the tables. -/
def Phi (c : Dev nD) (t : ℕ) : sProp 𝕄 :=
  iprop(Pipeline.ΦDRG osem0 spec0 ∅ R0 (V m) (fun c => G m c t) c ∗ Pipeline.ΦT pre0 (adm m 0).1 c)

theorem tables_eq (c : Dev nD) : (Pipeline.ΦT pre0 (adm m 0).1 c : sProp 𝕄)
    = iprop(tabPt c t1M fullShare.right (V m c main_arg0) ∗ tabPt c t2M fullShare.right (V m c main_arg1) ∗ padPt c fullShare.right (V m c main_arg2)) := by
  obtain rfl : c = 0 := Subsingleton.elim _ _
  unfold Pipeline.ΦT Pipeline.prefHeld
  rw [bigSep_univ_eq_bigSepL [(0 : Fin 3), 1, 2] (by decide) (by decide)]
  rfl

theorem Phi_eq (c : Dev nD) (t : ℕ) : Phi m c t
    = iprop(((∃ f : Blk (F := F), zPt c fullShare f) ∗ (∃ r, prngReg c r)
        ∗ (semVal ((c : Thread nD τ), SemLoc.dma cc0_scratch1.sem) 0 ∗ semVal ((c : Thread nD τ), SemLoc.dma cc0_scratch2.sem) 0)
        ∗ BI.emp ∗ xsPt c Finset.univ (xsNow m c t))
      ∗ tabPt c t1M fullShare.right (V m c main_arg0) ∗ tabPt c t2M fullShare.right (V m c main_arg1) ∗ padPt c fullShare.right (V m c main_arg2)) := by
  unfold Phi
  rw [Pipeline.ΦDRG_eq, scopedRest0_eq, ownSems0_cells, BI.bigSep_empty, tables_eq]
  unfold R0
  rw [Pipeline.routed_singleton, G_v0]
  rfl

/-- The block of tokens staged at point `t`. -/
def blockAt (c : Dev nD) (t : Fin (cfg0 (adm m 0)).N) : ((cfg0 (adm m 0)).win 0).block.Idx → Elt F .f32 :=
  (((cfg0 (adm m 0)).win 0).blk t).view.read (Elt F) (V m c main_arg3)

/-- The proof data of the pipeline on core `c`. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => blockAt m c t
    | ⟨_ + 1, h⟩ => absurd h (Nat.not_lt.2 (Nat.le_add_left _ _))
  Φ t := Phi m c t.val
  q _ := fullShare
  owed _ := 0

theorem coord_val : ∀ t : Fin grid0.N, (grid0.coords t 0).val = t.val := by decide

theorem cond_zero (t : Fin grid0.N) : k0_cond1 (grid0.coords t) = 1#1 ↔ t.val = 0 := by
  refine (Scalar.guard_iff _).trans ?_
  refine (IntOp.cmpi_eq (x := BitVec.ofNat 32 (grid0.coords t 0).val) (y := 0#32)).trans ?_
  rw [coord_val]
  have := t.isLt
  have hN : grid0.N = 64 := N_0
  constructor
  · intro h
    have := congrArg BitVec.toNat h
    rw [BitVec.toNat_ofNat] at this
    have h0 : (0#32 : BitVec 32).toNat = 0 := rfl
    omega
  · intro h; rw [h]

theorem blockAt_apply (c : Dev nD) (t : Fin grid0.N) (z : S256x2048.Idx) (hj : 256 * (grid0.coords t 0).val + (z 0).val < 16384) :
    blockAt m c t z = V m c main_arg3 (ix2 ⟨256 * (grid0.coords t 0).val + (z 0).val, hj⟩ (⟨(z 1).val, (z 1).isLt⟩ : Fin 2048)) := by
  unfold blockAt
  show V m c main_arg3 _ = _
  congr 1
  funext a
  apply Fin.ext
  fin_cases a
  · show (cc0_transform_0 (grid0.coords t) 0) * 256 + 1 * (z 0).val = 256 * (grid0.coords t 0).val + (z 0).val
    have : cc0_transform_0 (grid0.coords t) 0 = (grid0.coords t 0).val := by
      have := (grid0.coords t 0).isLt
      show (BitVec.ofNat 32 (grid0.coords t 0).val).toNat = _
      rw [BitVec.toNat_ofNat]
      have h64 : (grid0.coords t 0).val < 64 := (grid0.coords t 0).isLt
      omega
    omega
  · show 0 * 2048 + 1 * (z 1).val = (z 1).val
    omega

theorem before_eq (c : Dev nD) (t : Fin grid0.N) (d) : (dats m 0 c).before 0 t d = blockAt m c t :=
  (dats m 0 c).before_in_eq_fetched 0 rfl (fun _ => rfl) (fun _ _ _ => rfl) (fun _ => rfl) t d

/-- The memref the block is staged in at point `t`. -/
abbrev stM (t : Fin grid0.N) : Memref sig .tc .vmem S256x2048 .f32 := ((cfg0 (adm m 0)).win 0).stage ((cfg0 (adm m 0)).slots t 0)
theorem hstM (t : Fin grid0.N) : (stM m t).IsWhole := hstage0_0 (((cfg0 (adm m 0)).slots t 0).cast nbuf0_0)

/-- The body at point `t`. -/
abbrev bodyAt (t : Fin grid0.N) :=
  cc0_dispatch (F := F) (grid0.coords t) t1M (Memref.isWhole_whole _) t2M (Memref.isWhole_whole _) t3M (Memref.isWhole_whole _)
    (stM m t) (hstM m t) xsM (Memref.isWhole_whole _) zM (Memref.isWhole_whole _) cc0_scratch1 cc0_scratch2

def bodyPre (c : Dev nD) (t : Fin grid0.N) : sProp 𝕄 :=
  iprop((dats m 0 c).Φ t.castSucc ∗ (dats m 0 c).owesAt () t.castSucc
    ∗ (∃ d, owns (c : Thread nD τ) (stM m t) fullShare ((dats m 0 c).before 0 t d)))
def bodyPost (c : Dev nD) (t : Fin grid0.N) : sProp 𝕄 :=
  iprop((dats m 0 c).Φ t.succ ∗ (dats m 0 c).owesAt () t.succ
    ∗ owns (c : Thread nD τ) (stM m t) fullShare ((dats m 0 c).after 0 t))

/-- The point's rows, from the result at `sentAt (256 t)`. -/
theorem rows_body (c : Dev nD) (R : Routed (V m c main_arg0) (V m c main_arg1) (V m c main_arg2)) (t : Fin grid0.N)
    (fs : Buf (Elt F) ((stM m t).view.loc (c : Thread nD τ))) (hfs : (stM m t).view.read (Elt F) fs = blockAt m c t) (W : Waits sig Unit) :
    (iprop((∃ f : Blk (F := F), zPt c fullShare f) ∗ (∃ r, prngReg c r)
        ∗ semVal ((c : Thread nD τ), SemLoc.dma cc0_scratch1.sem) 0 ∗ semVal ((c : Thread nD τ), SemLoc.dma cc0_scratch2.sem) 0
        ∗ xsPt c Finset.univ (sentAt (V m c main_arg0) (V m c main_arg1) (V m c main_arg3) (filledAt (V m c main_arg2) (V m c main_v0)) (256 * t.val))
      ∗ tabPt c t1M fullShare.right (V m c main_arg0) ∗ tabPt c t2M fullShare.right (V m c main_arg1) ∗ padPt c fullShare.right (V m c main_arg2)
      ∗ owes (c : Thread nD τ) 0 W ∗ ((stM m t).view.loc (c : Thread nD τ) ↦[(stM m t).view.set]{fullShare} fs)) : sProp 𝕄)
      ⊢ wp frame (wpE (defs₀ (F := F)) Variants.none c none) Set.univ (rowsProg (grid0.coords t) (stM m t) (hstM m t)) (fun _ => bodyPost m c t) := by
  have hc := coord_val t
  have H := stepFacts R (V m c main_arg3) (filledAt (V m c main_arg2) (V m c main_v0)) c (grid0.coords t) (stM m t) fs (by
    intro r hr z hz hj
    subst hz
    rw [hfs]
    exact blockAt_apply m c t z hj)
  rw [hc] at H
  iintro ⟨Hz, Hg, Hq1, Hq2, Hx, Ht1, Ht2, Ht3, HO, Hb⟩
  iapply (wp_rows (hM := hstM m t) H W (fun _ => bodyPost m c t)) $$ [-]
  isplitl [Ht1]; · iexact Ht1
  isplitl [Ht2]; · iexact Ht2
  isplitl [Hb]; · iexact Hb
  isplitl [Hx]; · iexact Hx
  isplitl [Hq1]; · iexact Hq1
  isplitl [HO]; · iexact HO
  iintro ⟨Ht1, Ht2, Hb, Hx, Hq1, ⟨%W', HO⟩⟩
  unfold bodyPost
  rw [show (dats m 0 c).Φ t.succ = Phi m c (t.val + 1) from rfl, Phi_eq,
    show xsNow m c (t.val + 1) = sentAt (V m c main_arg0) (V m c main_arg1) (V m c main_arg3) (filledAt (V m c main_arg2) (V m c main_v0)) (256 * t.val + 256) from
      (if_neg (Nat.succ_ne_zero _)).trans (by rw [show 256 * (t.val + 1) = 256 * t.val + 256 by omega])]
  isplitl [Hz Hg Hq1 Hq2 Hx Ht1 Ht2 Ht3]
  · isplitl [Hz Hg Hq1 Hq2 Hx]
    · isplitl [Hz]; · iexact Hz
      isplitl [Hg]; · iexact Hg
      isplitl [Hq1 Hq2]
      · isplitl [Hq1]; · iexact Hq1
        iexact Hq2
      isplitr; · iempintro
      iexact Hx
    isplitl [Ht1]; · iexact Ht1
    isplitl [Ht2]; · iexact Ht2
    iexact Ht3
  isplitl [HO]
  · unfold Dat.owesAt Pipeline.owesWithin
    rw [show (dats m 0 c).owed t.succ = 0 from rfl]
    iexists W'
    isplitr; · ipureintro; exact fun _ _ => Or.inl trivial
    iexact HO
  unfold owns
  iexists fs
  isplitr; · ipureintro; exact hfs
  iexact Hb

theorem sound_body (c : Dev nD) (R : Routed (V m c main_arg0) (V m c main_arg1) (V m c main_arg2)) (t : Fin grid0.N) :
    bodyPre m c t ⊢ wp frame (wpE (defs₀ (F := F)) Variants.none c none) Set.univ (bodyAt m t) (fun _ => bodyPost m c t) := by
  unfold bodyPre
  rw [show (dats m 0 c).Φ t.castSucc = Phi m c t.val from rfl, Phi_eq]
  unfold Dat.owesAt Pipeline.owesWithin
  rw [show (dats m 0 c).owed t.castSucc = 0 from rfl]
  iintro ⟨⟨⟨⟨%fz, Hz⟩, Hg, ⟨Hq1, Hq2⟩, -, Hx⟩, Ht1, Ht2, Ht3⟩, ⟨%W, -, HO⟩, ⟨%d, Hb⟩⟩
  unfold owns
  icases Hb with ⟨%fs, %hfs, Hb⟩
  rw [before_eq] at hfs
  by_cases h0 : t.val = 0
  · have h1 := (cond_zero t).mpr h0
    unfold bodyAt
    rw [dispatch_first _ h1]
    iapply (wp_zeroRun _ h1 (fillFacts R (V m c main_v0) c) W fz) $$ [-]
    isplitl [Ht3]; · iexact Ht3
    isplitl [Hx]
    · rw [show xsNow m c t.val = V m c main_v0 from if_pos h0]
      iexact Hx
    isplitl [Hz]; · iexact Hz
    isplitl [Hq2]; · iexact Hq2
    isplitl [HO]; · iexact HO
    iintro ⟨Ht3, Hx, Hz, Hq2, ⟨%W', HO⟩⟩
    iapply (rows_body m c R t fs hfs W') $$ [-]
    isplitl [Hz]; · iexists _; iexact Hz
    isplitl [Hg]; · iexact Hg
    isplitl [Hq1]; · iexact Hq1
    isplitl [Hq2]; · iexact Hq2
    isplitl [Hx]
    · rw [h0, show 256 * 0 = 0 from rfl, sentAt_zero]
      iexact Hx
    isplitl [Ht1]; · iexact Ht1
    isplitl [Ht2]; · iexact Ht2
    isplitl [Ht3]; · iexact Ht3
    isplitl [HO]; · iexact HO
    iexact Hb
  · have h1 : ¬k0_cond1 (grid0.coords t) = 1#1 := fun h => h0 ((cond_zero t).mp h)
    unfold bodyAt
    rw [dispatch_later (h1 := h1)]
    iapply (rows_body m c R t fs hfs W) $$ [-]
    isplitl [Hz]; · iexists _; iexact Hz
    isplitl [Hg]; · iexact Hg
    isplitl [Hq1]; · iexact Hq1
    isplitl [Hq2]; · iexact Hq2
    isplitl [Hx]
    · rw [show xsNow m c t.val = sentAt (V m c main_arg0) (V m c main_arg1) (V m c main_arg3) (filledAt (V m c main_arg2) (V m c main_v0)) (256 * t.val) from if_neg h0]
      iexact Hx
    isplitl [Ht1]; · iexact Ht1
    isplitl [Ht2]; · iexact Ht2
    isplitl [Ht3]; · iexact Ht3
    isplitl [HO]; · iexact HO
    iexact Hb

theorem defs₀_row (t : Fin grid0.N) :
    defs₀ (F := F) .tc (cfg0 (adm m 0)).body ((cfg0 (adm m 0)).bodyArgs t ((cfg0 (adm m 0)).slots t)) = bodyAt m t := by
  unfold defs₀; rw [Defs.onTc_tc]; rfl

theorem body_obligation (c : Dev nD) (R : Routed (V m c main_arg0) (V m c main_arg1) (V m c main_arg2)) :
    BodyObligation (dats m 0 c) (defs₀ (F := F)) Variants.none () Set.univ := fun t => by
  rw [bigSep_W0, bigSep_W0, defs₀_row]
  exact triple_restated (sound_body m c R t) rfl .rfl fun _ => .rfl

end Cert.KernelIdeal.Hand

end
-- ==== Proof.Run.lean ====
/-
  The run of the dispatch: its arguments unchanged, its cells at zero, its result what the last point leaves.
-/
module

public import proofs.«01_k».proof.Proof.Body
public import Idealize.ShloMosaic.Init

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pre_routed.Hand (Routed)

variable {F : FTy → Type} [FloatOps F] (m : (ℓ : Loc nD τ sig) → Buf (Elt F) ℓ) (ρ : Dev nD → PrngReg)

theorem tables_at (c : Dev nD) (k : Fin pre0.K) : V m c (pre0.ref k) = (adm m 0).1 k := by
  obtain rfl : c = 0 := Subsingleton.elim _ _
  rfl

set_option backward.isDefEq.respectTransparency.types false in
theorem run_main (R : ∀ c : Dev nD, Routed (V m c main_arg0) (V m c main_arg1) (V m c main_arg2)) :
    θ_run defs (onTc (τ := τ) (main (F := F))) (s₀ m ρ)
      (fun r => Pipeline.FramePostRG (Pipeline.pin (pcfgs (F := F)) (adm m)) (dats m) 0 R0 (V m) (fun c => G m c 64) r ∧ r.2.sem = fun _ => 0) :=
  Pipeline.θ_run_frameP_dmaRG (Q' := _) (pcfgs (F := F)) (adm m) (dats m) (0 : Fin 1) launch0 osem0 defs₀ Variants.none ownSemFacts0 ∅ R0
    (Finset.empty_subset _) R0_sub m ρ main (hbody := fun c => (body_obligation m c (R c)).loose)
    (hshare := fun c => (dats m 0 c).share_full fun _ => rfl) (howed := fun _ _ => rfl) (V := V m)
    (hmain := Pipeline.hmainP_region _ _ _ _ m main fun c => main_chain c) (hA := fun _ _ => rfl) (hpf := tables_at m) (G := fun c => G m c 64)
    (hin := fun c => by
      show _ ⊢ Phi m c 0
      unfold Phi
      rw [show (fun c => G m c 0) = V m from funext fun c => G_zero m c])
    (hout := fun c => by
      show Phi m c 64 ⊢ _
      unfold Phi
      iintro ⟨H, -⟩
      iexact H)

/-- The arguments at the end, and the cells, and the result. -/
theorem run_frame (R : ∀ c : Dev nD, Routed (V m c main_arg0) (V m c main_arg1) (V m c main_arg2)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v0) = xsNow m c 64)
      ∧ r.2.sem = fun _ => 0) :=
  (θ_run defs _ _).mono (fun r ⟨h, hs⟩ => ⟨fun c => by
    have rest : ∀ b : Ref sig .tc, b ∈ Pipeline.restRefs sig spec0 \ R0 → r.2.mem ((c.tc : Thread nD τ).loc b) = V m c b := (h.1 c).2
    refine ⟨⟨rest main_arg0 (by decide), rest main_arg1 (by decide), rest main_arg2 (by decide), ?_⟩, ?_⟩
    · exact ((h.1 c).1 (0 : Fin 1)).trans ((dats m 0 c).arrAt_in 0 rfl _)
    · exact (h.written c (Finset.mem_singleton_self _)).trans (G_v0 m c 64), hs⟩) (run_main m ρ R)

end Cert.KernelIdeal.Hand

end
-- ==== Proof.Ref.lean ====
/-
  The reference's two row scatters over zeros, read at an index, against what the dispatch leaves.
-/
module

public import proofs.«01_k».proof.Proof.Plan
public import proofs.«01_k».proof.Proof.Gen.ReferenceIdeal
public import Idealize.ShloMosaic.Lib.Routing.OpsSet
public import Idealize.ShloMosaic.Lib.StableHlo.RunHlo
public import Idealize.ShloMosaic.Lib.Claim

@[expose] public section

noncomputable section

namespace Cert.ReferenceIdeal.Hand

open Cert.ReferenceIdeal Cert.ReferenceIdeal.Gen
open Idealize.ShloMosaic Idealize.ShloMosaic.Routing
open Cert.Pre_routed.Hand (Routed ix1 ix2 eq_ix1)
open Cert.KernelIdeal.Hand (Goes pos pos_of xsAt xsAt_last_token xsAt_last_pad zc)

variable {F : FTy → Type} [FloatOps F]

abbrev rowDims : ScatterDims S40960x2048 S16384x1 S16384x2048 := scatter_S40960x2048_S16384x1_S16384x2048_1_0_0_1

theorem start_row (k : S16384x2048.Idx) (idx : IVec S16384x1 32) : rowDims.start k idx 0 = (idx (ix2 (k 0) (0 : Fin 1))).toInt := by
  unfold ScatterDims.start
  rw [dif_pos (show (0 : Fin 2) ∈ rowDims.scatterDimsToOperandDims by decide)]
  congr 1
  congr 1
  funext b
  apply Fin.ext
  match b with
  | ⟨0, _⟩ => rfl
  | ⟨1, _⟩ => rfl

theorem start_col (k : S16384x2048.Idx) (idx : IVec S16384x1 32) : rowDims.start k idx 1 = 0 := by
  unfold ScatterDims.start
  rw [dif_neg (show ¬(1 : Fin 2) ∈ rowDims.scatterDimsToOperandDims by decide)]

theorem window_row (k : S16384x2048.Idx) : rowDims.window k 0 = 0 := by
  unfold ScatterDims.window
  rw [dif_neg (show ¬(0 : Fin 2) ∈ rowDims.sKept by decide)]

theorem window_col (k : S16384x2048.Idx) : rowDims.window k 1 = (k 1).val := by
  unfold ScatterDims.window
  rw [dif_pos (show (1 : Fin 2) ∈ rowDims.sKept by decide)]
  rfl

/-- Update `k` lands in the row that its token's word names, in its own column. -/
theorem lands (k : S16384x2048.Idx) (idx : IVec S16384x1 32) (y : S40960x2048.Idx) :
    rowDims.resultIdx? k idx = some y ↔ (idx (ix2 (k 0) (0 : Fin 1))).toInt = ((y 0).val : Int) ∧ (k 1).val = (y 1).val := by
  rw [resultIdx?_eq_some]
  constructor
  · intro h
    have h0 := h 0
    have h1 := h 1
    rw [start_row, window_row] at h0
    rw [start_col, window_col] at h1
    omega
  · intro ⟨h0, h1⟩ a
    match a with
    | ⟨0, _⟩ =>
      show rowDims.start k idx 0 + (rowDims.window k 0 : Int) = ((y 0).val : Int)
      rw [start_row, window_row]; omega
    | ⟨1, _⟩ =>
      show rowDims.start k idx 1 + (rowDims.window k 1 : Int) = ((y 1).val : Int)
      rw [start_col, window_col]; omega

/-- The words a scatter reads off a table: a word below zero wrapped once. -/
def words (p : IVec S16384 32) : IVec S16384x1 32 :=
  broadcastInDim S16384x1 ![0] bcast_S16384_S16384x1_0
    (select (cmpi .slt p (broadcastInDim S16384 ![] bcast_S_S16384 (constantI S_ 32 0#32)))
      (addi p (broadcastInDim S16384 ![] bcast_S_S16384 (constantI S_ 32 40960#32))) p)

theorem words_at (p : IVec S16384 32) (j : Fin 16384) (h : (p (ix1 j)).toNat < 40960) : (words p (ix2 j (0 : Fin 1))).toInt = ((p (ix1 j)).toNat : Int) := by
  have e : words p (ix2 j (0 : Fin 1)) = p (ix1 j) := by
    show Scalar.select (IntOp.cmpi .slt (p _) 0#32) _ (p _) = _
    rw [wrap_of_lt]
    · exact congrArg p (funext fun a => by match a with | ⟨0, _⟩ => rfl)
    · refine lt_of_lt_of_le (lt_of_eq_of_lt (congrArg (fun i => (p i).toNat) (funext fun a => by match a with | ⟨0, _⟩ => rfl)) h) (by decide)
  rw [e, BitVec.toInt_eq_toNat_of_lt (by omega)]

/-- One scatter of the tokens' rows by a table over `x`. -/
def put (x : S40960x2048.Idx → Elt F .f32) (p : IVec S16384 32) (h : S16384x2048.Idx → Elt F .f32) : S40960x2048.Idx → Elt F .f32 :=
  Host.scatter rowDims (fun _ b => b) x (words p) h

section
variable (x : S40960x2048.Idx → Elt F .f32) (p : IVec S16384 32) (h : S16384x2048.Idx → Elt F .f32) (lt : ∀ j, (p (ix1 j)).toNat < 40960)
include lt

theorem put_hit (inj : ∀ j j', p (ix1 j) = p (ix1 j') → j = j') (j : Fin 16384) (y : S40960x2048.Idx) (hj : (p (ix1 j)).toNat = (y 0).val) :
    put x p h y = h (ix2 j (⟨(y 1).val, (y 1).isLt⟩ : Fin 2048)) := by
  refine scatter_set_hit rowDims x (words p) h y _ (fun k hk => ?_) (ix2 j (⟨(y 1).val, (y 1).isLt⟩ : Fin 2048)) ?_
  · rw [lands, words_at p (k 0) (lt _)] at hk
    have e0 : k 0 = j := inj _ _ (BitVec.eq_of_toNat_eq (by omega))
    refine congrArg h (funext fun a => Fin.ext ?_)
    match a with
    | ⟨0, _⟩ => exact congrArg Fin.val e0
    | ⟨1, _⟩ => exact hk.2
  · rw [lands]
    refine ⟨?_, rfl⟩
    show (words p (ix2 j (0 : Fin 1))).toInt = _
    rw [words_at p j (lt _), hj]

theorem put_miss (y : S40960x2048.Idx) (hj : ∀ j, (p (ix1 j)).toNat ≠ (y 0).val) : put x p h y = x y := by
  refine scatter_set_miss rowDims x (words p) h y fun k hk => ?_
  rw [lands, words_at p (k 0) (lt _)] at hk
  exact hj (k 0) (by omega)
end

/-- The reference's result. -/
def result (p1 p2 : IVec S16384 32) (h : S16384x2048.Idx → Elt F .f32) : S40960x2048.Idx → Elt F .f32 :=
  put (put (broadcastInDim S40960x2048 ![] bcast_S_S40960x2048 (constant S_ .f32 0x00000000#32)) p1 h) p2 h

/-- It is what the dispatch leaves. -/
theorem result_eq {p1 p2 : IVec S16384 32} {p3 : IVec S64 32} (R : Routed p1 p2 p3) (h : S16384x2048.Idx → Elt F .f32) (v0 : S40960x2048.Idx → Elt F .f32) :
    result p1 p2 h = xsAt p1 p2 p3 h v0 64 := by
  funext y
  unfold result
  by_cases h2 : ∃ j, (p2 (ix1 j)).toNat = (y 0).val
  · obtain ⟨j, hj⟩ := h2
    rw [put_hit _ p2 h R.lt1 R.inj1 j y hj, xsAt_last_token R h v0 j y (Or.inr ((pos_of j.isLt).trans hj))]
  · rw [put_miss _ p2 h R.lt1 y fun j e => h2 ⟨j, e⟩]
    by_cases h1 : ∃ j, (p1 (ix1 j)).toNat = (y 0).val
    · obtain ⟨j, hj⟩ := h1
      rw [put_hit _ p1 h R.lt0 R.inj0 j y hj, xsAt_last_token R h v0 j y (Or.inl ((pos_of j.isLt).trans hj))]
    · rw [put_miss _ p1 h R.lt0 y fun j e => h1 ⟨j, e⟩,
        xsAt_last_pad R h v0 y fun j g => g.elim (fun e => h1 ⟨j, (pos_of j.isLt).symm.trans e⟩) fun e => h2 ⟨j, (pos_of j.isLt).symm.trans e⟩]
      rfl

/-! ## The run -/

section Run
open Idealize.ShloMosaic.TcCoe Idealize.SL.Sem
variable (m : (ℓ : Loc nD τ sig) → Buf (Elt F) ℓ) (g : Dev nD → PrngReg)

theorem run_reference : θ_run (defs (F := F)) (onTc (τ := τ) (main (F := F))) ⟨m, fun _ => 0, g⟩ (fun r => ∀ c : Dev nD,
      r.2.mem ((c.tc : Thread nD τ).loc main_v14) = result (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  rfl

theorem run_reference_frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run_reference m g)

end Run

end Cert.ReferenceIdeal.Hand

end
-- ==== Proof.ExpPre.lean ====
/-
  What the precondition says of the tiles' tables, entry by entry.
-/
module

public import proofs.«01_k».proof.Pre_tiled
public import proofs.«01_k».proof.Proof.Pre

@[expose] public section

noncomputable section

namespace Cert.Pre_tiled.Hand

open Cert.Pre_tiled Idealize.ShloMosaic
open Cert.Pre_routed.Hand (ix1 ix2 eq_ix1)

/-- What the tables satisfy: every tile names an expert, and one tile at least is used. -/
structure Tiled (te : S160.Idx → BitVec 32) (nt : S1.Idx → BitVec 32) : Prop where
  lt : ∀ j, (te (ix1 j)).toNat < 32
  pos : 1 ≤ (nt (ix1 0)).toInt

theorem idx1 (x y : S1.Idx) : x = y := by
  funext a
  apply Fin.ext
  fin_cases a
  have hx : (x 0).val < 1 := (x 0).isLt
  have hy : (y 0).val < 1 := (y 0).isLt
  show (x 0).val = (y 0).val
  omega

variable {F : FTy → Type} [FloatOps F] [Facts]

theorem tiled_of (a0 : S160.Idx → BitVec 32) (a1 : S1.Idx → BitVec 32) (a2 : FVec F S40960x2048 .f32) (a3 a4 : FVec F S32x2048x512 .f32)
    (a5 : FVec F S32x512x2048 .f32) (h : fn (F := F) a0 a1 a2 a3 a4 a5 = fun _ => 1#1) : Tiled a0 a1 := by
  have h := congrFun h (fun a => a.elim0)
  unfold fn at h
  obtain ⟨hl, hp⟩ := IntOp.andi_eq_one.mp h
  have sub : Subsingleton S_.Idx := ⟨fun a b => funext fun x => x.elim0⟩
  constructor
  · intro j
    obtain ⟨x, y⟩ := IntOp.andi_eq_one.mp (Host.reduce_andi_all _ _ _ _ _ hl (ix1 j))
    have x' : IntOp.cmpi .sge (a0 (ix1 j)) 0#32 = 1#1 := x
    have y' : IntOp.cmpi .slt (a0 (ix1 j)) 32#32 = 1#1 := y
    rw [IntOp.cmpi_sge] at x'
    rw [IntOp.cmpi_slt] at y'
    have h0 : (0 : ℤ) ≤ (a0 (ix1 j)).toInt := x'
    have h1 : (a0 (ix1 j)).toInt < 32 := y'
    rw [BitVec.toInt_eq_toNat_of_lt (BitVec.toInt_pos_iff.mp h0)] at h1
    omega
  · have e : shapeCast S_ a1 Facts.shapeCasts_S1_S_ (fun a => a.elim0) = a1 (ix1 0) := by
      unfold shapeCast
      congr 1
      exact idx1 _ _
    have hp' : IntOp.cmpi .sge (shapeCast S_ a1 Facts.shapeCasts_S1_S_ (fun a => a.elim0)) 1#32 = 1#1 := hp
    rw [e, IntOp.cmpi_sge] at hp'
    exact hp'

end Cert.Pre_tiled.Hand

end
-- ==== Proof.ExpBody.lean ====
/-
  The experts' body at a grid point.
-/
module

public import proofs.«01_k».proof.Proof.Gen.ExpertsIdeal.Launch
public import proofs.«01_k».proof.Proof.Gen.ExpertsIdeal.Skeleton
public import proofs.«01_k».proof.Proof.ExpPre
public import Idealize.ShloMosaic.Lib.Tactic
public import Idealize.ShloMosaic.Lib.Pipeline.Frame
public import Idealize.ShloMosaic.Lib.Pipeline.FrameBody

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Pre_tiled.Hand (Tiled idx1)
open Cert.Pre_routed.Hand (ix1 ix2 eq_ix1)

variable {F : FTy → Type} [FloatOps F]

/-- The logic the proof runs in. -/
local notation "𝕄" => MT nD τ sig Unit (Elt F) ℕ (UR sig nD τ) ℕ

/-- The tables, and the weights kept between points. -/
abbrev teM : Memref sig .tc .smem S160 .i32 := Memref.whole main_arg0
abbrev ntM : Memref sig .tc .smem S1 .i32 := Memref.whole main_arg1
abbrev s1M : Memref sig .tc .vmem S2048x512 .bf16 := Memref.whole cc0_scratch0
abbrev s2M : Memref sig .tc .vmem S2048x512 .bf16 := Memref.whole cc0_scratch1
abbrev s3M : Memref sig .tc .vmem S512x2048 .bf16 := Memref.whole cc0_scratch2

theorem hz2 : (![0, 0] : Fin 2 → Nat) = fun _ => 0 := funext fun a => by fin_cases a <;> rfl
theorem hz3 : (![0, 0, 0] : Fin 3 → Nat) = fun _ => 0 := funext fun a => by fin_cases a <;> rfl

/-- The words point `i` reads: the expert of its tile, of the tile before, and the number of tiles. -/
def teHere (te : S160.Idx → BitVec 32) (i : grid0.Coords) : BitVec 32 :=
  te ((Rect.unit (s := S160) (k0_off1 i) S1.size (k0_off1_inb i)).emb (Shape.Idx.first (numel1_S1.symm ▸ Nat.one_pos)))
def tePrev (te : S160.Idx → BitVec 32) (i : grid0.Coords) : BitVec 32 :=
  te ((Rect.unit (s := S160) (k0_off2 i) S1.size (k0_off2_inb i)).emb (Shape.Idx.first (numel1_S1.symm ▸ Nat.one_pos)))
def ntWord (nt : S1.Idx → BitVec 32) : BitVec 32 :=
  nt ((Rect.unit (s := S1) ![0] S1.size inb_S1_S1_0).emb (Shape.Idx.first (numel1_S1.symm ▸ Nat.one_pos)))

/-- Whether the point takes up new weights. -/
def refill (te : S160.Idx → BitVec 32) (nt : S1.Idx → BitVec 32) (i : grid0.Coords) : BitVec 1 :=
  Scalar.cmpi .ne (Scalar.extui (Scalar.andi (Scalar.cmpi .slt (BitVec.ofNat 32 (i 0).val) (ntWord nt))
    (Scalar.ori (Scalar.cmpi .eq (BitVec.ofNat 32 (i 0).val) 0#32) (Scalar.cmpi .ne (teHere te i) (tePrev te i)))) : BitVec 32) 0#32

/-- The weights the point works with, and the block it leaves. -/
def keep1 (te : S160.Idx → BitVec 32) (nt : S1.Idx → BitVec 32) (i : grid0.Coords) (X : Vec F S1x2048x512 .f32) (g : S2048x512.Idx → Elt F .bf16) :
    S2048x512.Idx → Elt F .bf16 := if refill te nt i = 1#1 then k0_pay1 X else g
def keep2 (te : S160.Idx → BitVec 32) (nt : S1.Idx → BitVec 32) (i : grid0.Coords) (X : Vec F S1x2048x512 .f32) (g : S2048x512.Idx → Elt F .bf16) :
    S2048x512.Idx → Elt F .bf16 := if refill te nt i = 1#1 then k0_pay2 X else g
def keep3 (te : S160.Idx → BitVec 32) (nt : S1.Idx → BitVec 32) (i : grid0.Coords) (X : Vec F S1x512x2048 .f32) (g : S512x2048.Idx → Elt F .bf16) :
    S512x2048.Idx → Elt F .bf16 := if refill te nt i = 1#1 then k0_pay3 X else g
def leave (nt : S1.Idx → BitVec 32) (i : grid0.Coords) (X : Vec F S256x2048 .f32) (g1 g2 : S2048x512.Idx → Elt F .bf16) (g3 : S512x2048.Idx → Elt F .bf16) :
    Vec F S256x2048 .f32 := if k0_cond2 i (ntWord nt) = 1#1 then k0_pay4 X g1 g2 g3 else k0_pay5

theorem cond3_iff (i : grid0.Coords) (n : BitVec 32) : k0_cond3 i n = 1#1 ↔ ¬k0_cond2 i n = 1#1 := by
  have hb : ∀ b : BitVec 1, Scalar.cmpi .ne (Scalar.extui (Scalar.xori b 1#1) : BitVec 32) 0#32 = 1#1
      ↔ ¬Scalar.cmpi .ne (Scalar.extui b : BitVec 32) 0#32 = 1#1 := by decide
  exact hb _

/-- A store that covers the whole shape leaves its payload, whatever view it goes through. -/
theorem stored {sp : Space} {s : Shape} {e : EltTy} (v : View sig .tc sp s e) (f : v.ty.Contents (Elt F)) {off : Fin s.rank → ℕ} (h : off = fun _ => 0)
    (inb : ∀ a, off a + s.size a ≤ s.size a) (w : s.Idx → Elt F e) :
    v.read (Elt F) (v.writes (Elt F) f [⟨Rect.unit off s.size inb, w⟩]) = w := by
  have hc : ∀ y : s.Idx, y ∈ (Rect.unit off s.size inb).set := fun y => by
    rw [Rect.mem_set_unit, h]
    exact fun a => ⟨Nat.zero_le _, by simpa using (y a).isLt⟩
  rw [View.read_writes_eq_canon v f _ fun y => ⟨_, List.mem_singleton_self _, hc y⟩]
  exact View.canon_unit_zero h inb w

theorem kept1 (b : BitVec 1) (a : Memref sig .tc .vmem S1x2048x512 .f32) (f : a.view.ty.Contents (Elt F)) (g : S2048x512.Idx → Elt F .bf16) :
    (if hc : b = 1#1 then s1M.view.writes (Elt F) g [⟨Rect.unit ![0, 0] S2048x512.size inb_S2048x512_S2048x512_0_0,
      k0_pay1 (View.readAt (Elt F) a.view (Rect.unit ![0, 0, 0] S1x2048x512.size inb_S1x2048x512_S1x2048x512_0_0_0).toLoadRect f)⟩] else g)
      = if b = 1#1 then k0_pay1 (a.view.read (Elt F) f) else g := by
  by_cases hb : b = 1#1
  · rw [dif_pos hb, if_pos hb, View.readAt_eq_ld, View.ld_unit_zero (S := S1x2048x512) hz3]
    exact (View.read_whole cc0_scratch0 _).symm.trans (stored s1M.view g hz2 _ _)
  · rw [dif_neg hb, if_neg hb]
theorem load1 (g : S2048x512.Idx → Elt F .bf16) :
    View.readAt (Elt F) s1M.view (Rect.unit ![0, 0] S2048x512.size inb_S2048x512_S2048x512_0_0).toLoadRect g = g := by
  rw [View.readAt_eq_ld, View.ld_unit_zero (S := S2048x512) hz2]
  rfl

theorem kept2 (b : BitVec 1) (a : Memref sig .tc .vmem S1x2048x512 .f32) (f : a.view.ty.Contents (Elt F)) (g : S2048x512.Idx → Elt F .bf16) :
    (if hc : b = 1#1 then s2M.view.writes (Elt F) g [⟨Rect.unit ![0, 0] S2048x512.size inb_S2048x512_S2048x512_0_0,
      k0_pay2 (View.readAt (Elt F) a.view (Rect.unit ![0, 0, 0] S1x2048x512.size inb_S1x2048x512_S1x2048x512_0_0_0).toLoadRect f)⟩] else g)
      = if b = 1#1 then k0_pay2 (a.view.read (Elt F) f) else g := by
  by_cases hb : b = 1#1
  · rw [dif_pos hb, if_pos hb, View.readAt_eq_ld, View.ld_unit_zero (S := S1x2048x512) hz3]
    exact (View.read_whole cc0_scratch1 _).symm.trans (stored s2M.view g hz2 _ _)
  · rw [dif_neg hb, if_neg hb]
theorem load2 (g : S2048x512.Idx → Elt F .bf16) :
    View.readAt (Elt F) s2M.view (Rect.unit ![0, 0] S2048x512.size inb_S2048x512_S2048x512_0_0).toLoadRect g = g := by
  rw [View.readAt_eq_ld, View.ld_unit_zero (S := S2048x512) hz2]
  rfl

theorem kept3 (b : BitVec 1) (a : Memref sig .tc .vmem S1x512x2048 .f32) (f : a.view.ty.Contents (Elt F)) (g : S512x2048.Idx → Elt F .bf16) :
    (if hc : b = 1#1 then s3M.view.writes (Elt F) g [⟨Rect.unit ![0, 0] S512x2048.size inb_S512x2048_S512x2048_0_0,
      k0_pay3 (View.readAt (Elt F) a.view (Rect.unit ![0, 0, 0] S1x512x2048.size inb_S1x512x2048_S1x512x2048_0_0_0).toLoadRect f)⟩] else g)
      = if b = 1#1 then k0_pay3 (a.view.read (Elt F) f) else g := by
  by_cases hb : b = 1#1
  · rw [dif_pos hb, if_pos hb, View.readAt_eq_ld, View.ld_unit_zero (S := S1x512x2048) hz3]
    exact (View.read_whole cc0_scratch2 _).symm.trans (stored s3M.view g hz2 _ _)
  · rw [dif_neg hb, if_neg hb]
theorem load3 (g : S512x2048.Idx → Elt F .bf16) :
    View.readAt (Elt F) s3M.view (Rect.unit ![0, 0] S512x2048.size inb_S512x2048_S512x2048_0_0).toLoadRect g = g := by
  rw [View.readAt_eq_ld, View.ld_unit_zero (S := S512x2048) hz2]
  rfl

theorem left (i : grid0.Coords) (n : BitVec 32) (a3 a7 : Memref sig .tc .vmem S256x2048 .f32) (f3 : a3.view.ty.Contents (Elt F)) (f7 : a7.view.ty.Contents (Elt F))
    (G1 G2 : S2048x512.Idx → Elt F .bf16) (G3 : S512x2048.Idx → Elt F .bf16) :
    a7.view.read (Elt F) (if hc : k0_cond3 i n = 1#1 then
        a7.view.writes (Elt F) (if hc : k0_cond2 i n = 1#1 then
          a7.view.writes (Elt F) f7 [⟨Rect.unit ![0, 0] S256x2048.size inb_S256x2048_S256x2048_0_0,
            k0_pay4 (View.readAt (Elt F) a3.view (Rect.unit ![0, 0] S256x2048.size inb_S256x2048_S256x2048_0_0).toLoadRect f3) G1 G2 G3⟩] else f7)
          [⟨Rect.unit ![0, 0] S256x2048.size inb_S256x2048_S256x2048_0_0, k0_pay5⟩]
      else if hc : k0_cond2 i n = 1#1 then
          a7.view.writes (Elt F) f7 [⟨Rect.unit ![0, 0] S256x2048.size inb_S256x2048_S256x2048_0_0,
            k0_pay4 (View.readAt (Elt F) a3.view (Rect.unit ![0, 0] S256x2048.size inb_S256x2048_S256x2048_0_0).toLoadRect f3) G1 G2 G3⟩] else f7)
      = if k0_cond2 i n = 1#1 then k0_pay4 (a3.view.read (Elt F) f3) G1 G2 G3 else k0_pay5 := by
  by_cases h2 : k0_cond2 i n = 1#1
  · rw [dif_neg (fun h => (cond3_iff i n).mp h h2), dif_pos h2, if_pos h2, View.readAt_eq_ld, View.ld_unit_zero (S := S256x2048) hz2]
    exact stored a7.view f7 hz2 _ _
  · rw [dif_pos ((cond3_iff i n).mpr h2), if_neg h2]
    exact stored a7.view _ hz2 _ _

theorem body_triple (c : Dev nD) (i : grid0.Coords) (te : S160.Idx → BitVec 32) (nt : S1.Idx → BitVec 32)
    (a3 : Memref sig .tc .vmem S256x2048 .f32) (h3 : a3.IsWhole) (a4 a5 : Memref sig .tc .vmem S1x2048x512 .f32) (h4 : a4.IsWhole) (h5 : a5.IsWhole)
    (a6 : Memref sig .tc .vmem S1x512x2048 .f32) (h6 : a6.IsWhole) (a7 : Memref sig .tc .vmem S256x2048 .f32) (h7 : a7.IsWhole)
    (f3 : Buf (Elt F) (a3.view.loc (c : Thread nD τ))) (f4 : Buf (Elt F) (a4.view.loc (c : Thread nD τ))) (f5 : Buf (Elt F) (a5.view.loc (c : Thread nD τ)))
    (f6 : Buf (Elt F) (a6.view.loc (c : Thread nD τ))) (f7 : Buf (Elt F) (a7.view.loc (c : Thread nD τ)))
    (g1 g2 : S2048x512.Idx → Elt F .bf16) (g3 : S512x2048.Idx → Elt F .bf16) (qt : PosShare TreeShare) :
    (iprop((teM.view.loc (c : Thread nD τ) ↦{qt} te) ∗ (ntM.view.loc (c : Thread nD τ) ↦{qt} nt)
      ∗ (a3.view.loc (c : Thread nD τ) ↦[a3.view.set]{fullShare} f3) ∗ (a4.view.loc (c : Thread nD τ) ↦[a4.view.set]{fullShare} f4)
      ∗ (a5.view.loc (c : Thread nD τ) ↦[a5.view.set]{fullShare} f5) ∗ (a6.view.loc (c : Thread nD τ) ↦[a6.view.set]{fullShare} f6)
      ∗ (a7.view.loc (c : Thread nD τ) ↦[a7.view.set]{fullShare} f7)
      ∗ (s1M.view.loc (c : Thread nD τ) ↦{fullShare} g1) ∗ (s2M.view.loc (c : Thread nD τ) ↦{fullShare} g2) ∗ (s3M.view.loc (c : Thread nD τ) ↦{fullShare} g3)) : sProp 𝕄)
    ⊢ wp frame (wpE (defs₀ (F := F)) Variants.none c none) Set.univ
        (cc0_experts (F := F) i teM (Memref.isWhole_whole _) ntM (Memref.isWhole_whole _) a3 h3 a4 h4 a5 h5 a6 h6 a7 h7
          s1M (Memref.isWhole_whole _) s2M (Memref.isWhole_whole _) s3M (Memref.isWhole_whole _)) fun _ =>
      iprop((teM.view.loc (c : Thread nD τ) ↦{qt} te) ∗ (ntM.view.loc (c : Thread nD τ) ↦{qt} nt)
        ∗ (a3.view.loc (c : Thread nD τ) ↦[a3.view.set]{fullShare} f3) ∗ (a4.view.loc (c : Thread nD τ) ↦[a4.view.set]{fullShare} f4)
        ∗ (a5.view.loc (c : Thread nD τ) ↦[a5.view.set]{fullShare} f5) ∗ (a6.view.loc (c : Thread nD τ) ↦[a6.view.set]{fullShare} f6)
        ∗ (∃ f, ⌜a7.view.read (Elt F) f = leave nt i (a3.view.read (Elt F) f3) (keep1 te nt i (a4.view.read (Elt F) f4) g1)
              (keep2 te nt i (a5.view.read (Elt F) f5) g2) (keep3 te nt i (a6.view.read (Elt F) f6) g3)⌝
            ∗ (a7.view.loc (c : Thread nD τ) ↦[a7.view.set]{fullShare} f))
        ∗ (s1M.view.loc (c : Thread nD τ) ↦{fullShare} keep1 te nt i (a4.view.read (Elt F) f4) g1)
        ∗ (s2M.view.loc (c : Thread nD τ) ↦{fullShare} keep2 te nt i (a5.view.read (Elt F) f5) g2)
        ∗ (s3M.view.loc (c : Thread nD τ) ↦{fullShare} keep3 te nt i (a6.view.read (Elt F) f6) g3)) := by
  rw [cc0_experts_eq_skeleton]
  unfold cc0_experts_skel
  iintro ⟨Ht, Hn, H3, H4, H5, H6, H7, Hs1, Hs2, Hs3⟩
  sl_exec
  sl_step
  sl_unfold_words
  rw [kept1, kept2, kept3, load1, load2, load3]
  isplitl [Ht]; · iexact Ht
  isplitl [Hn]; · iexact Hn
  isplitl [H3]; · iexact H3
  isplitl [H4]; · iexact H4
  isplitl [H5]; · iexact H5
  isplitl [H6]; · iexact H6
  isplitl [H7]
  · iexists _
    isplitr
    · ipureintro
      exact left i (ntWord nt) a3 a7 f3 f7 (keep1 te nt i (a4.view.read (Elt F) f4) g1) (keep2 te nt i (a5.view.read (Elt F) f5) g2)
        (keep3 te nt i (a6.view.read (Elt F) f6) g3)
    · iexact H7
  isplitl [Hs1]; · iexact Hs1
  isplitl [Hs2]; · iexact Hs2
  iexact Hs3

end Cert.ExpertsIdeal.Hand

end
-- ==== Proof.ExpWords.lean ====
/-
  The words the experts' index maps and conditions come to.
-/
module

public import proofs.«01_k».proof.Proof.ExpBody

@[expose] public section

noncomputable section

namespace Cert.ExpertsIdeal.Hand

open Cert.ExpertsIdeal Cert.ExpertsIdeal.Gen
open Idealize.ShloMosaic Idealize.ShloMosaic.TcCoe
open Cert.Pre_tiled.Hand (Tiled idx1)
open Cert.Pre_routed.Hand (ix1 ix2 eq_ix1)

variable {F : FTy → Type} [FloatOps F]

theorem bit_one (b : Bool) : BitVec.ofBool b = 1#1 ↔ b = true := by cases b <;> decide

/-- A small number's word, read back signed and unsigned. -/
theorem toNat_small {j : ℕ} (h : j < 160) : (BitVec.ofNat 32 j).toNat = j := by
  rw [BitVec.toNat_ofNat]; omega
theorem toInt_small {j : ℕ} (h : j < 160) : (BitVec.ofNat 32 j).toInt = (j : ℤ) := by
  have e := toNat_small h
  rw [BitVec.toInt_eq_toNat_cond, e]
  split <;> omega

/-- Whether tile `j` is one of those in use. -/
def used (nt : S1.Idx → BitVec 32) (j : ℕ) : Prop := (j : ℤ) < (nt (ix1 0)).toInt

theorem ntWord_eq (nt : S1.Idx → BitVec 32) : ntWord nt = nt (ix1 0) := congrArg nt (idx1 _ _)

theorem off1_val (i : grid0.Coords) : k0_off1 i 0 = (i 0).val := toNat_small (i 0).isLt
theorem off2_val (i : grid0.Coords) : k0_off2 i 0 = (i 0).val - 1 := by
  show (Scalar.maxsi (BitVec.ofNat 32 (i 0).val - 1#32) 0#32).toNat = _
  have h : (i 0).val < 160 := (i 0).isLt
  have e := toNat_small h
  show (if (0#32).slt (BitVec.ofNat 32 (i 0).val - 1#32) then (BitVec.ofNat 32 (i 0).val - 1#32) else 0#32).toNat = _
  rcases Nat.eq_zero_or_pos (i 0).val with h0 | h0
  · rw [h0]; decide
  · have es : (BitVec.ofNat 32 (i 0).val - 1#32).toNat = (i 0).val - 1 := by
      rw [BitVec.toNat_sub, e]
      show (2 ^ 32 - 1 + (i 0).val) % 2 ^ 32 = _
      omega
    split
    · exact es
    · rename_i hs
      rw [BitVec.slt_eq_decide, decide_eq_true_eq, BitVec.toInt_eq_toNat_cond (BitVec.ofNat 32 (i 0).val - 1#32), es] at hs
      have : (0#32 : BitVec 32).toInt = 0 := rfl
      split at hs
      · show 0 = _
        omega
      · omega

theorem teHere_eq (te : S160.Idx → BitVec 32) (i : grid0.Coords) : teHere te i = te (ix1 (⟨(i 0).val, (i 0).isLt⟩ : Fin 160)) := by
  unfold teHere
  congr 1
  funext a
  apply Fin.ext
  fin_cases a
  show k0_off1 i 0 + 1 * 0 = (i 0).val
  rw [off1_val]
  omega
theorem tePrev_eq (te : S160.Idx → BitVec 32) (i : grid0.Coords) :
    tePrev te i = te (ix1 (⟨(i 0).val - 1, Nat.lt_of_le_of_lt (Nat.sub_le _ _) (i 0).isLt⟩ : Fin 160)) := by
  unfold tePrev
  congr 1
  funext a
  apply Fin.ext
  fin_cases a
  show k0_off2 i 0 + 1 * 0 = (i 0).val - 1
  rw [off2_val]
  omega

theorem wide_ne (b : BitVec 1) : Scalar.cmpi .ne (Scalar.extui b : BitVec 32) 0#32 = 1#1 ↔ b = 1#1 := by
  revert b
  decide
theorem slt_iff (nt : S1.Idx → BitVec 32) {j : ℕ} (h : j < 160) : Scalar.cmpi .slt (BitVec.ofNat 32 j) (nt (ix1 0)) = 1#1 ↔ used nt j := by
  show IntOp.cmpi .slt _ _ = 1#1 ↔ _
  rw [IntOp.cmpi_slt, toInt_small h]
  rfl

theorem cond2_iff (nt : S1.Idx → BitVec 32) (i : grid0.Coords) : k0_cond2 i (nt (ix1 0)) = 1#1 ↔ used nt (i 0).val :=
  (wide_ne _).trans (slt_iff nt (i 0).isLt)

theorem refill_iff (te : S160.Idx → BitVec 32) (nt : S1.Idx → BitVec 32) (i : grid0.Coords) :
    refill te nt i = 1#1 ↔ used nt (i 0).val ∧ ((i 0).val = 0 ∨ teHere te i ≠ tePrev te i) := by
  unfold refill
  rw [wide_ne, ntWord_eq]
  refine IntOp.andi_eq_one.trans (and_congr (slt_iff nt (i 0).isLt) ?_)
  have hor : ∀ a b : BitVec 1, Scalar.ori a b = 1#1 ↔ a = 1#1 ∨ b = 1#1 := by decide
  rw [hor]
  refine or_congr ?_ ?_
  · show IntOp.cmpi .eq _ _ = 1#1 ↔ _
    rw [IntOp.cmpi_eq]
    constructor
    · intro h
      have := congrArg BitVec.toNat h
      rw [toNat_small (i 0).isLt] at this
      exact this
    · intro h; rw [h]
  · show IntOp.cmpi .ne _ _ = 1#1 ↔ _
    show BitVec.ofBool (!(teHere te i == tePrev te i)) = 1#1 ↔ _
    rw [bit_one, Bool.not_eq_true', beq_eq_false_iff_ne]

/-- The block of rows a point reads: its own while it is in use, the last one in use after that. -/
theorem row_block {n : BitVec 32} (hn : 1 ≤ n.toInt) {j : ℕ} (h : j < 160) :
    (Scalar.minsi (BitVec.ofNat 32 j) (n - 1#32)).toNat < 160
      ∧ ((j : ℤ) < n.toInt → (Scalar.minsi (BitVec.ofNat 32 j) (n - 1#32)).toNat = j) := by
  have e := toNat_small h
  have ei := toInt_small h
  have hi := BitVec.toInt_eq_toNat_cond n
  have hl := n.isLt
  have hs : (n - 1#32).toNat = n.toNat - 1 := by
    rw [BitVec.toNat_sub]
    show (2 ^ 32 - 1 + n.toNat) % 2 ^ 32 = _
    split at hi <;> omega
  have hsi : (n - 1#32).toInt = n.toInt - 1 := by
    rw [BitVec.toInt_eq_toNat_cond (n - 1#32), hs]
    split at hi <;> split <;> omega
  have hm : Scalar.minsi (BitVec.ofNat 32 j) (n - 1#32) = if (BitVec.ofNat 32 j).slt (n - 1#32) then BitVec.ofNat 32 j else n - 1#32 := rfl
  rw [hm]
  split
  · rw [e]; exact ⟨h, fun _ => rfl⟩
  · rename_i hc
    rw [BitVec.slt_eq_decide, decide_eq_true_eq, ei, hsi] at hc
    rw [hs]
    split at hi <;> constructor <;> intros <;> omega

end Cert.ExpertsIdeal.Hand

end
-- ==== Proof.ExpRun.lean ====
/-
  The run of the experts: the arguments unchanged, the cells at zero, the result block by block.
-/
module

public import proofs.«01_k».proof.Proof.ExpWords
public import Idealize.ShloMosaic.Lib.Pipeline.Value
public import Idealize.ShloMosaic.Init

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Pre_tiled.Hand (Tiled idx1)
open Cert.Pre_routed.Hand (ix1 ix2 eq_ix1)

variable {F : FTy → Type} [FloatOps F]

/-- The logic the proof runs in. -/
local notation "𝕄" => MT nD τ sig Unit (Elt F) ℕ (UR sig nD τ) ℕ

variable (m : (ℓ : Loc nD τ sig) → Buf (Elt F) ℓ)

/-- What a buffer of core `c` holds at launch, and the two tables. -/
abbrev V (c : Dev nD) (b : Ref sig .tc) : Buf (Elt F) ((c : Thread nD τ).loc b) := m ((c : Thread nD τ).loc b)
abbrev tab : pre0.Contents (Elt F) := fun k => m (((0 : Dev nD) : Thread nD τ).loc (pre0.ref k))

theorem tab_ok (R : Tiled (V m 0 main_arg0) (V m 0 main_arg1)) : ok0 (F := F) (tab m) := by
  have hw : ∀ i : grid0.Coords, (teHere (V m 0 main_arg0) i).toNat < 32 := fun i => by rw [teHere_eq]; exact R.lt _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · fin_cases a
    · show ((Scalar.minsi (BitVec.ofNat 32 (i 0).val) (ntWord (V m 0 main_arg1) - 1#32)).toNat + 1) * 256 ≤ 40960
      rw [ntWord_eq]
      have := (row_block R.pos (i 0).isLt).1
      omega
    · show (0 + 1) * 2048 ≤ 2048
      omega
  · have := hw i
    fin_cases a
    · show ((teHere (V m 0 main_arg0) i).toNat + 1) * 1 ≤ 32
      omega
    · show (0 + 1) * 2048 ≤ 2048
      omega
    · show (0 + 1) * 512 ≤ 512
      omega
  · have := hw i
    fin_cases a
    · show ((teHere (V m 0 main_arg0) i).toNat + 1) * 1 ≤ 32
      omega
    · show (0 + 1) * 2048 ≤ 2048
      omega
    · show (0 + 1) * 512 ≤ 512
      omega
  · have := hw i
    fin_cases a
    · show ((teHere (V m 0 main_arg0) i).toNat + 1) * 1 ≤ 32
      omega
    · show (0 + 1) * 512 ≤ 512
      omega
    · show (0 + 1) * 2048 ≤ 2048
      omega

variable (R : Tiled (V m 0 main_arg0) (V m 0 main_arg1))

/-- The tables at launch, in range. -/
abbrev adm : (p : Fin 1) → (pcfgs (F := F) p).Adm := fun _ => ⟨tab m, tab_ok m R⟩

/-- The blocks staged at point `t`: the rows, and the expert's three matrices. -/
def blockAt (c : Dev nD) (w : Fin 5) (t : Fin (cfg0 (adm m R 0)).N) : ((cfg0 (adm m R 0)).win w).block.Idx → Elt F ((cfg0 (adm m R 0)).win w).elt :=
  (((cfg0 (adm m R 0)).win w).blk t).view.read (Elt F) (V m c (Pipeline.arrRef spec0 w))
abbrev xsB (c : Dev nD) (t : Fin grid0.N) : Vec F S256x2048 .f32 := blockAt m R c 0 t
abbrev w1B (c : Dev nD) (t : Fin grid0.N) : Vec F S1x2048x512 .f32 := blockAt m R c 1 t
abbrev w3B (c : Dev nD) (t : Fin grid0.N) : Vec F S1x2048x512 .f32 := blockAt m R c 2 t
abbrev w2B (c : Dev nD) (t : Fin grid0.N) : Vec F S1x512x2048 .f32 := blockAt m R c 3 t

/-- What point `t` leaves in the result. -/
def outB (c : Dev nD) (t : Fin grid0.N) : Vec F S256x2048 .f32 :=
  leave (V m c main_arg1) (grid0.coords t) (xsB m R c t) (k0_pay1 (w1B m R c t)) (k0_pay2 (w3B m R c t)) (k0_pay3 (w2B m R c t))

/-- What the kept weights are once `t` points have run: those of the last point, if it was in use. -/
def Kept (c : Dev nD) (t : ℕ) (g1 g2 : S2048x512.Idx → Elt F .bf16) (g3 : S512x2048.Idx → Elt F .bf16) : Prop :=
  ∀ t' : Fin grid0.N, t'.val + 1 = t → used (V m c main_arg1) t'.val →
    g1 = k0_pay1 (w1B m R c t') ∧ g2 = k0_pay2 (w3B m R c t') ∧ g3 = k0_pay3 (w2B m R c t')

def Phi (c : Dev nD) (t : ℕ) : sProp 𝕄 :=
  iprop((∃ g1 g2 g3, ⌜Kept m R c t g1 g2 g3⌝ ∗ (s1M.view.loc (c : Thread nD τ) ↦{fullShare} g1) ∗ (s2M.view.loc (c : Thread nD τ) ↦{fullShare} g2)
      ∗ (s3M.view.loc (c : Thread nD τ) ↦{fullShare} g3))
    ∗ (∃ r, prngReg c r)
    ∗ (teM.view.loc (c : Thread nD τ) ↦{fullShare.right} V m c main_arg0) ∗ (ntM.view.loc (c : Thread nD τ) ↦{fullShare.right} V m c main_arg1))

theorem tables_eq (c : Dev nD) : (Pipeline.ΦT pre0 (adm m R 0).1 c : sProp 𝕄)
    = iprop((teM.view.loc (c : Thread nD τ) ↦{fullShare.right} V m c main_arg0) ∗ (ntM.view.loc (c : Thread nD τ) ↦{fullShare.right} V m c main_arg1)) := by
  obtain rfl : c = 0 := Subsingleton.elim _ _
  unfold Pipeline.ΦT Pipeline.prefHeld
  rw [bigSep_univ_eq_bigSepL [(0 : Fin 2), 1] (by decide) (by decide)]
  rfl

/-- The proof data of the pipeline on core `c`. -/
def dats (p : Fin 1) (c : Dev nD) : Dat τ (Elt F) Unit ℕ (UR sig nD τ) ℕ (Pipeline.pin (pcfgs (F := F)) (adm m R) p) c where
  A w := V m c (Pipeline.arrRef spec0 w)
  after w t := match w with
    | ⟨0, _⟩ => xsB m R c t
    | ⟨1, _⟩ => w1B m R c t
    | ⟨2, _⟩ => w3B m R c t
    | ⟨3, _⟩ => w2B m R c t
    | ⟨4, _⟩ => outB m R c t
    | ⟨_ + 5, h⟩ => absurd h (Nat.not_lt.2 (Nat.le_add_left _ _))
  Φ t := Phi m R c t.val
  q _ := fullShare
  owed _ := 0

theorem coord_val : ∀ t : Fin grid0.N, (grid0.coords t 0).val = t.val := by decide

theorem before0 (c : Dev nD) (t : Fin grid0.N) (d) : (dats m R 0 c).before 0 t d = xsB m R c t :=
  (dats m R 0 c).before_in_eq_fetched 0 rfl (fun _ => rfl) (fun _ _ _ => rfl) (fun _ => rfl) t d
theorem before1 (c : Dev nD) (t : Fin grid0.N) (d) : (dats m R 0 c).before 1 t d = w1B m R c t :=
  (dats m R 0 c).before_in_eq_fetched 1 rfl (fun _ => rfl) (fun _ _ _ => rfl) (fun _ => rfl) t d
theorem before2 (c : Dev nD) (t : Fin grid0.N) (d) : (dats m R 0 c).before 2 t d = w3B m R c t :=
  (dats m R 0 c).before_in_eq_fetched 2 rfl (fun _ => rfl) (fun _ _ _ => rfl) (fun _ => rfl) t d
theorem before3 (c : Dev nD) (t : Fin grid0.N) (d) : (dats m R 0 c).before 3 t d = w2B m R c t :=
  (dats m R 0 c).before_in_eq_fetched 3 rfl (fun _ => rfl) (fun _ _ _ => rfl) (fun _ => rfl) t d

/-- Two points whose tiles name one expert stage the same weights. -/
theorem same_expert (t t' : Fin grid0.N) (h : teHere (V m 0 main_arg0) (grid0.coords t) = teHere (V m 0 main_arg0) (grid0.coords t')) :
    w1B m R 0 t = w1B m R 0 t' ∧ w3B m R 0 t = w3B m R 0 t' ∧ w2B m R 0 t = w2B m R 0 t' := by
  have e : ∀ x : BitVec 32, x = teHere (V m 0 main_arg0) (grid0.coords t') → (![x.toNat, 0, 0] : Fin 3 → ℕ) = ![(teHere (V m 0 main_arg0) (grid0.coords t')).toNat, 0, 0] :=
    fun x hx => by rw [hx]
  have h' := e _ h
  refine ⟨?_, ?_, ?_⟩
  · exact (dats m R 0 0).fetched_congr 1 (t := t) (t' := t') h' rfl (fun _ => default)
  · exact (dats m R 0 0).fetched_congr 2 (t := t) (t' := t') h' rfl (fun _ => default)
  · exact (dats m R 0 0).fetched_congr 3 (t := t) (t' := t') h' rfl (fun _ => default)

/-- At a point in use the body works with the weights of its own tile. -/
theorem keep_used (c : Dev nD) (t : Fin grid0.N) (g1 g2 : S2048x512.Idx → Elt F .bf16) (g3 : S512x2048.Idx → Elt F .bf16)
    (h : Kept m R c t.val g1 g2 g3) (hu : used (V m c main_arg1) t.val) :
    keep1 (V m c main_arg0) (V m c main_arg1) (grid0.coords t) (w1B m R c t) g1 = k0_pay1 (w1B m R c t)
      ∧ keep2 (V m c main_arg0) (V m c main_arg1) (grid0.coords t) (w3B m R c t) g2 = k0_pay2 (w3B m R c t)
      ∧ keep3 (V m c main_arg0) (V m c main_arg1) (grid0.coords t) (w2B m R c t) g3 = k0_pay3 (w2B m R c t) := by
  obtain rfl : c = 0 := Subsingleton.elim _ _
  unfold keep1 keep2 keep3
  by_cases hr : refill (V m 0 main_arg0) (V m 0 main_arg1) (grid0.coords t) = 1#1
  · rw [if_pos hr, if_pos hr, if_pos hr]
    exact ⟨rfl, rfl, rfl⟩
  · rw [if_neg hr, if_neg hr, if_neg hr]
    rw [refill_iff, coord_val] at hr
    have h0 : t.val ≠ 0 := fun h0 => hr ⟨hu, Or.inl h0⟩
    have he : teHere (V m 0 main_arg0) (grid0.coords t) = tePrev (V m 0 main_arg0) (grid0.coords t) := Classical.byContradiction fun hne => hr ⟨hu, Or.inr hne⟩
    have ht := t.isLt
    have hlt : t.val - 1 < grid0.N := by omega
    have hu' : used (V m 0 main_arg1) (t.val - 1) := by
      unfold used at hu ⊢
      omega
    obtain ⟨e1, e2, e3⟩ := h ⟨t.val - 1, hlt⟩ (by show t.val - 1 + 1 = t.val; omega) hu'
    have hp : teHere (V m 0 main_arg0) (grid0.coords ⟨t.val - 1, hlt⟩) = teHere (V m 0 main_arg0) (grid0.coords t) := by
      rw [he, teHere_eq, tePrev_eq]
      congr 2
      apply Fin.ext
      show (grid0.coords ⟨t.val - 1, hlt⟩ 0).val = (grid0.coords t 0).val - 1
      rw [coord_val, coord_val]
    obtain ⟨b1, b2, b3⟩ := same_expert m R _ _ hp
    rw [e1, e2, e3, b1, b2, b3]
    exact ⟨rfl, rfl, rfl⟩

theorem kept_step (c : Dev nD) (t : Fin grid0.N) (g1 g2 : S2048x512.Idx → Elt F .bf16) (g3 : S512x2048.Idx → Elt F .bf16)
    (h : Kept m R c t.val g1 g2 g3) :
    Kept m R c (t.val + 1) (keep1 (V m c main_arg0) (V m c main_arg1) (grid0.coords t) (w1B m R c t) g1)
      (keep2 (V m c main_arg0) (V m c main_arg1) (grid0.coords t) (w3B m R c t) g2)
      (keep3 (V m c main_arg0) (V m c main_arg1) (grid0.coords t) (w2B m R c t) g3) := by
  intro t' ht' hu
  obtain rfl : t' = t := Fin.ext (by omega)
  exact keep_used m R c t' g1 g2 g3 h hu

theorem leave_eq (c : Dev nD) (t : Fin grid0.N) (g1 g2 : S2048x512.Idx → Elt F .bf16) (g3 : S512x2048.Idx → Elt F .bf16)
    (h : Kept m R c t.val g1 g2 g3) :
    leave (V m c main_arg1) (grid0.coords t) (xsB m R c t) (keep1 (V m c main_arg0) (V m c main_arg1) (grid0.coords t) (w1B m R c t) g1)
      (keep2 (V m c main_arg0) (V m c main_arg1) (grid0.coords t) (w3B m R c t) g2)
      (keep3 (V m c main_arg0) (V m c main_arg1) (grid0.coords t) (w2B m R c t) g3) = outB m R c t := by
  unfold outB leave
  by_cases hc : k0_cond2 (grid0.coords t) (ntWord (V m c main_arg1)) = 1#1
  · rw [if_pos hc, if_pos hc]
    rw [ntWord_eq, cond2_iff, coord_val] at hc
    obtain ⟨e1, e2, e3⟩ := keep_used m R c t g1 g2 g3 h hc
    rw [e1, e2, e3]
  · rw [if_neg hc, if_neg hc]

/-- The memrefs the blocks are staged in at point `t`. -/
abbrev st0 (t : Fin grid0.N) : Memref sig .tc .vmem S256x2048 .f32 := ((cfg0 (adm m R 0)).win 0).stage ((cfg0 (adm m R 0)).slots t 0)
abbrev st1 (t : Fin grid0.N) : Memref sig .tc .vmem S1x2048x512 .f32 := ((cfg0 (adm m R 0)).win 1).stage ((cfg0 (adm m R 0)).slots t 1)
abbrev st2 (t : Fin grid0.N) : Memref sig .tc .vmem S1x2048x512 .f32 := ((cfg0 (adm m R 0)).win 2).stage ((cfg0 (adm m R 0)).slots t 2)
abbrev st3 (t : Fin grid0.N) : Memref sig .tc .vmem S1x512x2048 .f32 := ((cfg0 (adm m R 0)).win 3).stage ((cfg0 (adm m R 0)).slots t 3)
abbrev st4 (t : Fin grid0.N) : Memref sig .tc .vmem S256x2048 .f32 := ((cfg0 (adm m R 0)).win 4).stage ((cfg0 (adm m R 0)).slots t 4)

/-- The body at point `t`. -/
abbrev bodyAt (t : Fin grid0.N) :=
  cc0_experts (F := F) (grid0.coords t) teM (Memref.isWhole_whole _) ntM (Memref.isWhole_whole _)
    (st0 m R t) (hstage0_0 (((cfg0 (adm m R 0)).slots t 0).cast nbuf0_0)) (st1 m R t) (hstage0_1 (((cfg0 (adm m R 0)).slots t 1).cast nbuf0_1))
    (st2 m R t) (hstage0_2 (((cfg0 (adm m R 0)).slots t 2).cast nbuf0_2)) (st3 m R t) (hstage0_3 (((cfg0 (adm m R 0)).slots t 3).cast nbuf0_3))
    (st4 m R t) (hstage0_4 (((cfg0 (adm m R 0)).slots t 4).cast nbuf0_4))
    s1M (Memref.isWhole_whole _) s2M (Memref.isWhole_whole _) s3M (Memref.isWhole_whole _)

def bodyPre (c : Dev nD) (t : Fin grid0.N) : sProp 𝕄 :=
  iprop((dats m R 0 c).Φ t.castSucc ∗ (dats m R 0 c).owesAt () t.castSucc
    ∗ (∃ d, owns (c : Thread nD τ) (st0 m R t) fullShare ((dats m R 0 c).before 0 t d))
    ∗ (∃ d, owns (c : Thread nD τ) (st1 m R t) fullShare ((dats m R 0 c).before 1 t d))
    ∗ (∃ d, owns (c : Thread nD τ) (st2 m R t) fullShare ((dats m R 0 c).before 2 t d))
    ∗ (∃ d, owns (c : Thread nD τ) (st3 m R t) fullShare ((dats m R 0 c).before 3 t d))
    ∗ (∃ d, owns (c : Thread nD τ) (st4 m R t) fullShare ((dats m R 0 c).before 4 t d)))
def bodyPost (c : Dev nD) (t : Fin grid0.N) : sProp 𝕄 :=
  iprop((dats m R 0 c).Φ t.succ ∗ (dats m R 0 c).owesAt () t.succ
    ∗ owns (c : Thread nD τ) (st0 m R t) fullShare ((dats m R 0 c).after 0 t)
    ∗ owns (c : Thread nD τ) (st1 m R t) fullShare ((dats m R 0 c).after 1 t)
    ∗ owns (c : Thread nD τ) (st2 m R t) fullShare ((dats m R 0 c).after 2 t)
    ∗ owns (c : Thread nD τ) (st3 m R t) fullShare ((dats m R 0 c).after 3 t)
    ∗ owns (c : Thread nD τ) (st4 m R t) fullShare ((dats m R 0 c).after 4 t))

theorem sound_body (c : Dev nD) (t : Fin grid0.N) :
    bodyPre m R c t ⊢ wp frame (wpE (defs₀ (F := F)) Variants.none c none) Set.univ (bodyAt m R t) (fun _ => bodyPost m R c t) := by
  unfold bodyPre
  rw [show (dats m R 0 c).Φ t.castSucc = Phi m R c t.val from rfl]
  unfold Phi owns
  iintro ⟨⟨⟨%g1, %g2, %g3, %hk, Hs1, Hs2, Hs3⟩, Hg, Ht, Hn⟩, HO, ⟨%d0, %f0, %h0, H0⟩, ⟨%d1, %f1, %h1, H1⟩, ⟨%d2, %f2, %h2, H2⟩, ⟨%d3, %f3, %h3, H3⟩, ⟨%d4, %f4, -, H4⟩⟩
  rw [before0] at h0
  rw [before1] at h1
  rw [before2] at h2
  rw [before3] at h3
  have hT := body_triple c (grid0.coords t) (V m c main_arg0) (V m c main_arg1) (st0 m R t) (hstage0_0 (((cfg0 (adm m R 0)).slots t 0).cast nbuf0_0))
    (st1 m R t) (st2 m R t) (hstage0_1 (((cfg0 (adm m R 0)).slots t 1).cast nbuf0_1)) (hstage0_2 (((cfg0 (adm m R 0)).slots t 2).cast nbuf0_2))
    (st3 m R t) (hstage0_3 (((cfg0 (adm m R 0)).slots t 3).cast nbuf0_3)) (st4 m R t) (hstage0_4 (((cfg0 (adm m R 0)).slots t 4).cast nbuf0_4))
    f0 f1 f2 f3 f4 g1 g2 g3 fullShare.right
  rw [h0, h1, h2, h3, leave_eq m R c t g1 g2 g3 hk] at hT
  iapply ((BIClass.sep_mono hT .rfl).trans (wp_wand_r _ _ _)) $$ [-]
  isplitl [Ht Hn H0 H1 H2 H3 H4 Hs1 Hs2 Hs3]
  · isplitl [Ht]; · iexact Ht
    isplitl [Hn]; · iexact Hn
    isplitl [H0]; · iexact H0
    isplitl [H1]; · iexact H1
    isplitl [H2]; · iexact H2
    isplitl [H3]; · iexact H3
    isplitl [H4]; · iexact H4
    isplitl [Hs1]; · iexact Hs1
    isplitl [Hs2]; · iexact Hs2
    iexact Hs3
  iintro %u ⟨Ht, Hn, H0, H1, H2, H3, ⟨%f, %hf, H4⟩, Hs1, Hs2, Hs3⟩
  unfold bodyPost
  rw [show (dats m R 0 c).Φ t.succ = Phi m R c (t.val + 1) from rfl]
  unfold Phi owns
  isplitl [Hs1 Hs2 Hs3 Hg Ht Hn]
  · isplitl [Hs1 Hs2 Hs3]
    · iexists _, _, _
      isplitr; · ipureintro; exact kept_step m R c t g1 g2 g3 hk
      isplitl [Hs1]; · iexact Hs1
      isplitl [Hs2]; · iexact Hs2
      iexact Hs3
    isplitl [Hg]; · iexact Hg
    isplitl [Ht]; · iexact Ht
    iexact Hn
  isplitl [HO]
  · iexact HO
  isplitl [H0]
  · iexists f0
    isplitr; · ipureintro; exact h0
    iexact H0
  isplitl [H1]
  · iexists f1
    isplitr; · ipureintro; exact h1
    iexact H1
  isplitl [H2]
  · iexists f2
    isplitr; · ipureintro; exact h2
    iexact H2
  isplitl [H3]
  · iexists f3
    isplitr; · ipureintro; exact h3
    iexact H3
  iexists f
  isplitr; · ipureintro; exact hf
  iexact H4

theorem defs₀_row (t : Fin grid0.N) :
    defs₀ (F := F) .tc (cfg0 (adm m R 0)).body ((cfg0 (adm m R 0)).bodyArgs t ((cfg0 (adm m R 0)).slots t)) = bodyAt m R t := by
  unfold defs₀; rw [Defs.onTc_tc]; rfl

/-- The result's block is stored at every point. -/
theorem never_idle (t : Fin grid0.N) :
    (Pipeline.pin (pcfgs (F := F)) (adm m R) 0).idle (4 : Fin 5) ((Pipeline.pin (pcfgs (F := F)) (adm m R) 0).grid.coords t) = false := by
  show (!(k0_cond2 (grid0.coords t) ((adm m R 0).1.atD 1 ![0]) == 1#1) && !(k0_cond3 (grid0.coords t) ((adm m R 0).1.atD 1 ![0]) == 1#1)) = false
  have h := cond3_iff (grid0.coords t) ((adm m R 0).1.atD 1 ![0])
  by_cases h2 : k0_cond2 (grid0.coords t) ((adm m R 0).1.atD 1 ![0]) = 1#1
  · rw [h2]; rfl
  · rw [h.mpr h2, Bool.and_comm]; rfl

theorem body_obligation (c : Dev nD) : BodyObligation (dats m R 0 c) (defs₀ (F := F)) Variants.none () Set.univ := fun t => by
  rw [bigSep_W0, bigSep_W0, defs₀_row, never_idle m R t]
  exact triple_restated (sound_body m R c t) rfl .rfl fun _ => .rfl

variable (ρ : Dev nD → PrngReg)

theorem tables_at (c : Dev nD) (k : Fin pre0.K) : V m c (pre0.ref k) = (adm m R 0).1 k := by
  obtain rfl : c = 0 := Subsingleton.elim _ _
  rfl

theorem enter (c : Dev nD) : (iprop(Pipeline.ΦA spec0 c ∗ Pipeline.ΦT pre0 (adm m R 0).1 c) : sProp 𝕄) ⊢ Phi m R c 0 := by
  rw [tables_eq]
  unfold Pipeline.ΦA Phi
  rw [scopedRest0_eq]
  iintro ⟨⟨⟨⟨%g1, H1⟩, ⟨%g2, H2⟩, ⟨%g3, H3⟩⟩, Hg⟩, Ht, Hn⟩
  isplitl [H1 H2 H3]
  · iexists g1, g2, g3
    isplitr; · ipureintro; exact fun t' h => absurd h (Nat.succ_ne_zero _)
    isplitl [H1]; · iexact H1
    isplitl [H2]; · iexact H2
    iexact H3
  isplitl [Hg]; · iexact Hg
  isplitl [Ht]; · iexact Ht
  iexact Hn

theorem exit (c : Dev nD) (t : ℕ) : (Phi m R c t : sProp 𝕄) ⊢ Pipeline.ΦA spec0 c := by
  unfold Pipeline.ΦA Phi
  rw [scopedRest0_eq]
  iintro ⟨⟨%g1, %g2, %g3, -, H1, H2, H3⟩, Hg, -⟩
  isplitl [H1 H2 H3]
  · isplitl [H1]; · iexists g1; iexact H1
    isplitl [H2]; · iexists g2; iexact H2
    iexists g3; iexact H3
  iexact Hg

set_option backward.isDefEq.respectTransparency.types false in
theorem run_main :
    θ_run defs (onTc (τ := τ) (main (F := F))) (s₀ m ρ)
      (fun r => Pipeline.FramePost (Pipeline.pin (pcfgs (F := F)) (adm m R)) (dats m R) 0 (V m) r ∧ r.2.sem = fun _ => 0) :=
  Pipeline.θ_run_frameP_track (Q' := _) (pcfgs (F := F)) (adm m R) (dats m R) (0 : Fin 1) launch0 defs₀ Variants.none m ρ main
    (hbody := fun c => (body_obligation m R c).loose)
    (hshare := fun c => (dats m R 0 c).share_full fun _ => rfl) (howed := fun _ _ => rfl) (V := V m)
    (hmain := Pipeline.hmainP_region _ _ _ _ m main fun c => main_chain c) (hA := fun _ _ => rfl) (hpf := tables_at m R)
    (hin := fun c => enter m R c) (hout := fun c => exit m R c _)

/-- The point whose tile holds a row, and the result's array: block by block, what its point leaves. -/
def pointOf (z : S40960x2048.Idx) : Fin grid0.N := ⟨(z 0).val / 256, by
  have h : (z 0).val < 40960 := (z 0).isLt
  rw [N_0]
  omega⟩
def result (c : Dev nD) : S40960x2048.Idx → Elt F .f32 := fun z =>
  outB m R c (pointOf z) (ix2 (⟨(z 0).val % 256, Nat.mod_lt _ (by decide)⟩ : Fin 256) (⟨(z 1).val, (z 1).isLt⟩ : Fin 2048))

theorem out_index (t : Fin grid0.N) : cc0_transform_4 (grid0.coords t) 0 = t.val :=
  (toNat_small (grid0.coords t 0).isLt).trans (coord_val t)

theorem flushes (t : Fin grid0.N) : ((cfg0 (adm m R 0)).win 4).flush t = true := by
  rw [Window.flush_eq_flushOf]
  show (true && (decide (t.val + 1 = grid0.N) || decide (∃ h : t.val + 1 < grid0.N, cc0_transform_4 (grid0.coords ⟨t.val + 1, h⟩) ≠ cc0_transform_4 (grid0.coords t)))) = true
  rw [Bool.true_and, Bool.or_eq_true, decide_eq_true_eq, decide_eq_true_eq]
  by_cases h : t.val + 1 = grid0.N
  · exact Or.inl h
  · have ht := t.isLt
    refine Or.inr ⟨by omega, fun he => ?_⟩
    have := congrFun he 0
    rw [out_index, out_index] at this
    exact absurd this (Nat.succ_ne_self _)

theorem flushed_eq (c : Dev nD) (t : Fin grid0.N) :
    (dats m R 0 c).flushed 4 t = (((cfg0 (adm m R 0)).win 4).blk t).view.read (Elt F) (result m R c) := by
  show outB m R c t = _
  funext y
  have h0 : (y 0).val < 256 := (y 0).isLt
  let z : S40960x2048.Idx := (((cfg0 (adm m R 0)).win 4).rect t).emb y
  have e0 : (z 0).val = t.val * 256 + (y 0).val := by
    show cc0_transform_4 (grid0.coords t) 0 * 256 + 1 * (y 0).val = _
    rw [out_index]
    omega
  have e1 : (z 1).val = (y 1).val := by
    show 0 * 2048 + 1 * (y 1).val = _
    omega
  show outB m R c t y = result m R c z
  clear_value z
  unfold result
  rw [show pointOf z = t from Fin.ext (by
    show (z 0).val / 256 = t.val
    rw [e0]; omega)]
  congr 1
  funext a
  apply Fin.ext
  fin_cases a
  · show (y 0).val = (z 0).val % 256
    rw [e0]; omega
  · exact e1.symm

theorem covered (t : Fin grid0.N) (z : S40960x2048.Idx) (h : pointOf z = t) : z ∈ (((cfg0 (adm m R 0)).win 4).rect t).set := by
  refine Rect.mem_set_unit.mpr fun a => ?_
  have h0 : (z 0 : ℕ) < 40960 := (z 0).isLt
  have h1 : (z 1 : ℕ) < 2048 := (z 1).isLt
  have ht : (z 0 : ℕ) / 256 = t.val := congrArg Fin.val h
  have e := out_index t
  fin_cases a
  · show cc0_transform_4 (grid0.coords t) 0 * 256 ≤ (z 0 : ℕ) ∧ (z 0 : ℕ) < cc0_transform_4 (grid0.coords t) 0 * 256 + 256
    omega
  · show 0 * 2048 ≤ (z 1 : ℕ) ∧ (z 1 : ℕ) < 0 * 2048 + 2048
    omega

theorem final_out (c : Dev nD) : (dats m R 0 c).arrAt 4 (cfg0 (adm m R 0)).N = result m R c :=
  (dats m R 0 c).arrAt_eq_of_cover 4 (result m R c) (fun t _ => flushed_eq m R c t) fun z =>
    ⟨pointOf z, flushes m R _, (View.set_slice_whole main_v0 (((cfg0 (adm m R 0)).win 4).rect (pointOf z))).symm ▸ covered m R _ z rfl⟩

/-- The arguments at the end, the result, and the cells. -/
theorem run_frame :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = result m R c)
      ∧ r.2.sem = fun _ => 0) :=
  (θ_run defs _ _).mono (fun r ⟨h, hs⟩ => ⟨fun c => by
    have rest : ∀ b : Ref sig .tc, b ∈ Pipeline.restRefs sig spec0 → r.2.mem ((c.tc : Thread nD τ).loc b) = V m c b := (h c).2
    have arr := (h c).1
    exact ⟨⟨rest main_arg0 (by decide), rest main_arg1 (by decide), (arr (0 : Fin 5)).trans ((dats m R 0 c).arrAt_in 0 rfl _),
      (arr (1 : Fin 5)).trans ((dats m R 0 c).arrAt_in 1 rfl _), (arr (2 : Fin 5)).trans ((dats m R 0 c).arrAt_in 2 rfl _),
      (arr (3 : Fin 5)).trans ((dats m R 0 c).arrAt_in 3 rfl _)⟩, (arr (4 : Fin 5)).trans (final_out m R c)⟩, hs⟩) (run_main m R ρ)

end Cert.ExpertsIdeal.Hand

end
-- ==== Proof.ExpValue.lean ====
/-
  The experts' result over the ideal values: what the run leaves is what the plain computation gives.
-/
module

public import proofs.«01_k».proof.Proof.ExpRun
public import proofs.«01_k».proof.Proof.Gen.ExpertsReferenceIdeal
public import Idealize.ShloMosaic.Lib.Pointwise

@[expose] public section

noncomputable section

namespace Cert.ExpertsIdeal.Hand

open Cert.ExpertsIdeal Cert.ExpertsIdeal.Gen
open Idealize.ShloMosaic Idealize.ShloMosaic.TcCoe
open Cert.Pre_tiled.Hand (Tiled)

/-- One hidden unit of one expert at one row, before the activation. -/
def hid (xs : Vec Ideal S40960x2048 .f32) (w : Vec Ideal S32x2048x512 .f32) (e : Fin 32) (p : Fin 40960) (f : Fin 512) : EReal :=
  ∑ k : Fin 2048, xs (ix2 p k) * w (ix3 e k f)

/-- One expert's result at one row and column. -/
def expert (xs : Vec Ideal S40960x2048 .f32) (w1 w3 : Vec Ideal S32x2048x512 .f32) (w2 : Vec Ideal S32x512x2048 .f32)
    (e : Fin 32) (p : Fin 40960) (d : Fin 2048) : EReal :=
  ∑ f : Fin 512, hid xs w1 e p f * Ideal.div 1 (1 + Ideal.exp (0 - hid xs w1 e p f)) * hid xs w3 e p f * w2 (ix3 e f d)

/-- A row's tile. -/
def tile (p : Fin 40960) : Fin 160 := ⟨p.val / 256, by have := p.isLt; omega⟩

/-! ## The kernel's side -/

theorem pay4_at (X : Vec Ideal S256x2048 .f32) (a b : Vec Ideal S1x2048x512 .f32) (c : Vec Ideal S1x512x2048 .f32) (r : Fin 256) (d : Fin 2048) :
    k0_pay4 X (k0_pay1 a) (k0_pay2 b) (k0_pay3 c) (ix2 r d)
      = ∑ f : Fin 512, (∑ k : Fin 2048, X (ix2 r k) * a (ix3 0 k f))
          * Ideal.div 1 (1 + Ideal.exp (0 - ∑ k : Fin 2048, X (ix2 r k) * a (ix3 0 k f)))
          * (∑ k : Fin 2048, X (ix2 r k) * b (ix3 0 k f)) * c (ix3 0 f d) := by
  pointwise [k0_pay4, k0_pay1, k0_pay2, k0_pay3]

theorem pay5_at (y : S256x2048.Idx) : k0_pay5 (F := Ideal) y = 0 := by
  pointwise [k0_pay5]

theorem hand1 {n : ℕ} (v : Fin n) : Cert.Pre_routed.Hand.ix1 v = ix1 v := by
  funext a; fin_cases a; rfl
theorem hand2 {n k : ℕ} (v : Fin n) (w : Fin k) : Cert.Pre_routed.Hand.ix2 v w = ix2 v w := by
  funext a; fin_cases a <;> rfl

variable (m : (ℓ : Loc nD τ sig) → Buf (Elt Ideal) ℓ)
variable (R : Tiled (V m 0 main_arg0) (V m 0 main_arg1))

/-- The expert that works on a tile. -/
def worker (j : Fin 160) : Fin 32 := ⟨(V m 0 main_arg0 (ix1 j)).toNat, by rw [← hand1]; exact R.lt j⟩

theorem here_eq (t : Fin grid0.N) (j : Fin 160) (hj : j.val = t.val) : (teHere (V m 0 main_arg0) (grid0.coords t)).toNat = (worker m R j).val := by
  rw [teHere_eq, hand1]
  show _ = (V m 0 main_arg0 (ix1 j)).toNat
  rw [show (⟨(grid0.coords t 0).val, (grid0.coords t 0).isLt⟩ : Fin 160) = j from Fin.ext ((coord_val t).trans hj.symm)]

theorem xsB_at (t : Fin grid0.N) (hu : used (V m 0 main_arg1) t.val) (r : Fin 256) (k : Fin 2048) (p : Fin 40960)
    (hp : p.val = t.val * 256 + r.val) : xsB m R 0 t (ix2 r k) = V m 0 main_arg2 (ix2 p k) := by
  refine congrArg (V m 0 main_arg2) (funext fun a => Fin.ext ?_)
  fin_cases a
  · show (Scalar.minsi (BitVec.ofNat 32 (grid0.coords t 0).val) (ntWord (V m 0 main_arg1) - 1#32)).toNat * 256 + 1 * r.val = p.val
    rw [ntWord_eq, coord_val, (row_block R.pos (show t.val < 160 from N_0 ▸ t.isLt)).2 hu, hp]
    omega
  · show 0 * 2048 + 1 * k.val = k.val
    omega

theorem w1B_at (t : Fin grid0.N) (j : Fin 160) (hj : j.val = t.val) (k : Fin 2048) (f : Fin 512) :
    w1B m R 0 t (ix3 0 k f) = V m 0 main_arg3 (ix3 (worker m R j) k f) := by
  refine congrArg (V m 0 main_arg3) (funext fun a => Fin.ext ?_)
  fin_cases a
  · show (teHere (V m 0 main_arg0) (grid0.coords t)).toNat * 1 + 1 * 0 = (worker m R j).val
    rw [here_eq m R t j hj]
    omega
  · show 0 * 2048 + 1 * k.val = k.val
    omega
  · show 0 * 512 + 1 * f.val = f.val
    omega

theorem w3B_at (t : Fin grid0.N) (j : Fin 160) (hj : j.val = t.val) (k : Fin 2048) (f : Fin 512) :
    w3B m R 0 t (ix3 0 k f) = V m 0 main_arg4 (ix3 (worker m R j) k f) := by
  refine congrArg (V m 0 main_arg4) (funext fun a => Fin.ext ?_)
  fin_cases a
  · show (teHere (V m 0 main_arg0) (grid0.coords t)).toNat * 1 + 1 * 0 = (worker m R j).val
    rw [here_eq m R t j hj]
    omega
  · show 0 * 2048 + 1 * k.val = k.val
    omega
  · show 0 * 512 + 1 * f.val = f.val
    omega

theorem w2B_at (t : Fin grid0.N) (j : Fin 160) (hj : j.val = t.val) (f : Fin 512) (d : Fin 2048) :
    w2B m R 0 t (ix3 0 f d) = V m 0 main_arg5 (ix3 (worker m R j) f d) := by
  refine congrArg (V m 0 main_arg5) (funext fun a => Fin.ext ?_)
  fin_cases a
  · show (teHere (V m 0 main_arg0) (grid0.coords t)).toNat * 1 + 1 * 0 = (worker m R j).val
    rw [here_eq m R t j hj]
    omega
  · show 0 * 512 + 1 * f.val = f.val
    omega
  · show 0 * 2048 + 1 * d.val = d.val
    omega

open Classical in
/-- A row of a tile in use gets its expert's result, any other row zero. -/
theorem result_at (p : Fin 40960) (d : Fin 2048) :
    result m R 0 (ix2 p d) = if used (V m 0 main_arg1) (tile p).val
      then expert (V m 0 main_arg2) (V m 0 main_arg3) (V m 0 main_arg4) (V m 0 main_arg5) (worker m R (tile p)) p d else 0 := by
  have ht : (pointOf (ix2 p d)).val = (tile p).val := rfl
  have e2 := cond2_iff (V m 0 main_arg1) (grid0.coords (pointOf (ix2 p d)))
  rw [coord_val, ht, ← ntWord_eq (V m 0 main_arg1)] at e2
  unfold result outB leave
  rw [hand2]
  by_cases h : used (V m 0 main_arg1) (tile p).val
  · rw [if_pos (e2.2 h), if_pos h, pay4_at]
    have hx := fun k => xsB_at m R (pointOf (ix2 p d)) h ⟨p.val % 256, Nat.mod_lt _ (by decide)⟩ k p
      (by show p.val = p.val / 256 * 256 + p.val % 256; omega)
    have h1 := w1B_at m R (pointOf (ix2 p d)) (tile p) rfl
    have h3 := w3B_at m R (pointOf (ix2 p d)) (tile p) rfl
    have h2 := w2B_at m R (pointOf (ix2 p d)) (tile p) rfl
    refine Finset.sum_congr rfl fun f _ => ?_
    have e1 : (∑ k : Fin 2048, xsB m R 0 (pointOf (ix2 p d)) (ix2 ⟨p.val % 256, Nat.mod_lt _ (by decide)⟩ k) * w1B m R 0 (pointOf (ix2 p d)) (ix3 0 k f))
        = hid (V m 0 main_arg2) (V m 0 main_arg3) (worker m R (tile p)) p f :=
      Finset.sum_congr rfl fun k _ => congrArg₂ (· * ·) (hx k) (h1 k f)
    have e3 : (∑ k : Fin 2048, xsB m R 0 (pointOf (ix2 p d)) (ix2 ⟨p.val % 256, Nat.mod_lt _ (by decide)⟩ k) * w3B m R 0 (pointOf (ix2 p d)) (ix3 0 k f))
        = hid (V m 0 main_arg2) (V m 0 main_arg4) (worker m R (tile p)) p f :=
      Finset.sum_congr rfl fun k _ => congrArg₂ (· * ·) (hx k) (h3 k f)
    exact congrArg₂ (· * ·) (congrArg₂ (· * ·) (congrArg (fun h : EReal => h * Ideal.div 1 (1 + Ideal.exp (0 - h))) e1) e3) (h2 f d)
  · rw [if_neg (fun h' => h (e2.1 h')), if_neg h, pay5_at]

end Cert.ExpertsIdeal.Hand

namespace Cert.ExpertsReferenceIdeal.Hand

open Cert.ExpertsReferenceIdeal Cert.ExpertsReferenceIdeal.Gen
open Idealize.ShloMosaic Idealize.ShloMosaic.TcCoe
open Cert.Pre_tiled.Hand (Tiled)
open Cert.ExpertsIdeal.Hand (hid expert tile used worker hand1 slt_iff bit_one V result result_at)

/-! ## The plain computation's side -/

variable (te : Vec Ideal S160 .i32) (nt : Vec Ideal S1 .i32) (xs : Vec Ideal S40960x2048 .f32) (w1 w3 : Vec Ideal S32x2048x512 .f32)
  (w2 : Vec Ideal S32x512x2048 .f32)

/-- The weight of each expert at each row: one at the expert of a tile in use. -/
def weights : FVec Ideal S40960x32 .f32 :=
  shapeCast _ (broadcastInDim S160x256x32 ![0, 2] bcast_S160x32_S160x256x32_0_2 (mulf (uitofp .f32 (cmpi .eq (broadcastInDim S160x32 ![0, 1] bcast_S160x1_S160x32_0_1 (broadcastInDim S160x1 ![0] bcast_S160_S160x1_0 te)) (broadcastInDim S160x32 ![0, 1] bcast_S1x32_S160x32_0_1 (iotaInDim S1x32 32 1)))) (broadcastInDim S160x32 ![0, 1] bcast_S160x1_S160x32_0_1 (broadcastInDim S160x1 ![0] bcast_S160_S160x1_0 (uitofp .f32 (cmpi .slt (iotaInDim S160 32 0) (broadcastInDim S160 ![] bcast_S_S160 (shapeCast _ nt shapeCasts_S1_S_)))))))) shapeCasts_S160x256x32_S40960x32

/-- A hidden layer of every expert at every row, before the activation. -/
def hidden (w : Vec Ideal S32x2048x512 .f32) : FVec Ideal S32x40960x512 .f32 :=
  transpose S32x40960x512 [0, 2, 1] (Host.dotGeneral (φ₁ := .f32) (φ₂ := .f32) dot_S32x2048x512_S40960x2048_S32x512x40960_1_1_02_0_n_n none w xs) transposes_S32x512x40960_S32x40960x512_0_2_1

/-- Every expert's result at every row. -/
def every : FVec Ideal S32x40960x2048 .f32 :=
  Host.dotGeneral (φ₁ := .f32) (φ₂ := .f32) dot_S32x40960x512_S32x512x2048_S32x40960x2048_2_1_1_2_0_0 none (mulf (mulf (hidden xs w1) (Host.divf (broadcastInDim S32x40960x512 ![] bcast_S_S32x40960x512 (constant S_ .f32 0x3F800000#32)) (addf (broadcastInDim S32x40960x512 ![] bcast_S_S32x40960x512 (constant S_ .f32 0x3F800000#32)) (Host.exp (Host.negf (hidden xs w1)))))) (hidden xs w3)) w2

/-- The experts' results weighted and added. -/
def total : FVec Ideal S40960x2048 .f32 :=
  Host.dotGeneral (φ₁ := .f32) (φ₂ := .f32) dot_S40960x32_S32x40960x2048_S40960x2048_1_0_n_2_0_1 none (weights te nt) (every xs w1 w3 w2)

theorem hidden_at (w : Vec Ideal S32x2048x512 .f32) (e : Fin 32) (p : Fin 40960) (f : Fin 512) : hidden xs w (ix3 e p f) = hid xs w e p f := by
  pointwise [hidden, hid]
  exact Finset.sum_congr rfl fun k _ => mul_comm _ _

theorem every_at (e : Fin 32) (p : Fin 40960) (d : Fin 2048) : every xs w1 w3 w2 (ix3 e p d) = expert xs w1 w3 w2 e p d := by
  pointwise [every, expert, hidden_at]
  simp only [zero_sub]

theorem bit_value (b : BitVec 1) : (FloatOps.uitofp FTy.f32 b : Ideal .f32) = if b = 1#1 then (1 : EReal) else 0 := by
  have h : ∀ b : BitVec 1, b = 1#1 ∨ b = 0#1 := by decide
  rcases h b with rfl | rfl
  · rw [if_pos rfl]
    show (((1 : ℕ) : ℝ) : EReal) = 1
    rw [Nat.cast_one, EReal.coe_one]
  · rw [if_neg (by decide)]
    show (((0 : ℕ) : ℝ) : EReal) = 0
    rw [Nat.cast_zero, EReal.coe_zero]

open Classical in
theorem weights_at (p : Fin 40960) (e : Fin 32) :
    weights te nt (ix2 p e) = if used nt (tile p).val ∧ e.val = (te (ix1 (tile p))).toNat then 1 else 0 := by
  pointwise [weights]
  have hs : IntOp.cmpi CmpIPredicate.slt (BitVec.ofNat 32 (p.val / 256)) (nt (ix1 0)) = 1#1 ↔ used nt (tile p).val := by
    rw [← hand1]
    exact slt_iff _ (tile p).isLt
  have he : IntOp.cmpi CmpIPredicate.eq (te (ix1 (tile p))) (BitVec.ofNat 32 e.val) = 1#1 ↔ e.val = (te (ix1 (tile p))).toNat := by
    show BitVec.ofBool (te (ix1 (tile p)) == BitVec.ofNat 32 e.val) = 1#1 ↔ _
    have hl := e.isLt
    have hv : (BitVec.ofNat 32 e.val).toNat = e.val := by rw [BitVec.toNat_ofNat]; exact Nat.mod_eq_of_lt (by omega)
    rw [bit_one, beq_iff_eq, BitVec.toNat_inj.symm, hv]
    exact eq_comm
  show FloatOps.uitofp FTy.f32 (IntOp.cmpi CmpIPredicate.eq (te (ix1 (tile p))) (BitVec.ofNat 32 e.val)) * _ = _
  rw [bit_value, bit_value]
  simp only [hs, he]
  by_cases hu : used nt (tile p).val
  · by_cases hq : e.val = (te (ix1 (tile p))).toNat
    · rw [if_pos hu, if_pos hq, if_pos ⟨hu, hq⟩, one_mul]
    · rw [if_neg hq, zero_mul, if_neg fun h' : _ ∧ _ => hq h'.2]
  · rw [if_neg hu, mul_zero, if_neg fun h' : _ ∧ _ => hu h'.1]

open Classical in
theorem total_at (h : ∀ j, (te (ix1 j)).toNat < 32) (p : Fin 40960) (d : Fin 2048) :
    total te nt xs w1 w3 w2 (ix2 p d) = if used nt (tile p).val then expert xs w1 w3 w2 ⟨_, h (tile p)⟩ p d else 0 := by
  have e0 : total te nt xs w1 w3 w2 (ix2 p d) = ∑ e : Fin 32, weights te nt (ix2 p e) * every xs w1 w3 w2 (ix3 e p d) := by
    pointwise [total]
  rw [e0]
  simp only [every_at, weights_at te nt p _]
  rw [Finset.sum_eq_single (⟨_, h (tile p)⟩ : Fin 32)]
  · by_cases hu : used nt (tile p).val
    · rw [if_pos ⟨hu, rfl⟩, if_pos hu, one_mul]
    · rw [if_neg fun h' : _ ∧ _ => hu h'.1, if_neg hu, zero_mul]
  · intro e _ he
    rw [if_neg fun h' : _ ∧ _ => he (Fin.ext h'.2), zero_mul]
  · intro h'
    exact absurd (Finset.mem_univ _) h'

/-- The run's result is the plain computation's. -/
theorem total_eq (m : (ℓ : Loc Cert.ExpertsIdeal.nD Cert.ExpertsIdeal.τ Cert.ExpertsIdeal.sig) → Buf (Elt Ideal) ℓ)
    (R : Tiled (V m 0 Cert.ExpertsIdeal.main_arg0) (V m 0 Cert.ExpertsIdeal.main_arg1)) :
    total (V m 0 Cert.ExpertsIdeal.main_arg0) (V m 0 Cert.ExpertsIdeal.main_arg1) (V m 0 Cert.ExpertsIdeal.main_arg2)
      (V m 0 Cert.ExpertsIdeal.main_arg3) (V m 0 Cert.ExpertsIdeal.main_arg4) (V m 0 Cert.ExpertsIdeal.main_arg5) = result m R 0 := by
  funext z
  have hz : z = ix2 (z 0) (z 1) := by funext a; fin_cases a <;> rfl
  rw [hz]
  exact (total_at _ _ _ _ _ _ (fun j => by rw [← hand1]; exact R.lt j) _ _).trans (result_at m R _ _).symm

end Cert.ExpertsReferenceIdeal.Hand

end
-- ==== Proof.InBody.lean ====
/-
  The projections' body at a grid point.
-/
module

public import proofs.«01_k».proof.Proof.Gen.InProjIdeal.Launch
public import proofs.«01_k».proof.Proof.Gen.InProjIdeal.Skeleton
public import proofs.«01_k».proof.Proof.ExpBody

@[expose] public section

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal.Hand (hz2 hz3)

variable {F : FTy → Type} [FloatOps F]

/-- The logic the proof runs in. -/
local notation "𝕄" => MT nD τ sig Unit (Elt F) ℕ (UR sig nD τ) ℕ

/-- The normalised rows, kept while the columns go by. -/
abbrev hM : Memref sig .tc .vmem S512x2048 .bf16 := Memref.whole cc0_scratch0

/-- A store that covers the whole shape leaves its payload, whatever view it goes through. -/
theorem stored {σ : RefSig} {sp : Space} {s : Shape} {e : EltTy} (v : View σ .tc sp s e) (f : v.ty.Contents (Elt F)) {off : Fin s.rank → ℕ} (h : off = fun _ => 0)
    (inb : ∀ a, off a + s.size a ≤ s.size a) (w : s.Idx → Elt F e) :
    v.read (Elt F) (v.writes (Elt F) f [⟨Rect.unit off s.size inb, w⟩]) = w := by
  have hc : ∀ y : s.Idx, y ∈ (Rect.unit off s.size inb).set := fun y => by
    rw [Rect.mem_set_unit, h]
    exact fun a => ⟨Nat.zero_le _, by simpa using (y a).isLt⟩
  rw [View.read_writes_eq_canon v f _ fun y => ⟨_, List.mem_singleton_self _, hc y⟩]
  exact View.canon_unit_zero h inb w

/-- The gates' block, from the blocks of the rows, the norm's weights, the gates' columns and the two vectors. -/
def gates (X : Vec F S512x2048 .f32) (N : Vec F S1x2048 .f32) (W : Vec F S2048x128 .bf16) (al dt : Vec F S1x128 .f32) : Vec F S512x128 .f32 :=
  k0_pay1 (k0_pay5 X N W) (iota .tc S512x128 32 [1] iota_S512x128_d1_w32) (k0_pay6 X N W) (k0_pay7 al) (k0_pay8 dt)

/-- The normalised rows that point `i` works with. -/
def keep (i : grid0.Coords) (X : Vec F S512x2048 .f32) (N : Vec F S1x2048 .f32) (g : S512x2048.Idx → Elt F .bf16) : S512x2048.Idx → Elt F .bf16 :=
  if k0_cond1 i = 1#1 then k0_pay4 X N else g

/-- A load of the whole shape reads the contents. -/
theorem loaded {σ : RefSig} {sp : Space} {s : Shape} {e : EltTy} (v : View σ .tc sp s e) (f : v.ty.Contents (Elt F)) {off : Fin s.rank → ℕ} (h : off = fun _ => 0)
    (inb : ∀ a, off a + s.size a ≤ s.size a) : View.readAt (Elt F) v (Rect.unit off s.size inb).toLoadRect f = v.read (Elt F) f := by
  rw [View.readAt_eq_ld, View.ld_unit_zero (S := s) h]

theorem loadedH (g : S512x2048.Idx → Elt F .bf16) (inb : ∀ a, (![0, 0] : Fin 2 → ℕ) a + S512x2048.size a ≤ S512x2048.size a) :
    View.readAt (Elt F) hM.view (Rect.unit (s := S512x2048) ![0, 0] S512x2048.size inb).toLoadRect g = g :=
  (loaded hM.view g hz2 inb).trans (View.read_whole cc0_scratch0 g)

theorem kept (i : grid0.Coords) (a2 : Memref sig .tc .vmem S512x2048 .f32) (a3 : Memref sig .tc .vmem S1x2048 .f32) (f2 : a2.view.ty.Contents (Elt F))
    (f3 : a3.view.ty.Contents (Elt F)) (g : S512x2048.Idx → Elt F .bf16) :
    (if hc : k0_cond1 i = 1#1 then hM.view.writes (Elt F) g [⟨Rect.unit ![0, 0] S512x2048.size inb_S512x2048_S512x2048_0_0,
      k0_pay4 (View.readAt (Elt F) a2.view (Rect.unit ![0, 0] S512x2048.size inb_S512x2048_S512x2048_0_0).toLoadRect f2)
        (View.readAt (Elt F) a3.view (Rect.unit ![0, 0] S1x2048.size inb_S1x2048_S1x2048_0_0).toLoadRect f3)⟩] else g)
      = keep i (a2.view.read (Elt F) f2) (a3.view.read (Elt F) f3) g := by
  unfold keep
  by_cases hb : k0_cond1 i = 1#1
  · rw [dif_pos hb, if_pos hb, loaded a2.view f2 hz2, loaded a3.view f3 hz2]
    exact (View.read_whole cc0_scratch0 _).symm.trans (stored hM.view g hz2 _ _)
  · rw [dif_neg hb, if_neg hb]

theorem left (b : BitVec 1) (a2 : Memref sig .tc .vmem S512x2048 .f32) (a3 : Memref sig .tc .vmem S1x2048 .f32) (a5 : Memref sig .tc .vmem S2048x128 .bf16)
    (a6 a7 : Memref sig .tc .vmem S1x128 .f32) (a9 : Memref sig .tc .vmem S512x128 .f32) (f2 : a2.view.ty.Contents (Elt F)) (f3 : a3.view.ty.Contents (Elt F))
    (f5 : a5.view.ty.Contents (Elt F)) (f6 : a6.view.ty.Contents (Elt F)) (f7 : a7.view.ty.Contents (Elt F)) (f9 : a9.view.ty.Contents (Elt F)) :
    a9.view.read (Elt F) (if hc : b = 1#1 then a9.view.writes (Elt F) f9 [⟨Rect.unit ![0, 0] S512x128.size inb_S512x128_S512x128_0_0,
      gates (View.readAt (Elt F) a2.view (Rect.unit ![0, 0] S512x2048.size inb_S512x2048_S512x2048_0_0).toLoadRect f2)
        (View.readAt (Elt F) a3.view (Rect.unit ![0, 0] S1x2048.size inb_S1x2048_S1x2048_0_0).toLoadRect f3)
        (View.readAt (Elt F) a5.view (Rect.unit ![0, 0] S2048x128.size inb_S2048x128_S2048x128_0_0).toLoadRect f5)
        (View.readAt (Elt F) a6.view (Rect.unit ![0, 0] S1x128.size inb_S1x128_S1x128_0_0).toLoadRect f6)
        (View.readAt (Elt F) a7.view (Rect.unit ![0, 0] S1x128.size inb_S1x128_S1x128_0_0).toLoadRect f7)⟩] else f9)
      = if b = 1#1 then gates (a2.view.read (Elt F) f2) (a3.view.read (Elt F) f3) (a5.view.read (Elt F) f5) (a6.view.read (Elt F) f6) (a7.view.read (Elt F) f7)
        else a9.view.read (Elt F) f9 := by
  by_cases hb : b = 1#1
  · rw [dif_pos hb, if_pos hb, loaded a2.view f2 hz2, loaded a3.view f3 hz2, loaded a5.view f5 hz2, loaded a6.view f6 hz2, loaded a7.view f7 hz2]
    exact stored a9.view f9 hz2 _ _
  · rw [dif_neg hb, if_neg hb]

theorem body_triple (c : Dev nD) (i : grid0.Coords)
    (a2 : Memref sig .tc .vmem S512x2048 .f32) (h2 : a2.IsWhole) (a3 : Memref sig .tc .vmem S1x2048 .f32) (h3 : a3.IsWhole)
    (a4 : Memref sig .tc .vmem S2048x1024 .bf16) (h4 : a4.IsWhole) (a5 : Memref sig .tc .vmem S2048x128 .bf16) (h5 : a5.IsWhole)
    (a6 : Memref sig .tc .vmem S1x128 .f32) (h6 : a6.IsWhole) (a7 : Memref sig .tc .vmem S1x128 .f32) (h7 : a7.IsWhole)
    (a8 : Memref sig .tc .vmem S1x512x1024 .bf16) (h8 : a8.IsWhole) (a9 : Memref sig .tc .vmem S512x128 .f32) (h9 : a9.IsWhole)
    (f2 : Buf (Elt F) (a2.view.loc (c : Thread nD τ))) (f3 : Buf (Elt F) (a3.view.loc (c : Thread nD τ))) (f4 : Buf (Elt F) (a4.view.loc (c : Thread nD τ)))
    (f5 : Buf (Elt F) (a5.view.loc (c : Thread nD τ))) (f6 : Buf (Elt F) (a6.view.loc (c : Thread nD τ))) (f7 : Buf (Elt F) (a7.view.loc (c : Thread nD τ)))
    (f8 : Buf (Elt F) (a8.view.loc (c : Thread nD τ))) (f9 : Buf (Elt F) (a9.view.loc (c : Thread nD τ)))
    (g : S512x2048.Idx → Elt F .bf16) :
    (iprop((a2.view.loc (c : Thread nD τ) ↦[a2.view.set]{fullShare} f2) ∗ (a3.view.loc (c : Thread nD τ) ↦[a3.view.set]{fullShare} f3)
      ∗ (a4.view.loc (c : Thread nD τ) ↦[a4.view.set]{fullShare} f4) ∗ (a5.view.loc (c : Thread nD τ) ↦[a5.view.set]{fullShare} f5)
      ∗ (a6.view.loc (c : Thread nD τ) ↦[a6.view.set]{fullShare} f6) ∗ (a7.view.loc (c : Thread nD τ) ↦[a7.view.set]{fullShare} f7)
      ∗ (a8.view.loc (c : Thread nD τ) ↦[a8.view.set]{fullShare} f8) ∗ (a9.view.loc (c : Thread nD τ) ↦[a9.view.set]{fullShare} f9)
      ∗ (hM.view.loc (c : Thread nD τ) ↦{fullShare} g)) : sProp 𝕄)
    ⊢ wp frame (wpE (defs₀ (F := F)) Variants.none c none) Set.univ
        (cc0_in_proj (F := F) i a2 h2 a3 h3 a4 h4 a5 h5 a6 h6 a7 h7 a8 h8 a9 h9 hM (Memref.isWhole_whole _)) fun _ =>
      iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (∃ f, ⌜a8.view.read (Elt F) f = k0_pay2 (keep i (a2.view.read (Elt F) f2) (a3.view.read (Elt F) f3) g) (a4.view.read (Elt F) f4)⌝
            ∗ (a8.view.loc (c : Thread nD τ) ↦[a8.view.set]{fullShare} f))
        ∗ (∃ f, ⌜a9.view.read (Elt F) f = if k0_cond1 i = 1#1 then gates (a2.view.read (Elt F) f2) (a3.view.read (Elt F) f3) (a5.view.read (Elt F) f5)
              (a6.view.read (Elt F) f6) (a7.view.read (Elt F) f7) else a9.view.read (Elt F) f9⌝
            ∗ (a9.view.loc (c : Thread nD τ) ↦[a9.view.set]{fullShare} f))
        ∗ (hM.view.loc (c : Thread nD τ) ↦{fullShare} keep i (a2.view.read (Elt F) f2) (a3.view.read (Elt F) f3) g)) := by
  rw [cc0_in_proj_eq_skeleton]
  unfold cc0_in_proj_skel
  rw [k0_part1_eq_skeleton]
  unfold k0_part1_skel
  iintro ⟨H2, H3, H4, H5, H6, H7, H8, H9, Hs⟩
  sl_exec
  sl_step
  sl_unfold_words
  rw [kept, loadedH, loaded a4.view f4 hz2]
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    · ipureintro
      exact stored a8.view f8 hz3 inb_S1x512x1024_S1x512x1024_0_0_0 _
    · iexact H8
  isplitl [H9]
  · iexists _
    isplitr
    · ipureintro
      exact left (k0_cond1 i) a2 a3 a5 a6 a7 a9 f2 f3 f5 f6 f7 f9
    · iexact H9
  iexact Hs

end Cert.InProjIdeal.Hand

end
-- ==== Proof.InRun.lean ====
/-
  The run of the projections: the arguments unchanged, the cells at zero, the two results block by block.
-/
module

public import proofs.«01_k».proof.Proof.InBody
public import Idealize.ShloMosaic.Lib.Pipeline.TableIdle
public import Idealize.ShloMosaic.Lib.Pipeline.Value
public import Idealize.ShloMosaic.Lib.Pointwise
public import Idealize.ShloMosaic.Init

@[expose] public section

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The logic the proof runs in. -/
local notation "𝕄" => MT nD τ sig Unit (Elt F) ℕ (UR sig nD τ) ℕ

/-! ## The grid: rows outside, columns inside -/

theorem coord0 : ∀ t : Fin grid0.N, (grid0.coords t 0).val = t.val / 6 := by decide
theorem coord1 : ∀ t : Fin grid0.N, (grid0.coords t 1).val = t.val % 6 := by decide
theorem first_iff : ∀ t : Fin grid0.N, k0_cond1 (grid0.coords t) = 1#1 ↔ t.val % 6 = 0 := by decide
theorem rows_at : ∀ t : Fin grid0.N, cc0_transform_0 (grid0.coords t) = ![t.val / 6, 0] := by decide
theorem gates_at : ∀ t : Fin grid0.N, cc0_transform_7 (grid0.coords t) = ![t.val / 6, 0] := by decide
theorem cols_at : ∀ t : Fin grid0.N, cc0_transform_2 (grid0.coords t) = ![0, t.val % 6] := by decide
theorem outs_at : ∀ t : Fin grid0.N, cc0_transform_6 (grid0.coords t) = ![t.val % 6, t.val / 6, 0] := by decide

theorem idle_eq (t : Fin grid0.N) : idle0 7 (grid0.coords t) = !decide (t.val % 6 = 0) := by
  show (!(k0_cond1 (grid0.coords t) == 1#1)) = _
  rw [show (k0_cond1 (grid0.coords t) == 1#1) = decide (k0_cond1 (grid0.coords t) = 1#1) from rfl, decide_eq_decide.mpr (first_iff t)]

theorem flush6 (t : Fin cfg0.N) : (cfg0.win 6).flush t = true := by
  rw [Window.flush_eq_flushOf]
  show (true && (decide (t.val + 1 = grid0.N) || decide (∃ h : t.val + 1 < grid0.N, cc0_transform_6 (grid0.coords ⟨t.val + 1, h⟩) ≠ cc0_transform_6 (grid0.coords t)))) = true
  rw [Bool.true_and, Bool.or_eq_true, decide_eq_true_eq, decide_eq_true_eq]
  by_cases h : t.val + 1 = grid0.N
  · exact Or.inl h
  · have ht : t.val < grid0.N := t.isLt
    refine Or.inr ⟨by omega, fun he => ?_⟩
    rw [outs_at, outs_at] at he
    have h0 : (t.val + 1) % 6 = t.val % 6 := congrFun he 0
    omega

theorem flush7 (t : Fin cfg0.N) : (cfg0.win 7).flush t = decide (t.val % 6 = 5) := by
  rw [Window.flush_eq_flushOf]
  show (true && (decide (t.val + 1 = grid0.N) || decide (∃ h : t.val + 1 < grid0.N, cc0_transform_7 (grid0.coords ⟨t.val + 1, h⟩) ≠ cc0_transform_7 (grid0.coords t)))) = _
  rw [Bool.true_and]
  have ht : t.val < grid0.N := t.isLt
  have hN : grid0.N = 192 := N_0
  rw [Bool.eq_iff_iff, Bool.or_eq_true, decide_eq_true_eq, decide_eq_true_eq, decide_eq_true_eq]
  constructor
  · rintro (h | ⟨h, hne⟩)
    · omega
    · rw [gates_at, gates_at] at hne
      by_contra h5
      exact hne (by
        show ![(t.val + 1) / 6, 0] = ![t.val / 6, 0]
        rw [show (t.val + 1) / 6 = t.val / 6 by omega])
  · intro h5
    by_cases h : t.val + 1 = grid0.N
    · exact Or.inl h
    · refine Or.inr ⟨by omega, fun he => ?_⟩
      rw [gates_at, gates_at] at he
      have h0 : (t.val + 1) / 6 = t.val / 6 := congrFun he 0
      omega

theorem fresh7 (t : Fin cfg0.N) : cfg0.fresh 7 t.val = decide (t.val % 6 = 0) :=
  Cfg.fresh_tab cfg0 7 (fun n => decide (n % 6 = 0)) rfl (fun t => by
    rw [flush7, show cfg0.idle 7 (cfg0.grid.coords t) = idle0 7 (grid0.coords t) from rfl, idle_eq]
    show decide ((t.val + 1) % 6 = 0) = _
    rw [Bool.not_and_self, Bool.or_false]
    exact decide_eq_decide.mpr (by omega)) t.val (Nat.le_of_lt t.isLt)

/-! ## What the buffers hold when the region starts -/

abbrev prepared : List (List (HloOp τ sig (Elt F))) := [hostOps0, hostOps0_1, hostOps0_2]

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

variable (V : (c : Dev nD) → (b : Ref sig .tc) → Buf (Elt F) ((c : Thread nD τ).loc b))

/-- The blocks staged at point `t`. -/
abbrev xB (c : Dev nD) (t : Fin grid0.N) : Vec F S512x2048 .f32 := ((cfg0.win 0).blk t).view.read (Elt F) (V c main_v0)
abbrev nB (c : Dev nD) (t : Fin grid0.N) : Vec F S1x2048 .f32 := ((cfg0.win 1).blk t).view.read (Elt F) (V c main_v22)
abbrev wB (c : Dev nD) (t : Fin grid0.N) : Vec F S2048x1024 .bf16 := ((cfg0.win 2).blk t).view.read (Elt F) (V c main_v5)
abbrev baB (c : Dev nD) (t : Fin grid0.N) : Vec F S2048x128 .bf16 := ((cfg0.win 3).blk t).view.read (Elt F) (V c main_v8)
abbrev alB (c : Dev nD) (t : Fin grid0.N) : Vec F S1x128 .f32 := ((cfg0.win 4).blk t).view.read (Elt F) (V c main_v14)
abbrev dtB (c : Dev nD) (t : Fin grid0.N) : Vec F S1x128 .f32 := ((cfg0.win 5).blk t).view.read (Elt F) (V c main_v20)

/-- The normalised rows at point `t`, and what the point leaves of the products and of the gates. -/
def rowsB (c : Dev nD) (t : Fin grid0.N) : Vec F S512x2048 .bf16 := k0_pay4 (xB V c t) (nB V c t)
def prodB (c : Dev nD) (t : Fin grid0.N) : Vec F S1x512x1024 .bf16 := k0_pay2 (rowsB V c t) (wB V c t)
def gateB (c : Dev nD) (t : Fin grid0.N) : Vec F S512x128 .f32 := gates (xB V c t) (nB V c t) (baB V c t) (alB V c t) (dtB V c t)

def Phi (c : Dev nD) (t : ℕ) : sProp 𝕄 :=
  iprop((∃ g, ⌜∀ t' : Fin grid0.N, t'.val + 1 = t → g = rowsB V c t'⌝ ∗ (hM.view.loc (c : Thread nD τ) ↦{fullShare} g)) ∗ (∃ r, prngReg c r))

/-- The proof data of the pipeline on core `c`. -/
def dats (p : Fin 1) (c : Dev nD) : Dat τ (Elt F) Unit ℕ (UR sig nD τ) ℕ (cfgs p) c where
  A w := V c (Pipeline.arrRef spec0 w)
  after w t := match w with
    | ⟨0, _⟩ => xB V c t
    | ⟨1, _⟩ => nB V c t
    | ⟨2, _⟩ => wB V c t
    | ⟨3, _⟩ => baB V c t
    | ⟨4, _⟩ => alB V c t
    | ⟨5, _⟩ => dtB V c t
    | ⟨6, _⟩ => prodB V c t
    | ⟨7, _⟩ => gateB V c t
    | ⟨_ + 8, h⟩ => absurd h (Nat.not_lt.2 (Nat.le_add_left _ _))
  Φ t := Phi V c t.val
  q _ := fullShare
  owed _ := 0

theorem before0 (c : Dev nD) (t : Fin grid0.N) (d) : (dats V 0 c).before 0 t d = xB V c t :=
  (dats V 0 c).before_in_eq_fetched 0 rfl (fun _ => rfl) (fun _ _ _ => rfl) (fun _ => rfl) t d
theorem before1 (c : Dev nD) (t : Fin grid0.N) (d) : (dats V 0 c).before 1 t d = nB V c t :=
  (dats V 0 c).before_in_eq_fetched 1 rfl (fun _ => rfl) (fun _ _ _ => rfl) (fun _ => rfl) t d
theorem before2 (c : Dev nD) (t : Fin grid0.N) (d) : (dats V 0 c).before 2 t d = wB V c t :=
  (dats V 0 c).before_in_eq_fetched 2 rfl (fun _ => rfl) (fun _ _ _ => rfl) (fun _ => rfl) t d
theorem before3 (c : Dev nD) (t : Fin grid0.N) (d) : (dats V 0 c).before 3 t d = baB V c t :=
  (dats V 0 c).before_in_eq_fetched 3 rfl (fun _ => rfl) (fun _ _ _ => rfl) (fun _ => rfl) t d
theorem before4 (c : Dev nD) (t : Fin grid0.N) (d) : (dats V 0 c).before 4 t d = alB V c t :=
  (dats V 0 c).before_in_eq_fetched 4 rfl (fun _ => rfl) (fun _ _ _ => rfl) (fun _ => rfl) t d
theorem before5 (c : Dev nD) (t : Fin grid0.N) (d) : (dats V 0 c).before 5 t d = dtB V c t :=
  (dats V 0 c).before_in_eq_fetched 5 rfl (fun _ => rfl) (fun _ _ _ => rfl) (fun _ => rfl) t d

/-- Two points of one block of rows work with the same rows and leave the same gates. -/
theorem same_row (c : Dev nD) (t t' : Fin grid0.N) (h : t.val / 6 = t'.val / 6) : rowsB V c t = rowsB V c t' ∧ gateB V c t = gateB V c t' := by
  have e0 : xB V c t = xB V c t' := (dats V 0 c).fetched_congr 0 (t := t) (t' := t')
    ((rows_at t).trans ((congrArg (fun n : ℕ => (![n, 0] : Fin 2 → ℕ)) h).trans (rows_at t').symm)) rfl (fun _ => default)
  unfold rowsB gateB
  rw [e0]
  exact ⟨rfl, rfl⟩

theorem before7 (c : Dev nD) (t : Fin grid0.N) (h : t.val % 6 ≠ 0) (d) : (dats V 0 c).before 7 t d = gateB V c t := by
  have hback : ∀ t : Fin grid0.N, t.val % 6 ≠ 0 → gateB V c t = gateB V c ⟨t.val - 1, by omega⟩ := fun t h =>
    (same_row V c t _ (by show t.val / 6 = (t.val - 1) / 6; omega)).2
  rw [(dats V 0 c).before_out_traj 7 rfl (fun _ _ => rfl) (fun t h0 hi _ => by
    rw [show cfg0.idle 7 (cfg0.grid.coords t) = idle0 7 (grid0.coords t) from rfl, idle_eq] at hi
    exact hback t (by simpa using hi)) t.val t rfl d, fresh7, decide_eq_false h]
  exact (hback t h).symm

/-- The rows the body multiplies at point `t` are those of its own block. -/
theorem keep_eq (c : Dev nD) (t : Fin grid0.N) (g : S512x2048.Idx → Elt F .bf16) (hg : ∀ t' : Fin grid0.N, t'.val + 1 = t.val → g = rowsB V c t') :
    keep (grid0.coords t) (xB V c t) (nB V c t) g = rowsB V c t := by
  unfold keep
  by_cases h : k0_cond1 (grid0.coords t) = 1#1
  · rw [if_pos h]; rfl
  · rw [if_neg h]
    rw [first_iff] at h
    have ht := t.isLt
    rw [hg ⟨t.val - 1, by omega⟩ (by show t.val - 1 + 1 = t.val; omega)]
    exact (same_row V c _ t (by show (t.val - 1) / 6 = t.val / 6; omega)).1

/-- The memrefs the blocks are staged in at point `t`. -/
abbrev st0 (t : Fin grid0.N) : Memref sig .tc .vmem S512x2048 .f32 := (cfg0.win 0).stage (cfg0.slots t 0)
abbrev st1 (t : Fin grid0.N) : Memref sig .tc .vmem S1x2048 .f32 := (cfg0.win 1).stage (cfg0.slots t 1)
abbrev st2 (t : Fin grid0.N) : Memref sig .tc .vmem S2048x1024 .bf16 := (cfg0.win 2).stage (cfg0.slots t 2)
abbrev st3 (t : Fin grid0.N) : Memref sig .tc .vmem S2048x128 .bf16 := (cfg0.win 3).stage (cfg0.slots t 3)
abbrev st4 (t : Fin grid0.N) : Memref sig .tc .vmem S1x128 .f32 := (cfg0.win 4).stage (cfg0.slots t 4)
abbrev st5 (t : Fin grid0.N) : Memref sig .tc .vmem S1x128 .f32 := (cfg0.win 5).stage (cfg0.slots t 5)
abbrev st6 (t : Fin grid0.N) : Memref sig .tc .vmem S1x512x1024 .bf16 := (cfg0.win 6).stage (cfg0.slots t 6)
abbrev st7 (t : Fin grid0.N) : Memref sig .tc .vmem S512x128 .f32 := (cfg0.win 7).stage (cfg0.slots t 7)

/-- The body at point `t`. -/
abbrev bodyAt (t : Fin grid0.N) :=
  cc0_in_proj (F := F) (grid0.coords t) (st0 t) (hstage0_0 ((cfg0.slots t 0).cast nbuf0_0)) (st1 t) (hstage0_1 ((cfg0.slots t 1).cast nbuf0_1))
    (st2 t) (hstage0_2 ((cfg0.slots t 2).cast nbuf0_2)) (st3 t) (hstage0_3 ((cfg0.slots t 3).cast nbuf0_3))
    (st4 t) (hstage0_4 ((cfg0.slots t 4).cast nbuf0_4)) (st5 t) (hstage0_5 ((cfg0.slots t 5).cast nbuf0_5))
    (st6 t) (hstage0_6 ((cfg0.slots t 6).cast nbuf0_6)) (st7 t) (hstage0_7 ((cfg0.slots t 7).cast nbuf0_7)) hM (Memref.isWhole_whole _)

/-- What the obligation asks of the gates' buffer after point `t`. -/
def leave7 (c : Dev nD) (t : Fin grid0.N) : sProp 𝕄 :=
  match cfg0.idle 7 (cfg0.grid.coords t) with
  | true =>
    match (cfg0.win 7).flush t with
    | false => iprop(∃ d, owns (c : Thread nD τ) (st7 t) fullShare ((dats V 0 c).before 7 t d))
    | true => owns (c : Thread nD τ) (st7 t) fullShare ((dats V 0 c).after 7 t)
  | false => owns (c : Thread nD τ) (st7 t) fullShare ((dats V 0 c).after 7 t)

theorem leave7_of (c : Dev nD) (t : Fin grid0.N) : (owns (c : Thread nD τ) (st7 t) fullShare (gateB V c t) : sProp 𝕄) ⊢ leave7 V c t := by
  unfold leave7
  rw [show cfg0.idle 7 (cfg0.grid.coords t) = idle0 7 (grid0.coords t) from rfl, idle_eq]
  by_cases h : t.val % 6 = 0
  · rw [decide_eq_true h]; exact .rfl
  · rw [decide_eq_false h]
    cases (cfg0.win 7).flush t
    · show _ ⊢ iprop(∃ d, owns (c : Thread nD τ) (st7 t) fullShare ((dats V 0 c).before 7 t d))
      iintro H
      iexists gateB V c t
      rw [before7 V c t h]
      iexact H
    · exact .rfl

def bodyPre (c : Dev nD) (t : Fin grid0.N) : sProp 𝕄 :=
  iprop((dats V 0 c).Φ t.castSucc ∗ (dats V 0 c).owesAt () t.castSucc
    ∗ (∃ d, owns (c : Thread nD τ) (st0 t) fullShare ((dats V 0 c).before 0 t d))
    ∗ (∃ d, owns (c : Thread nD τ) (st1 t) fullShare ((dats V 0 c).before 1 t d))
    ∗ (∃ d, owns (c : Thread nD τ) (st2 t) fullShare ((dats V 0 c).before 2 t d))
    ∗ (∃ d, owns (c : Thread nD τ) (st3 t) fullShare ((dats V 0 c).before 3 t d))
    ∗ (∃ d, owns (c : Thread nD τ) (st4 t) fullShare ((dats V 0 c).before 4 t d))
    ∗ (∃ d, owns (c : Thread nD τ) (st5 t) fullShare ((dats V 0 c).before 5 t d))
    ∗ (∃ d, owns (c : Thread nD τ) (st6 t) fullShare ((dats V 0 c).before 6 t d))
    ∗ (∃ d, owns (c : Thread nD τ) (st7 t) fullShare ((dats V 0 c).before 7 t d)))
def bodyPost (c : Dev nD) (t : Fin grid0.N) : sProp 𝕄 :=
  iprop((dats V 0 c).Φ t.succ ∗ (dats V 0 c).owesAt () t.succ
    ∗ owns (c : Thread nD τ) (st0 t) fullShare ((dats V 0 c).after 0 t)
    ∗ owns (c : Thread nD τ) (st1 t) fullShare ((dats V 0 c).after 1 t)
    ∗ owns (c : Thread nD τ) (st2 t) fullShare ((dats V 0 c).after 2 t)
    ∗ owns (c : Thread nD τ) (st3 t) fullShare ((dats V 0 c).after 3 t)
    ∗ owns (c : Thread nD τ) (st4 t) fullShare ((dats V 0 c).after 4 t)
    ∗ owns (c : Thread nD τ) (st5 t) fullShare ((dats V 0 c).after 5 t)
    ∗ owns (c : Thread nD τ) (st6 t) fullShare ((dats V 0 c).after 6 t)
    ∗ leave7 V c t)

/-- The gates at point `t`: computed at the first column block, found and left at the others. -/
theorem gates_left (c : Dev nD) (t : Fin grid0.N) (old : Vec F S512x128 .f32) (d) (ho : old = (dats V 0 c).before 7 t d) :
    (if k0_cond1 (grid0.coords t) = 1#1 then gates (xB V c t) (nB V c t) (baB V c t) (alB V c t) (dtB V c t) else old) = gateB V c t := by
  by_cases h : k0_cond1 (grid0.coords t) = 1#1
  · rw [if_pos h]; rfl
  · rw [if_neg h, ho]
    rw [first_iff] at h
    exact before7 V c t h d

theorem sound_body (c : Dev nD) (t : Fin grid0.N) :
    bodyPre V c t ⊢ wp frame (wpE (defs₀ (F := F)) Variants.none c none) Set.univ (bodyAt t) (fun _ => bodyPost V c t) := by
  unfold bodyPre
  rw [show (dats V 0 c).Φ t.castSucc = Phi V c t.val from rfl]
  unfold Phi owns
  iintro ⟨⟨⟨%g, %hg, Hs⟩, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩, ⟨%d7, %f7, %h7, H7⟩⟩
  rw [before0] at h0
  rw [before1] at h1
  rw [before2] at h2
  rw [before3] at h3
  rw [before4] at h4
  rw [before5] at h5
  have hT := body_triple c (grid0.coords t) (st0 t) (hstage0_0 ((cfg0.slots t 0).cast nbuf0_0)) (st1 t) (hstage0_1 ((cfg0.slots t 1).cast nbuf0_1))
    (st2 t) (hstage0_2 ((cfg0.slots t 2).cast nbuf0_2)) (st3 t) (hstage0_3 ((cfg0.slots t 3).cast nbuf0_3))
    (st4 t) (hstage0_4 ((cfg0.slots t 4).cast nbuf0_4)) (st5 t) (hstage0_5 ((cfg0.slots t 5).cast nbuf0_5))
    (st6 t) (hstage0_6 ((cfg0.slots t 6).cast nbuf0_6)) (st7 t) (hstage0_7 ((cfg0.slots t 7).cast nbuf0_7)) f0 f1 f2 f3 f4 f5 f6 f7 g
  rw [h0, h1, h2, h3, h4, h5, keep_eq V c t g hg, gates_left V c t _ d7 h7] at hT
  iapply ((BIClass.sep_mono hT .rfl).trans (wp_wand_r _ _ _)) $$ [-]
  isplitl [H0 H1 H2 H3 H4 H5 H6 H7 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs
  iintro %u ⟨H0, H1, H2, H3, H4, H5, ⟨%f, %hf, H6⟩, ⟨%f', %hf', H7⟩, Hs⟩
  unfold bodyPost
  rw [show (dats V 0 c).Φ t.succ = Phi V c (t.val + 1) from rfl]
  unfold Phi
  isplitl [Hs Hr]
  · isplitl [Hs]
    · iexists rowsB V c t
      isplitr
      · ipureintro
        intro t' ht'
        rw [show t' = t from Fin.ext (by omega)]
      iexact Hs
    iexact Hr
  isplitl [HO]; · iexact HO
  isplitl [H0]
  · unfold owns; iexists f0
    isplitr; · ipureintro; exact h0
    iexact H0
  isplitl [H1]
  · unfold owns; iexists f1
    isplitr; · ipureintro; exact h1
    iexact H1
  isplitl [H2]
  · unfold owns; iexists f2
    isplitr; · ipureintro; exact h2
    iexact H2
  isplitl [H3]
  · unfold owns; iexists f3
    isplitr; · ipureintro; exact h3
    iexact H3
  isplitl [H4]
  · unfold owns; iexists f4
    isplitr; · ipureintro; exact h4
    iexact H4
  isplitl [H5]
  · unfold owns; iexists f5
    isplitr; · ipureintro; exact h5
    iexact H5
  isplitl [H6]
  · unfold owns; iexists f
    isplitr; · ipureintro; exact hf
    iexact H6
  iapply (leave7_of V c t)
  unfold owns
  iexists f'
  isplitr; · ipureintro; exact hf'
  iexact H7

theorem defs₀_row (t : Fin grid0.N) : defs₀ (F := F) .tc cfg0.body (cfg0.bodyArgs t (cfg0.slots t)) = bodyAt t := by
  unfold defs₀; rw [Defs.onTc_tc]

theorem body_obligation (c : Dev nD) : BodyObligation (dats V 0 c) (defs₀ (F := F)) Variants.none () Set.univ := fun t => by
  rw [bigSep_W0, bigSep_W0, defs₀_row]
  exact triple_restated (sound_body V c t) rfl .rfl fun _ => .rfl

theorem enter (c : Dev nD) : (Pipeline.ΦA spec0 c : sProp 𝕄) ⊢ Phi V c 0 := by
  unfold Pipeline.ΦA Phi
  rw [scopedRest0_eq]
  iintro ⟨⟨%g, H⟩, Hr⟩
  isplitl [H]
  · iexists g
    isplitr; · ipureintro; exact fun t' h => absurd h (Nat.succ_ne_zero _)
    iexact H
  iexact Hr

theorem exit (c : Dev nD) (t : ℕ) : (Phi V c t : sProp 𝕄) ⊢ Pipeline.ΦA spec0 c := by
  unfold Pipeline.ΦA Phi
  rw [scopedRest0_eq]
  iintro ⟨⟨%g, -, H⟩, Hr⟩
  isplitl [H]; · iexists g; iexact H
  iexact Hr

/-! ## The results' arrays, block by block -/

/-- The point whose products hold an entry, and the last point of a row's block. -/
def pointP (z : S6x16384x1024.Idx) : Fin grid0.N := ⟨(z 1).val / 512 * 6 + (z 0).val, by
  have h0 : (z 0).val < 6 := (z 0).isLt
  have h1 : (z 1).val < 16384 := (z 1).isLt
  rw [N_0]
  omega⟩
def pointG (z : S16384x128.Idx) : Fin grid0.N := ⟨(z 0).val / 512 * 6 + 5, by
  have h : (z 0).val < 16384 := (z 0).isLt
  rw [N_0]
  omega⟩
def products (c : Dev nD) : S6x16384x1024.Idx → Elt F .bf16 := fun z =>
  prodB V c (pointP z) (ix3 (0 : Fin 1) (⟨(z 1).val % 512, Nat.mod_lt _ (by decide)⟩ : Fin 512) (⟨(z 2).val, (z 2).isLt⟩ : Fin 1024))
def gated (c : Dev nD) : S16384x128.Idx → Elt F .f32 := fun z =>
  gateB V c (pointG z) (ix2 (⟨(z 0).val % 512, Nat.mod_lt _ (by decide)⟩ : Fin 512) (⟨(z 1).val, (z 1).isLt⟩ : Fin 128))

theorem flushed6 (c : Dev nD) (t : Fin grid0.N) : (dats V 0 c).flushed 6 t = ((cfg0.win 6).blk t).view.read (Elt F) (products V c) := by
  show prodB V c t = _
  funext y
  have hy0 : (y 0).val < 1 := (y 0).isLt
  have hy1 : (y 1).val < 512 := (y 1).isLt
  have hi := outs_at t
  let z : S6x16384x1024.Idx := ((cfg0.win 6).rect t).emb y
  have e0 : (z 0).val = t.val % 6 := by
    show cc0_transform_6 (grid0.coords t) 0 * 1 + 1 * (y 0).val = _
    rw [hi]
    show t.val % 6 * 1 + 1 * (y 0).val = _
    omega
  have e1 : (z 1).val = t.val / 6 * 512 + (y 1).val := by
    show cc0_transform_6 (grid0.coords t) 1 * 512 + 1 * (y 1).val = _
    rw [hi]
    show t.val / 6 * 512 + 1 * (y 1).val = _
    omega
  have e2 : (z 2).val = (y 2).val := by
    show cc0_transform_6 (grid0.coords t) 2 * 1024 + 1 * (y 2).val = _
    rw [hi]
    show 0 * 1024 + 1 * (y 2).val = _
    omega
  show prodB V c t y = products V c z
  clear_value z
  unfold products
  rw [show pointP z = t from Fin.ext (by
    show (z 1).val / 512 * 6 + (z 0).val = t.val
    rw [e0, e1]; omega)]
  congr 1
  funext a
  apply Fin.ext
  fin_cases a
  · show (y 0).val = 0
    omega
  · show (y 1).val = (z 1).val % 512
    rw [e1]; omega
  · exact e2.symm

theorem flushed7 (c : Dev nD) (t : Fin grid0.N) (h5 : t.val % 6 = 5) : (dats V 0 c).flushed 7 t = ((cfg0.win 7).blk t).view.read (Elt F) (gated V c) := by
  show gateB V c t = _
  funext y
  have hy0 : (y 0).val < 512 := (y 0).isLt
  have hi := gates_at t
  let z : S16384x128.Idx := ((cfg0.win 7).rect t).emb y
  have e0 : (z 0).val = t.val / 6 * 512 + (y 0).val := by
    show cc0_transform_7 (grid0.coords t) 0 * 512 + 1 * (y 0).val = _
    rw [hi]
    show t.val / 6 * 512 + 1 * (y 0).val = _
    omega
  have e1 : (z 1).val = (y 1).val := by
    show cc0_transform_7 (grid0.coords t) 1 * 128 + 1 * (y 1).val = _
    rw [hi]
    show 0 * 128 + 1 * (y 1).val = _
    omega
  show gateB V c t y = gated V c z
  clear_value z
  unfold gated
  rw [show pointG z = t from Fin.ext (by
    show (z 0).val / 512 * 6 + 5 = t.val
    rw [e0]; omega)]
  congr 1
  funext a
  apply Fin.ext
  fin_cases a
  · show (y 0).val = (z 0).val % 512
    rw [e0]; omega
  · exact e1.symm

theorem covered6 (t : Fin grid0.N) (z : S6x16384x1024.Idx) (h : pointP z = t) : z ∈ ((cfg0.win 6).rect t).set := by
  have h0 : (z 0 : ℕ) < 6 := (z 0).isLt
  have h1 : (z 1 : ℕ) < 16384 := (z 1).isLt
  have h2 : (z 2 : ℕ) < 1024 := (z 2).isLt
  have ht : (z 1 : ℕ) / 512 * 6 + (z 0 : ℕ) = t.val := congrArg Fin.val h
  refine Rect.mem_set_unit.mpr fun a => ?_
  show cc0_transform_6 (grid0.coords t) a * S1x512x1024.size a ≤ (z a : ℕ) ∧ (z a : ℕ) < cc0_transform_6 (grid0.coords t) a * S1x512x1024.size a + S1x512x1024.size a
  rw [outs_at]
  fin_cases a
  · show t.val % 6 * 1 ≤ (z 0 : ℕ) ∧ (z 0 : ℕ) < t.val % 6 * 1 + 1
    omega
  · show t.val / 6 * 512 ≤ (z 1 : ℕ) ∧ (z 1 : ℕ) < t.val / 6 * 512 + 512
    omega
  · show 0 * 1024 ≤ (z 2 : ℕ) ∧ (z 2 : ℕ) < 0 * 1024 + 1024
    omega

theorem covered7 (t : Fin grid0.N) (z : S16384x128.Idx) (h : pointG z = t) : z ∈ ((cfg0.win 7).rect t).set := by
  have h0 : (z 0 : ℕ) < 16384 := (z 0).isLt
  have h1 : (z 1 : ℕ) < 128 := (z 1).isLt
  have ht : (z 0 : ℕ) / 512 * 6 + 5 = t.val := congrArg Fin.val h
  refine Rect.mem_set_unit.mpr fun a => ?_
  show cc0_transform_7 (grid0.coords t) a * S512x128.size a ≤ (z a : ℕ) ∧ (z a : ℕ) < cc0_transform_7 (grid0.coords t) a * S512x128.size a + S512x128.size a
  rw [gates_at]
  fin_cases a
  · show t.val / 6 * 512 ≤ (z 0 : ℕ) ∧ (z 0 : ℕ) < t.val / 6 * 512 + 512
    omega
  · show 0 * 128 ≤ (z 1 : ℕ) ∧ (z 1 : ℕ) < 0 * 128 + 128
    omega

theorem final_products (c : Dev nD) : (dats V 0 c).arrAt 6 cfg0.N = products V c :=
  (dats V 0 c).arrAt_eq_of_cover 6 (products V c) (fun t _ => flushed6 V c t) fun z =>
    ⟨pointP z, flush6 _, (View.set_slice_whole main_v23_0 ((cfg0.win 6).rect (pointP z))).symm ▸ covered6 _ z rfl⟩

theorem final_gated (c : Dev nD) : (dats V 0 c).arrAt 7 cfg0.N = gated V c :=
  (dats V 0 c).arrAt_eq_of_cover 7 (gated V c) (fun t h => flushed7 V c t (by rw [flush7] at h; simpa using h)) fun z =>
    ⟨pointG z, (flush7 _).trans (decide_eq_true (by show ((z 0).val / 512 * 6 + 5) % 6 = 5; omega)),
      (View.set_slice_whole main_v23_1 ((cfg0.win 7).rect (pointG z))).symm ▸ covered7 _ z rfl⟩

/-! ## The run -/

variable (m : (ℓ : Loc nD τ sig) → Buf (Elt F) ℓ) (ρ : Dev nD → PrngReg)

/-- What a buffer of core `c` holds once the arguments are prepared. -/
def at0 (c : Dev nD) (b : Ref sig .tc) : Buf (Elt F) ((c : Thread nD τ).loc b) :=
  StableHlo.after (List.flatten prepared) (fun b => m (c, b)) (Proc.devRef .tc b)

set_option backward.isDefEq.respectTransparency.types false in
theorem run_main :
    θ_run defs (onTc (τ := τ) (main (F := F))) (s₀ m ρ)
      (fun r => Pipeline.FramePost cfgs (dats (at0 m)) 0 (at0 m) r ∧ r.2.sem = fun _ => 0) :=
  Pipeline.θ_run_frame_track (Q' := _) cfgs (dats (at0 m)) (0 : Fin 1) launch0 defs₀ Variants.none m ρ main
    (hbody := fun c => (body_obligation (at0 m) c).loose)
    (hshare := fun c => (dats (at0 m) 0 c).share_full fun _ => rfl) (howed := fun _ _ => rfl) (V := at0 m)
    (hmain := Pipeline.hmain_prefixes cfgs 0 defs₀ Variants.none m main prepared
      ⟨hostOps0_sub, hostOps0_1_sub, hostOps0_2_sub⟩ ⟨fresh0, fresh1, fresh2⟩ main_chain) (hA := fun _ _ => rfl)
    (hin := fun c => enter (at0 m) c) (hout := fun c => exit (at0 m) c _)

/-- Preparing the arguments writes none of them. -/
theorem at0_of (c : Dev nD) (b : Ref sig .tc) (h : (List.flatten (prepared (F := F))).Forall fun op => Proc.devRef .tc b ∉ op.writes) :
    at0 m c b = m ((c : Thread nD τ).loc b) :=
  StableHlo.after_of_forall_not_mem (b := Proc.devRef .tc b) _ _ (List.forall_iff_forall_mem.mp h)

theorem at0_arg0 (c : Dev nD) : at0 m c main_arg0 = m ((c : Thread nD τ).loc main_arg0) :=
  at0_of m c main_arg0 (by
    simp only [prepared, hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide))

theorem at0_arg1 (c : Dev nD) : at0 m c main_arg1 = m ((c : Thread nD τ).loc main_arg1) :=
  at0_of m c main_arg1 (by
    simp only [prepared, hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide))

theorem at0_arg2 (c : Dev nD) : at0 m c main_arg2 = m ((c : Thread nD τ).loc main_arg2) :=
  at0_of m c main_arg2 (by
    simp only [prepared, hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide))

theorem at0_arg3 (c : Dev nD) : at0 m c main_arg3 = m ((c : Thread nD τ).loc main_arg3) :=
  at0_of m c main_arg3 (by
    simp only [prepared, hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide))

theorem at0_arg4 (c : Dev nD) : at0 m c main_arg4 = m ((c : Thread nD τ).loc main_arg4) :=
  at0_of m c main_arg4 (by
    simp only [prepared, hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide))

/-- The arguments at the end, the two results, and the cells. -/
theorem run_frame :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v23_0) = products (at0 m) c
      ∧ r.2.mem ((c.tc : Thread nD τ).loc main_v23_1) = gated (at0 m) c)
      ∧ r.2.sem = fun _ => 0) :=
  (θ_run defs _ _).mono (fun r ⟨h, hs⟩ => ⟨fun c => by
    have rest : ∀ b : Ref sig .tc, b ∈ Pipeline.restRefs sig spec0 → r.2.mem ((c.tc : Thread nD τ).loc b) = at0 m c b := (h c).2
    have arr := (h c).1
    exact ⟨⟨(rest main_arg0 (by decide)).trans (at0_arg0 m c), (rest main_arg1 (by decide)).trans (at0_arg1 m c),
      (rest main_arg2 (by decide)).trans (at0_arg2 m c), (rest main_arg3 (by decide)).trans (at0_arg3 m c), (rest main_arg4 (by decide)).trans (at0_arg4 m c)⟩,
      (arr (6 : Fin 8)).trans (final_products (at0 m) c), (arr (7 : Fin 8)).trans (final_gated (at0 m) c)⟩, hs⟩) (run_main m ρ)

end Cert.InProjIdeal.Hand

end
-- ==== Proof.InPrep.lean ====
/-
  The projections' arguments as the host prepares them.
-/
module

public import proofs.«01_k».proof.Proof.InRun
public import Idealize.ShloMosaic.Lib.StableHlo.Run

@[expose] public section

noncomputable section

namespace Cert.InProjIdeal.Hand

open Cert.InProjIdeal Cert.InProjIdeal.Gen
open Idealize.ShloMosaic Idealize.ShloMosaic.TcCoe Idealize.ShloMosaic.StableHlo

variable {F : FTy → Type} [FloatOps F]

/-- The six blocks of columns side by side. -/
def wide (w : Vec F S2048x6160 .f32) : Vec F S2048x6144 .bf16 :=
  truncf .bf16 (concatenate S2048x6144 1 [⟨S2048x4096, extractStridedSlice S2048x4096 ![0, 0] w slices_S2048x6160_S2048x4096_0_0⟩,
    ⟨S2048x2048, extractStridedSlice S2048x2048 ![0, 4112] w slices_S2048x6160_S2048x2048_0_4112⟩] concatenates_S2048x4096_S2048x2048_S2048x6144_d1) bitsLt_bf16_f32

/-- The gates' columns, padded to a whole row of lanes. -/
def narrow (w : Vec F S2048x6160 .f32) : Vec F S2048x128 .bf16 :=
  truncf .bf16 (pad S2048x128 ![0, 0] ![0, 112] ![0, 0] (extractStridedSlice S2048x16 ![0, 4096] w slices_S2048x6160_S2048x16_0_4096)
    (sitofp .f32 (constantI S_ 32 0#32)) pads_S2048x16_S2048x128_000_01120 h_S_) bitsLt_bf16_f32

/-- A vector of eight in lanes eight to fifteen of a row of zeros. -/
def lanes (v : Vec F S8 .f32) : Vec F S1x128 .f32 :=
  Host.scatter scatter_S1x128_S2_S8_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 8#32)⟩] concatenates_S1_S1_S2_d0) v

variable (m : (ℓ : Loc nD τ sig) → Buf (Elt F) ℓ) (c : Dev nD)

abbrev argX : Vec F S16384x2048 .f32 := shapeCast S16384x2048 (m ((c : Thread nD τ).loc main_arg0)) shapeCasts_S2x8192x2048_S16384x2048
abbrev argN : Vec F S2048 .f32 := shapeCast S2048 (m ((c : Thread nD τ).loc main_arg1)) shapeCasts_S1x2048_S2048
abbrev argW : Vec F S2048x6160 .f32 := shapeCast S2048x6160 (m ((c : Thread nD τ).loc main_arg2)) shapeCasts_S1x2048x6160_S2048x6160
abbrev argA : Vec F S8 .f32 := shapeCast S8 (m ((c : Thread nD τ).loc main_arg3)) shapeCasts_S1x8_S8
abbrev argD : Vec F S8 .f32 := shapeCast S8 (m ((c : Thread nD τ).loc main_arg4)) shapeCasts_S1x8_S8

theorem at0_x : at0 m c main_v0 = argX m c := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

theorem at0_n : at0 m c main_v22 = broadcastInDim S1x2048 ![1] bcast_S2048_S1x2048_1 (argN m c) := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

theorem at0_w : at0 m c main_v5 = wide (argW m c) := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

theorem at0_ba : at0 m c main_v8 = narrow (argW m c) := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

theorem at0_al : at0 m c main_v14 = lanes (argA m c) := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

theorem at0_dt : at0 m c main_v20 = lanes (argD m c) := by
  unfold at0
  simp only [prepared, hostOps0, hostOps0_1, hostOps0_2, List.flatten_cons, List.flatten_nil, List.append_nil, List.cons_append, List.nil_append,
    TRef.binary, TRef.unary, TRef.toBuf, TRef.ofBuf, cast_eq]
  after_results_simp
  rfl

end Cert.InProjIdeal.Hand

end
-- ==== Proof.InHost.lean ====
/-
  The projections over the ideal values, the kernel's side: what its blocks and its prepared arguments hold at an index.
-/
module

public import proofs.«01_k».proof.Proof.InPrep
public import Idealize.ShloMosaic.Lib.Pointwise
public import Idealize.ShloMosaic.Lib.Routing.OpsSet

@[expose] public section

noncomputable section

namespace Cert.InProjIdeal.Hand

open Cert.InProjIdeal Cert.InProjIdeal.Gen
open Idealize.ShloMosaic Idealize.ShloMosaic.TcCoe Idealize.ShloMosaic.Routing

/-- The factor that scales a row whose squares sum to `s`. -/
def scale (s : EReal) : EReal :=
  Ideal.rsqrt (Ideal.div s (Ideal.ofBits .f32 0x45000000#32) + Ideal.ofBits .f32 0x358637BD#32)

/-- A row normalised and weighed. -/
def rowNorm (x : Fin 2048 → EReal) (n : Fin 2048 → EReal) (k : Fin 2048) : EReal :=
  x k * scale (∑ l : Fin 2048, x l * x l) * n k

/-- A normalised row's product with a column. -/
def proj (x n w : Fin 2048 → EReal) : EReal := ∑ k : Fin 2048, rowNorm x n k * w k

/-- The softplus. -/
def soft (y : EReal) : EReal := max y 0 + Ideal.log1p (Ideal.exp (-FloatOps.absf (F := Ideal) (φ := .f32) y))

/-- The sigma function. -/
def sigma (y : EReal) : EReal := Ideal.div 1 (1 + Ideal.exp (-y))

theorem pay3_at (X : Vec Ideal S512x2048 .f32) (N : Vec Ideal S1x2048 .f32) (r : Fin 512) (k : Fin 2048) :
    k0_pay3 X N (ix2 r k) = rowNorm (fun k => X (ix2 r k)) (fun k => N (ix2 0 k)) k := by
  unfold rowNorm scale
  pointwise [k0_pay3]

theorem pay2_at (H : Vec Ideal S512x2048 .bf16) (W : Vec Ideal S2048x1024 .bf16) (r : Fin 512) (d : Fin 1024) :
    k0_pay2 H W (ix3 0 r d) = ∑ k : Fin 2048, H (ix2 r k) * W (ix2 k d) := by
  pointwise [k0_pay2]

theorem pay4_eq (X : Vec Ideal S512x2048 .f32) (N : Vec Ideal S1x2048 .f32) (r : Fin 512) (k : Fin 2048) :
    k0_pay4 X N (ix2 r k) = k0_pay3 X N (ix2 r k) := by
  pointwise [k0_pay4]

theorem pay5_at (X : Vec Ideal S512x2048 .f32) (N : Vec Ideal S1x2048 .f32) (W : Vec Ideal S2048x128 .bf16) (r : Fin 512) (l : Fin 128) :
    k0_pay5 X N W (ix2 r l) = ∑ k : Fin 2048, k0_pay3 X N (ix2 r k) * W (ix2 k l) := by
  pointwise [k0_pay5]

theorem pay6_at (X : Vec Ideal S512x2048 .f32) (N : Vec Ideal S1x2048 .f32) (W : Vec Ideal S2048x128 .bf16) (r : Fin 512) (l : Fin 128) :
    k0_pay6 X N W (ix2 r l) = sigma (k0_pay5 X N W (ix2 r l)) := by
  unfold sigma
  rw [← zero_sub]
  pointwise [k0_pay6]

theorem pay7_at (al : Vec Ideal S1x128 .f32) (l : Fin 128) : k0_pay7 al (ix2 0 l) = -Ideal.exp (al (ix2 0 l)) := by
  rw [← zero_sub]
  pointwise [k0_pay7]

theorem pay8_at (dt : Vec Ideal S1x128 .f32) (r : Fin 512) (l : Fin 128) : k0_pay8 dt (ix2 r l) = dt (ix2 0 l) := by
  pointwise [k0_pay8]

theorem lane_lt : ∀ l : Fin 128, IntOp.cmpi .slt (BitVec.ofNat 32 l.val) 8#32 = if l.val < 8 then 1#1 else 0#1 := by decide

theorem pay1_at (a : FVec Ideal S512x128 .f32) (b : FVec Ideal S512x128 .f32) (e : FVec Ideal S1x128 .f32) (d : FVec Ideal S512x128 .f32)
    (r : Fin 512) (l : Fin 128) :
    k0_pay1 a (iota .tc S512x128 32 [1] iota_S512x128_d1_w32) b e d (ix2 r l)
      = if l.val < 8 then b (ix2 r l) else e (ix2 0 l) * soft (a (ix2 r l) + d (ix2 r l)) := by
  have h : k0_pay1 a (iota .tc S512x128 32 [1] iota_S512x128_d1_w32) b e d (ix2 r l)
      = Scalar.select (IntOp.cmpi .slt (BitVec.ofNat 32 l.val) 8#32) (b (ix2 r l)) (e (ix2 0 l) * soft (a (ix2 r l) + d (ix2 r l))) := by
    unfold soft
    rw [← zero_sub]
    pointwise [k0_pay1]
  rw [h, lane_lt]
  by_cases hl : l.val < 8
  · rw [if_pos hl, if_pos hl]; rfl
  · rw [if_neg hl, if_neg hl]; rfl

theorem gates_val (X : Vec Ideal S512x2048 .f32) (N : Vec Ideal S1x2048 .f32) (W : Vec Ideal S2048x128 .bf16) (al dt : Vec Ideal S1x128 .f32)
    (r : Fin 512) (l : Fin 128) :
    gates X N W al dt (ix2 r l)
      = if l.val < 8 then sigma (proj (fun k => X (ix2 r k)) (fun k => N (ix2 0 k)) (fun k => W (ix2 k l)))
        else -Ideal.exp (al (ix2 0 l)) * soft (proj (fun k => X (ix2 r k)) (fun k => N (ix2 0 k)) (fun k => W (ix2 k l)) + dt (ix2 0 l)) := by
  have e : k0_pay5 X N W (ix2 r l) = proj (fun k => X (ix2 r k)) (fun k => N (ix2 0 k)) (fun k => W (ix2 k l)) :=
    (pay5_at X N W r l).trans (Finset.sum_congr rfl fun k _ => congrArg (· * W (ix2 k l)) (pay3_at X N r k))
  unfold gates
  rw [pay1_at, pay6_at, pay7_at, pay8_at, e]

/-! ## The prepared arguments -/

theorem wide_at (w : Vec Ideal S2048x6160 .f32) (k : Fin 2048) (j : Fin 6144) (i : Fin 6160)
    (hi : i.val = if j.val < 4096 then j.val else j.val + 16) : wide w (ix2 k j) = w (ix2 k i) := by
  have e : wide w (ix2 k j) = if h : j.val < 4096 then w (ix2 k ⟨j.val, by omega⟩) else w (ix2 k ⟨4112 + (j.val - 4096), by omega⟩) := by
    pointwise [wide]
  rw [e]
  by_cases h : j.val < 4096
  · rw [dif_pos h]
    rw [if_pos h] at hi
    exact congrArg (fun i => w (ix2 k i)) (Fin.ext hi.symm)
  · rw [dif_neg h]
    rw [if_neg h] at hi
    exact congrArg (fun i => w (ix2 k i)) (Fin.ext (by show 4112 + (j.val - 4096) = i.val; omega))

theorem narrow_at (w : Vec Ideal S2048x6160 .f32) (k : Fin 2048) (l : Fin 128) :
    narrow w (ix2 k l) = if h : l.val < 16 then w (ix2 k ⟨4096 + l.val, by omega⟩) else 0 := by
  have e : narrow w (ix2 k l) = if h : l.val < 16 then w (ix2 k ⟨4096 + l.val, by omega⟩) else FloatOps.sitofp (F := Ideal) .f32 (0#32) := by
    pointwise [narrow]
  rw [e]
  have h0 : FloatOps.sitofp (F := Ideal) .f32 (0#32) = (0 : EReal) := by
    show (((0#32 : BitVec 32).toInt : ℝ) : EReal) = 0
    simp
  rw [h0]

/-- A product with a column that the padding added. -/
theorem proj_zero (x n : Fin 2048 → EReal) (w : Fin 2048 → EReal) (h : ∀ k, w k = 0) : proj x n w = 0 :=
  Finset.sum_eq_zero fun k _ => by rw [h k, mul_zero]

/-! ### The two vectors' lanes -/

abbrev laneDims : ScatterDims S1x128 S2 S8 := scatter_S1x128_S2_S8_0_0_01_0

/-- The scatter's two start words. -/
abbrev starts : IVec S2 32 :=
  concatenate S2 0 [⟨S1, broadcastInDim S1 ![] bcast_S_S1 (constantI S_ 32 0#32)⟩, ⟨S1, broadcastInDim S1 ![] bcast_S_S1 (constantI S_ 32 8#32)⟩] concatenates_S1_S1_S2_d0

theorem starts_at (i : S2.Idx) : starts i = if (i 0).val = 0 then 0#32 else 8#32 := by
  obtain ⟨a, ha⟩ : ∃ a : Fin 2, i = ix1 a := ⟨i 0, by funext b; fin_cases b; rfl⟩
  subst ha
  fin_cases a <;> rfl

theorem lane_start0 (k : S8.Idx) : laneDims.start k starts 0 = 0 := by
  unfold ScatterDims.start
  rw [dif_pos (show (0 : Fin 2) ∈ laneDims.scatterDimsToOperandDims by decide), starts_at]
  rfl

theorem lane_start1 (k : S8.Idx) : laneDims.start k starts 1 = 8 := by
  unfold ScatterDims.start
  rw [dif_pos (show (1 : Fin 2) ∈ laneDims.scatterDimsToOperandDims by decide), starts_at]
  rfl

theorem lane_window0 (k : S8.Idx) : laneDims.window k 0 = 0 := by
  unfold ScatterDims.window
  rw [dif_neg (show ¬(0 : Fin 2) ∈ laneDims.sKept by decide)]

theorem lane_window1 (k : S8.Idx) : laneDims.window k 1 = (k 0).val := by
  unfold ScatterDims.window
  rw [dif_pos (show (1 : Fin 2) ∈ laneDims.sKept by decide)]
  rfl

/-- Update `k` lands in lane eight and `k`. -/
theorem lane_lands (k : S8.Idx) (l : Fin 128) : laneDims.resultIdx? k starts = some (ix2 0 l) ↔ 8 + (k 0).val = l.val := by
  rw [resultIdx?_eq_some]
  constructor
  · intro h
    have h1 := h 1
    rw [lane_start1, lane_window1] at h1
    have h2 : (8 : Int) + ((k 0).val : Int) = (l.val : Int) := h1
    omega
  · intro h a
    match a with
    | ⟨0, _⟩ =>
      show laneDims.start k starts 0 + (laneDims.window k 0 : Int) = ((0 : ℕ) : Int)
      rw [lane_start0, lane_window0]; rfl
    | ⟨1, _⟩ =>
      show laneDims.start k starts 1 + (laneDims.window k 1 : Int) = (l.val : Int)
      rw [lane_start1, lane_window1]; omega

theorem lanes_at (v : Vec Ideal S8 .f32) (l : Fin 128) (i : Fin 8) (h : l.val = 8 + i.val) : lanes v (ix2 0 l) = v (ix1 i) := by
  refine scatter_set_hit laneDims _ starts v (ix2 0 l) _ (fun k hk => ?_) (ix1 i) ((lane_lands _ l).2 h.symm)
  rw [lane_lands] at hk
  refine congrArg v (funext fun a => Fin.ext ?_)
  match a with
  | ⟨0, _⟩ =>
    show (k 0).val = i.val
    omega

theorem lanes_zero (v : Vec Ideal S8 .f32) (l : Fin 128) (h : ¬l.val < 16) : lanes v (ix2 0 l) = 0 := by
  have e : lanes v (ix2 0 l) = broadcastInDim S1x128 ![] bcast_S_S1x128 (constant (F := Ideal) S_ .f32 0x00000000#32) (ix2 0 l) :=
    scatter_set_miss laneDims _ starts v (ix2 0 l) fun k hk => by
      rw [lane_lands] at hk
      have : (k 0).val < 8 := (k 0).isLt
      omega
  rw [e]
  pointwise

/-! ## The blocks -/

variable (V : (c : Dev nD) → (b : Ref sig .tc) → Buf (Elt Ideal) ((c : Thread nD τ).loc b)) (c : Dev nD) (t : Fin grid0.N)

theorem xB_at (r : Fin 512) (k : Fin 2048) (p : Fin 16384) (hp : p.val = t.val / 6 * 512 + r.val) : xB V c t (ix2 r k) = V c main_v0 (ix2 p k) := by
  refine congrArg (V c main_v0) (funext fun a => Fin.ext ?_)
  have h0 := congrFun (rows_at t) 0
  fin_cases a
  · show cc0_transform_0 (grid0.coords t) 0 * 512 + 1 * r.val = p.val
    rw [h0]
    show t.val / 6 * 512 + 1 * r.val = p.val
    omega
  · show 0 * 2048 + 1 * k.val = k.val
    omega

theorem wB_at (k : Fin 2048) (d : Fin 1024) (j : Fin 6144) (hj : j.val = t.val % 6 * 1024 + d.val) : wB V c t (ix2 k d) = V c main_v5 (ix2 k j) := by
  refine congrArg (V c main_v5) (funext fun a => Fin.ext ?_)
  have h1 := congrFun (cols_at t) 1
  fin_cases a
  · show 0 * 2048 + 1 * k.val = k.val
    omega
  · show cc0_transform_2 (grid0.coords t) 1 * 1024 + 1 * d.val = j.val
    rw [h1]
    show t.val % 6 * 1024 + 1 * d.val = j.val
    omega

theorem nB_at (k : Fin 2048) : nB V c t (ix2 0 k) = V c main_v22 (ix2 0 k) := by
  refine congrArg (V c main_v22) (funext fun a => Fin.ext ?_)
  fin_cases a
  · rfl
  · show 0 * 2048 + 1 * k.val = k.val
    omega

theorem baB_at (k : Fin 2048) (l : Fin 128) : baB V c t (ix2 k l) = V c main_v8 (ix2 k l) := by
  refine congrArg (V c main_v8) (funext fun a => Fin.ext ?_)
  fin_cases a
  · show 0 * 2048 + 1 * k.val = k.val
    omega
  · show 0 * 128 + 1 * l.val = l.val
    omega

theorem alB_at (l : Fin 128) : alB V c t (ix2 0 l) = V c main_v14 (ix2 0 l) := by
  refine congrArg (V c main_v14) (funext fun a => Fin.ext ?_)
  fin_cases a
  · rfl
  · show 0 * 128 + 1 * l.val = l.val
    omega

theorem dtB_at (l : Fin 128) : dtB V c t (ix2 0 l) = V c main_v20 (ix2 0 l) := by
  refine congrArg (V c main_v20) (funext fun a => Fin.ext ?_)
  fin_cases a
  · rfl
  · show 0 * 128 + 1 * l.val = l.val
    omega

end Cert.InProjIdeal.Hand

end
-- ==== Proof.InPlain.lean ====
/-
  The projections over the ideal values, the plain computation's side.
-/
module

public import proofs.«01_k».proof.Proof.InHost
public import proofs.«01_k».proof.Proof.Gen.InProjReferenceIdeal.Run

@[expose] public section

noncomputable section

namespace Cert.InProjReferenceIdeal.Hand

open Cert.InProjReferenceIdeal Cert.InProjReferenceIdeal.Gen
open Idealize.ShloMosaic Idealize.ShloMosaic.TcCoe
open Cert.InProjIdeal.Hand (scale rowNorm proj soft sigma)

variable (x : Vec Ideal S16384x2048 .f32) (n : Vec Ideal S2048 .f32) (w : Vec Ideal S2048x6160 .f32) (al dt : Vec Ideal S8 .f32)

/-- The rows normalised and weighed. -/
def normed : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 n))

/-- All the columns' products. -/
def every : FVec Ideal S16384x6160 .f32 :=
  Host.dotGeneral dot_S16384x2048_S2048x6160_S16384x6160_1_0_0_1_n_n none (φ₂ := .f32) (normed x n) w

/-- The six blocks of columns, of all the products. -/
def six (p : FVec Ideal S16384x6160 .f32) : FVec Ideal S6x16384x1024 .bf16 :=
  truncf .bf16 (concatenate S6x16384x1024 0 [
    ⟨S1x16384x1024, broadcastInDim S1x16384x1024 ![1, 2] bcast_S16384x1024_S1x16384x1024_1_2 (extractStridedSlice S16384x1024 ![0, 0] p slices_S16384x6160_S16384x1024_0_0)⟩,
    ⟨S1x16384x1024, broadcastInDim S1x16384x1024 ![1, 2] bcast_S16384x1024_S1x16384x1024_1_2 (extractStridedSlice S16384x1024 ![0, 1024] p slices_S16384x6160_S16384x1024_0_1024)⟩,
    ⟨S1x16384x1024, broadcastInDim S1x16384x1024 ![1, 2] bcast_S16384x1024_S1x16384x1024_1_2 (extractStridedSlice S16384x1024 ![0, 2048] p slices_S16384x6160_S16384x1024_0_2048)⟩,
    ⟨S1x16384x1024, broadcastInDim S1x16384x1024 ![1, 2] bcast_S16384x1024_S1x16384x1024_1_2 (extractStridedSlice S16384x1024 ![0, 3072] p slices_S16384x6160_S16384x1024_0_3072)⟩,
    ⟨S1x16384x1024, broadcastInDim S1x16384x1024 ![1, 2] bcast_S16384x1024_S1x16384x1024_1_2 (extractStridedSlice S16384x1024 ![0, 4112] p slices_S16384x6160_S16384x1024_0_4112)⟩,
    ⟨S1x16384x1024, broadcastInDim S1x16384x1024 ![1, 2] bcast_S16384x1024_S1x16384x1024_1_2 (extractStridedSlice S16384x1024 ![0, 5136] p slices_S16384x6160_S16384x1024_0_5136)⟩]
    concatenates_S1x16384x1024_S1x16384x1024_S1x16384x1024_S1x16384x1024_S1x16384x1024_S1x16384x1024_S6x16384x1024_d0) bitsLt_bf16_f32

/-- The softplus over a shape, from the shape's zeros. -/
def softs {s : Shape} (z y : FVec Ideal s .f32) : FVec Ideal s .f32 :=
  select (cmpf .une (subf y z) (subf y z)) (addf y z) (addf (maximumf y z) (Host.log1p (Host.exp (Host.negf (Host.absf (subf y z))))))

abbrev zero8 : FVec Ideal S16384x8 .f32 := broadcastInDim S16384x8 ![] bcast_S_S16384x8 (constant S_ .f32 0x00000000#32)
abbrev zero112 : FVec Ideal S16384x112 .f32 := broadcastInDim S16384x112 ![] bcast_S_S16384x112 (constant S_ .f32 0x00000000#32)
abbrev one8 : FVec Ideal S16384x8 .f32 := broadcastInDim S16384x8 ![] bcast_S_S16384x8 (constant S_ .f32 0x3F800000#32)

def betas (p : FVec Ideal S16384x6160 .f32) : FVec Ideal S16384x8 .f32 :=
  Host.divf one8 (addf one8 (Host.exp (Host.negf (extractStridedSlice S16384x8 ![0, 4096] p slices_S16384x6160_S16384x8_0_4096))))

def decays (p : FVec Ideal S16384x6160 .f32) : FVec Ideal S16384x8 .f32 :=
  mulf (broadcastInDim S16384x8 ![0, 1] bcast_S1x8_S16384x8_0_1 (broadcastInDim S1x8 ![1] bcast_S8_S1x8_1 (Host.negf (Host.exp al))))
    (softs zero8 (addf (extractStridedSlice S16384x8 ![0, 4104] p slices_S16384x6160_S16384x8_0_4104)
      (broadcastInDim S16384x8 ![0, 1] bcast_S1x8_S16384x8_0_1 (broadcastInDim S1x8 ![1] bcast_S8_S1x8_1 dt))))

def unused : FVec Ideal S16384x112 .f32 := Host.negf (softs zero112 zero112)

/-- The gates and the lanes that nothing reads, of all the products. -/
def three (p : FVec Ideal S16384x6160 .f32) : FVec Ideal S16384x128 .f32 :=
  concatenate S16384x128 1 [⟨S16384x8, betas p⟩, ⟨S16384x8, decays al dt p⟩, ⟨S16384x112, unused⟩]
    concatenates_S16384x8_S16384x8_S16384x112_S16384x128_d1

theorem normed_at (p : Fin 16384) (k : Fin 2048) : normed x n (ix2 p k) = rowNorm (fun k => x (ix2 p k)) (fun k => n (ix1 k)) k := by
  unfold rowNorm scale
  pointwise [normed]

theorem every_at (p : Fin 16384) (j : Fin 6160) :
    every x n w (ix2 p j) = proj (fun k => x (ix2 p k)) (fun k => n (ix1 k)) (fun k => w (ix2 k j)) := by
  have e : every x n w (ix2 p j) = ∑ k : Fin 2048, normed x n (ix2 p k) * w (ix2 k j) := by
    pointwise [every]
  exact e.trans (Finset.sum_congr rfl fun k _ => congrArg (· * w (ix2 k j)) (normed_at x n p k))

/-- Where a block's column lies among all the columns. -/
theorem six_at (q : FVec Ideal S16384x6160 .f32) (g : Fin 6) (p : Fin 16384) (d : Fin 1024) (j : Fin 6160)
    (hj : j.val = if g.val * 1024 + d.val < 4096 then g.val * 1024 + d.val else g.val * 1024 + d.val + 16) :
    six q (ix3 g p d) = q (ix2 p j) := by
  have e : six q (ix3 g p d) = if h : g.val < 1 then q (ix2 p ⟨d.val, by omega⟩)
      else if h : g.val - 1 < 1 then q (ix2 p ⟨1024 + d.val, by omega⟩)
      else if h : g.val - 1 - 1 < 1 then q (ix2 p ⟨2048 + d.val, by omega⟩)
      else if h : g.val - 1 - 1 - 1 < 1 then q (ix2 p ⟨3072 + d.val, by omega⟩)
      else if h : g.val - 1 - 1 - 1 - 1 < 1 then q (ix2 p ⟨4112 + d.val, by omega⟩) else q (ix2 p ⟨5136 + d.val, by omega⟩) := by
    pointwise [six]
  rw [e]
  have hg := g.isLt
  have hd := d.isLt
  split_ifs at hj ⊢ <;> exact congrArg (fun j => q (ix2 p j)) (Fin.ext (by dsimp only; omega))

theorem softs_at {s : Shape} (z y : FVec Ideal s .f32) (i : s.Idx) (h : z i = 0) : softs z y i = soft (y i) := by
  have e : softs z y i = Scalar.select (FloatOps.cmpf (F := Ideal) (φ := .f32) .une (y i - z i) (y i - z i)) (y i + z i)
      (max (y i) (z i) + Ideal.log1p (Ideal.exp (-FloatOps.absf (F := Ideal) (φ := .f32) (y i - z i)))) := rfl
  rw [e, h, sub_zero, show FloatOps.cmpf (F := Ideal) (φ := .f32) .une (y i) (y i) = 0#1 from by
    show BitVec.ofBool (decide (y i ≠ y i)) = 0#1
    simp]
  rfl

theorem betas_at (q : FVec Ideal S16384x6160 .f32) (p : Fin 16384) (l : Fin 8) : betas q (ix2 p l) = sigma (q (ix2 p ⟨4096 + l.val, by omega⟩)) := by
  unfold sigma
  pointwise [betas]

theorem zero8_at (i : S16384x8.Idx) : zero8 i = 0 := by pointwise
theorem zero112_at (i : S16384x112.Idx) : zero112 i = 0 := by pointwise

theorem decays_at (q : FVec Ideal S16384x6160 .f32) (p : Fin 16384) (l : Fin 8) :
    decays al dt q (ix2 p l) = -Ideal.exp (al (ix1 l)) * soft (q (ix2 p ⟨4104 + l.val, by omega⟩) + dt (ix1 l)) := by
  unfold decays
  show _ * softs zero8 _ (ix2 p l) = _
  rw [softs_at _ _ _ (zero8_at _)]
  pointwise

theorem unused_at (i : S16384x112.Idx) : unused i = -soft 0 := by
  show -softs zero112 zero112 i = _
  rw [softs_at _ _ _ (zero112_at _), zero112_at]

theorem three_at (q : FVec Ideal S16384x6160 .f32) (p : Fin 16384) (l : Fin 128) :
    three al dt q (ix2 p l) = if h : l.val < 8 then betas q (ix2 p ⟨l.val, h⟩)
      else if h : l.val - 8 < 8 then decays al dt q (ix2 p ⟨l.val - 8, h⟩) else unused (ix2 p ⟨l.val - 8 - 8, by omega⟩) := by
  pointwise [three]

end Cert.InProjReferenceIdeal.Hand

end
-- ==== Proof.InValue.lean ====
/-
  The projections' two results over the ideal values are the plain computation's.
-/
module

public import proofs.«01_k».proof.Proof.InPlain

@[expose] public section

noncomputable section

namespace Cert.InProjIdeal.Hand

open Cert.InProjIdeal Cert.InProjIdeal.Gen
open Idealize.ShloMosaic Idealize.ShloMosaic.TcCoe
open Cert.InProjReferenceIdeal.Hand (six three every every_at six_at three_at betas betas_at decays decays_at unused unused_at)

section
variable (V : (c : Dev nD) → (b : Ref sig .tc) → Buf (Elt Ideal) ((c : Thread nD τ).loc b)) (c : Dev nD)

theorem products_at (g : Fin 6) (p : Fin 16384) (d : Fin 1024) (j : Fin 6144) (hj : j.val = g.val * 1024 + d.val) :
    products V c (ix3 g p d) = proj (fun k => V c main_v0 (ix2 p k)) (fun k => V c main_v22 (ix2 0 k)) (fun k => V c main_v5 (ix2 k j)) := by
  obtain ⟨t, ht⟩ : ∃ t, pointP (ix3 g p d) = t := ⟨_, rfl⟩
  have hv : p.val / 512 * 6 + g.val = t.val := congrArg Fin.val ht
  have hg := g.isLt
  have ex := fun k => xB_at V c t ⟨p.val % 512, Nat.mod_lt _ (by decide)⟩ k p (by show p.val = t.val / 6 * 512 + p.val % 512; omega)
  have ew := fun k => wB_at V c t k d j (by omega)
  have en := nB_at V c t
  show prodB V c (pointP (ix3 g p d)) (ix3 0 (⟨p.val % 512, _⟩ : Fin 512) d) = _
  rw [ht]
  unfold prodB rowsB
  rw [pay2_at]
  refine Finset.sum_congr rfl fun k _ => ?_
  rw [pay4_eq, pay3_at, ew k, show (fun k => xB V c t (ix2 (⟨p.val % 512, Nat.mod_lt _ (by decide)⟩ : Fin 512) k)) = fun k => V c main_v0 (ix2 p k) from funext ex,
    show (fun k => nB V c t (ix2 0 k)) = fun k => V c main_v22 (ix2 0 k) from funext en]

theorem gated_at (p : Fin 16384) (l : Fin 128) :
    gated V c (ix2 p l) = if l.val < 8 then sigma (proj (fun k => V c main_v0 (ix2 p k)) (fun k => V c main_v22 (ix2 0 k)) (fun k => V c main_v8 (ix2 k l)))
      else -Ideal.exp (V c main_v14 (ix2 0 l))
        * soft (proj (fun k => V c main_v0 (ix2 p k)) (fun k => V c main_v22 (ix2 0 k)) (fun k => V c main_v8 (ix2 k l)) + V c main_v20 (ix2 0 l)) := by
  obtain ⟨t, ht⟩ : ∃ t, pointG (ix2 p l) = t := ⟨_, rfl⟩
  have hv : p.val / 512 * 6 + 5 = t.val := congrArg Fin.val ht
  have ex := fun k => xB_at V c t ⟨p.val % 512, Nat.mod_lt _ (by decide)⟩ k p (by show p.val = t.val / 6 * 512 + p.val % 512; omega)
  show gateB V c (pointG (ix2 p l)) (ix2 (⟨p.val % 512, _⟩ : Fin 512) l) = _
  rw [ht]
  unfold gateB
  rw [gates_val, alB_at, dtB_at, show (fun k => xB V c t (ix2 (⟨p.val % 512, Nat.mod_lt _ (by decide)⟩ : Fin 512) k)) = fun k => V c main_v0 (ix2 p k) from funext ex,
    show (fun k => nB V c t (ix2 0 k)) = fun k => V c main_v22 (ix2 0 k) from funext (nB_at V c t),
    show (fun k => baB V c t (ix2 k l)) = fun k => V c main_v8 (ix2 k l) from funext fun k => baB_at V c t k l]
end

variable (m : (ℓ : Loc nD τ sig) → Buf (Elt Ideal) ℓ) (c : Dev nD)

theorem weights_at (n : Vec Ideal S2048 .f32) (k : Fin 2048) : broadcastInDim S1x2048 ![1] bcast_S2048_S1x2048_1 n (ix2 0 k) = n (ix1 k) := by
  pointwise

theorem products_eq : products (at0 m) c = six (every (argX m c) (argN m c) (argW m c)) := by
  funext z
  obtain ⟨g, p, d, rfl⟩ : ∃ (g : Fin 6) (p : Fin 16384) (d : Fin 1024), z = ix3 g p d := ⟨z 0, z 1, z 2, by funext a; fin_cases a <;> rfl⟩
  have hg := g.isLt
  have hd := d.isLt
  have hj : (if g.val * 1024 + d.val < 4096 then g.val * 1024 + d.val else g.val * 1024 + d.val + 16) < 6160 := by split_ifs <;> omega
  rw [products_at (at0 m) c g p d ⟨g.val * 1024 + d.val, by omega⟩ rfl, six_at _ g p d ⟨_, hj⟩ rfl, every_at, at0_x, at0_n, at0_w]
  congr 1
  · funext k; exact wide_at _ k _ _ rfl

theorem exp_zero : Ideal.exp 0 = 1 := by
  show ((Real.exp 0 : ℝ) : EReal) = 1
  rw [Real.exp_zero]; rfl

theorem gated_eq : gated (at0 m) c = three (argA m c) (argD m c) (every (argX m c) (argN m c) (argW m c)) := by
  funext z
  obtain ⟨p, l, rfl⟩ : ∃ (p : Fin 16384) (l : Fin 128), z = ix2 p l := ⟨z 0, z 1, by funext a; fin_cases a <;> rfl⟩
  have hl := l.isLt
  rw [gated_at, three_at, at0_x, at0_n, at0_ba, at0_al, at0_dt, show (fun k => broadcastInDim S1x2048 ![1] bcast_S2048_S1x2048_1 (argN m c) (ix2 0 k)) = fun k => argN m c (ix1 k) from
    funext (weights_at _)]
  by_cases h8 : l.val < 8
  · rw [if_pos h8, dif_pos h8, betas_at, every_at]
    congr 2
    funext k
    rw [narrow_at, dif_pos (by omega)]
  · rw [if_neg h8, dif_neg h8]
    by_cases h16 : l.val - 8 < 8
    · rw [dif_pos h16, decays_at, every_at, lanes_at _ l ⟨l.val - 8, h16⟩ (by show l.val = 8 + (l.val - 8); omega),
        lanes_at _ l ⟨l.val - 8, h16⟩ (by show l.val = 8 + (l.val - 8); omega)]
      congr 4
      funext k
      rw [narrow_at, dif_pos (by omega)]
      exact congrArg (fun j => argW m c (ix2 k j)) (Fin.ext (by show 4096 + l.val = 4104 + (l.val - 8); omega))
    · rw [dif_neg h16, unused_at, lanes_zero _ l (by omega), lanes_zero _ l (by omega),
        proj_zero _ _ _ (fun k => by rw [narrow_at, dif_neg (by omega)]), exp_zero, add_zero, neg_mul, one_mul]

end Cert.InProjIdeal.Hand

namespace Cert.InProjReferenceIdeal.Hand

open Cert.InProjReferenceIdeal Cert.InProjReferenceIdeal.Gen
open Idealize.ShloMosaic Idealize.ShloMosaic.TcCoe

variable (m : (ℓ : Loc nD τ sig) → Buf (Elt Ideal) ℓ) (c : Dev nD)

theorem first_eq : Value.res_out0 m c = six (every (shapeCast _ (m ((c.tc : Thread nD τ).loc main_arg0)) shapeCasts_S2x8192x2048_S16384x2048)
    (shapeCast _ (m ((c.tc : Thread nD τ).loc main_arg1)) shapeCasts_S1x2048_S2048) (shapeCast _ (m ((c.tc : Thread nD τ).loc main_arg2)) shapeCasts_S1x2048x6160_S2048x6160)) := by
  unfold Value.res_out0 Value.res_main_v52 six every normed
  rfl

theorem second_eq : Value.res_out1 m c = three (shapeCast _ (m ((c.tc : Thread nD τ).loc main_arg3)) shapeCasts_S1x8_S8)
    (shapeCast _ (m ((c.tc : Thread nD τ).loc main_arg4)) shapeCasts_S1x8_S8) (every (shapeCast _ (m ((c.tc : Thread nD τ).loc main_arg0)) shapeCasts_S2x8192x2048_S16384x2048)
    (shapeCast _ (m ((c.tc : Thread nD τ).loc main_arg1)) shapeCasts_S1x2048_S2048) (shapeCast _ (m ((c.tc : Thread nD τ).loc main_arg2)) shapeCasts_S1x2048x6160_S2048x6160)) := by
  unfold Value.res_out1 Value.res_main_v53 three betas decays unused softs every normed
  rfl

end Cert.InProjReferenceIdeal.Hand

end
-- ==== Proof.CmbRows.lean ====
/-
  One row's copy out of the experts' results into a block, and one wait for it, as the trips of the combine's two loops
  print them. Tokens may ask for the same row, so every copy reads at a share of its own.
-/
module

public import proofs.«01_k».proof.Proof.Gen.CombineIdeal.Skeleton
public import proofs.«01_k».proof.Proof.Gen.CombineIdeal.Launch
public import proofs.«01_k».proof.Proof.Loops
public import Idealize.ShloMosaic.Lib.ShareLeaves

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (rowSet mem_rowSet brow mem_brow)

variable {F : FTy → Type} [FloatOps F]

/-- The logic the proof runs in. -/
local notation "𝕄" => MT nD τ sig Unit (Elt F) ℕ (Pipeline.UD sig nD τ) ℕ

/-- The two position tables, the experts' results, the two gathered blocks. -/
abbrev t1M : Memref sig .tc .smem S16384 .i32 := Memref.whole main_arg0
abbrev t2M : Memref sig .tc .smem S16384 .i32 := Memref.whole main_arg1
abbrev ysM : Memref sig .tc .hbm S40960x2048 .f32 := Memref.whole main_arg4
abbrev y1M : Memref sig .tc .vmem S256x2048 .f32 := Memref.whole cc0_scratch0
abbrev y2M : Memref sig .tc .vmem S256x2048 .f32 := Memref.whole cc0_scratch1

/-- Contents of the experts' results, and of a block of tokens. -/
abbrev YsBuf : Type := S40960x2048.Idx → Elt F .f32
abbrev Blk : Type := S256x2048.Idx → Elt F .f32

/-- A row of the block in `M`, by the elements of the buffer that hold it. -/
def bset (M : Memref sig .tc .vmem S256x2048 .f32) (r : ℕ) : Finset M.view.ty.Idx := (brow r).map M.view.emb

theorem bset_eq (M : Memref sig .tc .vmem S256x2048 .f32) (off : Fin 2 → ℕ) (r : ℕ) (h0 : off 0 = r) (h1 : off 1 = 0)
    (inb : ∀ a, off a + S1x2048.size a ≤ S256x2048.size a) :
    (M.slice (Rect.unit (s := S256x2048) off S1x2048.size inb) (fun _ => rfl)).view.set = bset M r := by
  refine (View.set_slice _ _).trans ?_
  unfold bset
  congr 1
  ext y
  rw [Rect.mem_set_unit, mem_brow]
  have hy : (y 1).val < 2048 := (y 1).isLt
  refine ⟨fun H => ?_, fun H a => ?_⟩
  · have e : off 0 ≤ (y 0).val ∧ (y 0).val < off 0 + 1 := H 0
    omega
  · fin_cases a
    · show off 0 ≤ (y 0).val ∧ (y 0).val < off 0 + 1; omega
    · show off 1 ≤ (y 1).val ∧ (y 1).val < off 1 + 2048; omega

theorem source_set (off : Fin 2 → ℕ) (p : ℕ) (h0 : off 0 = p) (h1 : off 1 = 0) (inb : ∀ a, off a + S1x2048.size a ≤ S40960x2048.size a) :
    (ysM.slice (Rect.unit (s := S40960x2048) off S1x2048.size inb) (fun _ => rfl)).view.set = rowSet p := by
  refine (View.set_slice_whole _ _).trans ?_
  ext y
  rw [Rect.mem_set_unit, mem_rowSet]
  have hy : (y 1).val < 2048 := (y 1).isLt
  refine ⟨fun H => ?_, fun H a => ?_⟩
  · have e : off 0 ≤ (y 0).val ∧ (y 0).val < off 0 + 1 := H 0
    omega
  · fin_cases a
    · show off 0 ≤ (y 0).val ∧ (y 0).val < off 0 + 1; omega
    · show off 1 ≤ (y 1).val ∧ (y 1).val < off 1 + 2048; omega

/-- What the copy of row `p` of the results lands on row `r` of the block. -/
theorem row_landed (M : Memref sig .tc .vmem S256x2048 .f32) (c : Dev nD) (g : YsBuf (F := F))
    (fd X : Buf (Elt F) (M.view.loc (c : Thread nD τ))) (off boff : Fin 2 → ℕ) (p r : ℕ) (h0 : off 0 = p) (h1 : off 1 = 0) (b0 : boff 0 = r) (b1 : boff 1 = 0)
    (inb : ∀ a, off a + S1x2048.size a ≤ S40960x2048.size a) (binb : ∀ a, boff a + S1x2048.size a ≤ S256x2048.size a)
    (hX : ∀ z : S256x2048.Idx, (z 0).val = r → ∀ y ∈ rowSet p, (y 1).val = (z 1).val → M.view.read (Elt F) X z = g y) :
    ∀ y ∈ bset M r, (M.slice (Rect.unit (s := S256x2048) boff S1x2048.size binb) (fun _ => rfl)).view.write (Elt F) fd
      (ReadAs.same.apply ((ysM.slice (Rect.unit (s := S40960x2048) off S1x2048.size inb) (fun _ => rfl)).view.read (Elt F) g)) Finset.univ y = X y := by
  intro y hy
  rw [← bset_eq M boff r b0 b1 binb, View.set, Finset.mem_map] at hy
  obtain ⟨x, -, hx⟩ := hy
  subst hx
  rw [View.write_emb_of_mem _ _ (Finset.mem_univ x)]
  have e0 : (x 0).val = 0 := by have : (x 0).val < 1 := (x 0).isLt; omega
  have e : M.view.read (Elt F) X ((Rect.unit (s := S256x2048) boff S1x2048.size binb).emb x) = g ((Rect.unit (s := S40960x2048) off S1x2048.size inb).emb x) := ?_
  · refine (congrArg (cast _) e.symm).trans ?_
    unfold View.read
    rw [cast_cast]
    rfl
  refine hX ((Rect.unit (s := S256x2048) boff S1x2048.size binb).emb x) ?_ ((Rect.unit (s := S40960x2048) off S1x2048.size inb).emb x) ?_ ?_
  · show boff 0 + 1 * (x 0).val = r; omega
  · rw [mem_rowSet]; show off 0 + 1 * (x 0).val = p; omega
  · show off 1 + 1 * (x 1).val = boff 1 + 1 * (x 1).val; omega

/-- One start of a row's copy: the word of the table, the check of the address, the copy. -/
def rowStart (tM : Memref sig .tc .smem S16384 .i32) (yM : Memref sig .tc .hbm S40960x2048 .f32) (M : Memref sig .tc .vmem S256x2048 .f32) (sem : DmaSems sig S_)
    (toff : Fin 1 → ℕ) (hti : ∀ a, toff a + S1.size a ≤ S16384.size a) (boff : Fin 2 → ℕ) (hbi : ∀ a, boff a + S1x2048.size a ≤ S256x2048.size a)
    (k : Prog (TpuEff nD τ sig (Elt F) Λ₀ .tc) Unit) : Prog (TpuEff nD τ sig (Elt F) Λ₀ .tc) Unit :=
  smemLoadElt tM (Rect.unit (s := S16384) toff S1.size hti) (View.loads_smem_one rfl numel1_S1) (Shape.Idx.first (numel1_S1.symm ▸ Nat.one_pos)) fun v =>
    .op (.assume (k0_chk1 v) (k0_chk1.dec v)) fun h =>
      .op (.enqueueDma (yM.slice (Rect.unit (s := S40960x2048) (k0_off3 v) S1x2048.size (k0_off3_inb v h.down)) (fun _ => rfl))
        (.here (M.slice (Rect.unit (s := S256x2048) boff S1x2048.size hbi) (fun _ => rfl)))
        (.dma sem.sem) (View.wordExact_bits rfl) (View.wordExact_bits rfl) ⟨Or.inl rfl, trivial⟩) fun _ => k

/-- One wait for a row's copy. -/
def rowWait (tM : Memref sig .tc .smem S16384 .i32) (yM : Memref sig .tc .hbm S40960x2048 .f32) (M : Memref sig .tc .vmem S256x2048 .f32) (sem : DmaSems sig S_)
    (toff : Fin 1 → ℕ) (hti : ∀ a, toff a + S1.size a ≤ S16384.size a) (boff : Fin 2 → ℕ) (hbi : ∀ a, boff a + S1x2048.size a ≤ S256x2048.size a)
    (k : Prog (TpuEff nD τ sig (Elt F) Λ₀ .tc) Unit) : Prog (TpuEff nD τ sig (Elt F) Λ₀ .tc) Unit :=
  smemLoadElt tM (Rect.unit (s := S16384) toff S1.size hti) (View.loads_smem_one rfl numel1_S1) (Shape.Idx.first (numel1_S1.symm ▸ Nat.one_pos)) fun v =>
    .op (.assume (k0_chk1 v) (k0_chk1.dec v)) fun h =>
      .op (.waitDma2 sem.sem (yM.slice (Rect.unit (s := S40960x2048) (k0_off3 v) S1x2048.size (k0_off3_inb v h.down)) (fun _ => rfl))
        (M.slice (Rect.unit (s := S256x2048) boff S1x2048.size hbi) (fun _ => rfl))
        (View.wordExact_bits rfl) (View.wordExact_bits rfl)) fun _ => k

section Bodies

variable (i : grid0.Coords) (a1 : Memref sig .tc .smem S16384 .i32) (h1 : a1.IsWhole) (a2 : Memref sig .tc .smem S16384 .i32) (h2 : a2.IsWhole)
  (a3 : Memref sig .tc .vmem S256x2048 .f32) (h3 : a3.IsWhole) (a4 : Memref sig .tc .vmem S256x128 .f32) (h4 : a4.IsWhole)
  (a5 : Memref sig .tc .hbm S40960x2048 .f32) (h5 : a5.IsWhole) (a6 : Memref sig .tc .vmem S1x2048 .f32) (h6 : a6.IsWhole)
  (a7 : Memref sig .tc .vmem S256x2048 .f32) (h7 : a7.IsWhole) (a8 : Memref sig .tc .vmem S256x2048 .f32) (h8 : a8.IsWhole)
  (a9 : Memref sig .tc .vmem S256x2048 .f32) (h9 : a9.IsWhole) (a10 : DmaSems sig S_)

theorem t1_body_eq (t : Fin k0_t1_loop.trips) (u : Unit) :
    k0_t1_body (F := F) i a1 h1 a2 h2 a3 h3 a4 h4 a5 h5 a6 h6 a7 h7 a8 h8 a9 h9 a10 t u
      = rowStart a1 a5 a8 a10 (k0_off1 i t) (k0_off1_inb i t) (k0_off2 t) (k0_off2_inb t)
          (rowStart a2 a5 a9 a10 (k0_off4 i t) (k0_off4_inb i t) (k0_off5 t) (k0_off5_inb t) (pure ())) := rfl

theorem t2_body_eq (t : Fin k0_t2_loop.trips) (u : Unit) :
    k0_t2_body (F := F) i a1 h1 a2 h2 a3 h3 a4 h4 a5 h5 a6 h6 a7 h7 a8 h8 a9 h9 a10 t u
      = rowWait a1 a5 a8 a10 (k0_off7 i t) (k0_off7_inb i t) (k0_off8 t) (k0_off8_inb t)
          (rowWait a2 a5 a9 a10 (k0_off10 i t) (k0_off10_inb i t) (k0_off11 t) (k0_off11_inb t) (pure ())) := rfl

end Bodies

/-- What one row's copy credits its semaphore. -/
abbrev NR : ℕ := cc0_scratch0.dmaCredit S1x2048 .f32
theorem NR_pos : 0 < NR := by decide

section Specs

variable (c : Dev nD) (M : Memref sig .tc .vmem S256x2048 .f32)

/-- A position table, the results and row `r` of the block in `M`, on the core. -/
abbrev tabPt (tM : Memref sig .tc .smem S16384 .i32) (q : PosShare TreeShare) (f : Buf (Elt F) (tM.view.loc (c : Thread nD τ))) : sProp 𝕄 :=
  tM.view.loc (c : Thread nD τ) ↦{q} f
abbrev ysPt (S : Finset S40960x2048.Idx) (q : PosShare TreeShare) (g : YsBuf (F := F)) : sProp 𝕄 :=
  ysM.view.loc (c : Thread nD τ) ↦[S]{q} g
abbrev bPt (r : ℕ) (f : Buf (Elt F) (M.view.loc (c : Thread nD τ))) : sProp 𝕄 :=
  M.view.loc (c : Thread nD τ) ↦[bset M r]{fullShare} f

/-- The copies in flight on their cell. -/
abbrev rowBatch {n : ℕ} (D : Fin n → sProp 𝕄) (j u : ℕ) : sProp 𝕄 :=
  Transfers.Batch (Lvl := ℕ) (Name := ℕ) (countersEmb (U := Pipeline.UD sig nD τ)) (c : Thread nD τ) (SemLoc.dma cc0_scratch2.sem) () NR D j u

theorem check_of {v : BitVec 32} (h : v.toNat < 40960) : k0_chk1 v := by
  intro a
  fin_cases a
  · show v.toNat + 1 ≤ 40960; omega
  · show 0 + 2048 ≤ 2048; omega

theorem wp_rowStart (hM : M.view.ref.dmaCredit S1x2048 .f32 = NR) {n : ℕ} {D : Fin n → sProp 𝕄} {j u : ℕ} (hj : j < n) (hu : u ≤ j * NR)
    (tM : Memref sig .tc .smem S16384 .i32) (qt : PosShare TreeShare) (ft : Buf (Elt F) (tM.view.loc (c : Thread nD τ)))
    (toff : Fin 1 → ℕ) (hti : ∀ a, toff a + S1.size a ≤ S16384.size a) (boff : Fin 2 → ℕ) (hbi : ∀ a, boff a + S1x2048.size a ≤ S256x2048.size a)
    (x p r : ℕ) (hx : toff 0 = x) (b0 : boff 0 = r) (b1 : boff 1 = 0) (hlt : p < 40960)
    (hp : ∀ y : S16384.Idx, (y 0).val = x → (tM.view.read (Elt F) ft y : BitVec 32).toNat = p)
    (q : PosShare TreeShare) (g : YsBuf (F := F)) (fd X : Buf (Elt F) (M.view.loc (c : Thread nD τ)))
    (hX : ∀ z : S256x2048.Idx, (z 0).val = r → ∀ y ∈ rowSet p, (y 1).val = (z 1).val → M.view.read (Elt F) X z = g y)
    (hD : iprop(bPt c M r X ∗ ysPt c (rowSet p) q g) ⊢ D ⟨j, hj⟩)
    (k : Prog (TpuEff nD τ sig (Elt F) Λ₀ .tc) Unit) (Q : Unit → sProp 𝕄) :
    iprop(tabPt c tM qt ft ∗ bPt c M r fd ∗ ysPt c Finset.univ q g ∗ rowBatch c D j u)
      ⊢ iprop((iprop(tabPt c tM qt ft ∗ ysPt c (Finset.univ \ rowSet p) q g ∗ rowBatch c D (j + 1) u)
            -∗ wp frame (wpE (defs₀ (F := F)) Variants.none c none) Set.univ k Q)
          -∗ wp frame (wpE (defs₀ (F := F)) Variants.none c none) Set.univ (rowStart tM ysM M cc0_scratch2 toff hti boff hbi k) Q) := by
  unfold rowStart
  iintro ⟨Ht, Hb, Hy, HB⟩ Hk
  iapply (wp_smemLoadElt_named Variants.none (c : Thread nD τ) none Set.univ (m := tM) (r := Rect.unit (s := S16384) toff S1.size hti) (S := Finset.univ) (q := qt) (f := ft)) $$ Ht
  iintro Ht %v %hv
  have hvp : (v : BitVec 32).toNat = p := by
    rw [hv]
    refine hp ((Rect.unit (s := S16384) toff S1.size hti).emb (Shape.Idx.first (numel1_S1.symm ▸ Nat.one_pos))) ?_
    have h0 : ((Shape.Idx.first (s := S1) (numel1_S1.symm ▸ Nat.one_pos)) 0).val < 1 := ((Shape.Idx.first (s := S1) (numel1_S1.symm ▸ Nat.one_pos)) 0).isLt
    show toff 0 + 1 * ((Shape.Idx.first (s := S1) (numel1_S1.symm ▸ Nat.one_pos)) 0).val = x
    omega
  have o0 : k0_off3 v 0 = p := hvp
  have o1 : k0_off3 v 1 = 0 := rfl
  have hw : k0_chk1 v := check_of (hvp ▸ hlt)
  iapply (wp_assume Variants.none (c : Thread nD τ) none Set.univ hw)
  ihave Hy' := (pointsTo_split_subset (Finset.subset_univ (rowSet p))).1 $$ Hy
  icases Hy' with ⟨Hs, Hy⟩
  iapply (Transfers.wp_dmaBatch (countersEmb (U := Pipeline.UD sig nD τ)) Variants.none (c : Thread nD τ) none (q := q)
      (src := ysM.slice (Rect.unit (s := S40960x2048) (k0_off3 v) S1x2048.size (k0_off3_inb v hw)) (fun _ => rfl))
      (dst := M.slice (Rect.unit (s := S256x2048) boff S1x2048.size hbi) (fun _ => rfl))
      (sm := SemLoc.dma cc0_scratch2.sem) (Sd := bset M r) (fs := g) (fd := fd) (D := D) (j := j) (u := u)
      () NR hM (Finset.Subset.antisymm_iff.mp (bset_eq M boff r b0 b1 hbi)).1 hj hu
      ((BIClass.sep_mono (Entails.of_eq (pointsTo_congr (row_landed M c g fd X _ boff p r o0 o1 b0 b1 _ hbi hX)))
        (Entails.of_eq (by rw [source_set _ p o0 o1 _]))).trans hD)) $$ [Hb Hs HB]
  · isplitl [Hs]
    · rw [source_set _ p o0 o1 _]; iexact Hs
    isplitl [Hb]; · iexact Hb
    iexact HB
  iintro HB
  iapply Hk
  isplitl [Ht]; · iexact Ht
  isplitl [Hy]; · iexact Hy
  iexact HB

theorem wp_rowWait (hM : M.view.ref.dmaCredit S1x2048 .f32 = NR) {n : ℕ} {D : Fin n → sProp 𝕄} {j u : ℕ} (hu : u + NR ≤ NR * j)
    (tM : Memref sig .tc .smem S16384 .i32) (qt : PosShare TreeShare) (ft : Buf (Elt F) (tM.view.loc (c : Thread nD τ)))
    (toff : Fin 1 → ℕ) (hti : ∀ a, toff a + S1.size a ≤ S16384.size a) (boff : Fin 2 → ℕ) (hbi : ∀ a, boff a + S1x2048.size a ≤ S256x2048.size a)
    (hp : ∀ y : S16384.Idx, (tM.view.read (Elt F) ft y : BitVec 32).toNat < 40960) (W : Waits sig Unit)
    (k : Prog (TpuEff nD τ sig (Elt F) Λ₀ .tc) Unit) (Q : Unit → sProp 𝕄) :
    iprop(tabPt c tM qt ft ∗ rowBatch c D j u ∗ owes (c : Thread nD τ) 0 W)
      ⊢ iprop((iprop(tabPt c tM qt ft ∗ rowBatch c D j (u + NR) ∗ ∃ W', owes (c : Thread nD τ) 0 W')
            -∗ wp frame (wpE (defs₀ (F := F)) Variants.none c none) Set.univ k Q)
          -∗ wp frame (wpE (defs₀ (F := F)) Variants.none c none) Set.univ (rowWait tM ysM M cc0_scratch2 toff hti boff hbi k) Q) := by
  unfold rowWait
  iintro ⟨Ht, HB, HO⟩ Hk
  iapply (wp_smemLoadElt_named Variants.none (c : Thread nD τ) none Set.univ (m := tM) (r := Rect.unit (s := S16384) toff S1.size hti) (S := Finset.univ) (q := qt) (f := ft)) $$ Ht
  iintro Ht %v %hv
  have hw : k0_chk1 v := check_of (hv ▸ hp ((Rect.unit (s := S16384) toff S1.size hti).emb (Shape.Idx.first (numel1_S1.symm ▸ Nat.one_pos))))
  iapply (wp_assume Variants.none (c : Thread nD τ) none Set.univ hw)
  iapply (Transfers.wp_waitBatchMul (countersEmb (U := Pipeline.UD sig nD τ)) Variants.none (c : Thread nD τ) none () 1
      (N := NR) (D := D) (j := j) (u := u) (W := W) (show _ = 1 * NR by rw [Nat.one_mul]; exact hM) (by omega)) $$ [HB HO]
  · isplitl [HB]; · iexact HB
    iexact HO
  iintro ⟨HB, HO⟩
  iapply Hk
  isplitl [Ht]; · iexact Ht
  isplitl [HB]; · rw [Nat.one_mul]; iexact HB
  iexists _; iexact HO

end Specs

end Cert.CombineIdeal.Hand

end
-- ==== Proof.CmbLoops.lean ====
/-
  The two loops of a grid step of the combine: 512 copies of a row of the experts' results into the two blocks, then
  512 waits.
-/
module

public import proofs.«01_k».proof.Proof.CmbRows

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (rowSet mem_rowSet brow mem_brow iv_toNat base_word)

variable {F : FTy → Type} [FloatOps F]

/-- The logic the proof runs in. -/
local notation "𝕄" => MT nD τ sig Unit (Elt F) ℕ (Pipeline.UD sig nD τ) ℕ

theorem trips1 : k0_t1_loop.trips = 256 := by decide
theorem trips2 : k0_t2_loop.trips = 256 := by decide

theorem off1_eq (i : grid0.Coords) (t : Fin k0_t1_loop.trips) : k0_off1 i t 0 = 256 * (i 0).val + t.val := base_word i t.val (trips1 ▸ t.isLt)
theorem off4_eq (i : grid0.Coords) (t : Fin k0_t1_loop.trips) : k0_off4 i t 0 = 256 * (i 0).val + t.val := base_word i t.val (trips1 ▸ t.isLt)
theorem off2_eq (t : Fin k0_t1_loop.trips) : k0_off2 t 0 = t.val := iv_toNat t.val (trips1 ▸ t.isLt)
theorem off5_eq (t : Fin k0_t1_loop.trips) : k0_off5 t 0 = t.val := iv_toNat t.val (trips1 ▸ t.isLt)

/-! ## The shares the copies read at -/

/-- The share row `r`'s copy reads at, of the 256 that `q` is cut into. -/
def sh (q : PosShare TreeShare) (r : ℕ) : PosShare TreeShare := if h : r < 256 then ShareLeaves.leaf 8 q ⟨r, h⟩ else q

theorem range_of_fin (Ψ : ℕ → sProp 𝕄) : (bigSep (Finset.univ : Finset (Fin 256)) fun r => Ψ r.val) = bigSep (Finset.range 256) Ψ := by
  rw [← Ring.rangeSet_univ (NB := 256)]
  exact Ring.bigSep_rangeSet_eq_range (NB := 256) (lo := 0) (hi := 256) le_rfl Ψ (fun k hk => by show Ψ k = Ψ (0 + k); rw [Nat.zero_add])

theorem range_last (Ψ : ℕ → sProp 𝕄) (k : ℕ) : bigSep (Finset.range (k + 1)) Ψ = iprop(Ψ k ∗ bigSep (Finset.range k) Ψ) := by
  rw [Finset.range_add_one, BI.bigSep_insert Finset.notMem_range_self]
  rfl

theorem ys_leaves (c : Dev nD) (g : YsBuf (F := F)) (q : PosShare TreeShare) :
    ysPt c Finset.univ q g = bigSep (Finset.range 256) (fun r => ysPt c Finset.univ (sh q r) g) := by
  rw [← range_of_fin (fun r => ysPt c Finset.univ (sh q r) g)]
  refine (ShareLeaves.pointsTo_leaves (ℓ := ysM.view.loc (c : Thread nD τ)) Finset.univ g 8 q).trans ?_
  refine BI.bigSep_congr fun r _ => ?_
  have e : sh q r.val = ShareLeaves.leaf 8 q r := dif_pos r.isLt
  show _ = ysPt c Finset.univ (sh q r.val) g
  rw [e]

/-! ## A block as rows -/

theorem bset_disj (M : Memref sig .tc .vmem S256x2048 .f32) (r r' : ℕ) (h : r ≠ r') : Disjoint (bset M r) (bset M r') := by
  unfold bset
  rw [Finset.disjoint_map, Finset.disjoint_left]
  intro y hy hy'
  rw [mem_brow] at hy hy'
  exact h (hy.symm.trans hy')

theorem bset_cover (M : Memref sig .tc .vmem S256x2048 .f32) : (Finset.range 256).biUnion (bset M) = M.view.set := by
  ext y
  unfold bset View.set
  simp only [Finset.mem_biUnion, Finset.mem_map, Finset.mem_range, Finset.mem_univ, true_and, mem_brow]
  exact ⟨fun ⟨r, _, z, _, hz⟩ => ⟨z, hz⟩, fun ⟨z, hz⟩ => ⟨(z 0).val, (z 0).isLt, z, rfl, hz⟩⟩

theorem block_rows (c : Dev nD) (M : Memref sig .tc .vmem S256x2048 .f32) (hs : M.view.set = Finset.univ) (X : Buf (Elt F) (M.view.loc (c : Thread nD τ))) :
    (M.view.loc (c : Thread nD τ) ↦{fullShare} X : sProp 𝕄) = bigSep (Finset.range 256) (fun r => bPt c M r X) := by
  rw [← hs, ← bset_cover]
  exact pointsTo_biUnion _ _ fun r _ r' _ h => bset_disj M r r' h

section Step

variable (c : Dev nD) (i : grid0.Coords) (q1 q2 : PosShare TreeShare)
  (f1 : Buf (Elt F) (t1M.view.loc (c : Thread nD τ))) (f2 : Buf (Elt F) (t2M.view.loc (c : Thread nD τ)))
  (g : YsBuf (F := F)) (fd1 fd2 X1 X2 : Blk (F := F)) (w1 w2 : ℕ → ℕ)

/-- What is known of the step: row `r`'s two copies read the rows the tables name, and `X1`, `X2` are what they leave. -/
structure StepFacts : Prop where
  lt1 : ∀ r < 256, w1 r < 40960
  lt2 : ∀ r < 256, w2 r < 40960
  tab1 : ∀ r < 256, ∀ y : S16384.Idx, (y 0).val = 256 * (i 0).val + r → (t1M.view.read (Elt F) f1 y : BitVec 32).toNat = w1 r
  tab2 : ∀ r < 256, ∀ y : S16384.Idx, (y 0).val = 256 * (i 0).val + r → (t2M.view.read (Elt F) f2 y : BitVec 32).toNat = w2 r
  all1 : ∀ y : S16384.Idx, (t1M.view.read (Elt F) f1 y : BitVec 32).toNat < 40960
  all2 : ∀ y : S16384.Idx, (t2M.view.read (Elt F) f2 y : BitVec 32).toNat < 40960
  new1 : ∀ r < 256, ∀ z : S256x2048.Idx, (z 0).val = r → ∀ y ∈ rowSet (w1 r), (y 1).val = (z 1).val → X1 z = g y
  new2 : ∀ r < 256, ∀ z : S256x2048.Idx, (z 0).val = r → ∀ y ∈ rowSet (w2 r), (y 1).val = (z 1).val → X2 z = g y

/-- What a row's copy delivers, the row of the block and the row it read, and what is left of the results meanwhile. -/
abbrev dA (r : ℕ) : sProp 𝕄 := iprop(bPt c y1M r X1 ∗ ysPt c (rowSet (w1 r)) (sh fullShare.left r) g)
abbrev dB (r : ℕ) : sProp 𝕄 := iprop(bPt c y2M r X2 ∗ ysPt c (rowSet (w2 r)) (sh fullShare.right r) g)
abbrev rowD : Fin (2 * 256) → sProp 𝕄 := Ring.interleaved 256 (dA c g X1 w1) (dB c g X2 w2)
abbrev restA (r : ℕ) : sProp 𝕄 := ysPt c (Finset.univ \ rowSet (w1 r)) (sh fullShare.left r) g
abbrev restB (r : ℕ) : sProp 𝕄 := ysPt c (Finset.univ \ rowSet (w2 r)) (sh fullShare.right r) g
/-- What the two copies of row `r` start from. -/
abbrev todo (r : ℕ) : sProp 𝕄 := iprop((bPt c y1M r fd1 ∗ ysPt c Finset.univ (sh fullShare.left r) g) ∗ (bPt c y2M r fd2 ∗ ysPt c Finset.univ (sh fullShare.right r) g))

/-- Before trip `k` of the first loop. -/
def issueAt (k : ℕ) (_ : Unit) : sProp 𝕄 :=
  iprop(tabPt c t1M q1 f1 ∗ tabPt c t2M q2 f2 ∗ bigSep (Ring.rangeSet 256 k 256) (fun r => todo c g fd1 fd2 r.val)
    ∗ bigSep (Finset.range k) (fun r => iprop(restA c g w1 r ∗ restB c g w2 r)) ∗ rowBatch c (rowD c g X1 X2 w1 w2) (2 * k) 0)

/-- Before trip `k` of the second. -/
def drainAt (D : Fin (2 * 256) → sProp 𝕄) (k : ℕ) (_ : Unit) : sProp 𝕄 :=
  iprop(tabPt c t1M q1 f1 ∗ tabPt c t2M q2 f2 ∗ rowBatch c D (2 * 256) (2 * k * NR) ∗ ∃ W, owes (c : Thread nD τ) 0 W)

/-- The bodies of the two loops, over the blocks the launch passes. -/
abbrev body1 (a3 a7 : Memref sig .tc .vmem S256x2048 .f32) (h3 : a3.IsWhole) (h7 : a7.IsWhole) (a4 : Memref sig .tc .vmem S256x128 .f32) (h4 : a4.IsWhole)
    (a6 : Memref sig .tc .vmem S1x2048 .f32) (h6 : a6.IsWhole) :=
  k0_t1_body (F := F) i t1M (Memref.isWhole_whole _) t2M (Memref.isWhole_whole _) a3 h3 a4 h4 ysM (Memref.isWhole_whole _) a6 h6 a7 h7
    y1M (Memref.isWhole_whole _) y2M (Memref.isWhole_whole _) cc0_scratch2
abbrev body2 (a3 a7 : Memref sig .tc .vmem S256x2048 .f32) (h3 : a3.IsWhole) (h7 : a7.IsWhole) (a4 : Memref sig .tc .vmem S256x128 .f32) (h4 : a4.IsWhole)
    (a6 : Memref sig .tc .vmem S1x2048 .f32) (h6 : a6.IsWhole) :=
  k0_t2_body (F := F) i t1M (Memref.isWhole_whole _) t2M (Memref.isWhole_whole _) a3 h3 a4 h4 ysM (Memref.isWhole_whole _) a6 h6 a7 h7
    y1M (Memref.isWhole_whole _) y2M (Memref.isWhole_whole _) cc0_scratch2

variable {c i q1 q2 f1 f2 g fd1 fd2 X1 X2 w1 w2}
variable {a3 a7 : Memref sig .tc .vmem S256x2048 .f32} {h3 : a3.IsWhole} {h7 : a7.IsWhole} {a4 : Memref sig .tc .vmem S256x128 .f32} {h4 : a4.IsWhole}
    {a6 : Memref sig .tc .vmem S1x2048 .f32} {h6 : a6.IsWhole}

theorem issue_step (H : StepFacts c i f1 f2 g X1 X2 w1 w2) (k : Fin k0_t1_loop.trips) (acc : Unit) :
    issueAt c q1 q2 f1 f2 g fd1 fd2 X1 X2 w1 w2 k acc ⊢ wp frame (wpE (defs₀ (F := F)) Variants.none c none) Set.univ
      (body1 i a3 a7 h3 h7 a4 h4 a6 h6 k acc) (issueAt c q1 q2 f1 f2 g fd1 fd2 X1 X2 w1 w2 (k.val + 1)) := by
  have hk : k.val < 256 := trips1 ▸ k.isLt
  unfold body1
  rw [t1_body_eq]
  unfold issueAt
  rw [Ring.bigSep_rangeSet_head hk hk, range_last, show 2 * (k.val + 1) = 2 * k.val + 1 + 1 by omega]
  iintro ⟨Ht1, Ht2, ⟨⟨⟨Hb1, Hy1⟩, ⟨Hb2, Hy2⟩⟩, Htodo⟩, Hrest, HB⟩
  iapply (wp_rowStart c y1M (by decide) (D := rowD c g X1 X2 w1 w2) (j := 2 * k.val) (u := 0) (by omega) (Nat.zero_le _) t1M q1 f1 _ _ _ _
    (256 * (i 0).val + k.val) (w1 k.val) k.val (off1_eq i k) (off2_eq k) rfl (H.lt1 _ hk) (H.tab1 _ hk) (sh fullShare.left k.val) g fd1 X1
    (H.new1 _ hk) (Entails.of_eq (Ring.interleaved_even 256 (dA c g X1 w1) (dB c g X2 w2) k.val (by omega)).symm)) $$ [Ht1 Hb1 Hy1 HB]
  · isplitl [Ht1]; · iexact Ht1
    isplitl [Hb1]; · iexact Hb1
    isplitl [Hy1] <;> iassumption
  iintro ⟨Ht1, Hy1, HB⟩
  iapply (wp_rowStart c y2M (by decide) (D := rowD c g X1 X2 w1 w2) (j := 2 * k.val + 1) (u := 0) (by omega) (Nat.zero_le _) t2M q2 f2 _ _ _ _
    (256 * (i 0).val + k.val) (w2 k.val) k.val (off4_eq i k) (off5_eq k) rfl (H.lt2 _ hk) (H.tab2 _ hk) (sh fullShare.right k.val) g fd2 X2
    (H.new2 _ hk) (Entails.of_eq (Ring.interleaved_odd 256 (dA c g X1 w1) (dB c g X2 w2) k.val (by omega)).symm)) $$ [Ht2 Hb2 Hy2 HB]
  · isplitl [Ht2]; · iexact Ht2
    isplitl [Hb2]; · iexact Hb2
    isplitl [Hy2] <;> iassumption
  iintro ⟨Ht2, Hy2, HB⟩
  sl_step
  isplitl [Ht1]; · iexact Ht1
  isplitl [Ht2]; · iexact Ht2
  isplitl [Htodo]; · iexact Htodo
  isplitr [HB]
  · isplitl [Hy1 Hy2]
    · isplitl [Hy1] <;> iassumption
    · iexact Hrest
  · iexact HB

theorem drain_step (H : StepFacts c i f1 f2 g X1 X2 w1 w2) (D : Fin (2 * 256) → sProp 𝕄) (k : Fin k0_t2_loop.trips) (acc : Unit) :
    drainAt c q1 q2 f1 f2 D k acc ⊢ wp frame (wpE (defs₀ (F := F)) Variants.none c none) Set.univ
      (body2 i a3 a7 h3 h7 a4 h4 a6 h6 k acc) (drainAt c q1 q2 f1 f2 D (k.val + 1)) := by
  have hk : k.val < 256 := trips2 ▸ k.isLt
  have hN := NR_pos
  unfold body2
  rw [t2_body_eq]
  unfold drainAt
  have e : 2 * (k.val + 1) * NR = 2 * k.val * NR + NR + NR := by
    rw [show 2 * (k.val + 1) = 2 * k.val + 1 + 1 by omega, Nat.add_mul, Nat.add_mul, Nat.one_mul]
  have b1 : 2 * k.val * NR + NR + NR ≤ NR * (2 * 256) := by rw [← e, Nat.mul_comm]; exact Nat.mul_le_mul_left _ (by omega)
  rw [e]
  iintro ⟨Ht1, Ht2, HB, ⟨%W, HO⟩⟩
  iapply (wp_rowWait c y1M (by decide) (D := D) (j := 2 * 256) (u := 2 * k.val * NR) (by omega) t1M q1 f1 _ _ _ _ H.all1 W) $$ [Ht1 HB HO]
  · isplitl [Ht1]; · iexact Ht1
    isplitl [HB] <;> iassumption
  iintro ⟨Ht1, HB, ⟨%W', HO⟩⟩
  iapply (wp_rowWait c y2M (by decide) (D := D) (j := 2 * 256) (u := 2 * k.val * NR + NR) b1 t2M q2 f2 _ _ _ _ H.all2 W') $$ [Ht2 HB HO]
  · isplitl [Ht2]; · iexact Ht2
    isplitl [HB] <;> iassumption
  iintro ⟨Ht2, HB, HO⟩
  sl_step
  isplitl [Ht1]; · iexact Ht1
  isplitl [Ht2]; · iexact Ht2
  isplitl [HB] <;> iassumption

/-- The copies of one table, and what was left of the results, put together. -/
theorem joined (M : Memref sig .tc .vmem S256x2048 .f32) (hs : M.view.set = Finset.univ) (X : Buf (Elt F) (M.view.loc (c : Thread nD τ))) (w : ℕ → ℕ)
    (q : PosShare TreeShare) :
    iprop(bigSep (Finset.range 256) (fun r => iprop(bPt c M r X ∗ ysPt c (rowSet (w r)) (sh q r) g))
        ∗ bigSep (Finset.range 256) (fun r => ysPt c (Finset.univ \ rowSet (w r)) (sh q r) g))
      ⊢ iprop((M.view.loc (c : Thread nD τ) ↦{fullShare} X) ∗ ysPt c Finset.univ q g : sProp 𝕄) := by
  rw [show bigSep (Finset.range 256) (fun r => iprop(bPt c M r X ∗ ysPt c (rowSet (w r)) (sh q r) g))
      = iprop(bigSep (Finset.range 256) (fun r => bPt c M r X) ∗ bigSep (Finset.range 256) (fun r => ysPt c (rowSet (w r)) (sh q r) g)) from BI.bigSep_sep _ _ _,
    ← block_rows c M hs X, ys_leaves c g q]
  iintro ⟨⟨Hb, Hs⟩, Hr⟩
  isplitl [Hb]; · iexact Hb
  iapply (show iprop(bigSep (Finset.range 256) (fun r => ysPt c (rowSet (w r)) (sh q r) g) ∗ bigSep (Finset.range 256) (fun r => ysPt c (Finset.univ \ rowSet (w r)) (sh q r) g))
      ⊢ bigSep (Finset.range 256) (fun r => ysPt c Finset.univ (sh q r) g) from
    (Entails.of_eq (BI.bigSep_sep _ _ _).symm).trans (BI.bigSep_mono fun r _ => (pointsTo_split_subset (Finset.subset_univ (rowSet (w r)))).2))
  isplitl [Hs] <;> iassumption

theorem delivered :
    iprop(bigSep (Finset.range 256) (fun r => iprop(restA c g w1 r ∗ restB c g w2 r)) ∗ bigSep Finset.univ (rowD c g X1 X2 w1 w2))
      ⊢ iprop((y1M.view.loc (c : Thread nD τ) ↦{fullShare} X1) ∗ (y2M.view.loc (c : Thread nD τ) ↦{fullShare} X2) ∗ ysPt c Finset.univ fullShare g : sProp 𝕄) := by
  unfold rowD
  rw [Ring.bigSep_interleaved,
    show bigSep (Finset.range 256) (fun r => iprop(restA c g w1 r ∗ restB c g w2 r))
      = iprop(bigSep (Finset.range 256) (restA c g w1) ∗ bigSep (Finset.range 256) (restB c g w2)) from BI.bigSep_sep _ _ _]
  iintro ⟨⟨HrA, HrB⟩, HA, HB⟩
  ihave H1 := (joined (c := c) (g := g) y1M (View.set_whole _) X1 w1 fullShare.left) $$ [HA HrA]
  · isplitl [HA] <;> iassumption
  icases H1 with ⟨Hb1, Hl⟩
  ihave H2 := (joined (c := c) (g := g) y2M (View.set_whole _) X2 w2 fullShare.right) $$ [HB HrB]
  · isplitl [HB] <;> iassumption
  icases H2 with ⟨Hb2, Hr⟩
  isplitl [Hb1]; · iexact Hb1
  isplitl [Hb2]; · iexact Hb2
  iapply (pointsTo_share (PosShare.mem_left_op_right fullShare)).2
  isplitl [Hl] <;> iassumption

instance rowD_storable (t : Fin (2 * 256)) : BI.Storable (upEmb : UEmb _ 𝕄) (rowD c g X1 X2 w1 w2 t) := by
  unfold rowD; infer_instance

theorem issue_init :
    iprop(tabPt c t1M q1 f1 ∗ tabPt c t2M q2 f2 ∗ (y1M.view.loc (c : Thread nD τ) ↦{fullShare} fd1) ∗ (y2M.view.loc (c : Thread nD τ) ↦{fullShare} fd2)
        ∗ ysPt c Finset.univ fullShare g ∗ rowBatch c (rowD c g X1 X2 w1 w2) 0 0) ⊢ issueAt c q1 q2 f1 f2 g fd1 fd2 X1 X2 w1 w2 0 () := by
  unfold issueAt
  rw [block_rows c y1M (View.set_whole _) fd1, block_rows c y2M (View.set_whole _) fd2, Ring.rangeSet_univ, range_of_fin (fun r => todo c g fd1 fd2 r),
    show bigSep (Finset.range 256) (fun r => todo c g fd1 fd2 r) = iprop((bigSep (Finset.range 256) (fun r => bPt c y1M r fd1)
      ∗ bigSep (Finset.range 256) (fun r => ysPt c Finset.univ (sh fullShare.left r) g)) ∗ (bigSep (Finset.range 256) (fun r => bPt c y2M r fd2)
      ∗ bigSep (Finset.range 256) (fun r => ysPt c Finset.univ (sh fullShare.right r) g))) from
      (BI.bigSep_sep _ _ _).trans (congrArg₂ BIBase.sep (BI.bigSep_sep _ _ _) (BI.bigSep_sep _ _ _)),
    ← ys_leaves, ← ys_leaves, Finset.range_zero, BI.bigSep_empty]
  iintro ⟨Ht1, Ht2, Hb1, Hb2, Hy, HB⟩
  ihave Hy' := (pointsTo_share (PosShare.mem_left_op_right fullShare)).1 $$ Hy
  icases Hy' with ⟨Hl, Hr⟩
  isplitl [Ht1]; · iexact Ht1
  isplitl [Ht2]; · iexact Ht2
  isplitl [Hb1 Hb2 Hl Hr]
  · isplitl [Hb1 Hl]
    · isplitl [Hb1] <;> iassumption
    · isplitl [Hb2] <;> iassumption
  isplitr [HB]; · iempintro
  iexact HB

/-- The two loops, and what runs after them. -/
theorem wp_rows (H : StepFacts c i f1 f2 g X1 X2 w1 w2) (W : Waits sig Unit) (k : Unit → Prog (TpuEff nD τ sig (Elt F) Λ₀ .tc) PUnit) (Q : PUnit → sProp 𝕄) :
    iprop(tabPt c t1M q1 f1 ∗ tabPt c t2M q2 f2 ∗ (y1M.view.loc (c : Thread nD τ) ↦{fullShare} fd1) ∗ (y2M.view.loc (c : Thread nD τ) ↦{fullShare} fd2)
        ∗ ysPt c Finset.univ fullShare g ∗ semVal ((c : Thread nD τ), SemLoc.dma cc0_scratch2.sem) 0 ∗ owes (c : Thread nD τ) 0 W)
      ⊢ iprop((iprop(tabPt c t1M q1 f1 ∗ tabPt c t2M q2 f2 ∗ (y1M.view.loc (c : Thread nD τ) ↦{fullShare} X1) ∗ (y2M.view.loc (c : Thread nD τ) ↦{fullShare} X2)
            ∗ ysPt c Finset.univ fullShare g ∗ semVal ((c : Thread nD τ), SemLoc.dma cc0_scratch2.sem) 0 ∗ ∃ W', owes (c : Thread nD τ) 0 W')
            -∗ wp frame (wpE (defs₀ (F := F)) Variants.none c none) Set.univ (k ()) Q)
          -∗ wp frame (wpE (defs₀ (F := F)) Variants.none c none) Set.univ
            (Prog.bind (Scf.Loop.for k0_t1_loop k0_t1_ok ⟨⟩ (body1 i a3 a7 h3 h7 a4 h4 a6 h6)) fun _ =>
              Prog.bind (Scf.Loop.for k0_t2_loop k0_t2_ok ⟨⟩ (body2 i a3 a7 h3 h7 a4 h4 a6 h6)) k) Q) := by
  iintro ⟨Ht1, Ht2, Hb1, Hb2, Hy, Hq, HO⟩ Hk
  imod (Transfers.batch_alloc' (Lvl := ℕ) (countersEmb (U := Pipeline.UD sig nD τ)) (c : Thread nD τ) () NR (rowD c g X1 X2 w1 w2)
    (sm := SemLoc.dma cc0_scratch2.sem) (E := Set.univ)) $$ Hq with HB
  iapply (Scf.wp_for_bind frame (wpE (defs₀ (F := F)) Variants.none c none) Set.univ _ _ _ _ _ _ (issueAt c q1 q2 f1 f2 g fd1 fd2 X1 X2 w1 w2)
    (fun k acc => issue_step H k acc)) $$ [Ht1 Ht2 Hb1 Hb2 Hy HB]
  · iapply issue_init
    isplitl [Ht1]; · iexact Ht1
    isplitl [Ht2]; · iexact Ht2
    isplitl [Hb1]; · iexact Hb1
    isplitl [Hb2]; · iexact Hb2
    isplitl [Hy] <;> iassumption
  iintro %acc HL
  ihave HL' := (show issueAt c q1 q2 f1 f2 g fd1 fd2 X1 X2 w1 w2 (Scf.trips k0_t1_loop.lb k0_t1_loop.ub k0_t1_loop.st) acc
      ⊢ iprop(tabPt c t1M q1 f1 ∗ tabPt c t2M q2 f2 ∗ bigSep (Finset.range 256) (fun r => iprop(restA c g w1 r ∗ restB c g w2 r))
        ∗ rowBatch c (rowD c g X1 X2 w1 w2) (2 * 256) 0) from by
    rw [show Scf.trips k0_t1_loop.lb k0_t1_loop.ub k0_t1_loop.st = 256 from trips1]
    unfold issueAt
    iintro ⟨Ht1, Ht2, -, Hr, HB⟩
    isplitl [Ht1]; · iexact Ht1
    isplitl [Ht2]; · iexact Ht2
    isplitl [Hr] <;> iassumption) $$ HL
  icases HL' with ⟨Ht1, Ht2, Hr, HB⟩
  iapply (Scf.wp_for_bind frame (wpE (defs₀ (F := F)) Variants.none c none) Set.univ _ _ _ _ _ _ (drainAt c q1 q2 f1 f2 (rowD c g X1 X2 w1 w2))
    (fun k acc => drain_step H _ k acc)) $$ [Ht1 Ht2 HB HO]
  · unfold drainAt
    rw [Nat.mul_zero, Nat.zero_mul]
    isplitl [Ht1]; · iexact Ht1
    isplitl [Ht2]; · iexact Ht2
    isplitl [HB]; · iexact HB
    iexists _; iexact HO
  iintro %acc' HL
  ihave HL' := (show drainAt c q1 q2 f1 f2 (rowD c g X1 X2 w1 w2) (Scf.trips k0_t2_loop.lb k0_t2_loop.ub k0_t2_loop.st) acc'
      ⊢ iprop(tabPt c t1M q1 f1 ∗ tabPt c t2M q2 f2 ∗ rowBatch c (rowD c g X1 X2 w1 w2) (2 * 256) (NR * (2 * 256)) ∗ ∃ W, owes (c : Thread nD τ) 0 W) from by
    rw [show Scf.trips k0_t2_loop.lb k0_t2_loop.ub k0_t2_loop.st = 256 from trips2]
    unfold drainAt
    rw [Nat.mul_comm NR]) $$ HL
  icases HL' with ⟨Ht1, Ht2, HB, HO⟩
  imod (Transfers.batch_collect' (Lvl := ℕ) (countersEmb (U := Pipeline.UD sig nD τ)) (c : Thread nD τ) (sm := SemLoc.dma cc0_scratch2.sem) NR_pos) $$ HB with ⟨HD, Hq⟩
  ihave HD' := (delivered (c := c) (g := g) (X1 := X1) (X2 := X2) (w1 := w1) (w2 := w2)) $$ [Hr HD]
  · isplitl [Hr] <;> iassumption
  icases HD' with ⟨Hb1, Hb2, Hy⟩
  iapply Hk
  isplitl [Ht1]; · iexact Ht1
  isplitl [Ht2]; · iexact Ht2
  isplitl [Hb1]; · iexact Hb1
  isplitl [Hb2]; · iexact Hb2
  isplitl [Hy]; · iexact Hy
  isplitl [Hq] <;> iassumption

end Step

end Cert.CombineIdeal.Hand

end
-- ==== Proof.CmbPre.lean ====
/-
  What the precondition says of the two position tables, entry by entry.
-/
module

public import proofs.«01_k».proof.Proof.Gen.Pre_placed
public import proofs.«01_k».proof.Proof.Pre

@[expose] public section

noncomputable section

namespace Cert.Pre_placed.Hand

open Cert.Pre_placed Idealize.ShloMosaic
open Cert.Pre_routed.Hand (ix1 ix2 eq_ix1 lt_of_signed)

/-- Every position names a row of the experts' results. -/
structure Placed (p1 p2 : S16384.Idx → BitVec 32) : Prop where
  lt1 : ∀ j, (p1 (ix1 j)).toNat < 40960
  lt2 : ∀ j, (p2 (ix1 j)).toNat < 40960

variable {F : FTy → Type} [FloatOps F] [Facts]

theorem placed_of (a0 a1 : S16384.Idx → BitVec 32) (a2 : FVec F S16384x2048 .f32) (a3 : FVec F S16384x128 .f32) (a4 : FVec F S40960x2048 .f32)
    (a5 : FVec F S2048 .f32) (h : fn (F := F) a0 a1 a2 a3 a4 a5 = fun _ => 1#1) : Placed a0 a1 := by
  have h := congrFun h (fun a => a.elim0)
  unfold fn at h
  obtain ⟨h1, h2⟩ := IntOp.andi_eq_one.mp h
  have sub : Subsingleton S_.Idx := ⟨fun a b => funext fun x => x.elim0⟩
  constructor
  · intro j
    obtain ⟨x, y⟩ := IntOp.andi_eq_one.mp (Host.reduce_andi_all _ _ _ _ _ h1 (ix1 j))
    exact lt_of_signed x y
  · intro j
    obtain ⟨x, y⟩ := IntOp.andi_eq_one.mp (Host.reduce_andi_all _ _ _ _ _ h2 (ix1 j))
    exact lt_of_signed x y

end Cert.Pre_placed.Hand

end
-- ==== Proof.CmbBody.lean ====
/-
  The combine's body at a grid point: the rows fetched, then the weighted sum and the norm.
-/
module

public import proofs.«01_k».proof.Proof.CmbLoops
public import proofs.«01_k».proof.Proof.CmbPre
public import proofs.«01_k».proof.Proof.InBody

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (rowSet mem_rowSet)
open Cert.Pre_placed.Hand (Placed)
open Cert.Pre_routed.Hand (ix1 ix2 eq_ix1)
open Cert.ExpertsIdeal.Hand (hz2)
open Cert.InProjIdeal.Hand (stored loaded)

variable {F : FTy → Type} [FloatOps F]

/-- The logic the proof runs in. -/
local notation "𝕄" => MT nD τ sig Unit (Elt F) ℕ (Pipeline.UD sig nD τ) ℕ

/-- The row of the results that row `r` of block `i` asks for, and the block of those rows. -/
def rowOf (p : S16384.Idx → BitVec 32) (i r : ℕ) : ℕ := if h : 256 * i + r < 16384 then (p (ix1 ⟨256 * i + r, h⟩)).toNat else 0
def fetched (p : S16384.Idx → BitVec 32) (g : YsBuf (F := F)) (i : ℕ) : Blk (F := F) := fun z =>
  g (ix2 (⟨rowOf p i (z 0).val % 40960, Nat.mod_lt _ (by decide)⟩ : Fin 40960) (⟨(z 1).val, (z 1).isLt⟩ : Fin 2048))

section Table

variable {p : S16384.Idx → BitVec 32} (hp : ∀ j, (p (ix1 j)).toNat < 40960)
include hp

theorem rowOf_lt (i r : ℕ) : rowOf p i r < 40960 := by
  unfold rowOf
  split
  · exact hp _
  · decide

theorem entry_lt (y : S16384.Idx) : (p y).toNat < 40960 := by
  rw [eq_ix1 y]; exact hp _

omit hp in
theorem rowOf_tab (i r : ℕ) (y : S16384.Idx) (h : (y 0).val = 256 * i + r) : (p y).toNat = rowOf p i r := by
  have hy : (y 0).val < 16384 := (y 0).isLt
  unfold rowOf
  rw [dif_pos (h ▸ hy)]
  refine congrArg (fun y => (p y).toNat) ((eq_ix1 y).trans ?_)
  exact congrArg ix1 (Fin.ext h)

theorem fetched_row (g : YsBuf (F := F)) (i r : ℕ) (z : S256x2048.Idx) (hz : (z 0).val = r) (y : S40960x2048.Idx) (hy : y ∈ rowSet (rowOf p i r))
    (h1 : (y 1).val = (z 1).val) : fetched p g i z = g y := by
  rw [mem_rowSet] at hy
  unfold fetched
  congr 1
  funext a
  apply Fin.ext
  fin_cases a
  · show rowOf p i (z 0).val % 40960 = (y 0).val
    rw [hz, Nat.mod_eq_of_lt (rowOf_lt hp i r), hy]
  · exact h1.symm

end Table

theorem stepFacts {p1 p2 : S16384.Idx → BitVec 32} (R : Placed p1 p2) (c : Dev nD) (i : grid0.Coords) (g : YsBuf (F := F)) :
    StepFacts c i p1 p2 g (fetched p1 g (i 0).val) (fetched p2 g (i 0).val) (rowOf p1 (i 0).val) (rowOf p2 (i 0).val) where
  lt1 r _ := rowOf_lt R.lt1 _ r
  lt2 r _ := rowOf_lt R.lt2 _ r
  tab1 r _ y h := rowOf_tab _ r y h
  tab2 r _ y h := rowOf_tab _ r y h
  all1 y := entry_lt R.lt1 y
  all2 y := entry_lt R.lt2 y
  new1 r _ z hz y hy h := fetched_row R.lt1 g _ r z hz y hy h
  new2 r _ z hz y hy h := fetched_row R.lt2 g _ r z hz y hy h

theorem loaded1 (X : Blk (F := F)) (inb : ∀ a, (![0, 0] : Fin 2 → ℕ) a + S256x2048.size a ≤ S256x2048.size a) :
    View.readAt (Elt F) y1M.view (Rect.unit (s := S256x2048) ![0, 0] S256x2048.size inb).toLoadRect X = X :=
  (loaded y1M.view X hz2 inb).trans (View.read_whole cc0_scratch0 X)
theorem loaded2 (X : Blk (F := F)) (inb : ∀ a, (![0, 0] : Fin 2 → ℕ) a + S256x2048.size a ≤ S256x2048.size a) :
    View.readAt (Elt F) y2M.view (Rect.unit (s := S256x2048) ![0, 0] S256x2048.size inb).toLoadRect X = X :=
  (loaded y2M.view X hz2 inb).trans (View.read_whole cc0_scratch1 X)

/-- What runs after the loops: the loads, and the store of the block. -/
def tailProg (a3 : Memref sig .tc .vmem S256x2048 .f32) (a4 : Memref sig .tc .vmem S256x128 .f32) (a6 : Memref sig .tc .vmem S1x2048 .f32)
    (a7 : Memref sig .tc .vmem S256x2048 .f32) : Prog (TpuEff nD τ sig (Elt F) Λ₀ .tc) PUnit := do
  let v2 : Vec F S256x128 .f32 ← Prog.lift (.load a4 (Rect.unit (s := S256x128) ![0, 0] S256x128.size inb_S256x128_S256x128_0_0).toLoadRect (View.loadsAt_vmem h_S256x128))
  let v5 : Vec F S256x2048 .f32 ← Prog.lift (.load a3 (Rect.unit (s := S256x2048) ![0, 0] S256x2048.size inb_S256x2048_S256x2048_0_0).toLoadRect (View.loadsAt_vmem h_S256x2048))
  let v6 : Vec F S256x2048 .f32 ← Prog.lift (.load y1M (Rect.unit (s := S256x2048) ![0, 0] S256x2048.size inb_S256x2048_S256x2048_0_0).toLoadRect (View.loadsAt_vmem h_S256x2048))
  let v9 : Vec F S256x2048 .f32 ← Prog.lift (.load y2M (Rect.unit (s := S256x2048) ![0, 0] S256x2048.size inb_S256x2048_S256x2048_0_0).toLoadRect (View.loadsAt_vmem h_S256x2048))
  let v24 : Vec F S1x2048 .f32 ← Prog.lift (.load a6 (Rect.unit (s := S1x2048) ![0, 0] S1x2048.size inb_S1x2048_S1x2048_0_0).toLoadRect (View.loadsAt_vmem h_S1x2048))
  let v28 : Vec F S256x2048 .f32 ← Prog.lift (.load a7 (Rect.unit (s := S256x2048) ![0, 0] S256x2048.size inb_S256x2048_S256x2048_0_0).toLoadRect (View.loadsAt_vmem h_S256x2048))
  Prog.lift (.store a7 (Rect.unit (s := S256x2048) ![0, 0] S256x2048.size inb_S256x2048_S256x2048_0_0) (k0_pay1 v2 v5 v6 v9 v24) Finset.univ (View.stores_vmem_bits_univ h_S256x2048 rfl) (.inl rfl))
  pure ⟨⟩

/-- The body is the two loops and what follows them. -/
theorem body_eq (i : grid0.Coords) (a3 : Memref sig .tc .vmem S256x2048 .f32) (h3 : a3.IsWhole) (a4 : Memref sig .tc .vmem S256x128 .f32) (h4 : a4.IsWhole)
    (a6 : Memref sig .tc .vmem S1x2048 .f32) (h6 : a6.IsWhole) (a7 : Memref sig .tc .vmem S256x2048 .f32) (h7 : a7.IsWhole) :
    cc0_combine (F := F) i t1M (Memref.isWhole_whole _) t2M (Memref.isWhole_whole _) a3 h3 a4 h4 ysM (Memref.isWhole_whole _) a6 h6 a7 h7
        y1M (Memref.isWhole_whole _) y2M (Memref.isWhole_whole _) cc0_scratch2
      = Prog.bind (Scf.Loop.for k0_t1_loop k0_t1_ok ⟨⟩ (body1 i a3 a7 h3 h7 a4 h4 a6 h6)) fun _ =>
          Prog.bind (Scf.Loop.for k0_t2_loop k0_t2_ok ⟨⟩ (body2 i a3 a7 h3 h7 a4 h4 a6 h6)) fun _ => tailProg a3 a4 a6 a7 := by
  rw [cc0_combine_eq_skeleton]
  rfl

theorem tail_triple (c : Dev nD) (a3 : Memref sig .tc .vmem S256x2048 .f32) (h3 : a3.IsWhole) (a4 : Memref sig .tc .vmem S256x128 .f32) (h4 : a4.IsWhole)
    (a6 : Memref sig .tc .vmem S1x2048 .f32) (h6 : a6.IsWhole) (a7 : Memref sig .tc .vmem S256x2048 .f32) (h7 : a7.IsWhole)
    (f3 : Buf (Elt F) (a3.view.loc (c : Thread nD τ))) (f4 : Buf (Elt F) (a4.view.loc (c : Thread nD τ))) (f6 : Buf (Elt F) (a6.view.loc (c : Thread nD τ)))
    (f7 : Buf (Elt F) (a7.view.loc (c : Thread nD τ))) (X1 X2 : Blk (F := F)) :
    (iprop((a3.view.loc (c : Thread nD τ) ↦[a3.view.set]{fullShare} f3) ∗ (a4.view.loc (c : Thread nD τ) ↦[a4.view.set]{fullShare} f4)
      ∗ (a6.view.loc (c : Thread nD τ) ↦[a6.view.set]{fullShare} f6) ∗ (a7.view.loc (c : Thread nD τ) ↦[a7.view.set]{fullShare} f7)
      ∗ (y1M.view.loc (c : Thread nD τ) ↦{fullShare} X1) ∗ (y2M.view.loc (c : Thread nD τ) ↦{fullShare} X2)) : sProp 𝕄)
    ⊢ wp frame (wpE (defs₀ (F := F)) Variants.none c none) Set.univ (tailProg a3 a4 a6 a7) fun _ =>
      iprop((a3.view.loc (c : Thread nD τ) ↦[a3.view.set]{fullShare} f3) ∗ (a4.view.loc (c : Thread nD τ) ↦[a4.view.set]{fullShare} f4)
      ∗ (a6.view.loc (c : Thread nD τ) ↦[a6.view.set]{fullShare} f6)
      ∗ (∃ f, ⌜a7.view.read (Elt F) f = k0_pay1 (a4.view.read (Elt F) f4) (a3.view.read (Elt F) f3) X1 X2 (a6.view.read (Elt F) f6)⌝
          ∗ (a7.view.loc (c : Thread nD τ) ↦[a7.view.set]{fullShare} f))
      ∗ (y1M.view.loc (c : Thread nD τ) ↦{fullShare} X1) ∗ (y2M.view.loc (c : Thread nD τ) ↦{fullShare} X2)) := by
  unfold tailProg
  iintro ⟨H3, H4, H6, H7, Hy1, Hy2⟩
  sl_exec
  sl_step
  sl_unfold_words
  rw [loaded a4.view f4 hz2, loaded a3.view f3 hz2, loaded a6.view f6 hz2, loaded1, loaded2]
  isplitl [H3]; · iexact H3
  isplitl [H4]; · iexact H4
  isplitl [H6]; · iexact H6
  isplitl [H7]
  · iexists _
    isplitr
    · ipureintro
      exact stored a7.view f7 hz2 inb_S256x2048_S256x2048_0_0 _
    · iexact H7
  isplitl [Hy1]; · iexact Hy1
  iexact Hy2

end Cert.CombineIdeal.Hand

end
-- ==== Proof.CmbRun.lean ====
/-
  The run of the combine: its arguments unchanged, its cells at zero, its result block by block.
-/
module

public import proofs.«01_k».proof.Proof.CmbBody
public import Idealize.ShloMosaic.Lib.Pipeline.Routed
public import Idealize.ShloMosaic.Lib.Pipeline.Value
public import Idealize.ShloMosaic.Lib.Pointwise
public import Idealize.ShloMosaic.Init

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Pre_placed.Hand (Placed)

variable {F : FTy → Type} [FloatOps F]

/-- The logic the proof runs in. -/
local notation "𝕄" => MT nD τ sig Unit (Elt F) ℕ (Pipeline.UD sig nD τ) ℕ

variable (V : (c : Dev nD) → (b : Ref sig .tc) → Buf (Elt F) ((c : Thread nD τ).loc b))

/-- The tables when the region starts. -/
abbrev adm : (p : Fin 1) → (pcfgs (F := F) p).Adm := fun _ => ⟨fun k => V 0 (pre0.ref k), trivial⟩

/-- The body's DMA cell. -/
abbrev osem0 : Fin 1 → SemLoc sig := fun _ => SemLoc.dma 7
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl

/-- The buffer the body reads itself. -/
def H0 : Finset (Ref sig .tc) := {main_arg4}
theorem H0_sub : H0 ⊆ Pipeline.restRefsP sig pre0 spec0 := by decide

/-- The body's invariant: the two blocks, the register, the cell at zero, the experts' results, the tables. -/
def Phi (c : Dev nD) : sProp 𝕄 := iprop(Pipeline.ΦD osem0 spec0 H0 V c ∗ Pipeline.ΦT pre0 (adm V 0).1 c)

theorem tables_eq (c : Dev nD) : (Pipeline.ΦT pre0 (adm V 0).1 c : sProp 𝕄)
    = iprop(tabPt c t1M fullShare.right (V c main_arg0) ∗ tabPt c t2M fullShare.right (V c main_arg1)) := by
  obtain rfl : c = 0 := Subsingleton.elim _ _
  unfold Pipeline.ΦT Pipeline.prefHeld
  rw [bigSep_univ_eq_bigSepL [(0 : Fin 2), 1] (by decide) (by decide)]
  rfl

theorem Phi_eq (c : Dev nD) : Phi V c
    = iprop((((∃ f : Blk (F := F), y1M.view.loc (c : Thread nD τ) ↦{fullShare} f) ∗ (∃ f : Blk (F := F), y2M.view.loc (c : Thread nD τ) ↦{fullShare} f))
        ∗ (∃ r, prngReg c r) ∗ semVal ((c : Thread nD τ), SemLoc.dma cc0_scratch2.sem) 0 ∗ ysPt c Finset.univ fullShare (V c main_arg4))
      ∗ tabPt c t1M fullShare.right (V c main_arg0) ∗ tabPt c t2M fullShare.right (V c main_arg1)) := by
  unfold Phi H0
  rw [Pipeline.ΦD_eq, scopedRest0_eq, ownSems0_cells, BI.bigSep_singleton, tables_eq]
  rfl

/-- The blocks staged at point `t`, and what the point leaves. -/
abbrev xB (c : Dev nD) (t : Fin grid0.N) : Vec F S256x2048 .f32 := (((cfg0 (adm V 0)).win 0).blk t).view.read (Elt F) (V c main_arg2)
abbrev rB (c : Dev nD) (t : Fin grid0.N) : Vec F S256x128 .f32 := (((cfg0 (adm V 0)).win 1).blk t).view.read (Elt F) (V c main_arg3)
abbrev nB (c : Dev nD) (t : Fin grid0.N) : Vec F S1x2048 .f32 := (((cfg0 (adm V 0)).win 2).blk t).view.read (Elt F) (V c main_v0)
def outB (c : Dev nD) (t : Fin grid0.N) : Vec F S256x2048 .f32 :=
  k0_pay1 (rB V c t) (xB V c t) (fetched (V c main_arg0) (V c main_arg4) (grid0.coords t 0).val) (fetched (V c main_arg1) (V c main_arg4) (grid0.coords t 0).val)
    (nB V c t)

/-- The proof data of the pipeline on core `c`. -/
def dats (p : Fin 1) (c : Dev nD) : Dat τ (Elt F) Unit ℕ (Pipeline.UD sig nD τ) ℕ (Pipeline.pin (pcfgs (F := F)) (adm V) p) c where
  A w := V c (Pipeline.arrRef spec0 w)
  after w t := match w with
    | ⟨0, _⟩ => xB V c t
    | ⟨1, _⟩ => rB V c t
    | ⟨2, _⟩ => nB V c t
    | ⟨3, _⟩ => outB V c t
    | ⟨_ + 4, h⟩ => absurd h (Nat.not_lt.2 (Nat.le_add_left _ _))
  Φ _ := Phi V c
  q _ := fullShare
  owed _ := 0

theorem coord_val : ∀ t : Fin grid0.N, (grid0.coords t 0).val = t.val := by decide

theorem before0 (c : Dev nD) (t : Fin grid0.N) (d) : (dats V 0 c).before 0 t d = xB V c t :=
  (dats V 0 c).before_in_eq_fetched 0 rfl (fun _ => rfl) (fun _ _ _ => rfl) (fun _ => rfl) t d
theorem before1 (c : Dev nD) (t : Fin grid0.N) (d) : (dats V 0 c).before 1 t d = rB V c t :=
  (dats V 0 c).before_in_eq_fetched 1 rfl (fun _ => rfl) (fun _ _ _ => rfl) (fun _ => rfl) t d
theorem before2 (c : Dev nD) (t : Fin grid0.N) (d) : (dats V 0 c).before 2 t d = nB V c t :=
  (dats V 0 c).before_in_eq_fetched 2 rfl (fun _ => rfl) (fun _ _ _ => rfl) (fun _ => rfl) t d

/-- The memrefs the blocks are staged in at point `t`. -/
abbrev st0 (t : Fin grid0.N) : Memref sig .tc .vmem S256x2048 .f32 := ((cfg0 (adm V 0)).win 0).stage ((cfg0 (adm V 0)).slots t 0)
abbrev st1 (t : Fin grid0.N) : Memref sig .tc .vmem S256x128 .f32 := ((cfg0 (adm V 0)).win 1).stage ((cfg0 (adm V 0)).slots t 1)
abbrev st2 (t : Fin grid0.N) : Memref sig .tc .vmem S1x2048 .f32 := ((cfg0 (adm V 0)).win 2).stage ((cfg0 (adm V 0)).slots t 2)
abbrev st3 (t : Fin grid0.N) : Memref sig .tc .vmem S256x2048 .f32 := ((cfg0 (adm V 0)).win 3).stage ((cfg0 (adm V 0)).slots t 3)
theorem hst0 (t : Fin grid0.N) : (st0 V t).IsWhole := hstage0_0 (((cfg0 (adm V 0)).slots t 0).cast nbuf0_0)
theorem hst1 (t : Fin grid0.N) : (st1 V t).IsWhole := hstage0_1 (((cfg0 (adm V 0)).slots t 1).cast nbuf0_1)
theorem hst2 (t : Fin grid0.N) : (st2 V t).IsWhole := hstage0_2 (((cfg0 (adm V 0)).slots t 2).cast nbuf0_2)
theorem hst3 (t : Fin grid0.N) : (st3 V t).IsWhole := hstage0_3 (((cfg0 (adm V 0)).slots t 3).cast nbuf0_3)

/-- The body at point `t`. -/
abbrev bodyAt (t : Fin grid0.N) :=
  cc0_combine (F := F) (grid0.coords t) t1M (Memref.isWhole_whole _) t2M (Memref.isWhole_whole _) (st0 V t) (hst0 V t) (st1 V t) (hst1 V t)
    ysM (Memref.isWhole_whole _) (st2 V t) (hst2 V t) (st3 V t) (hst3 V t) y1M (Memref.isWhole_whole _) y2M (Memref.isWhole_whole _) cc0_scratch2

def bodyPre (c : Dev nD) (t : Fin grid0.N) : sProp 𝕄 :=
  iprop((dats V 0 c).Φ t.castSucc ∗ (dats V 0 c).owesAt () t.castSucc
    ∗ (∃ d, owns (c : Thread nD τ) (st0 V t) fullShare ((dats V 0 c).before 0 t d))
    ∗ (∃ d, owns (c : Thread nD τ) (st1 V t) fullShare ((dats V 0 c).before 1 t d))
    ∗ (∃ d, owns (c : Thread nD τ) (st2 V t) fullShare ((dats V 0 c).before 2 t d))
    ∗ (∃ d, owns (c : Thread nD τ) (st3 V t) fullShare ((dats V 0 c).before 3 t d)))
def bodyPost (c : Dev nD) (t : Fin grid0.N) : sProp 𝕄 :=
  iprop((dats V 0 c).Φ t.succ ∗ (dats V 0 c).owesAt () t.succ
    ∗ owns (c : Thread nD τ) (st0 V t) fullShare ((dats V 0 c).after 0 t)
    ∗ owns (c : Thread nD τ) (st1 V t) fullShare ((dats V 0 c).after 1 t)
    ∗ owns (c : Thread nD τ) (st2 V t) fullShare ((dats V 0 c).after 2 t)
    ∗ owns (c : Thread nD τ) (st3 V t) fullShare ((dats V 0 c).after 3 t))

theorem sound_body (c : Dev nD) (R : Placed (V c main_arg0) (V c main_arg1)) (t : Fin grid0.N) :
    bodyPre V c t ⊢ wp frame (wpE (defs₀ (F := F)) Variants.none c none) Set.univ (bodyAt V t) (fun _ => bodyPost V c t) := by
  unfold bodyPre
  rw [show (dats V 0 c).Φ t.castSucc = Phi V c from rfl, Phi_eq]
  unfold Dat.owesAt Pipeline.owesWithin
  rw [show (dats V 0 c).owed t.castSucc = 0 from rfl]
  unfold owns bodyAt
  rw [body_eq]
  iintro ⟨⟨⟨⟨⟨%e1, Hy1⟩, ⟨%e2, Hy2⟩⟩, Hg, Hq, Hys⟩, Ht1, Ht2⟩, ⟨%W, -, HO⟩, ⟨%d0, %f0, %h0, H0⟩, ⟨%d1, %f1, %h1, H1⟩, ⟨%d2, %f2, %h2, H2⟩, ⟨%d3, %f3, -, H3⟩⟩
  rw [before0] at h0
  rw [before1] at h1
  rw [before2] at h2
  iapply (wp_rows (stepFacts R c (grid0.coords t) (V c main_arg4)) W (fun _ => tailProg (st0 V t) (st1 V t) (st2 V t) (st3 V t)) (fun _ => bodyPost V c t)) $$ [Ht1 Ht2 Hy1 Hy2 Hys Hq HO]
  · isplitl [Ht1]; · iexact Ht1
    isplitl [Ht2]; · iexact Ht2
    isplitl [Hy1]; · iexact Hy1
    isplitl [Hy2]; · iexact Hy2
    isplitl [Hys]; · iexact Hys
    isplitl [Hq] <;> iassumption
  iintro ⟨Ht1, Ht2, Hy1, Hy2, Hys, Hq, ⟨%W', HO⟩⟩
  have hT := tail_triple c (st0 V t) (hst0 V t) (st1 V t) (hst1 V t) (st2 V t) (hst2 V t) (st3 V t) (hst3 V t) f0 f1 f2 f3
    (fetched (V c main_arg0) (V c main_arg4) (grid0.coords t 0).val) (fetched (V c main_arg1) (V c main_arg4) (grid0.coords t 0).val)
  rw [h0, h1, h2] at hT
  iapply ((BIClass.sep_mono hT .rfl).trans (wp_wand_r _ _ _)) $$ [-]
  isplitl [H0 H1 H2 H3 Hy1 Hy2]
  · isplitl [H0]; · iexact H0
    isplitl [H1]; · iexact H1
    isplitl [H2]; · iexact H2
    isplitl [H3]; · iexact H3
    isplitl [Hy1] <;> iassumption
  iintro %u ⟨H0, H1, H2, ⟨%f, %hf, H3⟩, Hy1, Hy2⟩
  unfold bodyPost
  rw [show (dats V 0 c).Φ t.succ = Phi V c from rfl, Phi_eq]
  unfold owns
  isplitl [Hg Ht1 Ht2 Hy1 Hy2 Hys Hq]
  · isplitl [Hg Hy1 Hy2 Hys Hq]
    · isplitl [Hy1 Hy2]
      · isplitl [Hy1]; · iexists _; iexact Hy1
        iexists _; iexact Hy2
      isplitl [Hg]; · iexact Hg
      isplitl [Hq] <;> iassumption
    isplitl [Ht1] <;> iassumption
  isplitl [HO]
  · unfold Dat.owesAt Pipeline.owesWithin
    rw [show (dats V 0 c).owed t.succ = 0 from rfl]
    iexists W'
    isplitr; · ipureintro; exact fun _ _ => Or.inl trivial
    iexact HO
  isplitl [H0]
  · iexists f0
    isplitr; · ipureintro; exact h0
    iexact H0
  isplitl [H1]
  · iexists f1
    isplitr; · ipureintro; exact h1
    iexact H1
  isplitl [H2]
  · iexists f2
    isplitr; · ipureintro; exact h2
    iexact H2
  iexists f
  isplitr; · ipureintro; exact hf
  iexact H3

theorem defs₀_row (t : Fin grid0.N) :
    defs₀ (F := F) .tc (cfg0 (adm V 0)).body ((cfg0 (adm V 0)).bodyArgs t ((cfg0 (adm V 0)).slots t)) = bodyAt V t := by
  unfold defs₀; rw [Defs.onTc_tc]; rfl

theorem body_obligation (c : Dev nD) (R : Placed (V c main_arg0) (V c main_arg1)) :
    BodyObligation (dats V 0 c) (defs₀ (F := F)) Variants.none () Set.univ := fun t => by
  rw [bigSep_W0, bigSep_W0, defs₀_row]
  exact triple_restated (sound_body V c R t) rfl .rfl fun _ => .rfl

/-! ## The result, block by block -/

/-- The point whose block holds a row, and the result's array. -/
def pointOf (z : S16384x2048.Idx) : Fin grid0.N := ⟨(z 0).val / 256, by
  have h : (z 0).val < 16384 := (z 0).isLt
  rw [N_0]
  omega⟩
def result (c : Dev nD) : S16384x2048.Idx → Elt F .f32 := fun z =>
  outB V c (pointOf z) (ix2 (⟨(z 0).val % 256, Nat.mod_lt _ (by decide)⟩ : Fin 256) (⟨(z 1).val, (z 1).isLt⟩ : Fin 2048))

theorem out_at : ∀ t : Fin grid0.N, cc0_transform_4 (grid0.coords t) = ![t.val, 0] := by decide
theorem out_index (t : Fin grid0.N) : cc0_transform_4 (grid0.coords t) 0 = t.val := congrFun (out_at t) 0

theorem flushes (t : Fin grid0.N) : ((cfg0 (adm V 0)).win 3).flush t = true := by
  rw [Window.flush_eq_flushOf]
  show (true && (decide (t.val + 1 = grid0.N) || decide (∃ h : t.val + 1 < grid0.N, cc0_transform_4 (grid0.coords ⟨t.val + 1, h⟩) ≠ cc0_transform_4 (grid0.coords t)))) = true
  rw [Bool.true_and, Bool.or_eq_true, decide_eq_true_eq, decide_eq_true_eq]
  by_cases h : t.val + 1 = grid0.N
  · exact Or.inl h
  · have ht := t.isLt
    refine Or.inr ⟨by omega, fun he => ?_⟩
    have := congrFun he 0
    rw [out_index, out_index] at this
    exact absurd this (Nat.succ_ne_self _)

theorem flushed_eq (c : Dev nD) (t : Fin grid0.N) :
    (dats V 0 c).flushed 3 t = (((cfg0 (adm V 0)).win 3).blk t).view.read (Elt F) (result V c) := by
  show outB V c t = _
  funext y
  have h0 : (y 0).val < 256 := (y 0).isLt
  let z : S16384x2048.Idx := (((cfg0 (adm V 0)).win 3).rect t).emb y
  have e0 : (z 0).val = t.val * 256 + (y 0).val := by
    show cc0_transform_4 (grid0.coords t) 0 * 256 + 1 * (y 0).val = _
    rw [out_index]
    omega
  have e1 : (z 1).val = (y 1).val := by
    show 0 * 2048 + 1 * (y 1).val = _
    omega
  show outB V c t y = result V c z
  clear_value z
  unfold result
  rw [show pointOf z = t from Fin.ext (by
    show (z 0).val / 256 = t.val
    rw [e0]; omega)]
  congr 1
  funext a
  apply Fin.ext
  fin_cases a
  · show (y 0).val = (z 0).val % 256
    rw [e0]; omega
  · exact e1.symm

theorem covered (t : Fin grid0.N) (z : S16384x2048.Idx) (h : pointOf z = t) : z ∈ (((cfg0 (adm V 0)).win 3).rect t).set := by
  refine Rect.mem_set_unit.mpr fun a => ?_
  have h0 : (z 0 : ℕ) < 16384 := (z 0).isLt
  have h1 : (z 1 : ℕ) < 2048 := (z 1).isLt
  have ht : (z 0 : ℕ) / 256 = t.val := congrArg Fin.val h
  have e := out_index t
  fin_cases a
  · show cc0_transform_4 (grid0.coords t) 0 * 256 ≤ (z 0 : ℕ) ∧ (z 0 : ℕ) < cc0_transform_4 (grid0.coords t) 0 * 256 + 256
    omega
  · show 0 * 2048 ≤ (z 1 : ℕ) ∧ (z 1 : ℕ) < 0 * 2048 + 2048
    omega

theorem final_out (c : Dev nD) : (dats V 0 c).arrAt 3 (cfg0 (adm V 0)).N = result V c :=
  (dats V 0 c).arrAt_eq_of_cover 3 (result V c) (fun t _ => flushed_eq V c t) fun z =>
    ⟨pointOf z, flushes V _, (View.set_slice_whole main_v1 (((cfg0 (adm V 0)).win 3).rect (pointOf z))).symm ▸ covered V _ z rfl⟩

/-! ## The whole program -/

variable (m : (ℓ : Loc nD τ sig) → Buf (Elt F) ℓ) (ρ : Dev nD → PrngReg)

/-- What the buffers hold when the region starts. -/
def at0 (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

/-- Preparing the norm's weights writes no other buffer. -/
theorem at0_of (c : Dev nD) (b : Ref sig .tc) (h : main_v0 ≠ b) : at0 m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h.symm))

theorem at0_n (c : Dev nD) : at0 m c main_v0 = broadcastInDim S1x2048 ![1] bcast_S2048_S1x2048_1 (m ((c : Thread nD τ).loc main_arg5)) := by
  unfold at0
  simp only [hostOps0]
  after_results_simp

theorem tables_at (c : Dev nD) (k : Fin pre0.K) : V c (pre0.ref k) = (adm V 0).1 k := by
  obtain rfl : c = 0 := Subsingleton.elim _ _
  rfl

set_option backward.isDefEq.respectTransparency.types false in
theorem run_main (R : ∀ c : Dev nD, Placed (at0 m c main_arg0) (at0 m c main_arg1)) :
    θ_run defs (onTc (τ := τ) (main (F := F))) (s₀ m ρ)
      (fun r => Pipeline.FramePost (Pipeline.pin (pcfgs (F := F)) (adm (at0 m))) (dats (at0 m)) 0 (at0 m) r ∧ r.2.sem = fun _ => 0) :=
  Pipeline.θ_run_frameP_dma (Q' := _) (pcfgs (F := F)) (adm (at0 m)) (dats (at0 m)) (0 : Fin 1) launch0 osem0 defs₀ Variants.none ownSemFacts0 H0
    H0_sub m ρ main (hbody := fun c => (body_obligation (at0 m) c (R c)).loose)
    (hshare := fun c => (dats (at0 m) 0 c).share_full fun _ => rfl) (howed := fun _ _ => rfl) (V := at0 m)
    (hmain := Pipeline.hmainP_prefix (pcfgs (F := F)) 0 defs₀ Variants.none m main hostOps0 hostOps0_sub fresh0 main_chain)
    (hA := fun _ _ => rfl) (hpf := tables_at (at0 m))
    (hin := fun c => .rfl)
    (hout := fun c => by
      show Phi (at0 m) c ⊢ _
      unfold Phi
      iintro ⟨H, -⟩
      iexact H)

/-- The arguments at the end, the cells, and the result. -/
theorem run_frame (R : ∀ c : Dev nD, Placed (m ((c.tc : Thread nD τ).loc main_arg0)) (m ((c.tc : Thread nD τ).loc main_arg1))) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v1) = result (at0 m) c)
      ∧ r.2.sem = fun _ => 0) :=
  (θ_run defs _ _).mono (fun r ⟨h, hs⟩ => ⟨fun c => by
    have rest : ∀ b : Ref sig .tc, b ∈ Pipeline.restRefs sig spec0 → r.2.mem ((c.tc : Thread nD τ).loc b) = at0 m c b := (h c).2
    have arr := (h c).1
    exact ⟨⟨(rest main_arg0 (by decide)).trans (at0_of m c _ (by decide)), (rest main_arg1 (by decide)).trans (at0_of m c _ (by decide)),
      ((arr (0 : Fin 4)).trans ((dats (at0 m) 0 c).arrAt_in 0 rfl _)).trans (at0_of m c main_arg2 (by decide)),
      ((arr (1 : Fin 4)).trans ((dats (at0 m) 0 c).arrAt_in 1 rfl _)).trans (at0_of m c main_arg3 (by decide)),
      (rest main_arg4 (by decide)).trans (at0_of m c _ (by decide)), (rest main_arg5 (by decide)).trans (at0_of m c _ (by decide))⟩,
      (arr (3 : Fin 4)).trans (final_out (at0 m) c)⟩, hs⟩)
    (run_main m ρ fun c => by
      rw [at0_of m c main_arg0 (by decide), at0_of m c main_arg1 (by decide)]
      exact R c)

end Cert.CombineIdeal.Hand

end
-- ==== Proof.CmbValue.lean ====
/-
  The combine's result over the ideal values is the plain computation's.
-/
module

public import proofs.«01_k».proof.Proof.CmbRun
public import proofs.«01_k».proof.Proof.InPlain
public import proofs.«01_k».proof.Proof.Ref
public import proofs.«01_k».proof.Proof.Gen.CombineReferenceIdeal.Run
public import Idealize.ShloMosaic.Lib.Routing.Ops

@[expose] public section

noncomputable section

/-! ## The plain computation -/

namespace Cert.CombineReferenceIdeal.Hand

open Cert.CombineReferenceIdeal Cert.CombineReferenceIdeal.Gen
open Idealize.ShloMosaic Idealize.ShloMosaic.TcCoe
open Cert.InProjReferenceIdeal.Hand (normed)
open Cert.ReferenceIdeal.Hand (words words_at)

variable (p1 p2 : IVec S16384 32) (x : Vec Ideal S16384x2048 .f32) (r : Vec Ideal S16384x128 .f32) (g : Vec Ideal S40960x2048 .f32)

/-- The rows a table asks for. -/
def picked (p : IVec S16384 32) : FVec Ideal S16384x2048 .f32 :=
  Host.gather gather_S40960x2048_S16384x1_S16384x2048_1_0_n_n_0_1_12048 g (words p)

/-- The tokens with their two experts' results added. -/
def summed : FVec Ideal S16384x2048 .f32 :=
  addf x (addf
    (mulf (broadcastInDim S16384x2048 ![0, 1] bcast_S16384x1_S16384x2048_0_1 (extractStridedSlice S16384x1 ![0, 4] r slices_S16384x128_S16384x1_0_4)) (picked g p1))
    (mulf (broadcastInDim S16384x2048 ![0, 1] bcast_S16384x1_S16384x2048_0_1 (extractStridedSlice S16384x1 ![0, 5] r slices_S16384x128_S16384x1_0_5)) (picked g p2)))

theorem picked_at (p : IVec S16384 32) (j : Fin 16384) (k : Fin 2048) (h : (p (Cert.Pre_routed.Hand.ix1 j)).toNat < 40960) :
    picked g p (ix2 j k) = g (ix2 (⟨(p (Cert.Pre_routed.Hand.ix1 j)).toNat, h⟩ : Fin 40960) k) := by
  refine Idealize.ShloMosaic.Routing.gather_row _ rfl rfl rfl rfl rfl g (words p) j k ⟨_, h⟩ ?_ (by decide)
  refine (congrArg (words p) (funext fun a => ?_ : _ = Cert.Pre_routed.Hand.ix2 j (0 : Fin 1))).trans ?_
  · fin_cases a <;> rfl
  refine BitVec.eq_of_toInt_eq ((words_at p j h).trans ?_)
  rw [BitVec.toInt_eq_toNat_of_lt] <;> rw [BitVec.toNat_ofNat, Nat.mod_eq_of_lt (by show (p _).toNat < _; omega)]
  show 2 * (p _).toNat < _
  omega

theorem summed_at (j : Fin 16384) (k : Fin 2048) :
    summed p1 p2 x r g (ix2 j k) = x (ix2 j k) + (r (ix2 j 4) * picked g p1 (ix2 j k) + r (ix2 j 5) * picked g p2 (ix2 j k)) := by
  pointwise [summed]

variable (m : (ℓ : Loc nD τ sig) → Buf (Elt Ideal) ℓ) (c : Dev nD)

theorem out_eq : Value.res_out0 m c = normed (summed (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) (m ((c.tc : Thread nD τ).loc main_arg5)) := by
  unfold Value.res_out0 Value.res_main_v34 normed summed picked words
  rfl

end Cert.CombineReferenceIdeal.Hand

/-! ## The kernel -/

namespace Cert.CombineIdeal.Hand

open Cert.CombineIdeal Cert.CombineIdeal.Gen
open Idealize.ShloMosaic Idealize.ShloMosaic.TcCoe
open Cert.InProjIdeal.Hand (scale rowNorm)
open Cert.InProjReferenceIdeal.Hand (normed normed_at)
open Cert.CombineReferenceIdeal.Hand (summed summed_at picked picked_at)
open Cert.Pre_placed.Hand (Placed)

theorem pay1_at (R : Vec Ideal S256x128 .f32) (X A B : Vec Ideal S256x2048 .f32) (N : Vec Ideal S1x2048 .f32) (r : Fin 256) (k : Fin 2048) :
    k0_pay1 R X A B N (ix2 r k) = rowNorm (fun k => X (ix2 r k) + (R (ix2 r 4) * A (ix2 r k) + R (ix2 r 5) * B (ix2 r k))) (fun k => N (ix2 0 k)) k := by
  unfold rowNorm scale
  pointwise [k0_pay1]

section
variable (V : (c : Dev nD) → (b : Ref sig .tc) → Buf (Elt Ideal) ((c : Thread nD τ).loc b)) (c : Dev nD) (t : Fin grid0.N)

theorem rows_at : ∀ t : Fin grid0.N, cc0_transform_0 (grid0.coords t) = ![t.val, 0] := by decide
theorem lanes_at : ∀ t : Fin grid0.N, cc0_transform_1 (grid0.coords t) = ![t.val, 0] := by decide

theorem xB_at (r : Fin 256) (k : Fin 2048) (p : Fin 16384) (hp : p.val = 256 * t.val + r.val) : xB V c t (ix2 r k) = V c main_arg2 (ix2 p k) := by
  refine congrArg (V c main_arg2) (funext fun a => Fin.ext ?_)
  have h0 : cc0_transform_0 (grid0.coords t) 0 = t.val := congrFun (rows_at t) 0
  fin_cases a
  · show cc0_transform_0 (grid0.coords t) 0 * 256 + 1 * r.val = p.val
    omega
  · show 0 * 2048 + 1 * k.val = k.val
    omega

theorem rB_at (r : Fin 256) (l : Fin 128) (p : Fin 16384) (hp : p.val = 256 * t.val + r.val) : rB V c t (ix2 r l) = V c main_arg3 (ix2 p l) := by
  refine congrArg (V c main_arg3) (funext fun a => Fin.ext ?_)
  have h0 : cc0_transform_1 (grid0.coords t) 0 = t.val := congrFun (lanes_at t) 0
  fin_cases a
  · show cc0_transform_1 (grid0.coords t) 0 * 256 + 1 * r.val = p.val
    omega
  · show 0 * 128 + 1 * l.val = l.val
    omega

theorem nB_at (k : Fin 2048) : nB V c t (ix2 0 k) = V c main_v0 (ix2 0 k) := by
  refine congrArg (V c main_v0) (funext fun a => Fin.ext ?_)
  fin_cases a
  · rfl
  · show 0 * 2048 + 1 * k.val = k.val
    omega

theorem fetched_at (q : S16384.Idx → BitVec 32) (g : Vec Ideal S40960x2048 .f32) (i : ℕ) (r : Fin 256) (k : Fin 2048) (p : Fin 16384)
    (hp : p.val = 256 * i + r.val) (h : (q (Cert.Pre_routed.Hand.ix1 p)).toNat < 40960) :
    fetched (F := Ideal) q g i (ix2 r k) = picked g q (ix2 p k) := by
  rw [picked_at g q p k h]
  have e := rowOf_tab (p := q) i r.val (Cert.Pre_routed.Hand.ix1 p) hp
  refine congrArg g (funext fun a => Fin.ext ?_)
  fin_cases a
  · show rowOf q i r.val % 40960 = (q (Cert.Pre_routed.Hand.ix1 p)).toNat
    rw [← e, Nat.mod_eq_of_lt h]
  · rfl

theorem result_at (R : Placed (V c main_arg0) (V c main_arg1)) (p : Fin 16384) (k : Fin 2048) :
    result V c (ix2 p k) = rowNorm (fun k => summed (V c main_arg0) (V c main_arg1) (V c main_arg2) (V c main_arg3) (V c main_arg4) (ix2 p k))
      (fun k => V c main_v0 (ix2 0 k)) k := by
  obtain ⟨t, ht⟩ : ∃ t, pointOf (ix2 p k) = t := ⟨_, rfl⟩
  have hv : p.val / 256 = t.val := congrArg Fin.val ht
  have hp : p.val = 256 * t.val + (⟨p.val % 256, Nat.mod_lt _ (by decide)⟩ : Fin 256).val := by
    show p.val = 256 * t.val + p.val % 256
    omega
  have hc := coord_val t
  show outB V c (pointOf (ix2 p k)) (ix2 (⟨p.val % 256, _⟩ : Fin 256) k) = _
  rw [ht]
  unfold outB
  rw [pay1_at]
  congr 1
  · funext k
    rw [summed_at, xB_at V c t _ k p hp, rB_at V c t _ 4 p hp, rB_at V c t _ 5 p hp, hc, fetched_at _ _ t.val _ k p hp (R.lt1 p), fetched_at _ _ t.val _ k p hp (R.lt2 p)]
  · exact funext (nB_at V c t)
end

variable (m : (ℓ : Loc nD τ sig) → Buf (Elt Ideal) ℓ) (c : Dev nD)

theorem weights_at (n : Vec Ideal S2048 .f32) (k : Fin 2048) : broadcastInDim S1x2048 ![1] bcast_S2048_S1x2048_1 n (ix2 0 k) = n (ix1 k) := by
  pointwise

theorem result_eq (R : Placed (m ((c.tc : Thread nD τ).loc main_arg0)) (m ((c.tc : Thread nD τ).loc main_arg1))) :
    result (at0 m) c = normed (summed (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) (m ((c.tc : Thread nD τ).loc main_arg5)) := by
  funext z
  obtain ⟨p, k, rfl⟩ : ∃ (p : Fin 16384) (k : Fin 2048), z = ix2 p k := ⟨z 0, z 1, by funext a; fin_cases a <;> rfl⟩
  have R' : Placed (at0 m c main_arg0) (at0 m c main_arg1) := by
    rw [at0_of m c main_arg0 (by decide), at0_of m c main_arg1 (by decide)]
    exact R
  rw [result_at (at0 m) c R', normed_at, at0_of m c main_arg0 (by decide), at0_of m c main_arg1 (by decide), at0_of m c main_arg2 (by decide),
    at0_of m c main_arg3 (by decide), at0_of m c main_arg4 (by decide), at0_n]
  congr 1
  exact funext (weights_at _)

end Cert.CombineIdeal.Hand

end
-- ==== Proof.lean ====
module

public import proofs.«01_k».proof.Proof.Gen.InProjIdeal.Skeleton
public import proofs.«01_k».proof.Proof.Gen.InProjIdeal.Launch
public import proofs.«01_k».proof.Proof.Gen.InProjReferenceIdeal.Run
public import proofs.«01_k».proof.Proof.Gen.InProj
public import proofs.«01_k».proof.Defs
public import proofs.«01_k».proof.Proof.Gen.Combine
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineReferenceIdeal
public import proofs.«01_k».proof.Proof.Gen.CombineReferenceIdeal.Run
public import proofs.«01_k».proof.Proof.Gen.Pre_placed
public import proofs.«01_k».proof.Proof.Gen.Kernel
public import proofs.«01_k».proof.Proof.Gen.KernelIdeal
public import proofs.«01_k».proof.Proof.Gen.ReferenceIdeal
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_tiled
public import proofs.«01_k».proof.Proof.Run
public import proofs.«01_k».proof.Proof.Ref
public import proofs.«01_k».proof.Proof.ExpRun
public import proofs.«01_k».proof.Proof.ExpValue
public import proofs.«01_k».proof.Proof.InRun
public import proofs.«01_k».proof.Proof.InValue
public import proofs.«01_k».proof.Proof.CmbRun
public import proofs.«01_k».proof.Proof.CmbValue
public import Idealize.ShloMosaic.Lib.Claim
public import Idealize.ShloMosaic.Lib.Tactic
public import Idealize.ShloMosaic.Lib.StableHlo.RunHlo
public import Idealize.ShloMosaic.Adequacy
public import Idealize.ShloMosaic.Init

@[expose] public section

noncomputable section

namespace Cert.Proof

open Idealize.ShloMosaic Idealize.SL.Sem Idealize.ShloMosaic.TcCoe
open Cert.Pre_routed.Hand (routed_of)
open Cert.KernelIdeal.Hand (run_frame xsNow)
open Cert.Pre_tiled.Hand (tiled_of)
open Cert.Pre_placed.Hand (placed_of)
open Cert.ExpertsReferenceIdeal.Hand (total_eq)
open Cert.ReferenceIdeal.Hand (run_reference run_reference_frame result result_eq)

/-- The reference's facts, which no generated module proves. -/
theorem referenceFacts : Cert.Reference.Facts where
  bcast_S_S40960x2048 := by decide
  bcast_S_S16384 := by decide
  bcast_S16384_S16384x1_0 := by decide
  scatter_S40960x2048_S16384x1_S16384x2048_1_0_0_1_wf := by decide

instance : Cert.Reference.Facts := referenceFacts
instance : Cert.Pre_routed.Facts := Cert.Pre_routed.Hand.facts

/-- The two printed texts are one program. -/
theorem defs_eq : (Cert.Kernel.defs (F := Bits)) = Cert.KernelIdeal.defs (F := Bits) := by
  sl_kernel_rfl

theorem main_eq : (Cert.Kernel.main (F := Bits)) = Cert.KernelIdeal.main (F := Bits) := by
  sl_kernel_rfl

/-- The program as printed is, at the bits, the one that the run was proved of. -/
theorem run_kernel (m : (ℓ : Loc Cert.Kernel.nD Cert.Kernel.τ Cert.Kernel.sig) → Buf (Elt Bits) ℓ) (g : Dev Cert.Kernel.nD → PrngReg)
    (hpre : Cert.Pre_Kernel m) :
    θ_run (Cert.Kernel.defs (F := Bits)) (onTc (τ := Cert.Kernel.τ) (Cert.Kernel.main (F := Bits))) ⟨m, fun _ => 0, g⟩ (fun r => (∀ c : Dev Cert.KernelIdeal.nD,
      (r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.mem ((c.tc : Thread Cert.Kernel.nD Cert.Kernel.τ).loc Cert.Kernel.main_v0) = xsNow (F := Bits) m c 64)
      ∧ r.2.sem = fun _ => 0) := by
  rw [defs_eq, main_eq]
  exact run_frame (F := Bits) m g fun c => routed_of _ _ _ _ (hpre c)

theorem frame_kernel : Cert.quiescent_Kernel := fun m g hpre =>
  θ_run_mono (run_kernel m g hpre) fun _ h => ⟨fun c => (h.1 c).1, h.2⟩

theorem frame_kernelIdeal : Cert.quiescent_KernelIdeal := fun m g hpre =>
  θ_run_mono (run_frame (F := Ideal) m g fun c => routed_of _ _ _ _ (hpre c)) fun _ h => ⟨fun c => (h.1 c).1, h.2⟩

theorem frame_referenceIdeal : Cert.quiescent_ReferenceIdeal := fun m g _ => run_reference_frame (F := Ideal) m g

theorem frame_reference : Cert.quiescent_Reference := fun m g _ => run_reference_frame (F := Bits) m g

theorem algebraic : Cert.algebraic_KernelIdeal_ReferenceIdeal := fun m g m' g' hpre hagree =>
  ⟨fun c => xsNow (F := Ideal) m c 64,
    θ_run_mono (run_frame (F := Ideal) m g fun c => routed_of _ _ _ _ (hpre c)) fun _ h c => ⟨(h.1 c).2, (h.1 c).1⟩,
    θ_run_mono (run_reference (F := Ideal) m' g') fun r h c => ⟨(h c).1.trans (by
      rw [(hagree c).1, (hagree c).2.1, (hagree c).2.2.2]
      exact result_eq (routed_of _ _ _ _ (hpre c)) _ _), (h c).2⟩⟩

theorem bitexact : Cert.bitexact_Kernel_Reference := fun m g m' g' hpre hagree =>
  ⟨fun c => xsNow (F := Bits) m c 64,
    θ_run_mono (run_kernel m g hpre) fun _ h c => ⟨(h.1 c).2, (h.1 c).1⟩,
    θ_run_mono (run_reference (F := Bits) m' g') fun r h c => ⟨(h c).1.trans (by
      erw [(hagree c).1, (hagree c).2.1, (hagree c).2.2.2]
      exact result_eq (routed_of _ _ _ _ (hpre c)) _ _), (h c).2⟩⟩

/-! ## The experts -/

theorem experts_defs_eq : (Cert.Experts.defs (F := Bits)) = Cert.ExpertsIdeal.defs (F := Bits) := by
  sl_kernel_rfl

theorem experts_main_eq : (Cert.Experts.main (F := Bits)) = Cert.ExpertsIdeal.main (F := Bits) := by
  sl_kernel_rfl

/-- The experts' program as printed leaves its arguments and its cells. -/
theorem run_experts (m : (ℓ : Loc Cert.Experts.nD Cert.Experts.τ Cert.Experts.sig) → Buf (Elt Bits) ℓ) (g : Dev Cert.Experts.nD → PrngReg)
    (hpre : Cert.Pre_Experts m) :
    θ_run (Cert.Experts.defs (F := Bits)) (onTc (τ := Cert.Experts.τ) (Cert.Experts.main (F := Bits))) ⟨m, fun _ => 0, g⟩ (fun r => (∀ c : Dev Cert.ExpertsIdeal.nD,
      (r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)))
      ∧ r.2.sem = fun _ => 0) := by
  rw [experts_defs_eq, experts_main_eq]
  exact θ_run_mono (Cert.ExpertsIdeal.Hand.run_frame (F := Bits) m (tiled_of _ _ _ _ _ _ (hpre 0)) g) fun _ h => ⟨fun c => (h.1 c).1, h.2⟩

theorem frame_experts : Cert.quiescent_Experts := fun m g hpre => run_experts m g hpre

theorem frame_expertsIdeal : Cert.quiescent_ExpertsIdeal := fun m g hpre =>
  θ_run_mono (Cert.ExpertsIdeal.Hand.run_frame (F := Ideal) m (tiled_of _ _ _ _ _ _ (hpre 0)) g) fun _ h => ⟨fun c => (h.1 c).1, h.2⟩

theorem frame_expertsReferenceIdeal : Cert.quiescent_ExpertsReferenceIdeal := fun m g _ =>
  θ_run_mono (Cert.ExpertsReferenceIdeal.Value.run (F := Ideal) m g) fun r h => ⟨fun c => (h c).2, sem_eq_zero_of_no_sems (by decide) r.2⟩

theorem experts_algebraic : Cert.algebraic_ExpertsIdeal_ExpertsReferenceIdeal := fun m g m' g' hpre hagree =>
  ⟨fun c => Cert.ExpertsIdeal.Hand.result (F := Ideal) m (tiled_of _ _ _ _ _ _ (hpre 0)) c,
    θ_run_mono (Cert.ExpertsIdeal.Hand.run_frame (F := Ideal) m (tiled_of _ _ _ _ _ _ (hpre 0)) g) fun _ h c => ⟨(h.1 c).2, (h.1 c).1⟩,
    θ_run_mono (Cert.ExpertsReferenceIdeal.Value.run (F := Ideal) m' g') fun r h c => ⟨(h c).1.trans (by
      obtain rfl : c = 0 := Subsingleton.elim _ _
      rw [(hagree 0).1, (hagree 0).2.1, (hagree 0).2.2.1, (hagree 0).2.2.2.1, (hagree 0).2.2.2.2.1, (hagree 0).2.2.2.2.2]
      exact total_eq m (tiled_of _ _ _ _ _ _ (hpre 0))), (h c).2⟩⟩

/-! ## The projections -/

theorem in_proj_defs_eq : (Cert.InProj.defs (F := Bits)) = Cert.InProjIdeal.defs (F := Bits) := by
  sl_kernel_rfl

theorem in_proj_main_eq : (Cert.InProj.main (F := Bits)) = Cert.InProjIdeal.main (F := Bits) := by
  sl_kernel_rfl

/-- The projections' program as printed leaves its arguments and its cells. -/
theorem run_in_proj (m : (ℓ : Loc Cert.InProj.nD Cert.InProj.τ Cert.InProj.sig) → Buf (Elt Bits) ℓ) (g : Dev Cert.InProj.nD → PrngReg) :
    θ_run (Cert.InProj.defs (F := Bits)) (onTc (τ := Cert.InProj.τ) (Cert.InProj.main (F := Bits))) ⟨m, fun _ => 0, g⟩ (fun r => (∀ c : Dev Cert.InProjIdeal.nD,
      (r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)))
      ∧ r.2.sem = fun _ => 0) := by
  rw [in_proj_defs_eq, in_proj_main_eq]
  exact θ_run_mono (Cert.InProjIdeal.Hand.run_frame (F := Bits) m g) fun _ h => ⟨fun c => (h.1 c).1, h.2⟩

theorem frame_in_proj : Cert.quiescent_InProj := fun m g _ => run_in_proj m g

theorem frame_in_projIdeal : Cert.quiescent_InProjIdeal := fun m g _ =>
  θ_run_mono (Cert.InProjIdeal.Hand.run_frame (F := Ideal) m g) fun _ h => ⟨fun c => (h.1 c).1, h.2⟩

theorem frame_in_projReferenceIdeal : Cert.quiescent_InProjReferenceIdeal := fun m g _ =>
  θ_run_mono (Cert.InProjReferenceIdeal.Value.run (F := Ideal) m g) fun r h => ⟨fun c => (h c).2.2, sem_eq_zero_of_no_sems (by decide) r.2⟩

theorem in_proj_algebraic : Cert.algebraic_InProjIdeal_InProjReferenceIdeal := fun m g m' g' _ hagree =>
  ⟨fun c => Cert.InProjIdeal.Hand.products (Cert.InProjIdeal.Hand.at0 m) c, fun c => Cert.InProjIdeal.Hand.gated (Cert.InProjIdeal.Hand.at0 m) c,
    θ_run_mono (Cert.InProjIdeal.Hand.run_frame (F := Ideal) m g) fun _ h c => ⟨(h.1 c).2.1, (h.1 c).2.2, (h.1 c).1⟩,
    θ_run_mono (Cert.InProjReferenceIdeal.Value.run (F := Ideal) m' g') fun r h c =>
      ⟨(h c).1.trans ((Cert.InProjReferenceIdeal.Hand.first_eq m' c).trans (by
        rw [(hagree c).1, (hagree c).2.1, (hagree c).2.2.1]
        exact (Cert.InProjIdeal.Hand.products_eq m c).symm)),
      (h c).2.1.trans ((Cert.InProjReferenceIdeal.Hand.second_eq m' c).trans (by
        rw [(hagree c).1, (hagree c).2.1, (hagree c).2.2.1, (hagree c).2.2.2.1, (hagree c).2.2.2.2]
        exact (Cert.InProjIdeal.Hand.gated_eq m c).symm)), (h c).2.2⟩⟩

/-! ## The combine -/

theorem combine_defs_eq : (Cert.Combine.defs (F := Bits)) = Cert.CombineIdeal.defs (F := Bits) := by
  sl_kernel_rfl

theorem combine_main_eq : (Cert.Combine.main (F := Bits)) = Cert.CombineIdeal.main (F := Bits) := by
  sl_kernel_rfl

/-- The combine's program as printed leaves its arguments and its cells. -/
theorem run_combine (m : (ℓ : Loc Cert.Combine.nD Cert.Combine.τ Cert.Combine.sig) → Buf (Elt Bits) ℓ) (g : Dev Cert.Combine.nD → PrngReg)
    (hpre : Cert.Pre_Combine m) :
    θ_run (Cert.Combine.defs (F := Bits)) (onTc (τ := Cert.Combine.τ) (Cert.Combine.main (F := Bits))) ⟨m, fun _ => 0, g⟩ (fun r => (∀ c : Dev Cert.CombineIdeal.nD,
      (r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)))
      ∧ r.2.sem = fun _ => 0) := by
  rw [combine_defs_eq, combine_main_eq]
  exact θ_run_mono (Cert.CombineIdeal.Hand.run_frame (F := Bits) m g fun c => placed_of _ _ _ _ _ _ (hpre c)) fun _ h => ⟨fun c => (h.1 c).1, h.2⟩

theorem frame_combine : Cert.quiescent_Combine := fun m g hpre => run_combine m g hpre

theorem frame_combineIdeal : Cert.quiescent_CombineIdeal := fun m g hpre =>
  θ_run_mono (Cert.CombineIdeal.Hand.run_frame (F := Ideal) m g fun c => placed_of _ _ _ _ _ _ (hpre c)) fun _ h => ⟨fun c => (h.1 c).1, h.2⟩

theorem frame_combineReferenceIdeal : Cert.quiescent_CombineReferenceIdeal := fun m g _ =>
  θ_run_mono (Cert.CombineReferenceIdeal.Value.run (F := Ideal) m g) fun r h => ⟨fun c => (h c).2, sem_eq_zero_of_no_sems (by decide) r.2⟩

theorem combine_algebraic : Cert.algebraic_CombineIdeal_CombineReferenceIdeal := fun m g m' g' hpre hagree =>
  ⟨fun c => Cert.CombineIdeal.Hand.result (Cert.CombineIdeal.Hand.at0 m) c,
    θ_run_mono (Cert.CombineIdeal.Hand.run_frame (F := Ideal) m g fun c => placed_of _ _ _ _ _ _ (hpre c)) fun _ h c => ⟨(h.1 c).2, (h.1 c).1⟩,
    θ_run_mono (Cert.CombineReferenceIdeal.Value.run (F := Ideal) m' g') fun r h c =>
      ⟨(h c).1.trans ((Cert.CombineReferenceIdeal.Hand.out_eq m' c).trans (by
        rw [(hagree c).1, (hagree c).2.1, (hagree c).2.2.1, (hagree c).2.2.2.1, (hagree c).2.2.2.2.1, (hagree c).2.2.2.2.2]
        exact (Cert.CombineIdeal.Hand.result_eq m c (placed_of _ _ _ _ _ _ (hpre c))).symm)), (h c).2⟩⟩

theorem claim : Cert.Claim :=
  ⟨Cert.Kernel.Gen.facts, Cert.KernelIdeal.Gen.facts, Cert.ReferenceIdeal.Gen.facts, referenceFacts, Cert.Experts.Gen.facts, Cert.ExpertsIdeal.Gen.facts,
    Cert.ExpertsReferenceIdeal.Gen.facts, Cert.Combine.Gen.facts, Cert.CombineIdeal.Gen.facts, Cert.CombineReferenceIdeal.Gen.facts,
    Cert.InProj.Gen.facts, Cert.InProjIdeal.Gen.facts, Cert.InProjReferenceIdeal.Gen.facts, Cert.Pre_routed.Hand.facts, Cert.Pre_tiled.Gen.facts, Cert.Pre_placed.Gen.facts,
    frame_kernel, frame_kernelIdeal, frame_referenceIdeal, fun m g _ => frame_referenceIdeal m g trivial, frame_reference,
    frame_experts, frame_expertsIdeal, frame_expertsReferenceIdeal, fun m g _ => frame_expertsReferenceIdeal m g trivial,
    frame_combine, frame_combineIdeal, frame_combineReferenceIdeal, fun m g _ => frame_combineReferenceIdeal m g trivial,
    frame_in_proj, frame_in_projIdeal, frame_in_projReferenceIdeal,
    trivial, algebraic, bitexact, trivial, experts_algebraic, trivial, combine_algebraic, trivial, in_proj_algebraic⟩

end Cert.Proof

end
